-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6)
      ∧ r.2.mem ((c.tc : Thread Cert.Ffn0.nD Cert.Ffn0.τ).loc Cert.Ffn0.main_arg7) = m ((c.tc : Thread Cert.Ffn0.nD Cert.Ffn0.τ).loc Cert.Ffn0.main_arg7))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1)
      ∧ r.2.mem ((c.tc : Thread Cert.Ffn0ReferenceIdeal.nD Cert.Ffn0ReferenceIdeal.τ).loc Cert.Ffn0ReferenceIdeal.main_arg2) = m ((c.tc : Thread Cert.Ffn0ReferenceIdeal.nD Cert.Ffn0ReferenceIdeal.τ).loc Cert.Ffn0ReferenceIdeal.main_arg2)
      ∧ r.2.mem ((c.tc : Thread Cert.Ffn0ReferenceIdeal.nD Cert.Ffn0ReferenceIdeal.τ).loc Cert.Ffn0ReferenceIdeal.main_arg3) = m ((c.tc : Thread Cert.Ffn0ReferenceIdeal.nD Cert.Ffn0ReferenceIdeal.τ).loc Cert.Ffn0ReferenceIdeal.main_arg3)
      ∧ r.2.mem ((c.tc : Thread Cert.Ffn0ReferenceIdeal.nD Cert.Ffn0ReferenceIdeal.τ).loc Cert.Ffn0ReferenceIdeal.main_arg4) = m ((c.tc : Thread Cert.Ffn0ReferenceIdeal.nD Cert.Ffn0ReferenceIdeal.τ).loc Cert.Ffn0ReferenceIdeal.main_arg4)
      ∧ r.2.mem ((c.tc : Thread Cert.Ffn0ReferenceIdeal.nD Cert.Ffn0ReferenceIdeal.τ).loc Cert.Ffn0ReferenceIdeal.main_arg5) = m ((c.tc : Thread Cert.Ffn0ReferenceIdeal.nD Cert.Ffn0ReferenceIdeal.τ).loc Cert.Ffn0ReferenceIdeal.main_arg5)
      ∧ r.2.mem ((c.tc : Thread Cert.Ffn0ReferenceIdeal.nD Cert.Ffn0ReferenceIdeal.τ).loc Cert.Ffn0ReferenceIdeal.main_arg6) = m ((c.tc : Thread Cert.Ffn0ReferenceIdeal.nD Cert.Ffn0ReferenceIdeal.τ).loc Cert.Ffn0ReferenceIdeal.main_arg6)
      ∧ r.2.mem ((c.tc : Thread Cert.Ffn0ReferenceIdeal.nD Cert.Ffn0ReferenceIdeal.τ).loc Cert.Ffn0ReferenceIdeal.main_arg7) = m ((c.tc : Thread Cert.Ffn0ReferenceIdeal.nD Cert.Ffn0ReferenceIdeal.τ).loc Cert.Ffn0ReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4)
      ∧ r.2.mem ((c.tc : Thread Cert.AttnIn.nD Cert.AttnIn.τ).loc Cert.AttnIn.main_arg5) = m ((c.tc : Thread Cert.AttnIn.nD Cert.AttnIn.τ).loc Cert.AttnIn.main_arg5)
      ∧ r.2.mem ((c.tc : Thread Cert.AttnIn.nD Cert.AttnIn.τ).loc Cert.AttnIn.main_arg6) = m ((c.tc : Thread Cert.AttnIn.nD Cert.AttnIn.τ).loc Cert.AttnIn.main_arg6))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
      ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1)
      ∧ r.2.mem ((c.tc : Thread Cert.AttnInReferenceIdeal.nD Cert.AttnInReferenceIdeal.τ).loc Cert.AttnInReferenceIdeal.main_arg2) = m ((c.tc : Thread Cert.AttnInReferenceIdeal.nD Cert.AttnInReferenceIdeal.τ).loc Cert.AttnInReferenceIdeal.main_arg2)
      ∧ r.2.mem ((c.tc : Thread Cert.AttnInReferenceIdeal.nD Cert.AttnInReferenceIdeal.τ).loc Cert.AttnInReferenceIdeal.main_arg3) = m ((c.tc : Thread Cert.AttnInReferenceIdeal.nD Cert.AttnInReferenceIdeal.τ).loc Cert.AttnInReferenceIdeal.main_arg3)
      ∧ r.2.mem ((c.tc : Thread Cert.AttnInReferenceIdeal.nD Cert.AttnInReferenceIdeal.τ).loc Cert.AttnInReferenceIdeal.main_arg4) = m ((c.tc : Thread Cert.AttnInReferenceIdeal.nD Cert.AttnInReferenceIdeal.τ).loc Cert.AttnInReferenceIdeal.main_arg4)
      ∧ r.2.mem ((c.tc : Thread Cert.AttnInReferenceIdeal.nD Cert.AttnInReferenceIdeal.τ).loc Cert.AttnInReferenceIdeal.main_arg5) = m ((c.tc : Thread Cert.AttnInReferenceIdeal.nD Cert.AttnInReferenceIdeal.τ).loc Cert.AttnInReferenceIdeal.main_arg5)
      ∧ r.2.mem ((c.tc : Thread Cert.AttnInReferenceIdeal.nD Cert.AttnInReferenceIdeal.τ).loc Cert.AttnInReferenceIdeal.main_arg6) = m ((c.tc : Thread Cert.AttnInReferenceIdeal.nD Cert.AttnInReferenceIdeal.τ).loc Cert.AttnInReferenceIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  IdealRules.named_const.Statement Cert.FfnIdeal.κ "gelu3" .f32 0xBDD2D3E8#32 (((-80338380498831 / 1125899906842624) * (Real.log 2)⁻¹ : ℝ) : EReal)
  ∧ IdealRules.named_const.Statement Cert.FfnIdeal.κ "gelu1" .f32 0xC0135761#32 (((-6693141 / 4194304) * (Real.log 2)⁻¹ : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v67) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Ffn0_Ffn0Ideal : Prop :=
  IdealRules.named_const.Statement Cert.Ffn0Ideal.κ "gelu3" .f32 0xBDD2D3E8#32 (((-80338380498831 / 1125899906842624) * (Real.log 2)⁻¹ : ℝ) : EReal)
  ∧ IdealRules.named_const.Statement Cert.Ffn0Ideal.κ "gelu1" .f32 0xC0135761#32 (((-6693141 / 4194304) * (Real.log 2)⁻¹ : ℝ) : EReal)

def algebraic_Ffn0Ideal_Ffn0ReferenceIdeal [hFfn0Ideal : Cert.Ffn0Ideal.Facts] [hFfn0ReferenceIdeal : Cert.Ffn0ReferenceIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0Ideal m →
    (∀ c : Dev Cert.Ffn0Ideal.nD,
      m' ((c.tc : Thread Cert.Ffn0ReferenceIdeal.nD Cert.Ffn0ReferenceIdeal.τ).loc Cert.Ffn0ReferenceIdeal.main_arg0) = m ((c.tc : Thread Cert.Ffn0Ideal.nD Cert.Ffn0Ideal.τ).loc Cert.Ffn0Ideal.main_arg0)
      ∧ m' ((c.tc : Thread Cert.Ffn0ReferenceIdeal.nD Cert.Ffn0ReferenceIdeal.τ).loc Cert.Ffn0ReferenceIdeal.main_arg1) = m ((c.tc : Thread Cert.Ffn0Ideal.nD Cert.Ffn0Ideal.τ).loc Cert.Ffn0Ideal.main_arg1)
      ∧ m' ((c.tc : Thread Cert.Ffn0ReferenceIdeal.nD Cert.Ffn0ReferenceIdeal.τ).loc Cert.Ffn0ReferenceIdeal.main_arg2) = m ((c.tc : Thread Cert.Ffn0Ideal.nD Cert.Ffn0Ideal.τ).loc Cert.Ffn0Ideal.main_arg2)
      ∧ m' ((c.tc : Thread Cert.Ffn0ReferenceIdeal.nD Cert.Ffn0ReferenceIdeal.τ).loc Cert.Ffn0ReferenceIdeal.main_arg3) = m ((c.tc : Thread Cert.Ffn0Ideal.nD Cert.Ffn0Ideal.τ).loc Cert.Ffn0Ideal.main_arg3)
      ∧ m' ((c.tc : Thread Cert.Ffn0ReferenceIdeal.nD Cert.Ffn0ReferenceIdeal.τ).loc Cert.Ffn0ReferenceIdeal.main_arg4) = m ((c.tc : Thread Cert.Ffn0Ideal.nD Cert.Ffn0Ideal.τ).loc Cert.Ffn0Ideal.main_arg4)
      ∧ m' ((c.tc : Thread Cert.Ffn0ReferenceIdeal.nD Cert.Ffn0ReferenceIdeal.τ).loc Cert.Ffn0ReferenceIdeal.main_arg5) = m ((c.tc : Thread Cert.Ffn0Ideal.nD Cert.Ffn0Ideal.τ).loc Cert.Ffn0Ideal.main_arg5)
      ∧ m' ((c.tc : Thread Cert.Ffn0ReferenceIdeal.nD Cert.Ffn0ReferenceIdeal.τ).loc Cert.Ffn0ReferenceIdeal.main_arg6) = m ((c.tc : Thread Cert.Ffn0Ideal.nD Cert.Ffn0Ideal.τ).loc Cert.Ffn0Ideal.main_arg6)
      ∧ m' ((c.tc : Thread Cert.Ffn0ReferenceIdeal.nD Cert.Ffn0ReferenceIdeal.τ).loc Cert.Ffn0ReferenceIdeal.main_arg7) = m ((c.tc : Thread Cert.Ffn0Ideal.nD Cert.Ffn0Ideal.τ).loc Cert.Ffn0Ideal.main_arg7)) →
    ∃ (v0 : (c : Dev Cert.Ffn0Ideal.nD) → Buf (Elt Ideal) ((c.tc : Thread Cert.Ffn0Ideal.nD Cert.Ffn0Ideal.τ).loc Cert.Ffn0Ideal.main_v15_0)) (v1 : (c : Dev Cert.Ffn0Ideal.nD) → Buf (Elt Ideal) ((c.tc : Thread Cert.Ffn0Ideal.nD Cert.Ffn0Ideal.τ).loc Cert.Ffn0Ideal.main_v15_1)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v15_0) = v0 c
          ∧ r.2.mem ((c.tc : Thread Cert.Ffn0Ideal.nD Cert.Ffn0Ideal.τ).loc Cert.Ffn0Ideal.main_v15_1) = v1 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
          ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v67) = v0 c
          ∧ r.2.mem ((c.tc : Thread Cert.Ffn0ReferenceIdeal.nD Cert.Ffn0ReferenceIdeal.τ).loc Cert.Ffn0ReferenceIdeal.main_v84) = v1 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1)
          ∧ r.2.mem ((c.tc : Thread Cert.Ffn0ReferenceIdeal.nD Cert.Ffn0ReferenceIdeal.τ).loc Cert.Ffn0ReferenceIdeal.main_arg2) = m' ((c.tc : Thread Cert.Ffn0ReferenceIdeal.nD Cert.Ffn0ReferenceIdeal.τ).loc Cert.Ffn0ReferenceIdeal.main_arg2)
          ∧ r.2.mem ((c.tc : Thread Cert.Ffn0ReferenceIdeal.nD Cert.Ffn0ReferenceIdeal.τ).loc Cert.Ffn0ReferenceIdeal.main_arg3) = m' ((c.tc : Thread Cert.Ffn0ReferenceIdeal.nD Cert.Ffn0ReferenceIdeal.τ).loc Cert.Ffn0ReferenceIdeal.main_arg3)
          ∧ r.2.mem ((c.tc : Thread Cert.Ffn0ReferenceIdeal.nD Cert.Ffn0ReferenceIdeal.τ).loc Cert.Ffn0ReferenceIdeal.main_arg4) = m' ((c.tc : Thread Cert.Ffn0ReferenceIdeal.nD Cert.Ffn0ReferenceIdeal.τ).loc Cert.Ffn0ReferenceIdeal.main_arg4)
          ∧ r.2.mem ((c.tc : Thread Cert.Ffn0ReferenceIdeal.nD Cert.Ffn0ReferenceIdeal.τ).loc Cert.Ffn0ReferenceIdeal.main_arg5) = m' ((c.tc : Thread Cert.Ffn0ReferenceIdeal.nD Cert.Ffn0ReferenceIdeal.τ).loc Cert.Ffn0ReferenceIdeal.main_arg5)
          ∧ r.2.mem ((c.tc : Thread Cert.Ffn0ReferenceIdeal.nD Cert.Ffn0ReferenceIdeal.τ).loc Cert.Ffn0ReferenceIdeal.main_arg6) = m' ((c.tc : Thread Cert.Ffn0ReferenceIdeal.nD Cert.Ffn0ReferenceIdeal.τ).loc Cert.Ffn0ReferenceIdeal.main_arg6)
          ∧ r.2.mem ((c.tc : Thread Cert.Ffn0ReferenceIdeal.nD Cert.Ffn0ReferenceIdeal.τ).loc Cert.Ffn0ReferenceIdeal.main_arg7) = m' ((c.tc : Thread Cert.Ffn0ReferenceIdeal.nD Cert.Ffn0ReferenceIdeal.τ).loc Cert.Ffn0ReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v11_0)) (v1 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11_0) = v0 c
          ∧ r.2.mem ((c.tc : Thread Cert.OutIdeal.nD Cert.OutIdeal.τ).loc Cert.OutIdeal.main_v14) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v20) = v0 c
          ∧ r.2.mem ((c.tc : Thread Cert.OutReferenceIdeal.nD Cert.OutReferenceIdeal.τ).loc Cert.OutReferenceIdeal.main_v36) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_AttnIn_AttnInIdeal : Prop :=
  IdealRules.named_const.Statement Cert.AttnInIdeal.κ "qscale" .f32 0x3E16C740#32 (((3424635 / 33554432) * (Real.log 2)⁻¹ : ℝ) : EReal)
  ∧ IdealRules.named_const.Statement Cert.AttnInIdeal.κ "nascale" .f32 0x3E38AA3B#32 (((1 / 8) * (Real.log 2)⁻¹ : ℝ) : EReal)

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)
      ∧ m' ((c.tc : Thread Cert.AttnInReferenceIdeal.nD Cert.AttnInReferenceIdeal.τ).loc Cert.AttnInReferenceIdeal.main_arg2) = m ((c.tc : Thread Cert.AttnInIdeal.nD Cert.AttnInIdeal.τ).loc Cert.AttnInIdeal.main_arg2)
      ∧ m' ((c.tc : Thread Cert.AttnInReferenceIdeal.nD Cert.AttnInReferenceIdeal.τ).loc Cert.AttnInReferenceIdeal.main_arg3) = m ((c.tc : Thread Cert.AttnInIdeal.nD Cert.AttnInIdeal.τ).loc Cert.AttnInIdeal.main_arg3)
      ∧ m' ((c.tc : Thread Cert.AttnInReferenceIdeal.nD Cert.AttnInReferenceIdeal.τ).loc Cert.AttnInReferenceIdeal.main_arg4) = m ((c.tc : Thread Cert.AttnInIdeal.nD Cert.AttnInIdeal.τ).loc Cert.AttnInIdeal.main_arg4)
      ∧ m' ((c.tc : Thread Cert.AttnInReferenceIdeal.nD Cert.AttnInReferenceIdeal.τ).loc Cert.AttnInReferenceIdeal.main_arg5) = m ((c.tc : Thread Cert.AttnInIdeal.nD Cert.AttnInIdeal.τ).loc Cert.AttnInIdeal.main_arg5)
      ∧ m' ((c.tc : Thread Cert.AttnInReferenceIdeal.nD Cert.AttnInReferenceIdeal.τ).loc Cert.AttnInReferenceIdeal.main_arg6) = m ((c.tc : Thread Cert.AttnInIdeal.nD Cert.AttnInIdeal.τ).loc Cert.AttnInIdeal.main_arg6)) →
    ∃ (v0 : (c : Dev Cert.AttnInIdeal.nD) → Buf (Elt Ideal) ((c.tc : Thread Cert.AttnInIdeal.nD Cert.AttnInIdeal.τ).loc Cert.AttnInIdeal.main_v57_0)) (v1 : (c : Dev Cert.AttnInIdeal.nD) → Buf (Elt Ideal) ((c.tc : Thread Cert.AttnInIdeal.nD Cert.AttnInIdeal.τ).loc Cert.AttnInIdeal.main_v57_1)) (v2 : (c : Dev Cert.AttnInIdeal.nD) → Buf (Elt Ideal) ((c.tc : Thread Cert.AttnInIdeal.nD Cert.AttnInIdeal.τ).loc Cert.AttnInIdeal.main_v57_2)) (v3 : (c : Dev Cert.AttnInIdeal.nD) → Buf (Elt Ideal) ((c.tc : Thread Cert.AttnInIdeal.nD Cert.AttnInIdeal.τ).loc Cert.AttnInIdeal.main_v57_3)) (v4 : (c : Dev Cert.AttnInIdeal.nD) → Buf (Elt Ideal) ((c.tc : Thread Cert.AttnInIdeal.nD Cert.AttnInIdeal.τ).loc Cert.AttnInIdeal.main_v57_4)) (v5 : (c : Dev Cert.AttnInIdeal.nD) → Buf (Elt Ideal) ((c.tc : Thread Cert.AttnInIdeal.nD Cert.AttnInIdeal.τ).loc Cert.AttnInIdeal.main_v57_5)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v57_0) = v0 c
          ∧ r.2.mem ((c.tc : Thread Cert.AttnInIdeal.nD Cert.AttnInIdeal.τ).loc Cert.AttnInIdeal.main_v57_1) = v1 c
          ∧ r.2.mem ((c.tc : Thread Cert.AttnInIdeal.nD Cert.AttnInIdeal.τ).loc Cert.AttnInIdeal.main_v57_2) = v2 c
          ∧ r.2.mem ((c.tc : Thread Cert.AttnInIdeal.nD Cert.AttnInIdeal.τ).loc Cert.AttnInIdeal.main_v57_3) = v3 c
          ∧ r.2.mem ((c.tc : Thread Cert.AttnInIdeal.nD Cert.AttnInIdeal.τ).loc Cert.AttnInIdeal.main_v57_4) = v4 c
          ∧ r.2.mem ((c.tc : Thread Cert.AttnInIdeal.nD Cert.AttnInIdeal.τ).loc Cert.AttnInIdeal.main_v57_5) = v5 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
          ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
          ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v130) = v0 c
          ∧ r.2.mem ((c.tc : Thread Cert.AttnInReferenceIdeal.nD Cert.AttnInReferenceIdeal.τ).loc Cert.AttnInReferenceIdeal.main_v132) = v1 c
          ∧ r.2.mem ((c.tc : Thread Cert.AttnInReferenceIdeal.nD Cert.AttnInReferenceIdeal.τ).loc Cert.AttnInReferenceIdeal.main_v134) = v2 c
          ∧ r.2.mem ((c.tc : Thread Cert.AttnInReferenceIdeal.nD Cert.AttnInReferenceIdeal.τ).loc Cert.AttnInReferenceIdeal.main_v136) = v3 c
          ∧ r.2.mem ((c.tc : Thread Cert.AttnInReferenceIdeal.nD Cert.AttnInReferenceIdeal.τ).loc Cert.AttnInReferenceIdeal.main_v138) = v4 c
          ∧ r.2.mem ((c.tc : Thread Cert.AttnInReferenceIdeal.nD Cert.AttnInReferenceIdeal.τ).loc Cert.AttnInReferenceIdeal.main_v140) = v5 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1)
          ∧ r.2.mem ((c.tc : Thread Cert.AttnInReferenceIdeal.nD Cert.AttnInReferenceIdeal.τ).loc Cert.AttnInReferenceIdeal.main_arg2) = m' ((c.tc : Thread Cert.AttnInReferenceIdeal.nD Cert.AttnInReferenceIdeal.τ).loc Cert.AttnInReferenceIdeal.main_arg2)
          ∧ r.2.mem ((c.tc : Thread Cert.AttnInReferenceIdeal.nD Cert.AttnInReferenceIdeal.τ).loc Cert.AttnInReferenceIdeal.main_arg3) = m' ((c.tc : Thread Cert.AttnInReferenceIdeal.nD Cert.AttnInReferenceIdeal.τ).loc Cert.AttnInReferenceIdeal.main_arg3)
          ∧ r.2.mem ((c.tc : Thread Cert.AttnInReferenceIdeal.nD Cert.AttnInReferenceIdeal.τ).loc Cert.AttnInReferenceIdeal.main_arg4) = m' ((c.tc : Thread Cert.AttnInReferenceIdeal.nD Cert.AttnInReferenceIdeal.τ).loc Cert.AttnInReferenceIdeal.main_arg4)
          ∧ r.2.mem ((c.tc : Thread Cert.AttnInReferenceIdeal.nD Cert.AttnInReferenceIdeal.τ).loc Cert.AttnInReferenceIdeal.main_arg5) = m' ((c.tc : Thread Cert.AttnInReferenceIdeal.nD Cert.AttnInReferenceIdeal.τ).loc Cert.AttnInReferenceIdeal.main_arg5)
          ∧ r.2.mem ((c.tc : Thread Cert.AttnInReferenceIdeal.nD Cert.AttnInReferenceIdeal.τ).loc Cert.AttnInReferenceIdeal.main_arg6) = m' ((c.tc : Thread Cert.AttnInReferenceIdeal.nD Cert.AttnInReferenceIdeal.τ).loc Cert.AttnInReferenceIdeal.main_arg6))

def preserves_FfnSample_FfnSampleIdeal : Prop :=
  IdealRules.named_const.Statement Cert.FfnSampleIdeal.κ "gelu3" .f32 0xBDD2D3E8#32 (((-80338380498831 / 1125899906842624) * (Real.log 2)⁻¹ : ℝ) : EReal)
  ∧ IdealRules.named_const.Statement Cert.FfnSampleIdeal.κ "gelu1" .f32 0xC0135761#32 (((-6693141 / 4194304) * (Real.log 2)⁻¹ : ℝ) : EReal)

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v10)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v10) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v67) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfn0 : Cert.Ffn0.Facts) (hFfn0Ideal : Cert.Ffn0Ideal.Facts) (hFfn0ReferenceIdeal : Cert.Ffn0ReferenceIdeal.Facts) (hOut : Cert.Out.Facts) (hOutIdeal : Cert.OutIdeal.Facts) (hOutReferenceIdeal : Cert.OutReferenceIdeal.Facts) (hAttnIn : Cert.AttnIn.Facts) (hAttnInIdeal : Cert.AttnInIdeal.Facts) (hAttnInReferenceIdeal : Cert.AttnInReferenceIdeal.Facts) (hFfnSample : Cert.FfnSample.Facts) (hFfnSampleIdeal : Cert.FfnSampleIdeal.Facts) (hFfnSampleReferenceIdeal : Cert.FfnSampleReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ffn0 (hFfn0 := hFfn0)
    ∧ quiescent_Ffn0Ideal (hFfn0Ideal := hFfn0Ideal)
    ∧ quiescent_Ffn0ReferenceIdeal (hFfn0ReferenceIdeal := hFfn0ReferenceIdeal)
    ∧ quiescent_Out (hOut := hOut)
    ∧ quiescent_OutIdeal (hOutIdeal := hOutIdeal)
    ∧ quiescent_OutReferenceIdeal (hOutReferenceIdeal := hOutReferenceIdeal)
    ∧ quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Ffn_FfnIdeal
    ∧ algebraic_FfnIdeal_FfnReferenceIdeal (hFfnIdeal := hFfnIdeal) (hFfnReferenceIdeal := hFfnReferenceIdeal)
    ∧ preserves_Ffn0_Ffn0Ideal
    ∧ algebraic_Ffn0Ideal_Ffn0ReferenceIdeal (hFfn0Ideal := hFfn0Ideal) (hFfn0ReferenceIdeal := hFfn0ReferenceIdeal)
    ∧ preserves_Out_OutIdeal
    ∧ algebraic_OutIdeal_OutReferenceIdeal (hOutIdeal := hOutIdeal) (hOutReferenceIdeal := hOutReferenceIdeal)
    ∧ preserves_AttnIn_AttnInIdeal
    ∧ algebraic_AttnInIdeal_AttnInReferenceIdeal (hAttnInIdeal := hAttnInIdeal) (hAttnInReferenceIdeal := hAttnInReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_finite_queries_and_keys.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩
abbrev S8x2048x1x32 : Shape := ⟨4, ![8, 2048, 1, 32]⟩
abbrev S8x2048x8x96 : Shape := ⟨4, ![8, 2048, 8, 96]⟩

class Facts : Prop where
  bcast_S_S8x2048x8x64 : S_.BroadcastsInDim S8x2048x8x64 (![] : Fin 0 → Fin S8x2048x8x64.rank)
  bcast_S_S8x2048x8x32 : S_.BroadcastsInDim S8x2048x8x32 (![] : Fin 0 → Fin S8x2048x8x32.rank)
  bcast_S_S8x2048x32 : S_.BroadcastsInDim S8x2048x32 (![] : Fin 0 → Fin S8x2048x32.rank)
  bcast_S8x2048x32_S8x2048x1x32_0_1_3 : S8x2048x32.BroadcastsInDim S8x2048x1x32 (![0, 1, 3] : Fin 3 → Fin S8x2048x1x32.rank)
  bcast_S8x2048x1x32_S8x2048x8x32_0_1_2_3 : S8x2048x1x32.BroadcastsInDim S8x2048x8x32 (![0, 1, 2, 3] : Fin 4 → Fin S8x2048x8x32.rank)
  concatenates_S8x2048x8x64_S8x2048x8x32_S8x2048x8x96_d3 : Shape.Concatenates [S8x2048x8x64, S8x2048x8x32] S8x2048x8x96 3

variable [Facts]

def fn {F : FTy → Type} [FloatOps F] (main_arg0 : FVec F S8x2048x8x64 .f32) (main_arg1 : FVec F S8x2048x8x32 .f32) (main_arg2 : FVec F S8x2048x8x64 .f32) (main_arg3 : FVec F S8x2048x32 .f32) (main_arg4 : FVec F S8x2048x8x64 .f32) : IVec S8x2048x8x96 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x8x64 .f32 := Host.absf main_arg2
  let main_cst_0 : FVec F S_ .f32 := constant S_ .f32 0x7F800000#32
  let main_v4 : FVec F S8x2048x8x64 .f32 := broadcastInDim S8x2048x8x64 ![] bcast_S_S8x2048x8x64 main_cst_0
  let main_v5 : IVec S8x2048x8x64 1 := cmpf .olt main_v3 main_v4
  let main_v6 : IVec S8x2048x8x64 1 := andi main_v2 main_v5
  let main_v7 : FVec F S8x2048x8x32 .f32 := Host.absf main_arg1
  let main_cst_1 : FVec F S_ .f32 := constant S_ .f32 0x7F800000#32
  let main_v8 : FVec F S8x2048x8x32 .f32 := broadcastInDim S8x2048x8x32 ![] bcast_S_S8x2048x8x32 main_cst_1
  let main_v9 : IVec S8x2048x8x32 1 := cmpf .olt main_v7 main_v8
  let main_v10 : FVec F S8x2048x32 .f32 := Host.absf main_arg3
  let main_cst_2 : FVec F S_ .f32 := constant S_ .f32 0x7F800000#32
  let main_v11 : FVec F S8x2048x32 .f32 := broadcastInDim S8x2048x32 ![] bcast_S_S8x2048x32 main_cst_2
  let main_v12 : IVec S8x2048x32 1 := cmpf .olt main_v10 main_v11
  let main_v13 : IVec S8x2048x1x32 1 := broadcastInDim S8x2048x1x32 ![0, 1, 3] bcast_S8x2048x32_S8x2048x1x32_0_1_3 main_v12
  let main_v14 : IVec S8x2048x8x32 1 := broadcastInDim S8x2048x8x32 ![0, 1, 2, 3] bcast_S8x2048x1x32_S8x2048x8x32_0_1_2_3 main_v13
  let main_v15 : IVec S8x2048x8x32 1 := andi main_v9 main_v14
  let main_v16 : IVec S8x2048x8x96 1 := (fun a b => concatenate S8x2048x8x96 3 [⟨S8x2048x8x64, a⟩, ⟨S8x2048x8x32, b⟩] concatenates_S8x2048x8x64_S8x2048x8x32_S8x2048x8x96_d3) main_v6 main_v15
  main_v16
-- ==== Kernel.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩
abbrev S8x2048x8x128 : Shape := ⟨4, ![8, 2048, 8, 128]⟩
abbrev S16384x1024 : Shape := ⟨2, ![16384, 1024]⟩
abbrev S8x2048x1x32 : Shape := ⟨4, ![8, 2048, 1, 32]⟩
abbrev S16384x512 : Shape := ⟨2, ![16384, 512]⟩
abbrev S1024x256 : Shape := ⟨2, ![1024, 256]⟩
abbrev S2048x256 : Shape := ⟨2, ![2048, 256]⟩
abbrev S2048x128 : Shape := ⟨2, ![2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 24
  | .vmem => 8
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x8x32, .f32⟩
  | .hbm, ⟨11, _⟩ => ⟨S8x2048x8x128, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S8x2048x1x32, .f32⟩
  | .hbm, ⟨17, _⟩ => ⟨S8x2048x8x32, .f32⟩
  | .hbm, ⟨18, _⟩ => ⟨S8x2048x8x128, .f32⟩
  | .hbm, ⟨19, _⟩ => ⟨S16384x1024, .f32⟩
  | .hbm, ⟨20, _⟩ => ⟨S16384x1024, .bf16⟩
  | .hbm, ⟨21, _⟩ => ⟨S16384x512, .f32⟩
  | .hbm, ⟨22, _⟩ => ⟨S16384x512, .bf16⟩
  | .hbm, ⟨23, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S8x8x2048x2048 : Shape := ⟨4, ![8, 8, 2048, 2048]⟩
abbrev S8x2048x2048x8 : Shape := ⟨4, ![8, 2048, 2048, 8]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S8x8x2048x2048, .f32⟩
  | .hbm, ⟨6, _⟩ => ⟨S8x2048x2048x8, .f32⟩
  | .hbm, ⟨7, _⟩ => ⟨S8x8x2048x2048, .f32⟩
  | .hbm, ⟨8, _⟩ => ⟨S8x8x2048x2048, .f32⟩
  | .hbm, ⟨9, _⟩ => ⟨S_, .f32⟩
  | .hbm, ⟨10, _⟩ => ⟨S8x8x2048x2048, .f32⟩
  | .hbm, ⟨11, _⟩ => ⟨S8x8x2048x2048, .f32⟩
  | .hbm, ⟨12, _⟩ => ⟨S_, .f32⟩
  | .hbm, ⟨13, _⟩ => ⟨S8x8x2048, .f32⟩
  | .hbm, ⟨14, _⟩ => ⟨S_, .f32⟩
  | .hbm, ⟨15, _⟩ => ⟨S8x8x2048, .f32⟩
  | .hbm, ⟨16, _⟩ => ⟨S8x8x2048, .f32⟩
  | .hbm, ⟨17, _⟩ => ⟨S8x8x2048x1, .f32⟩
  | .hbm, ⟨18, _⟩ => ⟨S8x8x2048x2048, .f32⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S8x8x2048x1, .f32⟩
  | .hbm, ⟨24, _⟩ => ⟨S8x8x2048x2048, .f32⟩
  | .hbm, ⟨25, _⟩ => ⟨S8x8x2048x2048, .f32⟩
  | .hbm, ⟨26, _⟩ => ⟨S8x8x64x2048, .f32⟩
  | .hbm, ⟨27, _⟩ => ⟨S8x2048x8x64, .f32⟩
  | .hbm, ⟨28, _⟩ => ⟨S16384x512, .f32⟩
  | .hbm, ⟨29, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S8x2048x1024 : Shape := ⟨3, ![8, 2048, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S16384x1024 : Shape := ⟨2, ![16384, 1024]⟩
abbrev S1x8192 : Shape := ⟨2, ![1, 8192]⟩
abbrev S8192 : Shape := ⟨1, ![8192]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩
abbrev S1x1024x1024 : Shape := ⟨3, ![1, 1024, 1024]⟩
abbrev S1x3x1024 : Shape := ⟨3, ![1, 3, 1024]⟩
abbrev S1040x1024 : Shape := ⟨2, ![1040, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x1024 : Shape := ⟨2, ![128, 1024]⟩
abbrev S14x1024 : Shape := ⟨2, ![14, 1024]⟩
abbrev S3x1024 : Shape := ⟨2, ![3, 1024]⟩
abbrev S1024x1 : Shape := ⟨2, ![1024, 1]⟩

abbrev nBuf : Space → Nat
  | .hbm => 18
  | .vmem => 28
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S2x1024x8192, .bf16⟩
  | .hbm, ⟨8, _⟩ => ⟨S2x4096x1024, .bf16⟩
  | .hbm, ⟨9, _⟩ => ⟨S16384x1024, .bf16⟩
  | .hbm, ⟨10, _⟩ => ⟨S16384x1024, .f32⟩
  | .hbm, ⟨11, _⟩ => ⟨S1x8192, .f32⟩
  | .hbm, ⟨12, _⟩ => ⟨S8192, .f32⟩
  | .hbm, ⟨13, _⟩ => ⟨S1x8192, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S16x1024, .bf16⟩
  | .local _ .vmem, ⟨1, _⟩ => ⟨S16x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1040x1024, .bf16⟩
  | .local _ .vmem, ⟨26, _⟩ => ⟨S1024x1024, .f32⟩
  | .local _ .vmem, ⟨27, _⟩ => ⟨S8x1024x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v294 : BitVec 1 := Scalar.cmpi .eq arg1 c3_i32
  let v295 : BitVec 32 := Scalar.extui v294
  let c0_i32_36 : BitVec 32 := 0#32
  let v296 : BitVec 1 := Scalar.cmpi .ne v295 c0_i32_36
  v296

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnIdeal.lean ====
abbrev S8x2048x1024 : Shape := ⟨3, ![8, 2048, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S16384x1024 : Shape := ⟨2, ![16384, 1024]⟩
abbrev S1x8192 : Shape := ⟨2, ![1, 8192]⟩
abbrev S8192 : Shape := ⟨1, ![8192]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩
abbrev S1x1024x1024 : Shape := ⟨3, ![1, 1024, 1024]⟩
abbrev S1x3x1024 : Shape := ⟨3, ![1, 3, 1024]⟩
abbrev S1040x1024 : Shape := ⟨2, ![1040, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x1024 : Shape := ⟨2, ![128, 1024]⟩
abbrev S14x1024 : Shape := ⟨2, ![14, 1024]⟩
abbrev S3x1024 : Shape := ⟨2, ![3, 1024]⟩
abbrev S1024x1 : Shape := ⟨2, ![1024, 1]⟩

abbrev nBuf : Space → Nat
  | .hbm => 18
  | .vmem => 28
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S2x1024x8192, .bf16⟩
  | .hbm, ⟨8, _⟩ => ⟨S2x4096x1024, .bf16⟩
  | .hbm, ⟨9, _⟩ => ⟨S16384x1024, .bf16⟩
  | .hbm, ⟨10, _⟩ => ⟨S16384x1024, .f32⟩
  | .hbm, ⟨11, _⟩ => ⟨S1x8192, .f32⟩
  | .hbm, ⟨12, _⟩ => ⟨S8192, .f32⟩
  | .hbm, ⟨13, _⟩ => ⟨S1x8192, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S16x1024, .bf16⟩
  | .local _ .vmem, ⟨1, _⟩ => ⟨S16x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1040x1024, .bf16⟩
  | .local _ .vmem, ⟨26, _⟩ => ⟨S1024x1024, .f32⟩
  | .local _ .vmem, ⟨27, _⟩ => ⟨S8x1024x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F] [Named F]

def κ : String → Option EReal := fun
  | "gelu1" => some (((-6693141 / 4194304) * (Real.log 2)⁻¹ : ℝ) : EReal)
  | "gelu3" => some (((-80338380498831 / 1125899906842624) * (Real.log 2)⁻¹ : ℝ) : EReal)
  | _ => none

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v294 : BitVec 1 := Scalar.cmpi .eq arg1 c3_i32
  let v295 : BitVec 32 := Scalar.extui v294
  let c0_i32_36 : BitVec 32 := 0#32
  let v296 : BitVec 1 := Scalar.cmpi .ne v295 c0_i32_36
  v296

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnReferenceIdeal.lean ====
abbrev S8x2048x1024 : Shape := ⟨3, ![8, 2048, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S1x3x8192 : Shape := ⟨3, ![1, 3, 8192]⟩
abbrev S3x8192 : Shape := ⟨2, ![3, 8192]⟩
abbrev S1x8192 : Shape := ⟨2, ![1, 8192]⟩
abbrev S8192 : Shape := ⟨1, ![8192]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S_ : Shape := ⟨0, ![]⟩
abbrev S8x2050x8192 : Shape := ⟨3, ![8, 2050, 8192]⟩
abbrev S1x1x8192 : Shape := ⟨3, ![1, 1, 8192]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S1x3x8192, .f32⟩
  | .hbm, ⟨8, _⟩ => ⟨S3x8192, .f32⟩
  | .hbm, ⟨9, _⟩ => ⟨S1x8192, .f32⟩
  | .hbm, ⟨10, _⟩ => ⟨S8192, .f32⟩
  | .hbm, ⟨11, _⟩ => ⟨S8x2048x1024, .f32⟩
  | .hbm, ⟨12, _⟩ => ⟨S1x1024x8192, .f32⟩
  | .hbm, ⟨13, _⟩ => ⟨S1024x8192, .f32⟩
  | .hbm, ⟨14, _⟩ => ⟨S8x2048x8192, .f32⟩
  | .hbm, ⟨15, _⟩ => ⟨S_, .i32⟩
  | .hbm, ⟨16, _⟩ => ⟨S_, .f32⟩
  | .hbm, ⟨17, _⟩ => ⟨S8x2050x8192, .f32⟩
  | .hbm, ⟨18, _⟩ => ⟨S1x8192, .f32⟩
  | .hbm, ⟨19, _⟩ => ⟨S8192, .f32⟩
  | .hbm, ⟨20, _⟩ => ⟨S8x2048x8192, .f32⟩
  | .hbm, ⟨21, _⟩ => ⟨S1x1x8192, .f32⟩
  | .hbm, ⟨22, _⟩ => ⟨S8x2048x8192, .f32⟩
  | .hbm, ⟨23, _⟩ => ⟨S8x2048x8192, .f32⟩
  | .hbm, ⟨24, _⟩ => ⟨S1x8192, .f32⟩
  | .hbm, ⟨25, _⟩ => ⟨S8192, .f32⟩
  | .hbm, ⟨26, _⟩ => ⟨S8x2048x8192, .f32⟩
  | .hbm, ⟨27, _⟩ => ⟨S1x1x8192, .f32⟩
  | .hbm, ⟨28, _⟩ => ⟨S8x2048x8192, .f32⟩
  | .hbm, ⟨29, _⟩ => ⟨S8x2048x8192, .f32⟩
  | .hbm, ⟨30, _⟩ => ⟨S8x2048x8192, .f32⟩
  | .hbm, ⟨31, _⟩ => ⟨S1x8192, .f32⟩
  | .hbm, ⟨32, _⟩ => ⟨S8192, .f32⟩
  | .hbm, ⟨33, _⟩ => ⟨S8x2048x8192, .f32⟩
  | .hbm, ⟨34, _⟩ => ⟨S1x1x8192, .f32⟩
  | .hbm, ⟨35, _⟩ => ⟨S8x2048x8192, .f32⟩
  | .hbm, ⟨36, _⟩ => ⟨S8x2048x8192, .f32⟩
  | .hbm, ⟨37, _⟩ => ⟨S8x2048x8192, .f32⟩
  | .hbm, ⟨38, _⟩ => ⟨S1x1x8192, .f32⟩
  | .hbm, ⟨39, _⟩ => ⟨S8x2048x8192, .f32⟩
  | .hbm, ⟨40, _⟩ => ⟨S8x2048x8192, .f32⟩
  | .hbm, ⟨41, _⟩ => ⟨S8x2048x4096, .f32⟩
  | .hbm, ⟨42, _⟩ => ⟨S8x2048x4096, .f32⟩
  | .hbm, ⟨43, _⟩ => ⟨S8x2048x4096, .f32⟩
  | .hbm, ⟨44, _⟩ => ⟨S8x2048x4096, .f32⟩
  | .hbm, ⟨45, _⟩ => ⟨S_, .f32⟩
  | .hbm, ⟨46, _⟩ => ⟨S8x2048x4096, .f32⟩
  | .hbm, ⟨47, _⟩ => ⟨S8x2048x4096, .f32⟩
  | .hbm, ⟨48, _⟩ => ⟨S8x2048x4096, .f32⟩
  | .hbm, ⟨49, _⟩ => ⟨S_, .f32⟩
  | .hbm, ⟨50, _⟩ => ⟨S8x2048x4096, .f32⟩
  | .hbm, ⟨51, _⟩ => ⟨S8x2048x4096, .f32⟩
  | .hbm, ⟨52, _⟩ => ⟨S8x2048x4096, .f32⟩
  | .hbm, ⟨53, _⟩ => ⟨S_, .f32⟩
  | .hbm, ⟨54, _⟩ => ⟨S8x2048x4096, .f32⟩
  | .hbm, ⟨55, _⟩ => ⟨S8x2048x4096, .f32⟩
  | .hbm, ⟨56, _⟩ => ⟨S_, .f32⟩
  | .hbm, ⟨57, _⟩ => ⟨S8x2048x4096, .f32⟩
  | .hbm, ⟨58, _⟩ => ⟨S8x2048x4096, .f32⟩
  | .hbm, ⟨59, _⟩ => ⟨S8x2048x4096, .f32⟩
  | .hbm, ⟨60, _⟩ => ⟨S8x2048x4096, .f32⟩
  | .hbm, ⟨61, _⟩ => ⟨S1x4096x1024, .f32⟩
  | .hbm, ⟨62, _⟩ => ⟨S4096x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S1x1024, .f32⟩
  | .hbm, ⟨78, _⟩ => ⟨S1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== Ffn0.lean ====
abbrev S8x2048x1024 : Shape := ⟨3, ![8, 2048, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S16x128x8x1024 : Shape := ⟨4, ![16, 128, 8, 1024]⟩
abbrev S16x8x128x1024 : Shape := ⟨4, ![16, 8, 128, 1024]⟩
abbrev S16384x1024 : Shape := ⟨2, ![16384, 1024]⟩
abbrev S1x8192 : Shape := ⟨2, ![1, 8192]⟩
abbrev S8192 : Shape := ⟨1, ![8192]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩
abbrev S1x1024x1024 : Shape := ⟨3, ![1, 1024, 1024]⟩
abbrev S1x3x1024 : Shape := ⟨3, ![1, 3, 1024]⟩
abbrev S1040x1024 : Shape := ⟨2, ![1040, 1024]⟩
abbrev S8x1024x128 : Shape := ⟨3, ![8, 1024, 128]⟩
abbrev S14x1024 : Shape := ⟨2, ![14, 1024]⟩
abbrev S3x1024 : Shape := ⟨2, ![3, 1024]⟩
abbrev S128x1024 : Shape := ⟨2, ![128, 1024]⟩
abbrev S1024x1 : Shape := ⟨2, ![1024, 1]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩

abbrev nBuf : Space → Nat
  | .hbm => 25
  | .vmem => 31
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S2x1024, .f32⟩
  | .hbm, ⟨8, _⟩ => ⟨S2x1024x8192, .bf16⟩
  | .hbm, ⟨9, _⟩ => ⟨S2x4096x1024, .bf16⟩
  | .hbm, ⟨10, _⟩ => ⟨S16x128x8x1024, .bf16⟩
  | .hbm, ⟨11, _⟩ => ⟨S16x8x128x1024, .bf16⟩
  | .hbm, ⟨12, _⟩ => ⟨S16384x1024, .bf16⟩
  | .hbm, ⟨13, _⟩ => ⟨S16384x1024, .f32⟩
  | .hbm, ⟨14, _⟩ => ⟨S1x8192, .f32⟩
  | .hbm, ⟨15, _⟩ => ⟨S8192, .f32⟩
  | .hbm, ⟨16, _⟩ => ⟨S1x8192, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .bf16⟩
  | .local _ .vmem, ⟨0, _⟩ => ⟨S16x1024, .bf16⟩
  | .local _ .vmem, ⟨1, _⟩ => ⟨S16x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .vmem, ⟨27, _⟩ => ⟨S1024x1024, .bf16⟩
  | .local _ .vmem, ⟨28, _⟩ => ⟨S1040x1024, .bf16⟩
  | .local _ .vmem, ⟨29, _⟩ => ⟨S1024x1024, .f32⟩
  | .local _ .vmem, ⟨30, _⟩ => ⟨S8x1024x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v294 : BitVec 1 := Scalar.cmpi .eq arg1 c3_i32
  let v295 : BitVec 32 := Scalar.extui v294
  let c0_i32_36 : BitVec 32 := 0#32
  let v296 : BitVec 1 := Scalar.cmpi .ne v295 c0_i32_36
  v296

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Ffn0Ideal.lean ====
variable {F : FTy → Type} [FloatOps F] [Named F]
def κ : String → Option EReal := fun
  | "gelu1" => some (((-6693141 / 4194304) * (Real.log 2)⁻¹ : ℝ) : EReal)
  | "gelu3" => some (((-80338380498831 / 1125899906842624) * (Real.log 2)⁻¹ : ℝ) : EReal)
  | _ => none
-- ==== Ffn0ReferenceIdeal.lean ====
abbrev S8x2048x1024 : Shape := ⟨3, ![8, 2048, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S1x3x8192 : Shape := ⟨3, ![1, 3, 8192]⟩
abbrev S3x8192 : Shape := ⟨2, ![3, 8192]⟩
abbrev S1x8192 : Shape := ⟨2, ![1, 8192]⟩
abbrev S8192 : Shape := ⟨1, ![8192]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S_ : Shape := ⟨0, ![]⟩
abbrev S8x2050x8192 : Shape := ⟨3, ![8, 2050, 8192]⟩
abbrev S1x1x8192 : Shape := ⟨3, ![1, 1, 8192]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S2x1024, .f32⟩
  | .hbm, ⟨8, _⟩ => ⟨S1x3x8192, .f32⟩
  | .hbm, ⟨9, _⟩ => ⟨S3x8192, .f32⟩
  | .hbm, ⟨10, _⟩ => ⟨S1x8192, .f32⟩
  | .hbm, ⟨11, _⟩ => ⟨S8192, .f32⟩
  | .hbm, ⟨12, _⟩ => ⟨S8x2048x1024, .f32⟩
  | .hbm, ⟨13, _⟩ => ⟨S1x1024x8192, .f32⟩
  | .hbm, ⟨14, _⟩ => ⟨S1024x8192, .f32⟩
  | .hbm, ⟨15, _⟩ => ⟨S8x2048x8192, .f32⟩
  | .hbm, ⟨16, _⟩ => ⟨S_, .i32⟩
  | .hbm, ⟨17, _⟩ => ⟨S_, .f32⟩
  | .hbm, ⟨18, _⟩ => ⟨S8x2050x8192, .f32⟩
  | .hbm, ⟨19, _⟩ => ⟨S1x8192, .f32⟩
  | .hbm, ⟨20, _⟩ => ⟨S8192, .f32⟩
  | .hbm, ⟨21, _⟩ => ⟨S8x2048x8192, .f32⟩
  | .hbm, ⟨22, _⟩ => ⟨S1x1x8192, .f32⟩
  | .hbm, ⟨23, _⟩ => ⟨S8x2048x8192, .f32⟩
  | .hbm, ⟨24, _⟩ => ⟨S8x2048x8192, .f32⟩
  | .hbm, ⟨25, _⟩ => ⟨S1x8192, .f32⟩
  | .hbm, ⟨26, _⟩ => ⟨S8192, .f32⟩
  | .hbm, ⟨27, _⟩ => ⟨S8x2048x8192, .f32⟩
  | .hbm, ⟨28, _⟩ => ⟨S1x1x8192, .f32⟩
  | .hbm, ⟨29, _⟩ => ⟨S8x2048x8192, .f32⟩
  | .hbm, ⟨30, _⟩ => ⟨S8x2048x8192, .f32⟩
  | .hbm, ⟨31, _⟩ => ⟨S8x2048x8192, .f32⟩
  | .hbm, ⟨32, _⟩ => ⟨S1x8192, .f32⟩
  | .hbm, ⟨33, _⟩ => ⟨S8192, .f32⟩
  | .hbm, ⟨34, _⟩ => ⟨S8x2048x8192, .f32⟩
  | .hbm, ⟨35, _⟩ => ⟨S1x1x8192, .f32⟩
  | .hbm, ⟨36, _⟩ => ⟨S8x2048x8192, .f32⟩
  | .hbm, ⟨37, _⟩ => ⟨S8x2048x8192, .f32⟩
  | .hbm, ⟨38, _⟩ => ⟨S8x2048x8192, .f32⟩
  | .hbm, ⟨39, _⟩ => ⟨S1x1x8192, .f32⟩
  | .hbm, ⟨40, _⟩ => ⟨S8x2048x8192, .f32⟩
  | .hbm, ⟨41, _⟩ => ⟨S8x2048x8192, .f32⟩
  | .hbm, ⟨42, _⟩ => ⟨S8x2048x4096, .f32⟩
  | .hbm, ⟨43, _⟩ => ⟨S8x2048x4096, .f32⟩
  | .hbm, ⟨44, _⟩ => ⟨S8x2048x4096, .f32⟩
  | .hbm, ⟨45, _⟩ => ⟨S8x2048x4096, .f32⟩
  | .hbm, ⟨46, _⟩ => ⟨S_, .f32⟩
  | .hbm, ⟨47, _⟩ => ⟨S8x2048x4096, .f32⟩
  | .hbm, ⟨48, _⟩ => ⟨S8x2048x4096, .f32⟩
  | .hbm, ⟨49, _⟩ => ⟨S8x2048x4096, .f32⟩
  | .hbm, ⟨50, _⟩ => ⟨S_, .f32⟩
  | .hbm, ⟨51, _⟩ => ⟨S8x2048x4096, .f32⟩
  | .hbm, ⟨52, _⟩ => ⟨S8x2048x4096, .f32⟩
  | .hbm, ⟨53, _⟩ => ⟨S8x2048x4096, .f32⟩
  | .hbm, ⟨54, _⟩ => ⟨S_, .f32⟩
  | .hbm, ⟨55, _⟩ => ⟨S8x2048x4096, .f32⟩
  | .hbm, ⟨56, _⟩ => ⟨S8x2048x4096, .f32⟩
  | .hbm, ⟨57, _⟩ => ⟨S_, .f32⟩
  | .hbm, ⟨58, _⟩ => ⟨S8x2048x4096, .f32⟩
  | .hbm, ⟨59, _⟩ => ⟨S8x2048x4096, .f32⟩
  | .hbm, ⟨60, _⟩ => ⟨S8x2048x4096, .f32⟩
  | .hbm, ⟨61, _⟩ => ⟨S8x2048x4096, .f32⟩
  | .hbm, ⟨62, _⟩ => ⟨S1x4096x1024, .f32⟩
  | .hbm, ⟨63, _⟩ => ⟨S4096x1024, .f32⟩
  | .hbm, ⟨64, _⟩ => ⟨S8x2048x1024, .f32⟩
  | .hbm, ⟨65, _⟩ => ⟨S1x1024, .f32⟩
  | .hbm, ⟨66, _⟩ => ⟨S1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S16384x1024, .f32⟩
  | .hbm, ⟨85, _⟩ => ⟨S1x1024, .f32⟩
  | .hbm, ⟨86, _⟩ => ⟨S1024, .f32⟩
  | .hbm, ⟨87, _⟩ => ⟨S8x2048x1024, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | .hbm, ⟨104, _⟩ => ⟨S16384x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_cst_8 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Out.lean ====
abbrev S16384x512 : Shape := ⟨2, ![16384, 512]⟩
abbrev S8x2048x1024 : Shape := ⟨3, ![8, 2048, 1024]⟩
abbrev S1x1024x1024 : Shape := ⟨3, ![1, 1024, 1024]⟩
abbrev S2x1024 : Shape := ⟨2, ![2, 1024]⟩
abbrev S1024x1024 : Shape := ⟨2, ![1024, 1024]⟩
abbrev S512x1024 : Shape := ⟨2, ![512, 1024]⟩
abbrev S16384x1024 : Shape := ⟨2, ![16384, 1024]⟩
abbrev S1x1024 : Shape := ⟨2, ![1, 1024]⟩
abbrev S1024 : Shape := ⟨1, ![1024]⟩
abbrev S1024x512 : Shape := ⟨2, ![1024, 512]⟩
abbrev S8x1024x128 : Shape := ⟨3, ![8, 1024, 128]⟩
abbrev S1024x1 : Shape := ⟨2, ![1024, 1]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x1024 : Shape := ⟨2, ![128, 1024]⟩
abbrev S16x8x128x1024 : Shape := ⟨4, ![16, 8, 128, 1024]⟩
abbrev S16x128x8x1024 : Shape := ⟨4, ![16, 128, 8, 1024]⟩

abbrev nBuf : Space → Nat
  | .hbm => 22
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S1024x1024, .bf16⟩
  | .hbm, ⟨8, _⟩ => ⟨S512x1024, .bf16⟩
  | .hbm, ⟨9, _⟩ => ⟨S512x1024, .bf16⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16x8x128x1024, .bf16⟩
  | .hbm, ⟨20, _⟩ => ⟨S16x128x8x1024, .bf16⟩
  | .hbm, ⟨21, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S8x1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S16384x512 : Shape := ⟨2, ![16384, 512]⟩
abbrev S8x2048x1024 : Shape := ⟨3, ![8, 2048, 1024]⟩
abbrev S1x1024x1024 : Shape := ⟨3, ![1, 1024, 1024]⟩
abbrev S2x1024 : Shape := ⟨2, ![2, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AttnIn.lean ====
abbrev S8x2048x1024 : Shape := ⟨3, ![8, 2048, 1024]⟩
abbrev S2x1024 : Shape := ⟨2, ![2, 1024]⟩
abbrev S1x1024x2208 : Shape := ⟨3, ![1, 1024, 2208]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1024x2208 : Shape := ⟨2, ![1024, 2208]⟩
abbrev S384x768 : Shape := ⟨2, ![384, 768]⟩
abbrev S256x1024 : Shape := ⟨2, ![256, 1024]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x1536 : Shape := ⟨2, ![1024, 1536]⟩
abbrev S1024x2304 : Shape := ⟨2, ![1024, 2304]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S16384x1024 : Shape := ⟨2, ![16384, 1024]⟩
abbrev S1x1024 : Shape := ⟨2, ![1, 1024]⟩
abbrev S1024 : Shape := ⟨1, ![1024]⟩
abbrev S384 : Shape := ⟨1, ![384]⟩
abbrev S256 : Shape := ⟨1, ![256]⟩
abbrev S16384x512 : Shape := ⟨2, ![16384, 512]⟩
abbrev S1024x1024 : Shape := ⟨2, ![1024, 1024]⟩
abbrev S1024x128 : Shape := ⟨2, ![1024, 128]⟩
abbrev S1024x512 : Shape := ⟨2, ![1024, 512]⟩
abbrev S1024x1 : Shape := ⟨2, ![1024, 1]⟩
abbrev S1024x384 : Shape := ⟨2, ![1024, 384]⟩
abbrev S1024x256 : Shape := ⟨2, ![1024, 256]⟩

abbrev nBuf : Space → Nat
  | .hbm => 82
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2208, .f32⟩
  | .hbm, ⟨3, _⟩ => ⟨S1x384, .f32⟩
  | .hbm, ⟨4, _⟩ => ⟨S1x384x768, .f32⟩
  | .hbm, ⟨5, _⟩ => ⟨S1x256, .f32⟩
  | .hbm, ⟨6, _⟩ => ⟨S1x256x1024, .f32⟩
  | .hbm, ⟨7, _⟩ => ⟨S1024x2208, .f32⟩
  | .hbm, ⟨8, _⟩ => ⟨S384x768, .f32⟩
  | .hbm, ⟨9, _⟩ => ⟨S256x1024, .f32⟩
  | .hbm, ⟨10, _⟩ => ⟨S1024x32, .f32⟩
  | .hbm, ⟨11, _⟩ => ⟨S_, .f32⟩
  | .hbm, ⟨12, _⟩ => ⟨S1024x64, .f32⟩
  | .hbm, ⟨13, _⟩ => ⟨S_, .f32⟩
  | .hbm, ⟨14, _⟩ => ⟨S1024x32, .f32⟩
  | .hbm, ⟨15, _⟩ => ⟨S1024x640, .f32⟩
  | .hbm, ⟨16, _⟩ => ⟨S1024x1536, .f32⟩
  | .hbm, ⟨17, _⟩ => ⟨S1024x2304, .f32⟩
  | .hbm, ⟨18, _⟩ => ⟨S384x8x96, .f32⟩
  | .hbm, ⟨19, _⟩ => ⟨S_, .f32⟩
  | .hbm, ⟨20, _⟩ => ⟨S384x8x32, .f32⟩
  | .hbm, ⟨21, _⟩ => ⟨S384x8x128, .f32⟩
  | .hbm, ⟨22, _⟩ => ⟨S384x1024, .f32⟩
  | .hbm, ⟨23, _⟩ => ⟨S256x8x128, .f32⟩
  | .hbm, ⟨24, _⟩ => ⟨S_, .f32⟩
  | .hbm, ⟨25, _⟩ => ⟨S256x8x64, .f32⟩
  | .hbm, ⟨26, _⟩ => ⟨S256x8x64, .f32⟩
  | .hbm, ⟨27, _⟩ => ⟨S256x8x128, .f32⟩
  | .hbm, ⟨28, _⟩ => ⟨S256x1024, .f32⟩
  | .hbm, ⟨29, _⟩ => ⟨S256x8x64, .f32⟩
  | .hbm, ⟨30, _⟩ => ⟨S256x512, .f32⟩
  | .hbm, ⟨31, _⟩ => ⟨S1024x2304, .bf16⟩
  | .hbm, ⟨32, _⟩ => ⟨S384x1024, .bf16⟩
  | .hbm, ⟨33, _⟩ => ⟨S256x1024, .bf16⟩
  | .hbm, ⟨34, _⟩ => ⟨S256x512, .bf16⟩
  | .hbm, ⟨35, _⟩ => ⟨S4096, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S4096x1, .f32⟩
  | .hbm, ⟨51, _⟩ => ⟨S1x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S_, .f32⟩
  | .hbm, ⟨58, _⟩ => ⟨S4096x64, .f32⟩
  | .hbm, ⟨59, _⟩ => ⟨S_, .f32⟩
  | .hbm, ⟨60, _⟩ => ⟨S4096x32, .f32⟩
  | .hbm, ⟨61, _⟩ => ⟨S4096x128, .f32⟩
  | .hbm, ⟨62, _⟩ => ⟨S_, .f32⟩
  | .hbm, ⟨63, _⟩ => ⟨S4096x64, .f32⟩
  | .hbm, ⟨64, _⟩ => ⟨S4096x16, .f32⟩
  | .hbm, ⟨65, _⟩ => ⟨S_, .f32⟩
  | .hbm, ⟨66, _⟩ => ⟨S4096x32, .f32⟩
  | .hbm, ⟨67, _⟩ => ⟨S4096x128, .f32⟩
  | .hbm, ⟨68, _⟩ => ⟨S16384x1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S384, .f32⟩
  | .hbm, ⟨73, _⟩ => ⟨S1x384, .f32⟩
  | .hbm, ⟨74, _⟩ => ⟨S256, .f32⟩
  | .hbm, ⟨75, _⟩ => ⟨S1x256, .f32⟩
  | .hbm, ⟨76, _⟩ => ⟨S16384x1024, .bf16⟩
  | .hbm, ⟨77, _⟩ => ⟨S16384x1024, .bf16⟩
  | .hbm, ⟨78, _⟩ => ⟨S16384x512, .bf16⟩
  | .hbm, ⟨79, _⟩ => ⟨S16384x512, .bf16⟩
  | .hbm, ⟨80, _⟩ => ⟨S16384x512, .bf16⟩
  | .hbm, ⟨81, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.remsi arg0 c2_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.remsi arg0 c2_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnInIdeal.lean ====
variable {F : FTy → Type} [FloatOps F] [Named F]
def κ : String → Option EReal := fun
  | "nascale" => some (((1 / 8) * (Real.log 2)⁻¹ : ℝ) : EReal)
  | "qscale" => some (((3424635 / 33554432) * (Real.log 2)⁻¹ : ℝ) : EReal)
  | _ => none
-- ==== AttnInReferenceIdeal.lean ====
abbrev S8x2048x1024 : Shape := ⟨3, ![8, 2048, 1024]⟩
abbrev S2x1024 : Shape := ⟨2, ![2, 1024]⟩
abbrev S1x1024x2208 : Shape := ⟨3, ![1, 1024, 2208]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2208 : Shape := ⟨2, ![1024, 2208]⟩
abbrev S8x2048x2208 : Shape := ⟨3, ![8, 2048, 2208]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x512 : Shape := ⟨3, ![8, 2048, 512]⟩
abbrev S384 : Shape := ⟨1, ![384]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S256 : Shape := ⟨1, ![256]⟩
abbrev S1x1x256 : Shape := ⟨3, ![1, 1, 256]⟩
abbrev S256x1024 : Shape := ⟨2, ![256, 1024]⟩
abbrev S8x2048x8x128 : Shape := ⟨4, ![8, 2048, 8, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8x2048x8x32 : Shape := ⟨4, ![8, 2048, 8, 32]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S8x2048x16 : Shape := ⟨3, ![8, 2048, 16]⟩
abbrev S1x2048x16 : Shape := ⟨3, ![1, 2048, 16]⟩
abbrev S8x2048x1x32 : Shape := ⟨4, ![8, 2048, 1, 32]⟩
abbrev S8x2048x8x64 : Shape := ⟨4, ![8, 2048, 8, 64]⟩
abbrev S16384x1024 : Shape := ⟨2, ![16384, 1024]⟩
abbrev S16384x512 : Shape := ⟨2, ![16384, 512]⟩

abbrev nBuf : Space → Nat
  | .hbm => 165
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x2208, .f32⟩
  | 3 => ⟨S1x384, .f32⟩
  | 4 => ⟨S1x384x768, .f32⟩
  | 5 => ⟨S1x256, .f32⟩
  | 6 => ⟨S1x256x1024, .f32⟩
  | 7 => ⟨S1x1024, .f32⟩
  | 8 => ⟨S1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S1024x2208, .f32⟩
  | 26 => ⟨S8x2048x2208, .f32⟩
  | 27 => ⟨S8x2048x384, .f32⟩
  | 28 => ⟨S8x2048x256, .f32⟩
  | 29 => ⟨S8x2048x32, .f32⟩
  | 30 => ⟨S8x2048x512, .f32⟩
  | 31 => ⟨S8x2048x512, .f32⟩
  | 32 => ⟨S8x2048x512, .f32⟩
  | 33 => ⟨S384, .f32⟩
  | 34 => ⟨S8x2048x384, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x384, .f32⟩
  | 46 => ⟨S8x2048x384, .f32⟩
  | 47 => ⟨S1x1x384, .f32⟩
  | 48 => ⟨S8x2048x384, .f32⟩
  | 49 => ⟨S8x2048x384, .f32⟩
  | 50 => ⟨S384x768, .f32⟩
  | 51 => ⟨S8x2048x768, .f32⟩
  | 52 => ⟨S8x2048x8x96, .f32⟩
  | 53 => ⟨S256, .f32⟩
  | 54 => ⟨S8x2048x256, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S_, .f32⟩
  | 62 => ⟨S8x2048x1, .f32⟩
  | 63 => ⟨S8x2048x1, .f32⟩
  | 64 => ⟨S8x2048x1, .f32⟩
  | 65 => ⟨S8x2048x256, .f32⟩
  | 66 => ⟨S8x2048x256, .f32⟩
  | 67 => ⟨S1x1x256, .f32⟩
  | 68 => ⟨S8x2048x256, .f32⟩
  | 69 => ⟨S8x2048x256, .f32⟩
  | 70 => ⟨S256x1024, .f32⟩
  | 71 => ⟨S8x2048x1024, .f32⟩
  | 72 => ⟨S8x2048x8x128, .f32⟩
  | 73 => ⟨S2048, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S2048x1, .f32⟩
  | 89 => ⟨S1x16, .f32⟩
  | 90 => ⟨S2048x16, .f32⟩
  | 91 => ⟨S2048x16, .f32⟩
  | 92 => ⟨S2048x16, .f32⟩
  | 93 => ⟨S2048x16, .f32⟩
  | 94 => ⟨S2048x16, .f32⟩
  | 95 => ⟨S8x2048x8x32, .f32⟩
  | 96 => ⟨S2048x1x16, .f32⟩
  | 97 => ⟨S2048x1x16, .f32⟩
  | 98 => ⟨S8x2048x8x16, .f32⟩
  | 99 => ⟨S8x2048x8x16, .f32⟩
  | 100 => ⟨S1x2048x1x16, .f32⟩
  | 101 => ⟨S8x2048x8x16, .f32⟩
  | 102 => ⟨S8x2048x8x16, .f32⟩
  | 103 => ⟨S1x2048x1x16, .f32⟩
  | 104 => ⟨S8x2048x8x16, .f32⟩
  | 105 => ⟨S8x2048x8x16, .f32⟩
  | 106 => ⟨S8x2048x8x16, .f32⟩
  | 107 => ⟨S1x2048x1x16, .f32⟩
  | 108 => ⟨S8x2048x8x16, .f32⟩
  | 109 => ⟨S8x2048x8x16, .f32⟩
  | 110 => ⟨S1x2048x1x16, .f32⟩
  | 111 => ⟨S8x2048x8x16, .f32⟩
  | 112 => ⟨S8x2048x8x16, .f32⟩
  | 113 => ⟨S8x2048x8x16, .f32⟩
  | 114 => ⟨S8x2048x8x32, .f32⟩
  | 115 => ⟨S8x2048x16, .f32⟩
  | 116 => ⟨S8x2048x16, .f32⟩
  | 117 => ⟨S1x2048x16, .f32⟩
  | 118 => ⟨S8x2048x16, .f32⟩
  | 119 => ⟨S8x2048x16, .f32⟩
  | 120 => ⟨S1x2048x16, .f32⟩
  | 121 => ⟨S8x2048x16, .f32⟩
  | 122 => ⟨S8x2048x16, .f32⟩
  | 123 => ⟨S8x2048x16, .f32⟩
  | 124 => ⟨S1x2048x16, .f32⟩
  | 125 => ⟨S8x2048x16, .f32⟩
  | 126 => ⟨S8x2048x16, .f32⟩
  | 127 => ⟨S1x2048x16, .f32⟩
  | _ => ⟨S8x2048x1024, .f32⟩

abbrev hbmTy0_1 (i : Nat) : BufTy := match i % 128 with
  | 0 => ⟨S8x2048x16, .f32⟩
  | 1 => ⟨S8x2048x16, .f32⟩
  | 2 => ⟨S8x2048x16, .f32⟩
  | 3 => ⟨S8x2048x32, .f32⟩
  | 4 => ⟨S8x2048x1x32, .f32⟩
  | 5 => ⟨S8x2048x8x32, .f32⟩
  | 6 => ⟨S_, .f32⟩
  | 7 => ⟨S8x2048x8x32, .f32⟩
  | 8 => ⟨S_, .f32⟩
  | 9 => ⟨S_, .f32⟩
  | 10 => ⟨S8x2048x8x64, .f32⟩
  | 11 => ⟨S8x2048x8x128, .f32⟩
  | 12 => ⟨S_, .f32⟩
  | 13 => ⟨S8x2048x8x128, .f32⟩
  | 14 => ⟨S8x2048x8x128, .f32⟩
  | 15 => ⟨S8x2048x8x128, .f32⟩
  | 16 => ⟨S8x2048x8x128, .f32⟩
  | 17 => ⟨S8x2048x8x64, .f32⟩
  | 18 => ⟨S8x2048x8x128, .f32⟩
  | 19 => ⟨S_, .f32⟩
  | 20 => ⟨S8x2048x512, .f32⟩
  | 21 => ⟨S8x2048x512, .f32⟩
  | 22 => ⟨S8x2048x512, .f32⟩
  | 23 => ⟨S8x2048x512, .f32⟩
  | 24 => ⟨S8x2048x8x64, .f32⟩
  | 25 => ⟨S16384x1024, .f32⟩
  | 26 => ⟨S16384x1024, .bf16⟩
  | 27 => ⟨S16384x1024, .f32⟩
  | 28 => ⟨S16384x1024, .bf16⟩
  | 29 => ⟨S16384x512, .f32⟩
  | 30 => ⟨S16384x512, .bf16⟩
  | 31 => ⟨S16384x512, .f32⟩
  | 32 => ⟨S16384x512, .bf16⟩
  | 33 => ⟨S16384x512, .f32⟩
  | 34 => ⟨S16384x512, .bf16⟩
  | 35 => ⟨S16384x512, .f32⟩
  | 36 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_12 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_14 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩

abbrev nD : Nat := 1
abbrev τ : Topo := Topo.v7x

variable {F : FTy → Type} [FloatOps F]
-- ==== FfnSample.lean ====
abbrev S4x4096x1024 : Shape := ⟨3, ![4, 4096, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S16384x1024 : Shape := ⟨2, ![16384, 1024]⟩
abbrev S1x8192 : Shape := ⟨2, ![1, 8192]⟩
abbrev S8192 : Shape := ⟨1, ![8192]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩
abbrev S1x1024x1024 : Shape := ⟨3, ![1, 1024, 1024]⟩
abbrev S1x3x1024 : Shape := ⟨3, ![1, 3, 1024]⟩
abbrev S1040x1024 : Shape := ⟨2, ![1040, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x1024 : Shape := ⟨2, ![128, 1024]⟩
abbrev S14x1024 : Shape := ⟨2, ![14, 1024]⟩
abbrev S3x1024 : Shape := ⟨2, ![3, 1024]⟩
abbrev S1024x1 : Shape := ⟨2, ![1024, 1]⟩

abbrev nBuf : Space → Nat
  | .hbm => 18
  | .vmem => 28
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S2x1024x8192, .bf16⟩
  | .hbm, ⟨8, _⟩ => ⟨S2x4096x1024, .bf16⟩
  | .hbm, ⟨9, _⟩ => ⟨S16384x1024, .bf16⟩
  | .hbm, ⟨10, _⟩ => ⟨S16384x1024, .f32⟩
  | .hbm, ⟨11, _⟩ => ⟨S1x8192, .f32⟩
  | .hbm, ⟨12, _⟩ => ⟨S8192, .f32⟩
  | .hbm, ⟨13, _⟩ => ⟨S1x8192, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S16x1024, .bf16⟩
  | .local _ .vmem, ⟨1, _⟩ => ⟨S16x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1040x1024, .bf16⟩
  | .local _ .vmem, ⟨26, _⟩ => ⟨S1024x1024, .f32⟩
  | .local _ .vmem, ⟨27, _⟩ => ⟨S8x1024x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v294 : BitVec 1 := Scalar.cmpi .eq arg1 c3_i32
  let v295 : BitVec 32 := Scalar.extui v294
  let c0_i32_36 : BitVec 32 := 0#32
  let v296 : BitVec 1 := Scalar.cmpi .ne v295 c0_i32_36
  v296

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnSampleIdeal.lean ====
variable {F : FTy → Type} [FloatOps F] [Named F]
def κ : String → Option EReal := fun
  | "gelu1" => some (((-6693141 / 4194304) * (Real.log 2)⁻¹ : ℝ) : EReal)
  | "gelu3" => some (((-80338380498831 / 1125899906842624) * (Real.log 2)⁻¹ : ℝ) : EReal)
  | _ => none
-- ==== FfnSampleReferenceIdeal.lean ====
abbrev S4x4096x1024 : Shape := ⟨3, ![4, 4096, 1024]⟩
abbrev S2x1024x8192 : Shape := ⟨3, ![2, 1024, 8192]⟩
abbrev S2x3x8192 : Shape := ⟨3, ![2, 3, 8192]⟩
abbrev S2x8192 : Shape := ⟨2, ![2, 8192]⟩
abbrev S2x4096x1024 : Shape := ⟨3, ![2, 4096, 1024]⟩
abbrev S2x1024 : Shape := ⟨2, ![2, 1024]⟩
abbrev S1x3x8192 : Shape := ⟨3, ![1, 3, 8192]⟩
abbrev S3x8192 : Shape := ⟨2, ![3, 8192]⟩
abbrev S1x8192 : Shape := ⟨2, ![1, 8192]⟩
abbrev S8192 : Shape := ⟨1, ![8192]⟩
abbrev S1x1024x8192 : Shape := ⟨3, ![1, 1024, 8192]⟩
abbrev S1024x8192 : Shape := ⟨2, ![1024, 8192]⟩
abbrev S4x4096x8192 : Shape := ⟨3, ![4, 4096, 8192]⟩
abbrev S_ : Shape := ⟨0, ![]⟩
abbrev S4x4098x8192 : Shape := ⟨3, ![4, 4098, 8192]⟩
abbrev S1x1x8192 : Shape := ⟨3, ![1, 1, 8192]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S2x1024x8192, .f32⟩
  | .hbm, ⟨3, _⟩ => ⟨S2x3x8192, .f32⟩
  | .hbm, ⟨4, _⟩ => ⟨S2x8192, .f32⟩
  | .hbm, ⟨5, _⟩ => ⟨S2x4096x1024, .f32⟩
  | .hbm, ⟨6, _⟩ => ⟨S2x1024, .f32⟩
  | .hbm, ⟨7, _⟩ => ⟨S1x3x8192, .f32⟩
  | .hbm, ⟨8, _⟩ => ⟨S3x8192, .f32⟩
  | .hbm, ⟨9, _⟩ => ⟨S1x8192, .f32⟩
  | .hbm, ⟨10, _⟩ => ⟨S8192, .f32⟩
  | .hbm, ⟨11, _⟩ => ⟨S4x4096x1024, .f32⟩
  | .hbm, ⟨12, _⟩ => ⟨S1x1024x8192, .f32⟩
  | .hbm, ⟨13, _⟩ => ⟨S1024x8192, .f32⟩
  | .hbm, ⟨14, _⟩ => ⟨S4x4096x8192, .f32⟩
  | .hbm, ⟨15, _⟩ => ⟨S_, .i32⟩
  | .hbm, ⟨16, _⟩ => ⟨S_, .f32⟩
  | .hbm, ⟨17, _⟩ => ⟨S4x4098x8192, .f32⟩
  | .hbm, ⟨18, _⟩ => ⟨S1x8192, .f32⟩
  | .hbm, ⟨19, _⟩ => ⟨S8192, .f32⟩
  | .hbm, ⟨20, _⟩ => ⟨S4x4096x8192, .f32⟩
  | .hbm, ⟨21, _⟩ => ⟨S1x1x8192, .f32⟩
  | .hbm, ⟨22, _⟩ => ⟨S4x4096x8192, .f32⟩
  | .hbm, ⟨23, _⟩ => ⟨S4x4096x8192, .f32⟩
  | .hbm, ⟨24, _⟩ => ⟨S1x8192, .f32⟩
  | .hbm, ⟨25, _⟩ => ⟨S8192, .f32⟩
  | .hbm, ⟨26, _⟩ => ⟨S4x4096x8192, .f32⟩
  | .hbm, ⟨27, _⟩ => ⟨S1x1x8192, .f32⟩
  | .hbm, ⟨28, _⟩ => ⟨S4x4096x8192, .f32⟩
  | .hbm, ⟨29, _⟩ => ⟨S4x4096x8192, .f32⟩
  | .hbm, ⟨30, _⟩ => ⟨S4x4096x8192, .f32⟩
  | .hbm, ⟨31, _⟩ => ⟨S1x8192, .f32⟩
  | .hbm, ⟨32, _⟩ => ⟨S8192, .f32⟩
  | .hbm, ⟨33, _⟩ => ⟨S4x4096x8192, .f32⟩
  | .hbm, ⟨34, _⟩ => ⟨S1x1x8192, .f32⟩
  | .hbm, ⟨35, _⟩ => ⟨S4x4096x8192, .f32⟩
  | .hbm, ⟨36, _⟩ => ⟨S4x4096x8192, .f32⟩
  | .hbm, ⟨37, _⟩ => ⟨S4x4096x8192, .f32⟩
  | .hbm, ⟨38, _⟩ => ⟨S1x1x8192, .f32⟩
  | .hbm, ⟨39, _⟩ => ⟨S4x4096x8192, .f32⟩
  | .hbm, ⟨40, _⟩ => ⟨S4x4096x8192, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S1x4096x1024, .f32⟩
  | .hbm, ⟨62, _⟩ => ⟨S4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1024, .f32⟩
  | .hbm, ⟨78, _⟩ => ⟨S1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S16384x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== Proof.Mla.Softmax.lean ====
/-
  Softmax over the extended reals, in two forms that agree when the scores are finite.

  The usual form divides each weight by their sum before it is used; the other one works with powers of two, adds up the
  weighted values first and divides once at the end. `attend_eq` is the equation between them. The values may be infinite:
  the weights are positive reals and their sum is a real that is at least one, so multiplication by its reciprocal
  distributes over any sum.
-/
module

public import Idealize.ShloMosaic.PureOps.Ideal
public import Mathlib.Analysis.SpecialFunctions.Pow.Real

@[expose] public section

noncomputable section

namespace Cert.Attention

open Idealize.ShloMosaic

/-- The largest of finitely many extended reals (`⊥` for none). -/
def top {n : ℕ} (s : Fin n → EReal) : EReal := Finset.fold max ⊥ s Finset.univ

/-- Attention with one division: weights `2 ^ (s k - max s)`, the weighted sum of `v` over the sum of the weights. -/
def attendTwo {n : ℕ} (s v : Fin n → EReal) : EReal :=
  Ideal.div (∑ k, Ideal.exp2 (s k - top s) * v k) (∑ k, Ideal.exp2 (s k - top s))

/-- Attention as softmax and then a weighted sum: weights `exp (s k - max s)` divided by their sum. -/
def attend {n : ℕ} (s v : Fin n → EReal) : EReal :=
  ∑ k, v k * Ideal.div (Ideal.exp (s k - top s)) (∑ k, Ideal.exp (s k - top s))

/-- The largest of a nonempty family of reals is one of them, and none is larger. -/
theorem top_coe {n : ℕ} (hn : 0 < n) (t : Fin n → ℝ) :
    ∃ j, top (fun k => (t k : EReal)) = (t j : EReal) ∧ ∀ k, t k ≤ t j := by
  haveI : Nonempty (Fin n) := ⟨⟨0, hn⟩⟩
  obtain ⟨j, hj⟩ := Finite.exists_max t
  refine ⟨j, le_antisymm ?_ ?_, hj⟩
  · exact Finset.sup_le fun k _ => EReal.coe_le_coe_iff.mpr (hj k)
  · exact Finset.le_sup (f := fun k => (t k : EReal)) (Finset.mem_univ j)

/-- Multiplication by a nonnegative real distributes over a finite sum of extended reals. -/
theorem mul_sum_of_nonneg {ι : Type} (A : Finset ι) (c : ℝ) (hc : 0 ≤ c) (f : ι → EReal) :
    (c : EReal) * ∑ i ∈ A, f i = ∑ i ∈ A, (c : EReal) * f i := by
  classical
  induction A using Finset.induction_on with
  | empty => simp
  | insert a A ha ih =>
    rw [Finset.sum_insert ha, Finset.sum_insert ha, ← ih,
      EReal.left_distrib_of_nonneg_of_ne_top (EReal.coe_nonneg.mpr hc) (EReal.coe_ne_top c)]

/-- A finite sum of reals is the same sum taken in the extended reals. -/
theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The two forms agree: scores `t k` in one, `t k / log 2` in the other. -/
theorem attend_eq {n : ℕ} (hn : 0 < n) (t : Fin n → ℝ) (v : Fin n → EReal) :
    attendTwo (fun k => ((t k * (Real.log 2)⁻¹ : ℝ) : EReal)) v = attend (fun k => (t k : EReal)) v := by
  have hl : (0 : ℝ) < Real.log 2 := Real.log_pos (by norm_num)
  obtain ⟨j, hj, hle⟩ := top_coe hn t
  obtain ⟨j', hj', hle'⟩ := top_coe hn fun k => t k * (Real.log 2)⁻¹
  have hjj : t j' = t j :=
    le_antisymm (hle j') (le_of_mul_le_mul_right (hle' j) (inv_pos.mpr hl))
  have hw : ∀ k, Ideal.exp2 (((t k * (Real.log 2)⁻¹ : ℝ) : EReal) - top fun k => ((t k * (Real.log 2)⁻¹ : ℝ) : EReal))
      = ((Real.exp (t k - t j) : ℝ) : EReal) := fun k => by
    rw [hj', ← EReal.coe_sub, hjj, ← sub_mul]
    show ((Real.rpow 2 _ : ℝ) : EReal) = _
    congr 1
    show (2 : ℝ) ^ ((t k - t j) * (Real.log 2)⁻¹) = _
    rw [Real.rpow_def_of_pos (by norm_num)]
    congr 1
    field_simp
  have hw' : ∀ k, Ideal.exp ((t k : EReal) - top fun k => (t k : EReal)) = ((Real.exp (t k - t j) : ℝ) : EReal) := fun k => by
    rw [hj, ← EReal.coe_sub]; rfl
  unfold attendTwo attend
  simp only [hw, hw']
  rw [← coe_sum]
  have hpos : 0 < ∑ k, Real.exp (t k - t j) :=
    Finset.sum_pos (fun k _ => Real.exp_pos _) ⟨⟨0, hn⟩, Finset.mem_univ _⟩
  rw [Ideal.div_coe hpos.ne', mul_comm, mul_sum_of_nonneg _ _ (one_div_nonneg.mpr hpos.le)]
  refine Finset.sum_congr rfl fun k _ => ?_
  rw [Ideal.div_coe hpos.ne']
  ac_rfl

end Cert.Attention

end
-- ==== Proof.Mla.Block.lean ====
/-
  What one grid point of the attention kernel computes: an output block of 1024 rows and two heads of 64 lanes, from a block
  of queries (1024 rows, two heads of 128 lanes), the keys of the same two heads and the values.
-/
module

public import proofs.«01_k».proof.Proof.Gen.KernelIdeal.Value
public import proofs.«01_k».proof.Proof.Mla.Softmax
public import Idealize.ShloMosaic.Lib.Pointwise

@[expose] public section

noncomputable section

namespace Cert.KernelIdeal.Block

open Cert.KernelIdeal Cert.KernelIdeal.Gen Cert.Attention Idealize.ShloMosaic

/-- The pattern of minus infinity denotes `⊥`. -/
theorem ofBits_neg_inf : Ideal.ofBits FTy.f32 0xFF800000#32 = ⊥ := by
  show Ideal.ieee 8 23 (0xFF800000#32) = ⊥
  simp [Ideal.ieee]

/-- Lane `64 p + e` of an output block belongs to its head `p`: the head's 128 query and key lanes start at `128 p`. -/
theorem lane_lt (l d : Fin 128) : 128 * (l.val / 64) + d.val < 256 := by omega

/-- The score of query row `r` against key row `k`, in the head that output lane `l` belongs to. -/
def score (x0 : Vec Ideal S1024x256 .bf16) (x1 : Vec Ideal S2048x256 .bf16) (r : Fin 1024) (l : Fin 128) (k : Fin 2048) : EReal :=
  ∑ d : Fin 128, x0 (ix2 r ⟨128 * (l.val / 64) + d.val, lane_lt l d⟩) * x1 (ix2 k ⟨128 * (l.val / 64) + d.val, lane_lt l d⟩)

/-- The mask that chooses between the two heads: the lanes below 64. -/
theorem mask (r : Fin 1024) (l : Fin 128) : k0_pay5 (ix2 r l) = if l.val < 64 then 1#1 else 0#1 := by
  pointwise [k0_pay5]
  revert l
  decide +kernel

/-- One grid point's output at row `r` and lane `l`. -/
theorem out_apply (x0 : Vec Ideal S1024x256 .bf16) (x1 : Vec Ideal S2048x256 .bf16) (x2 : Vec Ideal S2048x128 .bf16)
    (r : Fin 1024) (l : Fin 128) :
    out0_3 x0 x1 x2 (ix2 r l) = attendTwo (score x0 x1 r l) (fun k => x2 (ix2 k l)) := by
  have hz : (![0, 0] : Fin 2 → Nat) = fun _ => 0 := funext fun a => by fin_cases a <;> rfl
  unfold out0_3
  rw [View.canon_unit_zero (S := S1024x128) hz]
  unfold k0_pay1
  pointwise
  rw [mask]
  by_cases h : l.val < 64
  · rw [if_pos h]
    have hs : score x0 x1 r l = fun k => ∑ d : Fin 128, x0 (ix2 r ⟨d.val, by omega⟩) * x1 (ix2 k ⟨d.val, by omega⟩) := by
      have hl : l.val / 64 = 0 := by omega
      funext k
      simp only [score, hl, Nat.mul_zero, Nat.zero_add]
    pointwise [k0_pay3, k0_pay2]
    rw [hs, attendTwo, top, ofBits_neg_inf]
    rfl
  · rw [if_neg h]
    have hs : score x0 x1 r l = fun k => ∑ d : Fin 128, x0 (ix2 r ⟨128 + d.val, by omega⟩) * x1 (ix2 k ⟨128 + d.val, by omega⟩) := by
      have hl : l.val / 64 = 1 := by omega
      funext k
      simp only [score, hl, Nat.mul_one]
    pointwise [k0_pay4, k0_pay2]
    rw [hs, attendTwo, top, ofBits_neg_inf]
    rfl

end Cert.KernelIdeal.Block

end
-- ==== Proof.Mla.Array.lean ====
/-
  The array the attention kernel leaves: every element is attention over the 2048 keys of its batch entry, in the head its
  lane belongs to. The grid has a point for each batch entry, pair of heads and half of the sequence; the blocks that the
  points write cover the array.
-/
module

public import proofs.«01_k».proof.Proof.Mla.Block
public import Idealize.ShloMosaic.Lib.Pipeline.Value
public import Idealize.ShloMosaic.Lib.Tactic

@[expose] public section

noncomputable section

namespace Cert.KernelIdeal.Array

open Cert.KernelIdeal Cert.KernelIdeal.Gen Cert.Attention Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The packed queries, keys and values as the kernel's call finds them. -/
abbrev Q (c : Dev nD) : Vec Ideal S16384x1024 .bf16 := V m c main_v7
abbrev K (c : Dev nD) : Vec Ideal S16384x1024 .bf16 := V m c main_v12
abbrev Vals (c : Dev nD) : Vec Ideal S16384x512 .bf16 := V m c main_v14

/-- The score of token `T` against key `k` of its batch entry, in the head of output lane `l`. -/
def score (q k : Vec Ideal S16384x1024 .bf16) (T : Fin 16384) (l : Fin 512) (j : Fin 2048) : EReal :=
  ∑ d : Fin 128, q (ix2 T ⟨128 * (l.val / 64) + d.val, by omega⟩) *
    k (ix2 ⟨2048 * (T.val / 2048) + j.val, by omega⟩ ⟨128 * (l.val / 64) + d.val, by omega⟩)

/-- Output lane `l` of token `T`, from the packed arrays. -/
def at_ (q k : Vec Ideal S16384x1024 .bf16) (v : Vec Ideal S16384x512 .bf16) (T : Fin 16384) (l : Fin 512) : EReal :=
  attendTwo (score q k T l) fun j => v (ix2 ⟨2048 * (T.val / 2048) + j.val, by omega⟩ l)

/-- The whole output array as a function of the packed arrays. -/
def whole (q k : Vec Ideal S16384x1024 .bf16) (v : Vec Ideal S16384x512 .bf16) : Vec Ideal S16384x512 .bf16 := fun i =>
  at_ q k v (i 0) (i 1)

/-- A block of the output from blocks of the packed arrays: half `h` of batch entry `b`, pair of heads `p`. -/
theorem block_apply (q k : Vec Ideal S16384x1024 .bf16) (v : Vec Ideal S16384x512 .bf16) (b p h : ℕ) (hb : b < 8) (hp : p < 4)
    (hh : h < 2) (x0 : Vec Ideal S1024x256 .bf16) (x1 : Vec Ideal S2048x256 .bf16) (x2 : Vec Ideal S2048x128 .bf16)
    (e0 : ∀ (r : Fin 1024) (l : Fin 256), x0 (ix2 r l) = q (ix2 ⟨1024 * (b * 2 + h) + r.val, by omega⟩ ⟨256 * p + l.val, by omega⟩))
    (e1 : ∀ (r : Fin 2048) (l : Fin 256), x1 (ix2 r l) = k (ix2 ⟨2048 * b + r.val, by omega⟩ ⟨256 * p + l.val, by omega⟩))
    (e2 : ∀ (r : Fin 2048) (l : Fin 128), x2 (ix2 r l) = v (ix2 ⟨2048 * b + r.val, by omega⟩ ⟨128 * p + l.val, by omega⟩))
    (r : Fin 1024) (l : Fin 128) :
    out0_3 x0 x1 x2 (ix2 r l) = at_ q k v ⟨1024 * (b * 2 + h) + r.val, by omega⟩ ⟨128 * p + l.val, by omega⟩ := by
  have hrow : (1024 * (b * 2 + h) + r.val) / 2048 = b := by omega
  have hlane (d : ℕ) : 256 * p + (128 * (l.val / 64) + d) = 128 * ((128 * p + l.val) / 64) + d := by omega
  rw [Block.out_apply]
  unfold at_ Block.score score
  simp only [e0, e1, e2, hrow, hlane]

/-- Where each window stands at grid point `t`. -/
theorem places : ∀ t : Fin cfg0.N,
    (win0_3.index t 0 = t.val / 8 * 2 + t.val % 2 ∧ win0_3.index t 1 = t.val / 2 % 4)
    ∧ (win0_0.index t 0 = t.val / 8 * 2 + t.val % 2 ∧ win0_0.index t 1 = t.val / 2 % 4)
    ∧ (win0_1.index t 0 = t.val / 8 ∧ win0_1.index t 1 = t.val / 2 % 4)
    ∧ (win0_2.index t 0 = t.val / 8 ∧ win0_2.index t 1 = t.val / 2 % 4) :=
  (by decide +kernel : ∀ t : Fin grid0.N, _)

/-- The grid has 64 points. -/
theorem lt64 (t : Fin cfg0.N) : t.val < 64 := t.isLt.trans_eq N_0

/-- The block of queries at grid point `t`. -/
theorem queries (c : Dev nD) (t : Fin cfg0.N) (r : Fin 1024) (l : Fin 256) :
    (iblk m c 0 t : Vec Ideal S1024x256 .bf16) (ix2 r l)
      = Q m c (ix2 ⟨1024 * (t.val / 8 * 2 + t.val % 2) + r.val, by have := lt64 t; omega⟩ ⟨256 * (t.val / 2 % 4) + l.val, by omega⟩) := by
  unfold iblk
  rw [View.read_apply]
  show V m c main_v7 _ = V m c main_v7 _
  congr 1
  funext a
  apply Fin.ext
  match a with
  | ⟨0, _⟩ => show win0_0.index t 0 * 1024 + 1 * r.val = _; rw [(places t).2.1.1]; show _ = 1024 * _ + r.val; omega
  | ⟨1, _⟩ => show win0_0.index t 1 * 256 + 1 * l.val = _; rw [(places t).2.1.2]; show _ = 256 * _ + l.val; omega

/-- The block of keys at grid point `t`. -/
theorem keys (c : Dev nD) (t : Fin cfg0.N) (r : Fin 2048) (l : Fin 256) :
    (iblk m c 1 t : Vec Ideal S2048x256 .bf16) (ix2 r l)
      = K m c (ix2 ⟨2048 * (t.val / 8) + r.val, by have := lt64 t; omega⟩ ⟨256 * (t.val / 2 % 4) + l.val, by omega⟩) := by
  unfold iblk
  rw [View.read_apply]
  show V m c main_v12 _ = V m c main_v12 _
  congr 1
  funext a
  apply Fin.ext
  match a with
  | ⟨0, _⟩ => show win0_1.index t 0 * 2048 + 1 * r.val = _; rw [(places t).2.2.1.1]; show _ = 2048 * _ + r.val; omega
  | ⟨1, _⟩ => show win0_1.index t 1 * 256 + 1 * l.val = _; rw [(places t).2.2.1.2]; show _ = 256 * _ + l.val; omega

/-- The block of values at grid point `t`. -/
theorem values (c : Dev nD) (t : Fin cfg0.N) (r : Fin 2048) (l : Fin 128) :
    (iblk m c 2 t : Vec Ideal S2048x128 .bf16) (ix2 r l)
      = Vals m c (ix2 ⟨2048 * (t.val / 8) + r.val, by have := lt64 t; omega⟩ ⟨128 * (t.val / 2 % 4) + l.val, by omega⟩) := by
  unfold iblk
  rw [View.read_apply]
  show V m c main_v14 _ = V m c main_v14 _
  congr 1
  funext a
  apply Fin.ext
  match a with
  | ⟨0, _⟩ => show win0_2.index t 0 * 2048 + 1 * r.val = _; rw [(places t).2.2.2.1]; show _ = 2048 * _ + r.val; omega
  | ⟨1, _⟩ => show win0_2.index t 1 * 128 + 1 * l.val = _; rw [(places t).2.2.2.2]; show _ = 128 * _ + l.val; omega

/-- What grid point `t` writes back is its block of `whole`. -/
theorem flushed_eq (c : Dev nD) (t : Fin cfg0.N) (hf : (cfg0.win 3).flush t = true) :
    (dats m 0 c).flushed 3 t = ((cfg0.win 3).blk t).view.read (Elt Ideal) (whole (Q m c) (K m c) (Vals m c)) := by
  rw [Value.flushed3]
  funext j
  obtain ⟨r, l, rfl⟩ : ∃ (r : Fin 1024) (l : Fin 128), j = ix2 r l := ⟨j 0, j 1, eq_ix2 j⟩
  rw [View.read_apply]
  have ht := lt64 t
  refine (block_apply (Q m c) (K m c) (Vals m c) (t.val / 8) (t.val / 2 % 4) (t.val % 2) (by omega) (by omega) (by omega) _ _ _
    (queries m c t) (keys m c t) (values m c t) r l).trans ?_
  show whole (Q m c) (K m c) (Vals m c) (ix2 _ _) = _
  congr 1
  funext a
  apply Fin.ext
  match a with
  | ⟨0, _⟩ => show _ = win0_3.index t 0 * 1024 + 1 * r.val; rw [(places t).1.1]; show 1024 * _ + r.val = _; omega
  | ⟨1, _⟩ => show _ = win0_3.index t 1 * 128 + 1 * l.val; rw [(places t).1.2]; show 128 * _ + l.val = _; omega

/-- The array after the run. -/
theorem final (c : Dev nD) : (dats m 0 c).arrAt 3 cfg0.N = whole (Q m c) (K m c) (Vals m c) :=
  (dats m 0 c).arrAt_eq_of_cover 3 (whole (Q m c) (K m c) (Vals m c)) (flushed_eq m c) fun i => by
    have h0 : (i 0 : Nat) < 16384 := (i 0).isLt
    have h1 : (i 1 : Nat) < 512 := (i 1).isLt
    have hN : cfg0.N = 64 := N_0
    obtain ⟨t, ht⟩ : ∃ t : Fin cfg0.N, t.val = (i 0 : Nat) / 2048 * 8 + (i 1 : Nat) / 128 * 2 + (i 0 : Nat) / 1024 % 2 :=
      ⟨⟨(i 0 : Nat) / 2048 * 8 + (i 1 : Nat) / 128 * 2 + (i 0 : Nat) / 1024 % 2, by rw [hN]; omega⟩, rfl⟩
    refine ⟨t, flush0_3 t, ?_⟩
    show i ∈ ((View.whole main_v15).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(places t).1.1]; omega
    | ⟨1, _⟩ =>
      show win0_3.index t 1 * 128 ≤ (i 1 : Nat) ∧ (i 1 : Nat) < win0_3.index t 1 * 128 + 128
      rw [(places t).1.2]; omega

end Cert.KernelIdeal.Array

end
-- ==== Proof.Mla.Host.lean ====
/-
  The arrays that the host code prepares for the attention kernel, entry by entry: each head's 64 + 32 query (key) lanes
  padded with zeros to 128, the queries scaled, the batch and the sequence merged into one axis.
-/
module

public import proofs.«01_k».proof.Proof.Mla.Array
public import Idealize.ShloMosaic.Lib.StableHlo.Run
public import Idealize.ShloMosaic.Lib.StableHlo.RunRead

@[expose] public section

noncomputable section

namespace Cert.KernelIdeal.Host

open Cert.KernelIdeal Cert.KernelIdeal.Gen Cert.KernelIdeal.Array Cert.Attention Idealize.ShloMosaic Idealize.ShloMosaic.TcCoe Idealize.SL.Sem

variable (m : (ℓ : Loc nD τ sig) → Buf (Elt Ideal) ℓ)

/-- The factor on the queries: the score scale over the logarithm of two. -/
def qscale : EReal := Ideal.div (Ideal.ofBits FTy.f32 0x3DD105EC#32) (Ideal.log (Ideal.ofBits FTy.f32 0x40000000#32))

/-- The packed queries. -/
def packQ (x0 : Vec Ideal S8x2048x8x64 .f32) (x1 : Vec Ideal S8x2048x8x32 .f32) : Vec Ideal S16384x1024 .bf16 :=
  truncf .bf16 (mulf (shapeCast S16384x1024 (concatenate S8x2048x8x128 3 [⟨S8x2048x8x64, x0⟩, ⟨S8x2048x8x32, x1⟩,
      ⟨S8x2048x8x32, broadcastInDim S8x2048x8x32 ![] bcast_S_S8x2048x8x32 (constant (F := Ideal) S_ .f32 0x00000000#32)⟩]
      concatenates_S8x2048x8x64_S8x2048x8x32_S8x2048x8x32_S8x2048x8x128_d3) shapeCasts_S8x2048x8x128_S16384x1024)
    (broadcastInDim S16384x1024 ![] bcast_S_S16384x1024 (Host.divf (constant (F := Ideal) S_ .f32 0x3DD105EC#32)
      (Host.log (constant (F := Ideal) S_ .f32 0x40000000#32))))) bitsLt_bf16_f32

/-- The packed keys. -/
def packK (x2 : Vec Ideal S8x2048x8x64 .f32) (x3 : Vec Ideal S8x2048x32 .f32) : Vec Ideal S16384x1024 .bf16 :=
  truncf .bf16 (shapeCast S16384x1024 (concatenate S8x2048x8x128 3 [⟨S8x2048x8x64, x2⟩,
      ⟨S8x2048x8x32, broadcastInDim S8x2048x8x32 ![0, 1, 2, 3] bcast_S8x2048x1x32_S8x2048x8x32_0_1_2_3
        (broadcastInDim S8x2048x1x32 ![0, 1, 3] bcast_S8x2048x32_S8x2048x1x32_0_1_3 x3)⟩,
      ⟨S8x2048x8x32, broadcastInDim S8x2048x8x32 ![] bcast_S_S8x2048x8x32 (constant (F := Ideal) S_ .f32 0x00000000#32)⟩]
      concatenates_S8x2048x8x64_S8x2048x8x32_S8x2048x8x32_S8x2048x8x128_d3) shapeCasts_S8x2048x8x128_S16384x1024) bitsLt_bf16_f32

/-- The queries, packed. -/
theorem Q_eq (c : Dev nD) : Q m c = packQ (m ((c : Thread nD τ).loc main_arg0)) (m ((c : Thread nD τ).loc main_arg1)) := by
  unfold_abbrev_sides
  after_reads_simp
  rfl

/-- The keys, packed. -/
theorem K_eq (c : Dev nD) : K m c = packK (m ((c : Thread nD τ).loc main_arg2)) (m ((c : Thread nD τ).loc main_arg3)) := by
  unfold_abbrev_sides
  after_reads_simp
  rfl

/-- The values: the batch and the sequence merged, the heads and their lanes merged. -/
theorem values_apply (c : Dev nD) (T : Fin 16384) (l : Fin 512) :
    Vals m c (ix2 T l) = m ((c : Thread nD τ).loc main_arg4)
      (ix4 ⟨T.val / 2048, by omega⟩ ⟨T.val % 2048, by omega⟩ ⟨l.val / 64, by omega⟩ ⟨l.val % 64, by omega⟩) := by
  unfold_abbrev_sides
  after_reads_simp
  pointwise

/-- The queries of head `h`: the scaled 64 lanes, the scaled 32 lanes, zeros. -/
theorem packQ_apply (x0 : Vec Ideal S8x2048x8x64 .f32) (x1 : Vec Ideal S8x2048x8x32 .f32) (T : Fin 16384) (h : Fin 8) (d : Fin 128) :
    packQ x0 x1 (ix2 T ⟨128 * h.val + d.val, by omega⟩)
      = if h1 : d.val < 64 then x0 (ix4 ⟨T.val / 2048, by omega⟩ ⟨T.val % 2048, by omega⟩ h ⟨d.val, h1⟩) * qscale
        else if h2 : d.val < 96 then x1 (ix4 ⟨T.val / 2048, by omega⟩ ⟨T.val % 2048, by omega⟩ h ⟨d.val - 64, by omega⟩) * qscale
        else 0 := by
  pointwise [packQ]
  by_cases h1 : d.val < 64
  · rw [dif_pos h1, dif_pos h1]
    rfl
  · rw [dif_neg h1, dif_neg h1]
    by_cases h2 : d.val < 96
    · have h2' : d.val - 64 < 32 := by omega
      rw [dif_pos h2', dif_pos h2]
      rfl
    · have h2' : ¬d.val - 64 < 32 := by omega
      rw [dif_neg h2', dif_neg h2, zero_mul]

/-- The keys of head `h`: its own 64 lanes, the 32 lanes all heads share, zeros. -/
theorem packK_apply (x2 : Vec Ideal S8x2048x8x64 .f32) (x3 : Vec Ideal S8x2048x32 .f32) (T : Fin 16384) (h : Fin 8) (d : Fin 128) :
    packK x2 x3 (ix2 T ⟨128 * h.val + d.val, by omega⟩)
      = if h1 : d.val < 64 then x2 (ix4 ⟨T.val / 2048, by omega⟩ ⟨T.val % 2048, by omega⟩ h ⟨d.val, h1⟩)
        else if h2 : d.val < 96 then x3 (ix3 ⟨T.val / 2048, by omega⟩ ⟨T.val % 2048, by omega⟩ ⟨d.val - 64, by omega⟩)
        else 0 := by
  pointwise [packK]
  by_cases h1 : d.val < 64
  · simp only [h1, ↓reduceDIte]
  · by_cases h2 : d.val < 96
    · have h2' : d.val - 64 < 32 := by omega
      simp only [h1, h2, h2', ↓reduceDIte]
    · have h2' : ¬d.val - 64 < 32 := by omega
      simp only [h1, h2, h2', ↓reduceDIte]

end Cert.KernelIdeal.Host

end
-- ==== Proof.Mla.Reference.lean ====
/-
  What the attention reference computes, element by element: softmax of the scaled scores over the keys of the batch entry,
  then the weighted sum of the values.
-/
module

public import proofs.«01_k».proof.Proof.Gen.ReferenceIdeal.Run
public import proofs.«01_k».proof.Proof.Gen.ReferenceIdeal.Read
public import proofs.«01_k».proof.Proof.Mla.Softmax
public import Idealize.ShloMosaic.Lib.Pointwise

@[expose] public section

noncomputable section

namespace Cert.ReferenceIdeal.Mla

open Cert.ReferenceIdeal Cert.ReferenceIdeal.Gen Cert.ReferenceIdeal.Read Cert.Attention Idealize.ShloMosaic Idealize.ShloMosaic.TcCoe Idealize.SL.Sem

/-- The pattern of minus infinity denotes `⊥`. -/
theorem ofBits_neg_inf : Ideal.ofBits FTy.f32 0xFF800000#32 = ⊥ := by
  show Ideal.ieee 8 23 (0xFF800000#32) = ⊥
  simp [Ideal.ieee]

variable (x0 : Vec Ideal S8x2048x8x64 .f32) (x1 : Vec Ideal S8x2048x8x32 .f32) (x2 : Vec Ideal S8x2048x8x64 .f32)
  (x3 : Vec Ideal S8x2048x32 .f32) (x4 : Vec Ideal S8x2048x8x64 .f32)

/-- The score of query `q` against key `k` in batch entry `b` and head `h`. -/
def score (b : Fin 8) (h : Fin 8) (q k : Fin 2048) : EReal :=
  ((∑ d : Fin 64, x0 (ix4 b q h d) * x2 (ix4 b k h d)) + ∑ d : Fin 32, x3 (ix3 b k d) * x1 (ix4 b q h d))
    * Ideal.ofBits FTy.f32 0x3DD105EC#32

/-- The scores. -/
theorem scores (b h : Fin 8) (q k : Fin 2048) : val_main_v5 x0 x1 x2 x3 (ix4 b h q k) = score x0 x1 x2 x3 b h q k := by
  rw [val_main_v5_apply, val_main_v3_apply, val_main_v2_apply, val_main_v0_apply, val_main_v1_apply, val_main_v4_apply]
  have e0 (d : Fin 64) : lidx_main_v0 (ix4 b h q k) d = ix4 b q h d := funext fun a => by fin_cases a <;> rfl
  have e1 (d : Fin 64) : ridx_main_v0 (ix4 b h q k) d = ix4 b k h d := funext fun a => by fin_cases a <;> rfl
  have e2 (d : Fin 32) : lidx_main_v1 (idx_main_v2 (ix4 b h q k)) d = ix3 b k d := funext fun a => by fin_cases a <;> rfl
  have e3 (d : Fin 32) : ridx_main_v1 (idx_main_v2 (ix4 b h q k)) d = ix4 b q h d := funext fun a => by fin_cases a <;> rfl
  simp only [e0, e1, e2, e3]
  rfl

/-- The maximum of an array over its last axis. -/
theorem max_last (y : Vec Ideal S8x8x2048x2048 .f32) (b h : Fin 8) (q : Fin 2048) :
    Host.reduce (FloatOps.maximumf (F := Ideal) (φ := .f32)) y (val_main_cst_0 (F := Ideal)) reducesTo_S8x8x2048x2048_S8x8x2048_d3 h_S_ (ix3 b h q)
      = top fun k => y (ix4 b h q k) := by
  rw [Host.reduce_eq_fold_single (FloatOps.maximumf (F := Ideal) (φ := .f32)) y _ reducesTo_S8x8x2048x2048_S8x8x2048_d3 (by decide) h_S_]
  have e : (y ∘ (show S8x8x2048x2048.Reduces [3] S8x8x2048 by decide).lift (ix3 b h q)) = fun k : Fin 2048 => y (ix4 b h q k) := by
    funext k
    exact congrArg y (funext fun a => by fin_cases a <;> rfl)
  rw [e, val_main_cst_0_apply]
  generalize (fun k : Fin 2048 => y (ix4 b h q k)) = z
  show Finset.fold max (Ideal.ofBits FTy.f32 0xFF800000#32) z Finset.univ = top z
  rw [ofBits_neg_inf]
  rfl

/-- The greatest score of each query. -/
theorem maxima (b h : Fin 8) (q : Fin 2048) : val_main_v8 x0 x1 x2 x3 (ix3 b h q) = top (score x0 x1 x2 x3 b h q) := by
  have e : val_main_v6 x0 x1 x2 x3 (ix3 b h q) = top (score x0 x1 x2 x3 b h q) := by
    unfold val_main_v6
    rw [max_last]
    exact congrArg top (funext fun k => scores x0 x1 x2 x3 b h q k)
  rw [val_main_v8_apply, e, val_main_v7_apply, val_main_cst_1_apply]
  show max (Ideal.ofBits FTy.f32 0xFF800000#32) _ = _
  rw [ofBits_neg_inf, bot_sup_eq]

/-- The weights before they are divided by their sum. -/
theorem weights (b h : Fin 8) (q k : Fin 2048) :
    val_main_v12 x0 x1 x2 x3 (ix4 b h q k) = Ideal.exp (score x0 x1 x2 x3 b h q k - top (score x0 x1 x2 x3 b h q)) := by
  pointwise [val_main_v12, val_main_v11, val_main_v10, val_main_v9]
  rw [scores, maxima]

/-- The sum of the weights. -/
theorem sums (b h : Fin 8) (q : Fin 2048) :
    val_main_v13 x0 x1 x2 x3 (ix3 b h q) = ∑ k, Ideal.exp (score x0 x1 x2 x3 b h q k - top (score x0 x1 x2 x3 b h q)) := by
  pointwise [val_main_v13, val_main_cst_2]
  simp only [weights]

/-- The weights divided by their sum. -/
theorem softmaxes (b h : Fin 8) (q k : Fin 2048) :
    val_main_v16 x0 x1 x2 x3 (ix4 b h q k) = Ideal.div (Ideal.exp (score x0 x1 x2 x3 b h q k - top (score x0 x1 x2 x3 b h q)))
      (∑ k, Ideal.exp (score x0 x1 x2 x3 b h q k - top (score x0 x1 x2 x3 b h q))) := by
  pointwise [val_main_v16, val_main_v15, val_main_v14]
  rw [weights, sums]

/-- The reference's result at token `T` and lane `l`. -/
theorem result_apply (T : Fin 16384) (l : Fin 512) :
    val_main_v20 x0 x1 x2 x3 x4 (ix2 T l)
      = attend (score x0 x1 x2 x3 ⟨T.val / 2048, by omega⟩ ⟨l.val / 64, by omega⟩ ⟨T.val % 2048, by omega⟩)
        (fun k => x4 (ix4 ⟨T.val / 2048, by omega⟩ k ⟨l.val / 64, by omega⟩ ⟨l.val % 64, by omega⟩)) := by
  pointwise [val_main_v20, val_main_v19, val_main_v18, val_main_v17]
  simp only [softmaxes]
  rfl

end Cert.ReferenceIdeal.Mla

end
-- ==== Proof.Mla.Finite.lean ====
/-
  What the precondition of the attention claim says: every entry of the queries and of the keys is a real number.
-/
module

public import proofs.«01_k».proof.Pre_finite_queries_and_keys
public import Idealize.ShloMosaic.Lib.Pointwise

@[expose] public section

noncomputable section

namespace Cert.Pre_finite_queries_and_keys

open Idealize.ShloMosaic

/-- The shape relations the predicate's operations take. -/
theorem facts : Facts where
  bcast_S_S8x2048x8x64 := by decide
  bcast_S_S8x2048x8x32 := by decide
  bcast_S_S8x2048x32 := by decide
  bcast_S8x2048x32_S8x2048x1x32_0_1_3 := by decide
  bcast_S8x2048x1x32_S8x2048x8x32_0_1_2_3 := by decide
  concatenates_S8x2048x8x64_S8x2048x8x32_S8x2048x8x96_d3 := by decide

/-- An extended real that is a real number. -/
def IsReal (x : EReal) : Prop := ∃ r : ℝ, x = r

/-- Absolute value below infinity, as the predicate's comparison states it. -/
def below (x : EReal) : BitVec 1 := Ideal.cmp .olt (max x (-x)) (Ideal.ofBits FTy.f32 0x7F800000#32)

/-- The word of infinity. -/
theorem ofBits_inf : Ideal.ofBits FTy.f32 0x7F800000#32 = ⊤ := by
  show Ideal.ieee 8 23 (0x7F800000#32) = ⊤
  simp [Ideal.ieee]

/-- The comparison holds of real numbers only. -/
theorem isReal_of_below {x : EReal} (h : below x = 1#1) : IsReal x := by
  unfold below at h
  rw [ofBits_inf] at h
  have hlt : max x (-x) < ⊤ := by
    by_contra hn
    have : Ideal.cmp .olt (max x (-x)) ⊤ = 0#1 := by simp [Ideal.cmp, hn]
    rw [this] at h
    exact absurd h (by decide)
  have h1 : x ≠ ⊤ := fun e => by simp [e] at hlt
  have h2 : x ≠ ⊥ := fun e => by simp [e] at hlt
  exact ⟨x.toReal, (EReal.coe_toReal h1 h2).symm⟩

/-- Two bits whose conjunction is one are both one. -/
theorem and_one {a b : BitVec 1} (h : a &&& b = 1#1) : a = 1#1 ∧ b = 1#1 := by
  revert a b; decide

variable [Facts] (x0 : FVec Ideal S8x2048x8x64 .f32) (x1 : FVec Ideal S8x2048x8x32 .f32) (x2 : FVec Ideal S8x2048x8x64 .f32)
  (x3 : FVec Ideal S8x2048x32 .f32) (x4 : FVec Ideal S8x2048x8x64 .f32)

/-- The precondition at one of a head's own lanes. -/
theorem fn_low (b : Fin 8) (t : Fin 2048) (h : Fin 8) (d : Fin 64) :
    fn x0 x1 x2 x3 x4 (ix4 b t h ⟨d.val, by omega⟩) = below (x0 (ix4 b t h d)) &&& below (x2 (ix4 b t h d)) := by
  pointwise [fn]
  rfl

/-- The precondition at a rotary lane. -/
theorem fn_high (b : Fin 8) (t : Fin 2048) (h : Fin 8) (d : Fin 32) :
    fn x0 x1 x2 x3 x4 (ix4 b t h ⟨64 + d.val, by omega⟩) = below (x1 (ix4 b t h d)) &&& below (x3 (ix3 b t d)) := by
  pointwise [fn]
  rfl

/-- Under the precondition all queries and all keys are real. -/
theorem reals (hp : fn x0 x1 x2 x3 x4 = fun _ => 1#1) :
    (∀ b t h d, IsReal (x0 (ix4 b t h d))) ∧ (∀ b t h d, IsReal (x1 (ix4 b t h d))) ∧ (∀ b t h d, IsReal (x2 (ix4 b t h d)))
      ∧ ∀ b t d, IsReal (x3 (ix3 b t d)) := by
  have low b t h d := and_one ((fn_low x0 x1 x2 x3 x4 b t h d).symm.trans (congrFun hp _))
  have high b t h d := and_one ((fn_high x0 x1 x2 x3 x4 b t h d).symm.trans (congrFun hp _))
  exact ⟨fun b t h d => isReal_of_below (low b t h d).1, fun b t h d => isReal_of_below (high b t h d).1,
    fun b t h d => isReal_of_below (low b t h d).2, fun b t d => isReal_of_below (high b t 0 d).2⟩

end Cert.Pre_finite_queries_and_keys

end
-- ==== Proof.Mla.Equation.lean ====
/-
  The attention kernel's array is the reference's: the packed scores, whose queries carry the factor `scale / log 2`, are the
  reference's scores over `log 2`, and then the two forms of attention agree.
-/
module

public import proofs.«01_k».proof.Proof.Mla.Host
public import proofs.«01_k».proof.Proof.Mla.Reference
public import proofs.«01_k».proof.Proof.Mla.Finite

@[expose] public section

noncomputable section

namespace Cert.Attention

open Idealize.ShloMosaic Idealize.ShloMosaic.TcCoe Idealize.SL.Sem Cert.KernelIdeal
open Cert.Pre_finite_queries_and_keys (IsReal)

/-- The score scale is a real number. -/
theorem scale_real : ∃ c : ℝ, Ideal.ofBits FTy.f32 0x3DD105EC#32 = c := by
  refine ⟨(Ideal.ofBits FTy.f32 0x3DD105EC#32).toReal, (EReal.coe_toReal ?_ ?_).symm⟩ <;>
  · show Ideal.ieee 8 23 (0x3DD105EC#32) ≠ _
    simp [Ideal.ieee, ← EReal.coe_mul]

/-- The word of two. -/
theorem ofBits_two : Ideal.ofBits FTy.f32 0x40000000#32 = ((2 : ℝ) : EReal) := by
  show Ideal.ieee 8 23 (0x40000000#32) = _
  simp [Ideal.ieee]
  rw [← EReal.coe_mul]
  norm_num

/-- The queries' factor, for a real scale `c`. -/
theorem qscale_eq {c : ℝ} (hc : Ideal.ofBits FTy.f32 0x3DD105EC#32 = c) : Host.qscale = ((c * (Real.log 2)⁻¹ : ℝ) : EReal) := by
  have hl : (0 : ℝ) < Real.log 2 := Real.log_pos (by norm_num)
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  unfold Host.qscale
  rw [hc, ofBits_two, hlog, Ideal.div_coe hl.ne', ← EReal.coe_mul]
  congr 1
  rw [one_div, mul_comm]

/-- A sum over the 128 lanes of a head: 64, 32 and 32 of them. -/
theorem sum_lanes (f : Fin 128 → EReal) :
    ∑ d, f d = (∑ d : Fin 64, f ⟨d.val, by omega⟩) + ((∑ d : Fin 32, f ⟨64 + d.val, by omega⟩) + ∑ d : Fin 32, f ⟨96 + d.val, by omega⟩) := by
  rw [show ∑ d, f d = (∑ d : Fin 64, f ⟨d.val, by omega⟩) + ∑ d : Fin 64, f ⟨64 + d.val, by omega⟩ from
    Fin.sum_univ_add (a := 64) (b := 64) f]
  congr 1
  rw [show ∑ d : Fin 64, f ⟨64 + d.val, by omega⟩ = (∑ d : Fin 32, f ⟨64 + d.val, by omega⟩) + ∑ d : Fin 32, f ⟨64 + (32 + d.val), by omega⟩ from
    Fin.sum_univ_add (a := 32) (b := 32) fun d : Fin 64 => f ⟨64 + d.val, by omega⟩]
  simp only [← Nat.add_assoc]

/-- Scores of real queries scaled by `c * l`, against the scaled scores. -/
theorem scaled_score (a k : Fin 64 → ℝ) (a' k' : Fin 32 → ℝ) (c l : ℝ) :
    (∑ d, (a d : EReal) * ((c * l : ℝ) : EReal) * (k d : EReal)) + ∑ d, (a' d : EReal) * ((c * l : ℝ) : EReal) * (k' d : EReal)
      = (((((∑ d, a d * k d) + ∑ d, k' d * a' d) * c) * l : ℝ) : EReal) := by
  simp only [← EReal.coe_mul, ← coe_sum, ← EReal.coe_add]
  congr 1
  rw [mul_assoc, add_mul, Finset.sum_mul, Finset.sum_mul]
  congr 1 <;> exact Finset.sum_congr rfl fun d _ => by ring

variable (x0 : Vec Ideal S8x2048x8x64 .f32) (x1 : Vec Ideal S8x2048x8x32 .f32) (x2 : Vec Ideal S8x2048x8x64 .f32)
  (x3 : Vec Ideal S8x2048x32 .f32) (x4 : Vec Ideal S8x2048x8x64 .f32)

/-- The packed scores, lane by lane of the unpacked queries and keys. -/
theorem packed_score (T : Fin 16384) (l : Fin 512) (j : Fin 2048) :
    Array.score (Host.packQ x0 x1) (Host.packK x2 x3) T l j
      = (∑ d : Fin 64, x0 (ix4 ⟨T.val / 2048, by omega⟩ ⟨T.val % 2048, by omega⟩ ⟨l.val / 64, by omega⟩ d) * Host.qscale
            * x2 (ix4 ⟨T.val / 2048, by omega⟩ j ⟨l.val / 64, by omega⟩ d))
        + ∑ d : Fin 32, x1 (ix4 ⟨T.val / 2048, by omega⟩ ⟨T.val % 2048, by omega⟩ ⟨l.val / 64, by omega⟩ d) * Host.qscale
            * x3 (ix3 ⟨T.val / 2048, by omega⟩ j d) := by
  have ha : (2048 * (T.val / 2048) + j.val) / 2048 = T.val / 2048 := by omega
  have hb : (2048 * (T.val / 2048) + j.val) % 2048 = j.val := by omega
  have hq (d : Fin 128) := Host.packQ_apply x0 x1 T ⟨l.val / 64, by omega⟩ d
  have hk (d : Fin 128) := Host.packK_apply x2 x3 ⟨2048 * (T.val / 2048) + j.val, by omega⟩ ⟨l.val / 64, by omega⟩ d
  unfold Array.score
  simp only [ha, hb] at hk
  simp only [hq, hk]
  rw [sum_lanes]
  refine congrArg₂ (· + ·) ?_ ?_
  · refine Finset.sum_congr rfl fun d _ => ?_
    simp only [d.isLt, ↓reduceDIte]
  · have h1 (d : Fin 32) : ¬ 64 + d.val < 64 := by omega
    have h2 (d : Fin 32) : 64 + d.val < 96 := by omega
    have h3 (d : Fin 32) : ¬ 96 + d.val < 64 := by omega
    have h4 (d : Fin 32) : ¬ 96 + d.val < 96 := by omega
    simp only [h1, h2, h3, h4, ↓reduceDIte, Nat.add_sub_cancel_left, mul_zero, Finset.sum_const_zero, add_zero]

/-- Kernel and reference agree on real queries and keys, whatever the values. -/
theorem equation (h0 : ∀ b t h d, IsReal (x0 (ix4 b t h d))) (h1 : ∀ b t h d, IsReal (x1 (ix4 b t h d)))
    (h2 : ∀ b t h d, IsReal (x2 (ix4 b t h d))) (h3 : ∀ b t d, IsReal (x3 (ix3 b t d))) (vals : Vec Ideal S16384x512 .bf16)
    (hv : ∀ (T : Fin 16384) (l : Fin 512), vals (ix2 T l)
      = x4 (ix4 ⟨T.val / 2048, by omega⟩ ⟨T.val % 2048, by omega⟩ ⟨l.val / 64, by omega⟩ ⟨l.val % 64, by omega⟩)) :
    Array.whole (Host.packQ x0 x1) (Host.packK x2 x3) vals = Cert.ReferenceIdeal.Read.val_main_v20 x0 x1 x2 x3 x4 := by
  obtain ⟨c, hc⟩ := scale_real
  choose r0 e0 using h0
  choose r1 e1 using h1
  choose r2 e2 using h2
  choose r3 e3 using h3
  funext i
  obtain ⟨T, l, rfl⟩ : ∃ (T : Fin 16384) (l : Fin 512), i = ix2 T l := ⟨i 0, i 1, eq_ix2 i⟩
  refine Eq.trans ?_ (Cert.ReferenceIdeal.Mla.result_apply x0 x1 x2 x3 x4 T l).symm
  show attendTwo (Array.score (Host.packQ x0 x1) (Host.packK x2 x3) T l) _ = _
  have ha (j : Fin 2048) : (2048 * (T.val / 2048) + j.val) / 2048 = T.val / 2048 := by omega
  have hb (j : Fin 2048) : (2048 * (T.val / 2048) + j.val) % 2048 = j.val := by omega
  have hs : Array.score (Host.packQ x0 x1) (Host.packK x2 x3) T l = fun j => (((
      ((∑ d : Fin 64, r0 ⟨T.val / 2048, by omega⟩ ⟨T.val % 2048, by omega⟩ ⟨l.val / 64, by omega⟩ d * r2 ⟨T.val / 2048, by omega⟩ j ⟨l.val / 64, by omega⟩ d)
        + ∑ d : Fin 32, r3 ⟨T.val / 2048, by omega⟩ j d * r1 ⟨T.val / 2048, by omega⟩ ⟨T.val % 2048, by omega⟩ ⟨l.val / 64, by omega⟩ d) * c)
      * (Real.log 2)⁻¹ : ℝ) : EReal) := by
    funext j
    rw [packed_score, qscale_eq hc]
    simp only [e0, e1, e2, e3]
    exact scaled_score _ _ _ _ _ _
  have hr : Cert.ReferenceIdeal.Mla.score x0 x1 x2 x3 ⟨T.val / 2048, by omega⟩ ⟨l.val / 64, by omega⟩ ⟨T.val % 2048, by omega⟩ = fun j => (((
      ((∑ d : Fin 64, r0 ⟨T.val / 2048, by omega⟩ ⟨T.val % 2048, by omega⟩ ⟨l.val / 64, by omega⟩ d * r2 ⟨T.val / 2048, by omega⟩ j ⟨l.val / 64, by omega⟩ d)
        + ∑ d : Fin 32, r3 ⟨T.val / 2048, by omega⟩ j d * r1 ⟨T.val / 2048, by omega⟩ ⟨T.val % 2048, by omega⟩ ⟨l.val / 64, by omega⟩ d) * c : ℝ) : EReal)) := by
    funext j
    unfold Cert.ReferenceIdeal.Mla.score
    rw [hc]
    simp only [e0, e1, e2, e3, ← EReal.coe_mul, ← coe_sum, ← EReal.coe_add]
  rw [hs, hr]
  refine Eq.trans (attend_eq (by norm_num) _ _) ?_
  congr 1
  funext j
  refine (hv ⟨2048 * (T.val / 2048) + j.val, by omega⟩ l).trans ?_
  simp only [ha, hb]

end Cert.Attention

end
-- ==== Proof.Mla.Claim.lean ====
/-
  The claims about the attention: the frames of the kernel and of its reference, and their equality over the reals.
-/
module

public import proofs.«01_k».proof.Defs
public import proofs.«01_k».proof.Proof.Gen.Kernel.Frame
public import proofs.«01_k».proof.Proof.Gen.KernelIdeal.Frame
public import proofs.«01_k».proof.Proof.Mla.Equation
public import Idealize.ShloMosaic.Adequacy
public import Idealize.ShloMosaic.Init

@[expose] public section

noncomputable section

namespace Cert.Attention

open Idealize.ShloMosaic Idealize.ShloMosaic.TcCoe Idealize.SL.Sem

/-- The kernel runs and leaves its arguments as they were. -/
theorem frame_kernel : Cert.quiescent_Kernel := fun m ρ _ => Cert.Kernel.Gen.frame m ρ

/-- The same over the reals. -/
theorem frame_ideal : Cert.quiescent_KernelIdeal := fun m ρ _ => Cert.KernelIdeal.Gen.frame m ρ

/-- The same under the precondition. -/
theorem frame_ideal_pre [Cert.Pre_finite_queries_and_keys.Facts] : Cert.quiescent_KernelIdeal_pre_finite_queries_and_keys :=
  fun m ρ _ => Cert.KernelIdeal.Gen.frame m ρ

/-- The reference runs and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre [Cert.Pre_finite_queries_and_keys.Facts] : Cert.quiescent_ReferenceIdeal_pre_finite_queries_and_keys :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- From real queries and keys, and any values, the kernel and the reference end with the same array. -/
theorem algebraic [Cert.Pre_finite_queries_and_keys.Facts] :
    Cert.algebraic_KernelIdeal_ReferenceIdeal_pre_finite_queries_and_keys := by
  intro m ρ m' ρ' hpre heq
  refine ⟨fun c => (Cert.KernelIdeal.Gen.dats m 0 c).arrAt 3 Cert.KernelIdeal.cfg0.N,
    Cert.KernelIdeal.Value.run_blocks m ρ, ?_⟩
  refine (θ_run Cert.ReferenceIdeal.defs _ _).mono (fun r h c => ⟨?_, (h c).2⟩) (Cert.ReferenceIdeal.Value.run (F := Ideal) m' ρ')
  obtain ⟨a0, a1, a2, a3, a4⟩ := heq c
  refine (h c).1.trans ?_
  refine (Cert.ReferenceIdeal.Read.val_main_v20_eq _ _ _ _ _).trans ?_
  rw [a0, a1, a2, a3, a4]
  show _ = (Cert.KernelIdeal.Gen.dats m 0 c).arrAt 3 Cert.KernelIdeal.cfg0.N
  rw [Cert.KernelIdeal.Array.final, Cert.KernelIdeal.Host.Q_eq, Cert.KernelIdeal.Host.K_eq]
  obtain ⟨h0, h1, h2, h3⟩ := Cert.Pre_finite_queries_and_keys.reals _ _ _ _ _ (hpre c)
  exact (equation _ _ _ _ _ h0 h1 h2 h3 _ (Cert.KernelIdeal.Host.values_apply m c)).symm

end Cert.Attention

end
-- ==== Proof.Ffn.Frames.lean ====
/-
  The frames of the feed-forward block's kernel and of its reference, and the named constants of the kernel's gelu.
-/
module

public import proofs.«01_k».proof.Defs
public import proofs.«01_k».proof.Proof.Gen.Ffn.Frame
public import proofs.«01_k».proof.Proof.Gen.FfnIdeal.Frame
public import proofs.«01_k».proof.Proof.Gen.FfnReferenceIdeal.Run
public import Idealize.ShloMosaic.Adequacy
public import Idealize.ShloMosaic.Init

@[expose] public section

noncomputable section

namespace Cert.FeedForward

open Idealize.ShloMosaic Idealize.ShloMosaic.TcCoe Idealize.SL.Sem

/-- The kernel runs and leaves its arguments as they were. -/
theorem frame_kernel : Cert.quiescent_Ffn := fun m ρ _ => Cert.Ffn.Gen.frame m ρ

/-- The same over the reals. -/
theorem frame_ideal : Cert.quiescent_FfnIdeal := fun m ρ _ => Cert.FfnIdeal.Gen.frame m ρ

/-- The reference runs and leaves its arguments as they were. -/
theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The ideal kernel is the kernel with the two constants of its gelu named. -/
theorem preserves : Cert.preserves_Ffn_FfnIdeal :=
  ⟨IdealRules.named_const.statement Cert.FfnIdeal.κ "gelu3" .f32 0xBDD2D3E8#32 _ rfl,
    IdealRules.named_const.statement Cert.FfnIdeal.κ "gelu1" .f32 0xC0135761#32 _ rfl⟩

end Cert.FeedForward

end
-- ==== Proof.Ffn.Conv.lean ====
/-
  The gated convolution of one grid point of the feed-forward kernel: for a tile of 1024 tokens, kept in slabs (slab row
  `128 r + j` holds token `8 j + r`), the product of the tile with a block of 1024 columns of the up-projection, and the
  weighted sum of each token's product with its two neighbours' products. Rows 1024 and 1025 hold the tokens beside the tile.
-/
module

public import proofs.«01_k».proof.Proof.Gen.FfnIdeal.Skeleton
public import Idealize.ShloMosaic.Lib.Pointwise

@[expose] public section

noncomputable section

namespace Cert.FfnIdeal.Block

open Cert.FfnIdeal Cert.FfnIdeal.Gen Idealize.ShloMosaic

/-- Row `R` of the tile times column `k` of a block of weights. -/
def row (hh : Vec Ideal S1040x1024 .bf16) (w : Vec Ideal S1x1024x1024 .bf16) (R : Fin 1040) (k : Fin 1024) : EReal :=
  ∑ d : Fin 1024, hh (ix2 R d) * w (ix3 0 d k)

/-- The gate's product of tile and weights. -/
theorem row_gate (hh : Vec Ideal S1040x1024 .bf16) (w : Vec Ideal S1x1024x1024 .bf16) (R : Fin 1040) (k : Fin 1024) :
    k0_pay124 hh w (ix2 R k) = row hh w R k := by
  pointwise [k0_pay124]
  rfl

/-- The value's product of tile and weights. -/
theorem row_value (hh : Vec Ideal S1040x1024 .bf16) (w : Vec Ideal S1x1024x1024 .bf16) (R : Fin 1040) (k : Fin 1024) :
    k0_pay145 hh w (ix2 R k) = row hh w R k := by
  pointwise [k0_pay145]
  rfl

/-- The slab row that holds the token before slab row `R`'s; row 1024 is the token before the tile. -/
def beforeRow (R : ℕ) : ℕ := if R = 0 then 1024 else if R < 128 then R + 895 else R - 128

/-- The slab row that holds the token after slab row `R`'s; row 1025 is the token after the tile. -/
def afterRow (R : ℕ) : ℕ := if R = 1023 then 1025 else if R < 896 then R + 128 else R - 895

/-- The row before lies in the scratch. -/
theorem beforeRow_lt (R : Fin 1024) : beforeRow R.val < 1040 := by unfold beforeRow; split_ifs <;> omega

/-- The row after lies in the scratch. -/
theorem afterRow_lt (R : Fin 1024) : afterRow R.val < 1040 := by unfold afterRow; split_ifs <;> omega

/-- The convolution over three neighbouring tokens of the block's columns. -/
def conv (hh : Vec Ideal S1040x1024 .bf16) (w : Vec Ideal S1x1024x1024 .bf16) (cw : Vec Ideal S1x3x1024 .f32)
    (cb : Vec Ideal S1x1024 .f32) (R k : Fin 1024) : EReal :=
  cb (ix2 0 k) + cw (ix3 0 0 k) * row hh w ⟨beforeRow R.val, beforeRow_lt R⟩ k + cw (ix3 0 1 k) * row hh w ⟨R.val, by omega⟩ k
    + cw (ix3 0 2 k) * row hh w ⟨afterRow R.val, afterRow_lt R⟩ k

/-- The convolution from rows known to be the neighbours'. -/
theorem conv_of_rows (hh : Vec Ideal S1040x1024 .bf16) (w : Vec Ideal S1x1024x1024 .bf16) (cw : Vec Ideal S1x3x1024 .f32)
    (cb : Vec Ideal S1x1024 .f32) (R k : Fin 1024) (a b c : Fin 1040) (ha : a.val = beforeRow R.val) (hb : b.val = R.val)
    (hc : c.val = afterRow R.val) :
    cb (ix2 0 k) + cw (ix3 0 0 k) * row hh w a k + cw (ix3 0 1 k) * row hh w b k + cw (ix3 0 2 k) * row hh w c k
      = conv hh w cw cb R k := by
  rw [show a = ⟨beforeRow R.val, beforeRow_lt R⟩ from Fin.ext ha, show b = ⟨R.val, by omega⟩ from Fin.ext hb,
    show c = ⟨afterRow R.val, afterRow_lt R⟩ from Fin.ext hc]
  rfl

/-- A choice by comparing a row number with zero. -/
theorem select_first {n : ℕ} (hn : n < 128) (a b : EReal) :
    Scalar.select (IntOp.cmpi CmpIPredicate.eq (BitVec.ofNat 32 n) 0#32) a b = if n = 0 then a else b := by
  have h : ∀ j : Fin 128, IntOp.cmpi CmpIPredicate.eq (BitVec.ofNat 32 j.val) 0#32 = if j.val = 0 then 1#1 else 0#1 := by
    decide +kernel
  rw [h ⟨n, hn⟩]
  dsimp only
  split_ifs <;> rfl

/-- A choice by comparing a row number with the last one. -/
theorem select_last {n : ℕ} (hn : n < 128) (a b : EReal) :
    Scalar.select (IntOp.cmpi CmpIPredicate.eq (BitVec.ofNat 32 n) 127#32) a b = if n = 127 then a else b := by
  have h : ∀ j : Fin 128, IntOp.cmpi CmpIPredicate.eq (BitVec.ofNat 32 j.val) 127#32 = if j.val = 127 then 1#1 else 0#1 := by
    decide +kernel
  rw [h ⟨n, hn⟩]
  dsimp only
  split_ifs <;> rfl

/-- A slab row lies in one of eight slabs. -/
theorem slab_cases (R : ℕ) (h : R < 1024) : R < 128 ∨ (128 ≤ R ∧ R < 256) ∨ (256 ≤ R ∧ R < 384) ∨ (384 ≤ R ∧ R < 512)
    ∨ (512 ≤ R ∧ R < 640) ∨ (640 ≤ R ∧ R < 768) ∨ (768 ≤ R ∧ R < 896) ∨ 896 ≤ R := by omega

section Gate

variable (hh : Vec Ideal S1040x1024 .bf16) (w : Vec Ideal S1x1024x1024 .bf16) (j : Fin 128) (k : Fin 1024)

/-- The slabs of the gate's product. -/
theorem gate_slabs :
    k0_pay127 hh w (ix2 j k) = row hh w ⟨j.val, by omega⟩ k
    ∧ k0_pay128 hh w (ix2 j k) = row hh w ⟨128 + j.val, by omega⟩ k
    ∧ k0_pay129 hh w (ix2 j k) = row hh w ⟨256 + j.val, by omega⟩ k
    ∧ k0_pay130 hh w (ix2 j k) = row hh w ⟨384 + j.val, by omega⟩ k
    ∧ k0_pay131 hh w (ix2 j k) = row hh w ⟨512 + j.val, by omega⟩ k
    ∧ k0_pay132 hh w (ix2 j k) = row hh w ⟨640 + j.val, by omega⟩ k
    ∧ k0_pay133 hh w (ix2 j k) = row hh w ⟨768 + j.val, by omega⟩ k
    ∧ k0_pay134 hh w (ix2 j k) = row hh w ⟨896 + j.val, by omega⟩ k := by
  refine ⟨?_, ?_, ?_, ?_, ?_, ?_, ?_, ?_⟩
  · pointwise [k0_pay127]; exact row_gate _ _ _ _
  · pointwise [k0_pay128]; exact row_gate _ _ _ _
  · pointwise [k0_pay129]; exact row_gate _ _ _ _
  · pointwise [k0_pay130]; exact row_gate _ _ _ _
  · pointwise [k0_pay131]; exact row_gate _ _ _ _
  · pointwise [k0_pay132]; exact row_gate _ _ _ _
  · pointwise [k0_pay133]; exact row_gate _ _ _ _
  · pointwise [k0_pay134]; exact row_gate _ _ _ _

/-- The rows after the last slab's. -/
theorem gate_after : k0_pay135 hh w (ix2 j k) = row hh w ⟨afterRow (896 + j.val), afterRow_lt ⟨896 + j.val, by omega⟩⟩ k := by
  pointwise [k0_pay135]
  rw [select_last j.isLt, row_gate, (gate_slabs hh w _ k).1]
  split_ifs with h
  all_goals exact congrArg (row hh w · k) (Fin.ext (by simp only [afterRow]; split_ifs <;> first | omega | rfl))

/-- The bias and the rows before the first slab's, weighted. -/
theorem gate_before (cw : Vec Ideal S1x3x1024 .f32) (cb : Vec Ideal S1x1024 .f32) :
    k0_pay136 hh w cw cb (ix2 j k) = cb (ix2 0 k) + cw (ix3 0 0 k) * row hh w ⟨beforeRow j.val, beforeRow_lt ⟨j.val, by omega⟩⟩ k := by
  pointwise [k0_pay136, k0_pay125, k0_pay126]
  rw [select_first j.isLt, row_gate, (gate_slabs hh w _ k).2.2.2.2.2.2.2]
  congr 2
  split_ifs with h
  all_goals exact congrArg (row hh w · k) (Fin.ext (by simp only [beforeRow]; split_ifs <;> first | omega | rfl))

end Gate

/-- The gate's convolution. -/
theorem gate (hh : Vec Ideal S1040x1024 .bf16) (w : Vec Ideal S1x1024x1024 .bf16) (cw : Vec Ideal S1x3x1024 .f32)
    (cb : Vec Ideal S1x1024 .f32) (R k : Fin 1024) :
    k0_pay144 (k0_pay125 cw) (k0_pay126 cb) (k0_pay131 hh w) (k0_pay132 hh w) (k0_pay133 hh w) (k0_pay134 hh w) (k0_pay135 hh w)
      (k0_pay138 (k0_pay125 cw) (k0_pay127 hh w) (k0_pay128 hh w) (k0_pay136 hh w cw cb) (k0_pay137 cw))
      (k0_pay139 (k0_pay125 cw) (k0_pay126 cb) (k0_pay127 hh w) (k0_pay128 hh w) (k0_pay129 hh w))
      (k0_pay140 (k0_pay125 cw) (k0_pay126 cb) (k0_pay128 hh w) (k0_pay129 hh w) (k0_pay130 hh w))
      (k0_pay141 (k0_pay125 cw) (k0_pay126 cb) (k0_pay129 hh w) (k0_pay130 hh w) (k0_pay131 hh w))
      (k0_pay142 (k0_pay125 cw) (k0_pay126 cb) (k0_pay130 hh w) (k0_pay131 hh w) (k0_pay132 hh w))
      (k0_pay143 (k0_pay125 cw)) (ix2 R k) = conv hh w cw cb R k := by
  have hR := R.isLt
  pointwise [k0_pay144, k0_pay125, k0_pay126, k0_pay137, k0_pay138, k0_pay139, k0_pay140, k0_pay141, k0_pay142, k0_pay143]
  rcases slab_cases R.val hR with h | h | h | h | h | h | h | h
  all_goals
    simp (disch := omega) only [dif_pos, dif_neg]
    simp only [gate_slabs, gate_before, gate_after]
    refine conv_of_rows hh w cw cb R k _ _ _ ?_ ?_ ?_
  all_goals
    simp only [beforeRow, afterRow]
    try split_ifs
  all_goals omega

section Value

variable (hh : Vec Ideal S1040x1024 .bf16) (w : Vec Ideal S1x1024x1024 .bf16) (j : Fin 128) (k : Fin 1024)

/-- The slabs of the value's product. -/
theorem value_slabs :
    k0_pay148 hh w (ix2 j k) = row hh w ⟨j.val, by omega⟩ k
    ∧ k0_pay149 hh w (ix2 j k) = row hh w ⟨128 + j.val, by omega⟩ k
    ∧ k0_pay150 hh w (ix2 j k) = row hh w ⟨256 + j.val, by omega⟩ k
    ∧ k0_pay151 hh w (ix2 j k) = row hh w ⟨384 + j.val, by omega⟩ k
    ∧ k0_pay152 hh w (ix2 j k) = row hh w ⟨512 + j.val, by omega⟩ k
    ∧ k0_pay153 (k0_pay145 hh w) (ix2 j k) = row hh w ⟨640 + j.val, by omega⟩ k
    ∧ k0_pay154 (k0_pay145 hh w) (ix2 j k) = row hh w ⟨768 + j.val, by omega⟩ k
    ∧ k0_pay155 (k0_pay145 hh w) (ix2 j k) = row hh w ⟨896 + j.val, by omega⟩ k := by
  refine ⟨?_, ?_, ?_, ?_, ?_, ?_, ?_, ?_⟩
  · pointwise [k0_pay148]; exact row_value _ _ _ _
  · pointwise [k0_pay149]; exact row_value _ _ _ _
  · pointwise [k0_pay150]; exact row_value _ _ _ _
  · pointwise [k0_pay151]; exact row_value _ _ _ _
  · pointwise [k0_pay152]; exact row_value _ _ _ _
  · pointwise [k0_pay153]; exact row_value _ _ _ _
  · pointwise [k0_pay154]; exact row_value _ _ _ _
  · pointwise [k0_pay155]; exact row_value _ _ _ _

/-- The rows after the last slab's. -/
theorem value_after : k0_pay156 (k0_pay145 hh w) (k0_pay148 hh w) (ix2 j k)
    = row hh w ⟨afterRow (896 + j.val), afterRow_lt ⟨896 + j.val, by omega⟩⟩ k := by
  pointwise [k0_pay156]
  rw [select_last j.isLt, row_value, (value_slabs hh w _ k).1]
  split_ifs with h
  all_goals exact congrArg (row hh w · k) (Fin.ext (by simp only [afterRow]; split_ifs <;> first | omega | rfl))

/-- The first slab's convolution. -/
theorem value_first (cw : Vec Ideal S1x3x1024 .f32) (cb : Vec Ideal S1x1024 .f32) :
    k0_pay157 (k0_pay145 hh w) (k0_pay146 cw) (k0_pay147 cb) (k0_pay148 hh w) (k0_pay149 hh w) (ix2 j k)
      = cb (ix2 0 k) + cw (ix3 0 0 k) * row hh w ⟨beforeRow j.val, beforeRow_lt ⟨j.val, by omega⟩⟩ k
        + cw (ix3 0 1 k) * row hh w ⟨j.val, by omega⟩ k + cw (ix3 0 2 k) * row hh w ⟨128 + j.val, by omega⟩ k := by
  pointwise [k0_pay157, k0_pay155, k0_pay146, k0_pay147]
  simp only [select_first j.isLt, row_value, value_slabs]
  congr 4
  split_ifs with h
  all_goals exact congrArg (row hh w · k) (Fin.ext (by simp only [beforeRow]; split_ifs <;> first | omega | rfl))

end Value

/-- The value's eight slabs, one below the other; the last is put together from its three weighted rows. -/
def stack (v143 : FVec Ideal S3x1024 .f32) (v153 v168 v181 v194 v207 v220 v233 v246 v259 v264 v266 : FVec Ideal S128x1024 .f32) :
    FVec Ideal S1024x1024 .f32 :=
  concatenate S1024x1024 0 [⟨S128x1024, v181⟩, ⟨S128x1024, v194⟩, ⟨S128x1024, v207⟩, ⟨S128x1024, v220⟩, ⟨S128x1024, v233⟩,
    ⟨S128x1024, v246⟩, ⟨S128x1024, v259⟩, ⟨S128x1024, addf (addf v264 (mulf v266 v153)) (mulf (broadcastTo S128x1024
      (extractStridedSlice S1x1024 ![2, 0] v143 slices_S3x1024_o2_0_S1x1024) broadcasts_S1x1024_S128x1024) v168)⟩]
    concatenates_S128x1024_S128x1024_S128x1024_S128x1024_S128x1024_S128x1024_S128x1024_S128x1024_S1024x1024_d0

/-- The value's convolution. -/
theorem value (hh : Vec Ideal S1040x1024 .bf16) (w : Vec Ideal S1x1024x1024 .bf16) (cw : Vec Ideal S1x3x1024 .f32)
    (cb : Vec Ideal S1x1024 .f32) (R k : Fin 1024) :
    stack (k0_pay146 cw) (k0_pay155 (k0_pay145 hh w)) (k0_pay156 (k0_pay145 hh w) (k0_pay148 hh w))
      (k0_pay157 (k0_pay145 hh w) (k0_pay146 cw) (k0_pay147 cb) (k0_pay148 hh w) (k0_pay149 hh w))
      (k0_pay158 (k0_pay146 cw) (k0_pay147 cb) (k0_pay148 hh w) (k0_pay149 hh w) (k0_pay150 hh w))
      (k0_pay161 (k0_pay159 (k0_pay146 cw) (k0_pay147 cb) (k0_pay149 hh w) (k0_pay150 hh w))
        (k0_pay160 (k0_pay146 cw) (k0_pay151 hh w)))
      (k0_pay162 (k0_pay146 cw) (k0_pay147 cb) (k0_pay150 hh w) (k0_pay151 hh w) (k0_pay152 hh w))
      (k0_pay163 (k0_pay146 cw) (k0_pay147 cb) (k0_pay151 hh w) (k0_pay152 hh w) (k0_pay153 (k0_pay145 hh w)))
      (k0_pay164 (k0_pay146 cw) (k0_pay147 cb) (k0_pay152 hh w) (k0_pay153 (k0_pay145 hh w)) (k0_pay154 (k0_pay145 hh w)))
      (k0_pay165 (k0_pay146 cw) (k0_pay147 cb) (k0_pay153 (k0_pay145 hh w)) (k0_pay154 (k0_pay145 hh w)) (k0_pay155 (k0_pay145 hh w)))
      (k0_pay166 (k0_pay146 cw) (k0_pay147 cb) (k0_pay154 (k0_pay145 hh w))) (k0_pay167 (k0_pay146 cw)) (ix2 R k)
      = conv hh w cw cb R k := by
  have hR := R.isLt
  have first := fun j => value_first hh w j k cw cb
  generalize k0_pay157 (k0_pay145 hh w) (k0_pay146 cw) (k0_pay147 cb) (k0_pay148 hh w) (k0_pay149 hh w) = G at first ⊢
  pointwise [stack, k0_pay146, k0_pay147, k0_pay158, k0_pay159, k0_pay160, k0_pay161, k0_pay162, k0_pay163, k0_pay164, k0_pay165,
    k0_pay166, k0_pay167]
  rcases slab_cases R.val hR with h | h | h | h | h | h | h | h
  all_goals
    simp (disch := omega) only [dif_pos, dif_neg]
    simp only [value_slabs, value_after, first]
    refine conv_of_rows hh w cw cb R k _ _ _ ?_ ?_ ?_
  all_goals
    simp only [beforeRow, afterRow]
    try split_ifs
  all_goals omega

/-- The gelu of the kernel: `x / (1 + 2 ^ (x (x² κ₃ + κ₁)))`. -/
def gelu (x : EReal) : EReal :=
  Ideal.div x (1 + Ideal.exp2 (x * (x * x * Named.named (F := Ideal) (φ := .f32) κ "gelu3" 0xBDD2D3E8#32 + Named.named (F := Ideal) (φ := .f32) κ "gelu1" 0xC0135761#32)))

/-- The accumulator after a grid point: what it held, and the gated columns times the block of the down-projection. -/
theorem accumulate (v138 : FVec Ideal S1024x1024 .f32) (v143 : FVec Ideal S3x1024 .f32)
    (v153 v168 v181 v194 v207 v220 v233 v246 v259 v264 v266 : FVec Ideal S128x1024 .f32) (v286 : Vec Ideal S1024x1024 .f32)
    (v287 : Vec Ideal S1x1024x1024 .bf16) (R d : Fin 1024) :
    k0_pay1 v138 v143 v153 v168 v181 v194 v207 v220 v233 v246 v259 v264 v266 v286 v287 (ix2 R d)
      = v286 (ix2 R d) + ∑ k : Fin 1024, gelu (v138 (ix2 R k))
          * stack v143 v153 v168 v181 v194 v207 v220 v233 v246 v259 v264 v266 (ix2 R k) * v287 (ix3 0 k d) := by
  pointwise [k0_pay1, stack]
  refine congrArg (v286 (ix2 R d) + ·) (Finset.sum_congr rfl fun k _ => ?_)
  congr 2

end Cert.FfnIdeal.Block

end
-- ==== Proof.Ffn.Block.lean ====
/-
  What one grid point of the feed-forward kernel adds to its accumulator: the gated convolution of its block of columns times its
  block of the down-projection.
-/
module

public import proofs.«01_k».proof.Proof.Ffn.Conv
public import proofs.«01_k».proof.Proof.Gen.FfnIdeal.Frame
public import Idealize.ShloMosaic.Lib.Pipeline.ValueKit
public import Idealize.ShloMosaic.Lib.Pipeline.ReadBack

@[expose] public section

noncomputable section

namespace Cert.FfnIdeal.Block

open Cert.FfnIdeal Cert.FfnIdeal.Gen Idealize.ShloMosaic

/-- What a block of columns contributes to row `R` and output column `d`. -/
def contribution (hh : Vec Ideal S1040x1024 .bf16) (wg wv : Vec Ideal S1x1024x1024 .bf16) (cg cv : Vec Ideal S1x3x1024 .f32)
    (bg bv : Vec Ideal S1x1024 .f32) (wd : Vec Ideal S1x1024x1024 .bf16) (R d : Fin 1024) : EReal :=
  ∑ k : Fin 1024, gelu (conv hh wg cg bg R k) * conv hh wv cv bv R k * wd (ix3 0 k d)

/-- A middle point adds its contribution to the accumulator. -/
theorem acc_B
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    ¬cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)
    (R d : Fin 1024) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 R d)
      = xs1 (ix2 R d) + contribution xs0 x4 x5 x6 x7 x8 x9 x10 R d := by
  frame_out
  rw [accumulate]
  simp only [gate, value]
  rfl

/-- A last point adds its contribution to the accumulator. -/
theorem acc_C
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)
    (R d : Fin 1024) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 R d)
      = xs1 (ix2 R d) + contribution xs0 x4 x5 x6 x7 x8 x9 x10 R d := by
  frame_out
  rw [accumulate]
  simp only [gate, value]
  rfl

end Cert.FfnIdeal.Block

end
-- ==== Proof.Ffn.Tile.lean ====
/-
  The tile in slabs: the first point of a row of the grid puts its 1024 tokens through a scratch of eight lane groups, read back
  every eighth row, so that slab row `128 r + j` of the tile holds token `8 j + r`.
-/
module

public import proofs.«01_k».proof.Proof.Gen.FfnIdeal.Frame
public import Idealize.ShloMosaic.Lib.Pointwise
public import Idealize.ShloMosaic.Lib.Pipeline.ValueKit
public import Idealize.ShloMosaic.Lib.Pipeline.ReadBack

@[expose] public section

noncomputable section

namespace Cert.FfnIdeal.Tile

open Cert.FfnIdeal Cert.FfnIdeal.Gen Idealize.ShloMosaic

variable (c : Dev nD) (arg3 : Memref sig .tc .vmem S1024x1024 .bf16) (harg3 : arg3.IsWhole)
  (arg17 : Memref sig .tc .vmem S8x1024x128 .f32) (x1 : Vec Ideal S1024x1024 .bf16)

/-- What the scratch holds: lane `l` of group `q` of token `T` is column `128 q + l` of the tile. -/
def lanes (z : S8x1024x128.Idx) : EReal :=
  x1 (ix2 (⟨(z 1).val, (z 1).isLt⟩ : Fin 1024)
    (⟨128 * (z 0).val + (z 2).val, by have h : (z 0).val < 8 := (z 0).isLt; have h' : (z 2).val < 128 := (z 2).isLt; omega⟩ : Fin 1024))

/-- The tile's block as loaded. -/
theorem loaded (T d : Fin 1024) : kernelRun0_A.sl.v300 c arg3 harg3 x1 (ix2 T d) = x1 (ix2 T d) := by
  unfold kernelRun0_A.sl.v300
  rw [View.readAt_eq_ld, Memref.IsWhole.read_unread]
  pointwise []

/-- Each store of the first point's scratch is a group of lanes. -/
theorem stored (T : Fin 1024) (l : Fin 128) :
kernelRun0_A.sl.v305 c arg3 harg3 x1 (ix3 0 T l) = x1 (ix2 T ⟨l.val, by omega⟩)
    ∧ kernelRun0_A.sl.v310 c arg3 harg3 x1 (ix3 0 T l) = x1 (ix2 T ⟨128 + l.val, by omega⟩)
    ∧ kernelRun0_A.sl.v315 c arg3 harg3 x1 (ix3 0 T l) = x1 (ix2 T ⟨256 + l.val, by omega⟩)
    ∧ kernelRun0_A.sl.v320 c arg3 harg3 x1 (ix3 0 T l) = x1 (ix2 T ⟨384 + l.val, by omega⟩)
    ∧ kernelRun0_A.sl.v325 c arg3 harg3 x1 (ix3 0 T l) = x1 (ix2 T ⟨512 + l.val, by omega⟩)
    ∧ kernelRun0_A.sl.v330 c arg3 harg3 x1 (ix3 0 T l) = x1 (ix2 T ⟨640 + l.val, by omega⟩)
    ∧ kernelRun0_A.sl.v335 c arg3 harg3 x1 (ix3 0 T l) = x1 (ix2 T ⟨768 + l.val, by omega⟩)
    ∧ kernelRun0_A.sl.v340 c arg3 harg3 x1 (ix3 0 T l) = x1 (ix2 T ⟨896 + l.val, by omega⟩) := by
  refine ⟨?_, ?_, ?_, ?_, ?_, ?_, ?_, ?_⟩
  · pointwise [kernelRun0_A.sl.v305, kernelRun0_A.sl.v302, kernelRun0_A.sl.v301]; exact loaded ..
  · pointwise [kernelRun0_A.sl.v310, kernelRun0_A.sl.v307, kernelRun0_A.sl.v306]; exact loaded ..
  · pointwise [kernelRun0_A.sl.v315, kernelRun0_A.sl.v312, kernelRun0_A.sl.v311]; exact loaded ..
  · pointwise [kernelRun0_A.sl.v320, kernelRun0_A.sl.v317, kernelRun0_A.sl.v316]; exact loaded ..
  · pointwise [kernelRun0_A.sl.v325, kernelRun0_A.sl.v322, kernelRun0_A.sl.v321]; exact loaded ..
  · pointwise [kernelRun0_A.sl.v330, kernelRun0_A.sl.v327, kernelRun0_A.sl.v326]; exact loaded ..
  · pointwise [kernelRun0_A.sl.v335, kernelRun0_A.sl.v332, kernelRun0_A.sl.v331]; exact loaded ..
  · pointwise [kernelRun0_A.sl.v340, kernelRun0_A.sl.v337, kernelRun0_A.sl.v336]; exact loaded ..

/-- An index of a lane group lies in the group's store. -/
theorem group {z : S8x1024x128.Idx} {q : ℕ} (h : (z 0).val = q) (hq : ∀ a, ![q, 0, 0] a + S1x1024x128.size a ≤ S8x1024x128.size a) :
    z ∈ (Rect.unit (s := S8x1024x128) ![q, 0, 0] S1x1024x128.size hq).set := by
  rw [Rect.mem_set_unit]
  intro a
  match a with
  | ⟨0, _⟩ => exact ⟨show q ≤ (z 0).val by omega, show (z 0).val < q + 1 by omega⟩
  | ⟨1, _⟩ => exact ⟨Nat.zero_le _, show (z 1).val < 0 + 1024 by have h : (z 1).val < 1024 := (z 1).isLt; omega⟩
  | ⟨2, _⟩ => exact ⟨Nat.zero_le _, show (z 2).val < 0 + 128 by have h : (z 2).val < 128 := (z 2).isLt; omega⟩

/-- A store's index by its row and lane. -/
theorem at_index {f g : S1x1024x128.Idx → EReal} (h : ∀ (T : Fin 1024) (l : Fin 128), f (ix3 0 T l) = g (ix3 0 T l)) :
    ∀ x, f x = g x := by
  intro x
  have e : x = ix3 (0 : Fin 1) (⟨(x 1).val, (x 1).isLt⟩ : Fin 1024) (⟨(x 2).val, (x 2).isLt⟩ : Fin 128) := by
    funext a
    match a with
    | ⟨0, _⟩ => exact Fin.ext (by have h : (x 0).val < 1 := (x 0).isLt; show (x 0).val = 0; omega)
    | ⟨1, _⟩ => rfl
    | ⟨2, _⟩ => rfl
  rw [e]
  exact h _ _

/-- The column a lane of a group is. -/
theorem placed (q : ℕ) (hq : ∀ a, ![q, 0, 0] a + S1x1024x128.size a ≤ S8x1024x128.size a) (T : Fin 1024) (l : Fin 128)
    {d : Fin 1024} (hd : d.val = 128 * q + l.val := by first | rfl | exact (Nat.zero_add _).symm) :
    x1 (ix2 T d) = lanes x1 ((Rect.unit (s := S8x1024x128) ![q, 0, 0] S1x1024x128.size hq).emb (ix3 0 T l)) := by
  refine congrArg x1 (congrArg₂ ix2 (Fin.ext ?_) (Fin.ext ?_))
  · show T.val = 0 + 1 * T.val
    omega
  · show d.val = 128 * (q + 1 * 0) + (0 + 1 * l.val)
    omega

/-- Reading the scratch anywhere gives the tile's columns. -/
theorem scratch (B : LoadRect S8x1024x128) (y : B.shape.Idx) :
    arg17.view.readCov (kernelRun0_A.sl.HS2_8 c arg3 harg3 x1) B y = lanes x1 (B.idx y) := by
  rw [View.readCov_eq_canon']
  refine View.canon_apply_of_pieces (Val := Elt Ideal) (e := .f32) (lanes x1) _ ?_ _ ?_
  · unfold kernelRun0_A.sl.HS2_8
    simp only [List.forall_mem_cons, List.not_mem_nil, false_imp_iff, implies_true, and_true]
    refine ⟨?_, ?_, ?_, ?_, ?_, ?_, ?_, ?_⟩
    · refine at_index ?_; exact fun T l => (stored c arg3 harg3 x1 T l).2.2.2.2.2.2.2.trans (placed x1 7 _ _ _)
    · refine at_index ?_; exact fun T l => (stored c arg3 harg3 x1 T l).2.2.2.2.2.2.1.trans (placed x1 6 _ _ _)
    · refine at_index ?_; exact fun T l => (stored c arg3 harg3 x1 T l).2.2.2.2.2.1.trans (placed x1 5 _ _ _)
    · refine at_index ?_; exact fun T l => (stored c arg3 harg3 x1 T l).2.2.2.2.1.trans (placed x1 4 _ _ _)
    · refine at_index ?_; exact fun T l => (stored c arg3 harg3 x1 T l).2.2.2.1.trans (placed x1 3 _ _ _)
    · refine at_index ?_; exact fun T l => (stored c arg3 harg3 x1 T l).2.2.1.trans (placed x1 2 _ _ _)
    · refine at_index ?_; exact fun T l => (stored c arg3 harg3 x1 T l).2.1.trans (placed x1 1 _ _ _)
    · refine at_index ?_; exact fun T l => (stored c arg3 harg3 x1 T l).1.trans (placed x1 0 _ _ _)
  · unfold kernelRun0_A.sl.HS2_8
    simp only [List.exists_mem_cons_iff]
    have hz : (B.idx y 0).val < 8 := (B.idx y 0).isLt
    rcases (by omega : (B.idx y 0).val = 7 ∨ (B.idx y 0).val = 6 ∨ (B.idx y 0).val = 5 ∨ (B.idx y 0).val = 4
      ∨ (B.idx y 0).val = 3 ∨ (B.idx y 0).val = 2 ∨ (B.idx y 0).val = 1 ∨ (B.idx y 0).val = 0) with h | h | h | h | h | h | h | h
    · exact Or.inl (group h _)
    · exact Or.inr (Or.inl (group h _))
    · exact Or.inr (Or.inr (Or.inl (group h _)))
    · exact Or.inr (Or.inr (Or.inr (Or.inl (group h _))))
    · exact Or.inr (Or.inr (Or.inr (Or.inr (Or.inl (group h _)))))
    · exact Or.inr (Or.inr (Or.inr (Or.inr (Or.inr (Or.inl (group h _))))))
    · exact Or.inr (Or.inr (Or.inr (Or.inr (Or.inr (Or.inr (Or.inl (group h _)))))))
    · exact Or.inr (Or.inr (Or.inr (Or.inr (Or.inr (Or.inr (Or.inr (Or.inl (group h _))))))))

/-- A read of every eighth row of the scratch. -/
theorem strided (q r : ℕ)
    (hin : ∀ a, S1x128x128.size a = 0 ∨ ![q, r, 0] a + ![1, 8, 1] a * (S1x128x128.size a - 1) < S8x1024x128.size a)
    (j l : Fin 128) {T d : Fin 1024} (hT : T.val = 8 * j.val + r) (hd : d.val = 128 * q + l.val) :
    lanes x1 (LoadRect.idx (s := S8x1024x128) ⟨![q, r, 0], S1x128x128.size, ![1, 8, 1], hin⟩ (ix3 (0 : Fin 1) j l)) = x1 (ix2 T d) := by
  refine congrArg x1 (congrArg₂ ix2 (Fin.ext ?_) (Fin.ext ?_))
  · show r + 8 * j.val = T.val
    omega
  · show 128 * (q + 1 * 0) + (0 + 1 * l.val) = d.val
    omega

/-- The eight groups of 128 among 1024. -/
theorem lane_cases {d : ℕ} (hd : d < 1024) : d < 128 ∨ (128 ≤ d ∧ d < 256) ∨ (256 ≤ d ∧ d < 384) ∨ (384 ≤ d ∧ d < 512)
    ∨ (512 ≤ d ∧ d < 640) ∨ (640 ≤ d ∧ d < 768) ∨ (768 ≤ d ∧ d < 896) ∨ 896 ≤ d := by
  omega

set_option maxHeartbeats 1000000 in
/-- The eight slabs: row `j` of slab `r` is token `8 j + r`. -/
theorem slab (j : Fin 128) (d : Fin 1024) :
    kernelRun0_A.sl.v357 c arg3 harg3 arg17 x1 (ix2 j d) = x1 (ix2 ⟨8 * j.val, by omega⟩ d)
    ∧ kernelRun0_A.sl.v374 c arg3 harg3 arg17 x1 (ix2 j d) = x1 (ix2 ⟨8 * j.val + 1, by omega⟩ d)
    ∧ kernelRun0_A.sl.v391 c arg3 harg3 arg17 x1 (ix2 j d) = x1 (ix2 ⟨8 * j.val + 2, by omega⟩ d)
    ∧ kernelRun0_A.sl.v408 c arg3 harg3 arg17 x1 (ix2 j d) = x1 (ix2 ⟨8 * j.val + 3, by omega⟩ d)
    ∧ kernelRun0_A.sl.v425 c arg3 harg3 arg17 x1 (ix2 j d) = x1 (ix2 ⟨8 * j.val + 4, by omega⟩ d)
    ∧ kernelRun0_A.sl.v442 c arg3 harg3 arg17 x1 (ix2 j d) = x1 (ix2 ⟨8 * j.val + 5, by omega⟩ d)
    ∧ kernelRun0_A.sl.v459 c arg3 harg3 arg17 x1 (ix2 j d) = x1 (ix2 ⟨8 * j.val + 6, by omega⟩ d)
    ∧ kernelRun0_A.sl.v476 c arg3 harg3 arg17 x1 (ix2 j d) = x1 (ix2 ⟨8 * j.val + 7, by omega⟩ d) := by
  have hd := d.isLt
  refine ⟨?_, ?_, ?_, ?_, ?_, ?_, ?_, ?_⟩
  · pointwise [kernelRun0_A.sl.v357, kernelRun0_A.sl.v342, kernelRun0_A.sl.v344, kernelRun0_A.sl.v346, kernelRun0_A.sl.v348, kernelRun0_A.sl.v350, kernelRun0_A.sl.v352, kernelRun0_A.sl.v354, kernelRun0_A.sl.v356]
    simp only [kernelRun0_A.sl.v341, kernelRun0_A.sl.v343, kernelRun0_A.sl.v345, kernelRun0_A.sl.v347, kernelRun0_A.sl.v349, kernelRun0_A.sl.v351, kernelRun0_A.sl.v353, kernelRun0_A.sl.v355, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v374, kernelRun0_A.sl.v359, kernelRun0_A.sl.v361, kernelRun0_A.sl.v363, kernelRun0_A.sl.v365, kernelRun0_A.sl.v367, kernelRun0_A.sl.v369, kernelRun0_A.sl.v371, kernelRun0_A.sl.v373]
    simp only [kernelRun0_A.sl.v358, kernelRun0_A.sl.v360, kernelRun0_A.sl.v362, kernelRun0_A.sl.v364, kernelRun0_A.sl.v366, kernelRun0_A.sl.v368, kernelRun0_A.sl.v370, kernelRun0_A.sl.v372, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v391, kernelRun0_A.sl.v376, kernelRun0_A.sl.v378, kernelRun0_A.sl.v380, kernelRun0_A.sl.v382, kernelRun0_A.sl.v384, kernelRun0_A.sl.v386, kernelRun0_A.sl.v388, kernelRun0_A.sl.v390]
    simp only [kernelRun0_A.sl.v375, kernelRun0_A.sl.v377, kernelRun0_A.sl.v379, kernelRun0_A.sl.v381, kernelRun0_A.sl.v383, kernelRun0_A.sl.v385, kernelRun0_A.sl.v387, kernelRun0_A.sl.v389, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v408, kernelRun0_A.sl.v393, kernelRun0_A.sl.v395, kernelRun0_A.sl.v397, kernelRun0_A.sl.v399, kernelRun0_A.sl.v401, kernelRun0_A.sl.v403, kernelRun0_A.sl.v405, kernelRun0_A.sl.v407]
    simp only [kernelRun0_A.sl.v392, kernelRun0_A.sl.v394, kernelRun0_A.sl.v396, kernelRun0_A.sl.v398, kernelRun0_A.sl.v400, kernelRun0_A.sl.v402, kernelRun0_A.sl.v404, kernelRun0_A.sl.v406, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v425, kernelRun0_A.sl.v410, kernelRun0_A.sl.v412, kernelRun0_A.sl.v414, kernelRun0_A.sl.v416, kernelRun0_A.sl.v418, kernelRun0_A.sl.v420, kernelRun0_A.sl.v422, kernelRun0_A.sl.v424]
    simp only [kernelRun0_A.sl.v409, kernelRun0_A.sl.v411, kernelRun0_A.sl.v413, kernelRun0_A.sl.v415, kernelRun0_A.sl.v417, kernelRun0_A.sl.v419, kernelRun0_A.sl.v421, kernelRun0_A.sl.v423, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v442, kernelRun0_A.sl.v427, kernelRun0_A.sl.v429, kernelRun0_A.sl.v431, kernelRun0_A.sl.v433, kernelRun0_A.sl.v435, kernelRun0_A.sl.v437, kernelRun0_A.sl.v439, kernelRun0_A.sl.v441]
    simp only [kernelRun0_A.sl.v426, kernelRun0_A.sl.v428, kernelRun0_A.sl.v430, kernelRun0_A.sl.v432, kernelRun0_A.sl.v434, kernelRun0_A.sl.v436, kernelRun0_A.sl.v438, kernelRun0_A.sl.v440, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v459, kernelRun0_A.sl.v444, kernelRun0_A.sl.v446, kernelRun0_A.sl.v448, kernelRun0_A.sl.v450, kernelRun0_A.sl.v452, kernelRun0_A.sl.v454, kernelRun0_A.sl.v456, kernelRun0_A.sl.v458]
    simp only [kernelRun0_A.sl.v443, kernelRun0_A.sl.v445, kernelRun0_A.sl.v447, kernelRun0_A.sl.v449, kernelRun0_A.sl.v451, kernelRun0_A.sl.v453, kernelRun0_A.sl.v455, kernelRun0_A.sl.v457, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v476, kernelRun0_A.sl.v461, kernelRun0_A.sl.v463, kernelRun0_A.sl.v465, kernelRun0_A.sl.v467, kernelRun0_A.sl.v469, kernelRun0_A.sl.v471, kernelRun0_A.sl.v473, kernelRun0_A.sl.v475]
    simp only [kernelRun0_A.sl.v460, kernelRun0_A.sl.v462, kernelRun0_A.sl.v464, kernelRun0_A.sl.v466, kernelRun0_A.sl.v468, kernelRun0_A.sl.v470, kernelRun0_A.sl.v472, kernelRun0_A.sl.v474, scratch]
    rcases lane_cases hd with h | h | h | h | h | h | h | h
    all_goals
      simp (disch := omega) only [dif_pos, dif_neg]
      exact strided x1 _ _ _ _ _ (by first | rfl | (simp only []; omega)) (by first | rfl | (simp only []; omega))

/-- The tile in slabs: slab row `R` holds token `8 (R mod 128) + R / 128`. -/
theorem tile (R d : Fin 1024) : kernelRun0_A.sl.v481 c arg3 harg3 arg17 x1 (ix2 R d)
    = x1 (ix2 ⟨8 * (R.val % 128) + R.val / 128, by omega⟩ d) := by
  have hR := R.isLt
  pointwise [kernelRun0_A.sl.v481, kernelRun0_A.sl.v478, kernelRun0_A.sl.v477]
  rcases lane_cases hR with h | h | h | h | h | h | h | h
  all_goals
    simp (disch := omega) only [dif_pos, dif_neg]
    simp only [slab]
    exact congrArg x1 (congrArg₂ ix2 (Fin.ext (by first | rfl | (simp only []; omega))) rfl)

end Cert.FfnIdeal.Tile

end
-- ==== Proof.Ffn.Last.lean ====
/-
  The last point of a row of the grid: it normalizes each row of the accumulator, puts the rows back into the order of the tokens and
  adds the residual.
-/
module

public import proofs.«01_k».proof.Proof.Ffn.Block
public import proofs.«01_k».proof.Proof.Ffn.Tile

@[expose] public section

noncomputable section

namespace Cert.FfnIdeal.Block

open Cert.FfnIdeal Cert.FfnIdeal.Gen Idealize.ShloMosaic

/-- A row divided by its root mean square, times the gain. -/
def normed (a : Fin 1024 → EReal) (g : Fin 1024 → EReal) (d : Fin 1024) : EReal :=
  a d * FloatOps.rsqrt (F := Ideal) (φ := .f32) (Ideal.div (∑ k : Fin 1024, a k * a k) (FloatOps.ofBits (F := Ideal) .f32 0x44800000#32)
    + FloatOps.ofBits (F := Ideal) .f32 0x358637BD#32) * g d

/-- The normalized accumulator. -/
theorem normalize (v : Vec Ideal S1024x1024 .f32) (g : Vec Ideal S1x1024 .f32) (R d : Fin 1024) :
    k0_pay48 v g (ix2 R d) = normed (fun k => v (ix2 R k)) (fun k => g (ix2 0 k)) d := by
  pointwise [k0_pay48]
  rfl

/-- The slab row of a token. -/
def slabRow (T : Fin 1024) : Fin 1024 := ⟨128 * (T.val % 8) + T.val / 8, by omega⟩

/-- What the scratch holds of an array in slabs: the rows in the order of the tokens, in groups of 128 columns. -/
def natural (V : FVec Ideal S1024x1024 .f32) (z : S8x1024x128.Idx) : EReal :=
  V (ix2 (slabRow ⟨(z 1).val, (z 1).isLt⟩)
    (⟨128 * (z 0).val + (z 2).val, by have h : (z 0).val < 8 := (z 0).isLt; have h' : (z 2).val < 128 := (z 2).isLt; omega⟩ : Fin 1024))

/-- The store of slab `r`'s columns of group `q`, to every eighth row from `r` on. -/
def piece (V : FVec Ideal S1024x1024 .f32) (r q : Fin 8) : View.Piece (Elt Ideal) S8x1024x128 .f32 :=
  ⟨{ off := ![q.val, r.val, 0], size := S1x128x128.size, stride := ![1, 8, 1],
     inb := by
      have hq := q.isLt
      have hr := r.isLt
      intro a
      match a with
      | ⟨0, _⟩ => exact Or.inr (show q.val + 1 * 0 < 8 by omega)
      | ⟨1, _⟩ => exact Or.inr (show r.val + 8 * 127 < 1024 by omega)
      | ⟨2, _⟩ => exact Or.inr (show 0 + 1 * 127 < 128 by omega)
     stride_pos := by decide },
    shapeCast S1x128x128 (extractStridedSlice S128x128 ![128 * r.val, 128 * q.val] V (by
      refine ⟨rfl, fun a => ?_⟩
      have hq := q.isLt
      have hr := r.isLt
      match a with
      | ⟨0, _⟩ => show 128 * r.val + 128 ≤ 1024; omega
      | ⟨1, _⟩ => show 128 * q.val + 128 ≤ 1024; omega)) shapeCasts_S128x128_S1x128x128⟩

/-- All the stores, the last one first. -/
def pieces (V : FVec Ideal S1024x1024 .f32) : List (View.Piece (Elt Ideal) S8x1024x128 .f32) :=
  [7, 6, 5, 4, 3, 2, 1, 0].flatMap fun r => [7, 6, 5, 4, 3, 2, 1, 0].map fun q => piece V r q

/-- Each store puts the rows it names where the tokens' order has them. -/
theorem piece_natural (V : FVec Ideal S1024x1024 .f32) (r q : Fin 8) :
    ∀ x : (piece V r q).1.shape.Idx, (piece V r q).2 x = natural V ((piece V r q).1.emb x) := by
  intro (x : S1x128x128.Idx)
  have hq := q.isLt
  have hr := r.isLt
  obtain ⟨j, l, rfl⟩ : ∃ j l : Fin 128, x = ix3 (0 : Fin 1) j l := by
    refine ⟨⟨(x 1).val, (x 1).isLt⟩, ⟨(x 2).val, (x 2).isLt⟩, ?_⟩
    funext a
    match a with
    | ⟨0, _⟩ => exact Fin.ext (by have h : (x 0).val < 1 := (x 0).isLt; show (x 0).val = 0; omega)
    | ⟨1, _⟩ => rfl
    | ⟨2, _⟩ => rfl
  unfold piece
  dsimp only
  pointwise []
  refine congrArg V (congrArg₂ ix2 (Fin.ext ?_) (Fin.ext ?_))
  · show _ = 128 * ((r.val + 8 * j.val) % 8) + (r.val + 8 * j.val) / 8
    dsimp only
    omega
  · show _ = 128 * (q.val + 1 * 0) + (0 + 1 * l.val)
    dsimp only
    omega

/-- Every row of the scratch is stored. -/
theorem pieces_cover (V : FVec Ideal S1024x1024 .f32) (z : S8x1024x128.Idx) : ∃ p ∈ pieces V, z ∈ p.1.set := by
  have h0 : (z 0).val < 8 := (z 0).isLt
  have h1 : (z 1).val < 1024 := (z 1).isLt
  have h2 : (z 2).val < 128 := (z 2).isLt
  have all : ∀ n : Fin 8, n ∈ ([7, 6, 5, 4, 3, 2, 1, 0] : List (Fin 8)) := by decide
  refine ⟨piece V ⟨(z 1).val % 8, by omega⟩ ⟨(z 0).val, h0⟩,
    List.mem_flatMap.2 ⟨_, all _, List.mem_map.2 ⟨_, all _, rfl⟩⟩, ?_⟩
  rw [LoadRect.mem_set]
  intro a
  match a with
  | ⟨0, _⟩ => exact ⟨0, Nat.one_pos, show (z 0).val = (z 0).val + 1 * 0 by omega⟩
  | ⟨1, _⟩ => exact ⟨(z 1).val / 8, show (z 1).val / 8 < 128 by omega, show (z 1).val = (z 1).val % 8 + 8 * ((z 1).val / 8) by omega⟩
  | ⟨2, _⟩ => exact ⟨(z 2).val, h2, show (z 2).val = 0 + 1 * (z 2).val by omega⟩

/-- The scratch after all the stores. -/
theorem pieces_canon (V : FVec Ideal S1024x1024 .f32) (z : S8x1024x128.Idx) : View.canon (pieces V) z = natural V z := by
  refine View.canon_apply_of_pieces (Val := Elt Ideal) (e := .f32) (natural V) _ ?_ _ (pieces_cover V z)
  intro p hp
  obtain ⟨r, -, hp⟩ := List.mem_flatMap.1 hp
  obtain ⟨q, -, rfl⟩ := List.mem_map.1 hp
  exact piece_natural V r q

variable
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)

/-- The last point's stores. -/
theorem stores :
    kernelRun0_C.sl.HS2_64 c arg6 harg6 arg7 harg7 arg8 harg8 arg9 harg9 arg10 harg10 arg11 harg11 arg12 harg12 arg13 harg13 arg15 harg15 arg16 harg16  x4 x5 x6 x7 x8 x9 x10 x11 xs0 xs1
      = pieces (kernelRun0_C.sl.r_44 c arg6 harg6 arg7 harg7 arg8 harg8 arg9 harg9 arg10 harg10 arg11 harg11 arg12 harg12 arg13 harg13 arg15 harg15 arg16 harg16  x4 x5 x6 x7 x8 x9 x10 x11 xs0 xs1) := by
  rfl

/-- The accumulator the last point normalizes is the one it has just completed. -/
theorem completed :
    kernelRun0_C.sl.v297 c arg6 harg6 arg7 harg7 arg8 harg8 arg9 harg9 arg10 harg10 arg11 harg11 arg12 harg12  arg15 harg15 arg16 harg16  x4 x5 x6 x7 x8 x9 x10  xs0 xs1
      = sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 := by
  unfold sout0_C_1 kernelRun0_C.sl.v297
  rw [View.read_writes_junk_eq_canon, View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 in
/-- What the scratch held before the last sum: the rows in the order of the tokens. -/
theorem ordered (T d : Fin 1024) :
    natural (kernelRun0_C.sl.r_44 c arg6 harg6 arg7 harg7 arg8 harg8 arg9 harg9 arg10 harg10 arg11 harg11 arg12 harg12 arg13 harg13 arg15 harg15 arg16 harg16  x4 x5 x6 x7 x8 x9 x10 x11 xs0 xs1)
      (ix3 (⟨d.val / 128, by omega⟩ : Fin 8) T (⟨d.val % 128, by omega⟩ : Fin 128))
      = normed (fun k => xs1 (ix2 (slabRow T) k) + contribution xs0 x4 x5 x6 x7 x8 x9 x10 (slabRow T) k) (fun k => x11 (ix2 0 k)) d := by
  unfold natural kernelRun0_C.sl.r_44
  rw [completed c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1]
  simp (disch := decide) only [View.readAt_eq_ld, View.ld_unit_lit', Memref.IsWhole.read_unread]
  refine (normalize _ _ _ _).trans ?_
  simp only [acc_C]
  refine congrArg (normed _ _) (Fin.ext ?_)
  show 128 * (d.val / 128) + d.val % 128 = d.val
  omega

set_option maxHeartbeats 1000000 in
/-- The output block: token `T`'s residual and its normalized row. -/
theorem out_C (T d : Fin 1024) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 T d)
      = x3 (ix2 T d) + normed (fun k => xs1 (ix2 (slabRow T) k) + contribution xs0 x4 x5 x6 x7 x8 x9 x10 (slabRow T) k)
          (fun k => x11 (ix2 0 k)) d := by
  rw [← ordered c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1]
  have hd := d.isLt
  unfold out0_C_12
  rw [View.read_writes_junk_eq_canon]
  unfold kernelRun0_C
  dsimp only
  simp (disch := decide) only [View.canon_cons_unit_lit', kernelRun0_C.sl.r_53, View.readAt_eq_ld, View.ld_unit_lit',
    Memref.IsWhole.read_unread]
  simp only [kernelRun0_C.sl.v570, kernelRun0_C.sl.v572, kernelRun0_C.sl.v574, kernelRun0_C.sl.v576,
    kernelRun0_C.sl.v578, kernelRun0_C.sl.v580, kernelRun0_C.sl.v582, kernelRun0_C.sl.v584, stores, View.readCov_eq_canon', pieces_canon]
  pointwise [k0_pay2, k0_pay121]
  refine congrArg (x3 (ix2 T d) + ·) ?_
  rcases Tile.lane_cases hd with h | h | h | h | h | h | h | h
  all_goals
    simp (disch := omega) only [dif_pos, dif_neg]
    refine congrArg (natural _) (congrArg₂ (fun a b => ix3 a T b) (Fin.ext ?_) (Fin.ext ?_))
  all_goals
    first
      | (show _ = d.val % 128; dsimp only; omega)
      | (refine Eq.symm ?_; show d.val / 128 = Fin.val _; first
          | exact (by omega : d.val / 128 = 0) | exact (by omega : d.val / 128 = 1) | exact (by omega : d.val / 128 = 2)
          | exact (by omega : d.val / 128 = 3) | exact (by omega : d.val / 128 = 4) | exact (by omega : d.val / 128 = 5)
          | exact (by omega : d.val / 128 = 6) | exact (by omega : d.val / 128 = 7))

end Cert.FfnIdeal.Block

end
-- ==== Proof.Ffn.Tokens.lean ====
/-
  What the feed-forward block of layer `l` computes for one token, on the arrays in their natural order, and what a tile held in the kernel's
  scratch contributes to it: the rows of the tile, with the rows before and after, are tokens and their neighbours.
-/
module

public import proofs.«01_k».proof.Proof.Ffn.Last

@[expose] public section

noncomputable section

namespace Cert.FfnIdeal.Tokens

open Cert.FfnIdeal Cert.FfnIdeal.Gen Cert.FfnIdeal.Block Idealize.ShloMosaic Idealize.ShloMosaic.TcCoe Idealize.SL.Sem

variable (N : ℕ) (l : Fin 2) (h : Vec Ideal S16384x1024 .bf16) (wu : Vec Ideal S2x1024x8192 .bf16) (cw : Vec Ideal S2x3x8192 .f32)
  (cb : Vec Ideal S1x8192 .f32) (wd : Vec Ideal S2x4096x1024 .bf16)

/-- Column `n` of the up-projection of token `T`. -/
def up (T : Fin 16384) (n : Fin 8192) : EReal := ∑ d : Fin 1024, h (ix2 T d) * wu (ix3 l d n)

/-- Column `n` of the token before `T`, zero at the start of a sequence of `N`. -/
def upBefore (T : Fin 16384) (n : Fin 8192) : EReal := if T.val % N = 0 then 0 else up l h wu ⟨T.val - 1, by omega⟩ n

/-- Column `n` of the token after `T`, zero at the end of a sequence of `N`. -/
def upAfter (T : Fin 16384) (n : Fin 8192) : EReal := if (T.val + 1) % N = 0 then 0 else
  up l h wu ⟨(T.val + 1) % 16384, by omega⟩ n

/-- The convolution over three neighbouring tokens. -/
def mixed (T : Fin 16384) (n : Fin 8192) : EReal :=
  cb (ix2 0 n) + cw (ix3 l 0 n) * upBefore N l h wu T n + cw (ix3 l 1 n) * up l h wu T n + cw (ix3 l 2 n) * upAfter N l h wu T n

/-- Gated column `n`. -/
def gated (T : Fin 16384) (n : Fin 4096) : EReal :=
  gelu (mixed N l h wu cw cb T ⟨n.val, by omega⟩) * mixed N l h wu cw cb T ⟨4096 + n.val, by omega⟩

/-- The contribution of the `c`-th 1024 gated columns to output column `d`. -/
def chunk (c : Fin 4) (T : Fin 16384) (d : Fin 1024) : EReal :=
  ∑ k : Fin 1024, gated N l h wu cw cb T ⟨1024 * c.val + k.val, by omega⟩ * wd (ix3 l ⟨1024 * c.val + k.val, by omega⟩ d)

/-- The sum of the contributions up to the `c`-th. -/
def part (c : ℕ) (T : Fin 16384) (d : Fin 1024) : EReal :=
  chunk N l h wu cw cb wd 0 T d + (if 1 ≤ c then chunk N l h wu cw cb wd 1 T d else 0) + (if 2 ≤ c then chunk N l h wu cw cb wd 2 T d else 0)
    + (if 3 ≤ c then chunk N l h wu cw cb wd 3 T d else 0)

/-- The first sum is the first chunk. -/
theorem part_zero (T : Fin 16384) (d : Fin 1024) : part N l h wu cw cb wd 0 T d = chunk N l h wu cw cb wd 0 T d := by
  simp [part]

/-- Each sum is the one before and the next chunk. -/
theorem part_succ (c : Fin 4) (hc : c.val ≠ 0) (T : Fin 16384) (d : Fin 1024) :
    part N l h wu cw cb wd (c.val - 1) T d + chunk N l h wu cw cb wd c T d = part N l h wu cw cb wd c.val T d := by
  match c, hc with
  | 1, _ => simp [part]
  | 2, _ => simp [part]
  | 3, _ => simp [part]

/-- The place in its tile of the token in row `R`. -/
def place (R : ℕ) : ℕ := 8 * (R % 128) + R / 128

/-- A place lies in the tile. -/
theorem place_lt (R : Fin 1024) : place R.val < 1024 := by unfold place; omega

/-- Only the first row holds the first token. -/
theorem place_pos (R : Fin 1024) (h : R.val ≠ 0) : place R.val ≠ 0 := by unfold place; omega

/-- Only the last row holds the last token. -/
theorem place_not_last (R : Fin 1024) (h : R.val ≠ 1023) : place R.val ≠ 1023 := by
  unfold place
  have := R.isLt
  by_cases h7 : R.val / 128 = 7 <;> omega

/-- The row before any but the first lies in the tile. -/
theorem beforeRow_inner (R : Fin 1024) (h : R.val ≠ 0) : beforeRow R.val < 1024 := by
  unfold beforeRow; split_ifs <;> omega

/-- The row after any but the last lies in the tile. -/
theorem afterRow_inner (R : Fin 1024) (h : R.val ≠ 1023) : afterRow R.val < 1024 := by
  unfold afterRow; split_ifs <;> omega

/-- The row before holds the token before. -/
theorem place_before (R : Fin 1024) (h : R.val ≠ 0) : place (beforeRow R.val) + 1 = place R.val := by
  unfold place beforeRow; split_ifs <;> omega

/-- The row after holds the token after. -/
theorem place_after (R : Fin 1024) (h : R.val ≠ 1023) : place (afterRow R.val) = place R.val + 1 := by
  unfold place afterRow; split_ifs <;> omega

/-- The token in row `R` of tile `i`. -/
def token (i : Fin 16) (R : Fin 1024) : Fin 16384 := ⟨1024 * i.val + place R.val, by have := place_lt R; omega⟩

/-- A scratch that holds tile `i` and the tokens beside it in their sequence of `N`. -/
structure Holds (i : Fin 16) (hh : Vec Ideal S1040x1024 .bf16) : Prop where
  row : ∀ (R : Fin 1024) (d : Fin 1024), hh (ix2 ⟨R.val, by omega⟩ d) = h (ix2 (token i R) d)
  before : ∀ d : Fin 1024, hh (ix2 1024 d) = if 1024 * i.val % N = 0 then 0 else h (ix2 ⟨1024 * i.val - 1, by omega⟩ d)
  after : ∀ d : Fin 1024, hh (ix2 1025 d) = if (1024 * i.val + 1024) % N = 0 then 0 else
    h (ix2 ⟨(1024 * i.val + 1024) % 16384, by omega⟩ d)

variable {h} {i : Fin 16} {hh : Vec Ideal S1040x1024 .bf16} (hN : N = 2048 ∨ N = 4096) (H : Holds N h i hh) {w : Vec Ideal S1x1024x1024 .bf16} {n : Fin 1024 → Fin 8192}
  (hw : ∀ d k : Fin 1024, w (ix3 0 d k) = wu (ix3 l d (n k)))
include H hw

/-- A row of the tile times a block of weights. -/
theorem row_up (R k : Fin 1024) : row hh w ⟨R.val, by omega⟩ k = up l h wu (token i R) (n k) := by
  unfold row up
  simp only [H.row, hw]

include hN

/-- The row before. -/
theorem row_before (R k : Fin 1024) : row hh w ⟨beforeRow R.val, beforeRow_lt R⟩ k = upBefore N l h wu (token i R) (n k) := by
  have hR := place_lt R
  have hi := i.isLt
  by_cases h0 : R.val = 0
  · rw [show (⟨beforeRow R.val, beforeRow_lt R⟩ : Fin 1040) = 1024 from Fin.ext (by show beforeRow R.val = 1024; rw [h0]; rfl)]
    have hp : place R.val = 0 := by rw [h0]; rfl
    unfold row upBefore
    simp only [H.before, hw]
    by_cases h2 : 1024 * i.val % N = 0
    · rw [if_pos (show (token i R).val % N = 0 by show (1024 * i.val + place R.val) % N = 0; rw [hp]; exact h2)]
      simp only [if_pos h2, zero_mul, Finset.sum_const_zero]
    · rw [if_neg (show ¬(token i R).val % N = 0 by show ¬(1024 * i.val + place R.val) % N = 0; rw [hp]; exact h2)]
      simp only [if_neg h2]
      refine Finset.sum_congr rfl fun d _ => congrArg (· * _) (congrArg h (congrArg (ix2 · d) (Fin.ext ?_)))
      show 1024 * i.val - 1 = 1024 * i.val + place R.val - 1
      omega
  · have hb := beforeRow_inner R h0
    have e := place_before R h0
    have hp := place_pos R h0
    rw [show (⟨beforeRow R.val, beforeRow_lt R⟩ : Fin 1040) = ⟨(⟨beforeRow R.val, hb⟩ : Fin 1024).val, by omega⟩ from rfl,
      row_up N l wu H hw]
    unfold upBefore
    rw [if_neg (show ¬(token i R).val % N = 0 by
      show ¬(1024 * i.val + place R.val) % N = 0; rcases hN with rfl | rfl <;> omega)]
    refine congrArg (up l h wu · _) (Fin.ext ?_)
    show 1024 * i.val + place (beforeRow R.val) = 1024 * i.val + place R.val - 1
    omega

/-- The row after. -/
theorem row_after (R k : Fin 1024) : row hh w ⟨afterRow R.val, afterRow_lt R⟩ k = upAfter N l h wu (token i R) (n k) := by
  have hR := place_lt R
  have hi := i.isLt
  by_cases h0 : R.val = 1023
  · rw [show (⟨afterRow R.val, afterRow_lt R⟩ : Fin 1040) = 1025 from Fin.ext (by show afterRow R.val = 1025; rw [h0]; rfl)]
    have hp : place R.val = 1023 := by rw [h0]; rfl
    unfold row upAfter
    simp only [H.after, hw]
    by_cases h2 : (1024 * i.val + 1024) % N = 0
    · rw [if_pos (show ((token i R).val + 1) % N = 0 by show (1024 * i.val + place R.val + 1) % N = 0; rw [hp]; exact h2)]
      simp only [if_pos h2, zero_mul, Finset.sum_const_zero]
    · rw [if_neg (show ¬((token i R).val + 1) % N = 0 by show ¬(1024 * i.val + place R.val + 1) % N = 0; rw [hp]; exact h2)]
      simp only [if_neg h2]
      refine Finset.sum_congr rfl fun d _ => congrArg (· * _) (congrArg h (congrArg (ix2 · d) (Fin.ext ?_)))
      show (1024 * i.val + 1024) % 16384 = (1024 * i.val + place R.val + 1) % 16384
      omega
  · have hb := afterRow_inner R h0
    have e := place_after R h0
    have hp := place_not_last R h0
    rw [show (⟨afterRow R.val, afterRow_lt R⟩ : Fin 1040) = ⟨(⟨afterRow R.val, hb⟩ : Fin 1024).val, by omega⟩ from rfl,
      row_up N l wu H hw]
    unfold upAfter
    rw [if_neg (show ¬((token i R).val + 1) % N = 0 by
      show ¬(1024 * i.val + place R.val + 1) % N = 0; rcases hN with rfl | rfl <;> omega)]
    refine congrArg (up l h wu · _) (Fin.ext ?_)
    show 1024 * i.val + place (afterRow R.val) = (1024 * i.val + place R.val + 1) % 16384
    omega

/-- The convolution of a row of the tile. -/
theorem conv_mixed {cwb : Vec Ideal S1x3x1024 .f32} {cbb : Vec Ideal S1x1024 .f32}
    (hcw : ∀ (j : Fin 3) (k : Fin 1024), cwb (ix3 0 j k) = cw (ix3 l j (n k))) (hcb : ∀ k : Fin 1024, cbb (ix2 0 k) = cb (ix2 0 (n k)))
    (R k : Fin 1024) : conv hh w cwb cbb R k = mixed N l h wu cw cb (token i R) (n k) := by
  unfold conv mixed
  rw [row_before N l wu hN H hw, row_up N l wu H hw, row_after N l wu hN H hw]
  simp only [hcw, hcb]

omit hw
omit H
omit hN

/-- The contribution of a block of the columns is that chunk of the token's sum. -/
theorem contribution_chunk (l : Fin 2) (wu : Vec Ideal S2x1024x8192 .bf16) (cw : Vec Ideal S2x3x8192 .f32) (cb : Vec Ideal S1x8192 .f32)
    (wd : Vec Ideal S2x4096x1024 .bf16) {N : ℕ} (hN : N = 2048 ∨ N = 4096) (H : Holds N h i hh) (c : Fin 4) (wg wv : Vec Ideal S1x1024x1024 .bf16)
    (cg cv : Vec Ideal S1x3x1024 .f32) (bg bv : Vec Ideal S1x1024 .f32) (wdb : Vec Ideal S1x1024x1024 .bf16)
    (hwg : ∀ d k : Fin 1024, wg (ix3 0 d k) = wu (ix3 l d ⟨1024 * c.val + k.val, by omega⟩))
    (hwv : ∀ d k : Fin 1024, wv (ix3 0 d k) = wu (ix3 l d ⟨4096 + (1024 * c.val + k.val), by omega⟩))
    (hcg : ∀ (j : Fin 3) (k : Fin 1024), cg (ix3 0 j k) = cw (ix3 l j ⟨1024 * c.val + k.val, by omega⟩))
    (hcv : ∀ (j : Fin 3) (k : Fin 1024), cv (ix3 0 j k) = cw (ix3 l j ⟨4096 + (1024 * c.val + k.val), by omega⟩))
    (hbg : ∀ k : Fin 1024, bg (ix2 0 k) = cb (ix2 0 ⟨1024 * c.val + k.val, by omega⟩))
    (hbv : ∀ k : Fin 1024, bv (ix2 0 k) = cb (ix2 0 ⟨4096 + (1024 * c.val + k.val), by omega⟩))
    (hwd : ∀ k d : Fin 1024, wdb (ix3 0 k d) = wd (ix3 l ⟨1024 * c.val + k.val, by omega⟩ d)) (R d : Fin 1024) :
    contribution hh wg wv cg cv bg bv wdb R d = chunk N l h wu cw cb wd c (token i R) d := by
  unfold contribution chunk gated
  refine Finset.sum_congr rfl fun k _ => ?_
  rw [conv_mixed _ l wu cw cb hN H (n := fun k => ⟨1024 * c.val + k.val, by omega⟩) hwg hcg hbg,
    conv_mixed _ l wu cw cb hN H (n := fun k => ⟨4096 + (1024 * c.val + k.val), by omega⟩) hwv hcv hbv, hwd]

/-- The row of the tile that holds the token at place `T`. -/
theorem token_slabRow (T : Fin 1024) : token i (slabRow T) = ⟨1024 * i.val + T.val, by omega⟩ := by
  refine Fin.ext (congrArg (1024 * i.val + ·) ?_)
  show place (128 * (T.val % 8) + T.val / 8) = T.val
  unfold place
  omega

end Cert.FfnIdeal.Tokens

end
-- ==== Proof.Ffn.Held.lean ====
/-
  The tile the first point of a row of the grid leaves for the others: 1024 rows of tokens in slabs, the token before the tile in row
  1024 and the token after it in row 1025, both zero at the ends of a sequence; and what that point adds to its accumulator.
-/
module

public import proofs.«01_k».proof.Proof.Ffn.Block
public import proofs.«01_k».proof.Proof.Ffn.Tile

@[expose] public section

noncomputable section

namespace Cert.FfnIdeal.Block

open Cert.FfnIdeal Cert.FfnIdeal.Gen Idealize.ShloMosaic

variable
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : cond0_0 i) (hc1 :
    ¬cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32)

/-- What is left in the scratch, as the last of the stores made. -/
theorem held_canon :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11
      = View.canon (kernelRun0_A.sl.HS0_2 c i arg2 harg2 arg3 harg3 arg4 harg4 arg17 x0 x1 x2) := by
  unfold sout0_A_0
  rw [View.read_writes_junk_eq_canon]
  rfl

/-- What the first point reads back is what it leaves. -/
theorem held_read :
    kernelRun0_A.sl.v3 c i arg2 harg2 arg3 harg3 arg4 harg4 arg15 arg17 x0 x1 x2
      = sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 := by
  rw [held_canon]
  unfold kernelRun0_A.sl.v3
  rw [View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

/-- A row's first point starts the accumulator at zero. -/
theorem acc_A (R d : Fin 1024) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 R d)
      = contribution (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11) x4 x5 x6 x7 x8 x9 x10 R d := by
  unfold sout0_A_1
  rw [View.read_writes_junk_eq_canon]
  unfold kernelRun0_A
  dsimp only
  simp (disch := decide) only [View.canon_cons_unit_lit', kernelRun0_A.sl.v286, kernelRun0_A.sl.HS1_1, View.readCov_unit_lit']
  simp (disch := decide) only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, held_read, View.readAt_eq_ld,
    View.ld_unit_lit', Memref.IsWhole.read_unread]
  rw [accumulate]
  simp only [gate, value]
  have e := held_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11
  have z : (k0_pay123 : FVec Ideal S1024x1024 .f32) (ix2 R d) = 0 := by
    pointwise [k0_pay123]
  rw [z, zero_add, ← e]
  rfl

/-- Row `R` of the first 1024: a token of the tile. -/
theorem held_token (R : Fin 1040) (d : Fin 1024) (hR : R.val < 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 R d)
      = x1 (ix2 ⟨8 * (R.val % 128) + R.val / 128, by omega⟩ d) := by
  rw [held_canon]
  unfold kernelRun0_A.sl.HS0_2
  rw [View.canon_cons_of_not_mem _ _ (by
    rw [Rect.mem_set_unit]
    intro h
    have h' : 1024 ≤ R.val := (h 0).1
    omega)]
  rw [show (ix2 R d : S1040x1024.Idx) = (Rect.unit (s := S1040x1024) ![0, 0] S1024x1024.size (by decide)).emb
      (ix2 (⟨R.val, hR⟩ : Fin 1024) d) from by
    funext a
    apply Fin.ext
    match a with
    | ⟨0, _⟩ => show R.val = 0 + 1 * R.val; omega
    | ⟨1, _⟩ => show d.val = 0 + 1 * d.val; omega]
  exact (View.canon_cons_emb _ _ _ _).trans (Tile.tile c arg3 harg3 arg17 x1 ⟨R.val, hR⟩ d)

/-- Whether a tile begins its sequence. -/
theorem first_tile (n : ℕ) (hn : n < 16) (a b : EReal) :
    Scalar.select (Scalar.cmpi CmpIPredicate.eq (Scalar.remsi (Scalar.muli (BitVec.ofNat 32 n) 1024#32) 2048#32) 0#32) a b
      = if n % 2 = 0 then a else b := by
  have h : ∀ j : Fin 16, Scalar.cmpi CmpIPredicate.eq (Scalar.remsi (Scalar.muli (BitVec.ofNat 32 j.val) 1024#32) 2048#32) 0#32
      = if j.val % 2 = 0 then 1#1 else 0#1 := by
    decide +kernel
  rw [h ⟨n, hn⟩]
  dsimp only
  split_ifs <;> rfl

/-- Whether a tile ends its sequence. -/
theorem last_tile (n : ℕ) (hn : n < 16) (a b : EReal) :
    Scalar.select (Scalar.cmpi CmpIPredicate.eq (Scalar.addi (Scalar.remsi (Scalar.muli (BitVec.ofNat 32 n) 1024#32) 2048#32)
      1024#32) 2048#32) a b = if n % 2 = 1 then a else b := by
  have h : ∀ j : Fin 16, Scalar.cmpi CmpIPredicate.eq (Scalar.addi (Scalar.remsi (Scalar.muli (BitVec.ofNat 32 j.val) 1024#32)
      2048#32) 1024#32) 2048#32 = if j.val % 2 = 1 then 1#1 else 0#1 := by
    decide +kernel
  rw [h ⟨n, hn⟩]
  dsimp only
  split_ifs <;> rfl

/-- Row 1024: the token before the tile. -/
theorem held_before (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 1024 d)
      = if (i 0).val % 2 = 0 then 0 else x0 (ix2 15 d) := by
  rw [held_canon]
  unfold kernelRun0_A.sl.HS0_2
  rw [show (ix2 1024 d : S1040x1024.Idx) = (Rect.unit (s := S1040x1024) ![1024, 0] S16x1024.size (by decide)).emb
      (ix2 (0 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay122]
  rw [View.readAt_eq_ld, Memref.IsWhole.read_unread]
  refine (first_tile (i 0).val (i 0).isLt _ _).trans (congrArg₂ (ite _) ?_ ?_)
  · show Ideal.ieee 8 23 0x00000000#32 = 0
    simp [Ideal.ieee]
  · refine congrArg x0 ?_
    funext a
    apply Fin.ext
    match a with
    | ⟨0, _⟩ => rfl
    | ⟨1, _⟩ => show 0 + 1 * d.val = d.val; omega

/-- Row 1025: the token after the tile. -/
theorem held_after (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 1025 d)
      = if (i 0).val % 2 = 1 then 0 else x2 (ix2 0 d) := by
  rw [held_canon]
  unfold kernelRun0_A.sl.HS0_2
  rw [show (ix2 1025 d : S1040x1024.Idx) = (Rect.unit (s := S1040x1024) ![1024, 0] S16x1024.size (by decide)).emb
      (ix2 (1 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay122]
  rw [View.readAt_eq_ld, Memref.IsWhole.read_unread]
  refine (last_tile (i 0).val (i 0).isLt _ _).trans (congrArg₂ (ite _) ?_ ?_)
  · show Ideal.ieee 8 23 0x00000000#32 = 0
    simp [Ideal.ieee]
  · refine congrArg x2 ?_
    funext a
    apply Fin.ext
    match a with
    | ⟨0, _⟩ => rfl
    | ⟨1, _⟩ => show 0 + 1 * d.val = d.val; omega

end Cert.FfnIdeal.Block

end
-- ==== Proof.Ffn.Blocks.lean ====
/-
  The blocks the feed-forward kernel's grid points read, as parts of the arrays they stand in.
-/
module

public import proofs.«01_k».proof.Proof.Ffn.Tokens
public import proofs.«01_k».proof.Proof.Ffn.Held
public import Idealize.ShloMosaic.Lib.Pipeline.Value
public import Idealize.ShloMosaic.Lib.Tactic

@[expose] public section

noncomputable section

namespace Cert.FfnIdeal.Array

open Cert.FfnIdeal Cert.FfnIdeal.Gen Cert.FfnIdeal.Block Cert.FfnIdeal.Tokens Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arrays as the kernel's call finds them: the normalised tokens, the tokens themselves, the weights. -/
abbrev H (c : Dev nD) : Vec Ideal S16384x1024 .bf16 := V m c main_v2
abbrev X (c : Dev nD) : Vec Ideal S16384x1024 .f32 := V m c main_v3
abbrev WU (c : Dev nD) : Vec Ideal S2x1024x8192 .bf16 := V m c main_v0
abbrev CW (c : Dev nD) : Vec Ideal S2x3x8192 .f32 := V m c main_arg3
abbrev CB (c : Dev nD) : Vec Ideal S1x8192 .f32 := V m c main_v6
abbrev WD (c : Dev nD) : Vec Ideal S2x4096x1024 .bf16 := V m c main_v1
abbrev G (c : Dev nD) : Vec Ideal S1x1024 .f32 := V m c main_v9

/-- The grid has 64 points. -/
theorem lt64 (t : Fin cfg0.N) : t.val < 64 := t.isLt.trans_eq N_0

/-- The tile of grid point `t`, and its block of the columns. -/
def tileOf (t : Fin cfg0.N) : Fin 16 := ⟨t.val / 4, by have := lt64 t; omega⟩
/-- The block of gated columns a grid point adds. -/
def chunkOf (t : Fin cfg0.N) : Fin 4 := ⟨t.val % 4, by omega⟩

/-- The tile a grid point works on, read off its coordinates. -/
theorem coords_tile : ∀ t : Fin cfg0.N, (grid0.coords t 0).val = t.val / 4 :=
  (by decide +kernel : ∀ t : Fin grid0.N, _)

/-- Where the windows on tokens stand at grid point `t`. -/
theorem places : ∀ t : Fin cfg0.N,
    (win0_0.index t 0 = 64 * (t.val / 4) - 1 ∧ win0_0.index t 1 = 0)
    ∧ (win0_1.index t 0 = t.val / 4 ∧ win0_1.index t 1 = 0)
    ∧ (win0_2.index t 0 = min (64 * (t.val / 4 + 1)) 1023 ∧ win0_2.index t 1 = 0)
    ∧ (win0_3.index t 0 = t.val / 4 ∧ win0_3.index t 1 = 0)
    ∧ (win0_12.index t 0 = t.val / 4 ∧ win0_12.index t 1 = 0) :=
  (by decide +kernel : ∀ t : Fin grid0.N, _)

/-- Where the windows on weights stand at grid point `t`. -/
theorem weightPlaces : ∀ t : Fin cfg0.N,
    (win0_4.index t 0 = 1 ∧ win0_4.index t 1 = 0 ∧ win0_4.index t 2 = t.val % 4)
    ∧ (win0_5.index t 0 = 1 ∧ win0_5.index t 1 = 0 ∧ win0_5.index t 2 = 4 + t.val % 4)
    ∧ (win0_6.index t 0 = 1 ∧ win0_6.index t 1 = 0 ∧ win0_6.index t 2 = t.val % 4)
    ∧ (win0_7.index t 0 = 1 ∧ win0_7.index t 1 = 0 ∧ win0_7.index t 2 = 4 + t.val % 4)
    ∧ (win0_8.index t 0 = 0 ∧ win0_8.index t 1 = t.val % 4)
    ∧ (win0_9.index t 0 = 0 ∧ win0_9.index t 1 = 4 + t.val % 4)
    ∧ (win0_10.index t 0 = 1 ∧ win0_10.index t 1 = t.val % 4 ∧ win0_10.index t 2 = 0)
    ∧ (win0_11.index t 0 = 0 ∧ win0_11.index t 1 = 0) :=
  (by decide +kernel : ∀ t : Fin grid0.N, _)

/-- The last row of the block before the tile. -/
theorem before_block (c : Dev nD) (t : Fin cfg0.N) (d : Fin 1024) (hi : (tileOf t).val % 2 ≠ 0) :
    (iblk m c 0 t : Vec Ideal S16x1024 .bf16) (ix2 15 d) = H m c (ix2 ⟨1024 * (tileOf t).val - 1, by have := lt64 t; omega⟩ d) := by
  have ht := lt64 t
  have hi' : t.val / 4 % 2 ≠ 0 := hi
  unfold iblk
  rw [View.read_apply]
  show V m c main_v2 _ = V m c main_v2 _
  congr 1
  funext a
  apply Fin.ext
  match a with
  | ⟨0, _⟩ => show win0_0.index t 0 * 16 + 1 * 15 = 1024 * (t.val / 4) - 1; rw [(places t).1.1]; omega
  | ⟨1, _⟩ => show win0_0.index t 1 * 1024 + 1 * d.val = d.val; rw [(places t).1.2]; omega

/-- The tile. -/
theorem tile_block (c : Dev nD) (t : Fin cfg0.N) (r d : Fin 1024) :
    (iblk m c 1 t : Vec Ideal S1024x1024 .bf16) (ix2 r d) = H m c (ix2 ⟨1024 * (tileOf t).val + r.val, by omega⟩ d) := by
  have ht := lt64 t
  unfold iblk
  rw [View.read_apply]
  show V m c main_v2 _ = V m c main_v2 _
  congr 1
  funext a
  apply Fin.ext
  match a with
  | ⟨0, _⟩ => show win0_1.index t 0 * 1024 + 1 * r.val = 1024 * (t.val / 4) + r.val; rw [(places t).2.1.1]; omega
  | ⟨1, _⟩ => show win0_1.index t 1 * 1024 + 1 * d.val = d.val; rw [(places t).2.1.2]; omega

/-- The first row of the block after the tile. -/
theorem after_block (c : Dev nD) (t : Fin cfg0.N) (d : Fin 1024) (hi : (tileOf t).val % 2 ≠ 1) :
    (iblk m c 2 t : Vec Ideal S16x1024 .bf16) (ix2 0 d) = H m c (ix2 ⟨(1024 * (tileOf t).val + 1024) % 16384, by omega⟩ d) := by
  have ht := lt64 t
  have hi' : t.val / 4 % 2 ≠ 1 := hi
  unfold iblk
  rw [View.read_apply]
  show V m c main_v2 _ = V m c main_v2 _
  congr 1
  funext a
  apply Fin.ext
  match a with
  | ⟨0, _⟩ => show win0_2.index t 0 * 16 + 1 * 0 = (1024 * (t.val / 4) + 1024) % 16384; rw [(places t).2.2.1.1]; omega
  | ⟨1, _⟩ => show win0_2.index t 1 * 1024 + 1 * d.val = d.val; rw [(places t).2.2.1.2]; omega

/-- The tile of the tokens themselves. -/
theorem residual_block (c : Dev nD) (t : Fin cfg0.N) (r d : Fin 1024) :
    (iblk m c 3 t : Vec Ideal S1024x1024 .f32) (ix2 r d) = X m c (ix2 ⟨1024 * (tileOf t).val + r.val, by omega⟩ d) := by
  have ht := lt64 t
  unfold iblk
  rw [View.read_apply]
  show V m c main_v3 _ = V m c main_v3 _
  congr 1
  funext a
  apply Fin.ext
  match a with
  | ⟨0, _⟩ => show win0_3.index t 0 * 1024 + 1 * r.val = 1024 * (t.val / 4) + r.val; rw [(places t).2.2.2.1.1]; omega
  | ⟨1, _⟩ => show win0_3.index t 1 * 1024 + 1 * d.val = d.val; rw [(places t).2.2.2.1.2]; omega

/-- The gate columns of the up-projection. -/
theorem gate_weights (c : Dev nD) (t : Fin cfg0.N) (d k : Fin 1024) :
    (iblk m c 4 t : Vec Ideal S1x1024x1024 .bf16) (ix3 0 d k) = WU m c (ix3 1 d ⟨1024 * (chunkOf t).val + k.val, by omega⟩) := by
  have ht := lt64 t
  unfold iblk
  rw [View.read_apply]
  show V m c main_v0 _ = V m c main_v0 _
  congr 1
  funext a
  apply Fin.ext
  match a with
  | ⟨0, _⟩ => show win0_4.index t 0 * 1 + 1 * 0 = 1; rw [(weightPlaces t).1.1]
  | ⟨1, _⟩ => show win0_4.index t 1 * 1024 + 1 * d.val = d.val; rw [(weightPlaces t).1.2.1]; omega
  | ⟨2, _⟩ => show win0_4.index t 2 * 1024 + 1 * k.val = 1024 * (t.val % 4) + k.val; rw [(weightPlaces t).1.2.2]; omega

/-- The value columns of the up-projection. -/
theorem value_weights (c : Dev nD) (t : Fin cfg0.N) (d k : Fin 1024) :
    (iblk m c 5 t : Vec Ideal S1x1024x1024 .bf16) (ix3 0 d k) = WU m c (ix3 1 d ⟨4096 + (1024 * (chunkOf t).val + k.val), by omega⟩) := by
  have ht := lt64 t
  unfold iblk
  rw [View.read_apply]
  show V m c main_v0 _ = V m c main_v0 _
  congr 1
  funext a
  apply Fin.ext
  match a with
  | ⟨0, _⟩ => show win0_5.index t 0 * 1 + 1 * 0 = 1; rw [(weightPlaces t).2.1.1]
  | ⟨1, _⟩ => show win0_5.index t 1 * 1024 + 1 * d.val = d.val; rw [(weightPlaces t).2.1.2.1]; omega
  | ⟨2, _⟩ => show win0_5.index t 2 * 1024 + 1 * k.val = 4096 + (1024 * (t.val % 4) + k.val); rw [(weightPlaces t).2.1.2.2]; omega

/-- The convolution's weights for the gate columns. -/
theorem gate_taps (c : Dev nD) (t : Fin cfg0.N) (j : Fin 3) (k : Fin 1024) :
    (iblk m c 6 t : Vec Ideal S1x3x1024 .f32) (ix3 0 j k) = CW m c (ix3 1 j ⟨1024 * (chunkOf t).val + k.val, by omega⟩) := by
  have ht := lt64 t
  unfold iblk
  rw [View.read_apply]
  show V m c main_arg3 _ = V m c main_arg3 _
  congr 1
  funext a
  apply Fin.ext
  match a with
  | ⟨0, _⟩ => show win0_6.index t 0 * 1 + 1 * 0 = 1; rw [(weightPlaces t).2.2.1.1]
  | ⟨1, _⟩ => show win0_6.index t 1 * 3 + 1 * j.val = j.val; rw [(weightPlaces t).2.2.1.2.1]; omega
  | ⟨2, _⟩ => show win0_6.index t 2 * 1024 + 1 * k.val = 1024 * (t.val % 4) + k.val; rw [(weightPlaces t).2.2.1.2.2]; omega

/-- The convolution's weights for the value columns. -/
theorem value_taps (c : Dev nD) (t : Fin cfg0.N) (j : Fin 3) (k : Fin 1024) :
    (iblk m c 7 t : Vec Ideal S1x3x1024 .f32) (ix3 0 j k) = CW m c (ix3 1 j ⟨4096 + (1024 * (chunkOf t).val + k.val), by omega⟩) := by
  have ht := lt64 t
  unfold iblk
  rw [View.read_apply]
  show V m c main_arg3 _ = V m c main_arg3 _
  congr 1
  funext a
  apply Fin.ext
  match a with
  | ⟨0, _⟩ => show win0_7.index t 0 * 1 + 1 * 0 = 1; rw [(weightPlaces t).2.2.2.1.1]
  | ⟨1, _⟩ => show win0_7.index t 1 * 3 + 1 * j.val = j.val; rw [(weightPlaces t).2.2.2.1.2.1]; omega
  | ⟨2, _⟩ => show win0_7.index t 2 * 1024 + 1 * k.val = 4096 + (1024 * (t.val % 4) + k.val); rw [(weightPlaces t).2.2.2.1.2.2]; omega

/-- The convolution's bias for the gate columns. -/
theorem gate_bias (c : Dev nD) (t : Fin cfg0.N) (k : Fin 1024) :
    (iblk m c 8 t : Vec Ideal S1x1024 .f32) (ix2 0 k) = CB m c (ix2 0 ⟨1024 * (chunkOf t).val + k.val, by omega⟩) := by
  have ht := lt64 t
  unfold iblk
  rw [View.read_apply]
  show V m c main_v6 _ = V m c main_v6 _
  congr 1
  funext a
  apply Fin.ext
  match a with
  | ⟨0, _⟩ => show win0_8.index t 0 * 1 + 1 * 0 = 0; rw [(weightPlaces t).2.2.2.2.1.1]
  | ⟨1, _⟩ => show win0_8.index t 1 * 1024 + 1 * k.val = 1024 * (t.val % 4) + k.val; rw [(weightPlaces t).2.2.2.2.1.2]; omega

/-- The convolution's bias for the value columns. -/
theorem value_bias (c : Dev nD) (t : Fin cfg0.N) (k : Fin 1024) :
    (iblk m c 9 t : Vec Ideal S1x1024 .f32) (ix2 0 k) = CB m c (ix2 0 ⟨4096 + (1024 * (chunkOf t).val + k.val), by omega⟩) := by
  have ht := lt64 t
  unfold iblk
  rw [View.read_apply]
  show V m c main_v6 _ = V m c main_v6 _
  congr 1
  funext a
  apply Fin.ext
  match a with
  | ⟨0, _⟩ => show win0_9.index t 0 * 1 + 1 * 0 = 0; rw [(weightPlaces t).2.2.2.2.2.1.1]
  | ⟨1, _⟩ => show win0_9.index t 1 * 1024 + 1 * k.val = 4096 + (1024 * (t.val % 4) + k.val); rw [(weightPlaces t).2.2.2.2.2.1.2]; omega

/-- The rows of the down-projection. -/
theorem down_weights (c : Dev nD) (t : Fin cfg0.N) (k d : Fin 1024) :
    (iblk m c 10 t : Vec Ideal S1x1024x1024 .bf16) (ix3 0 k d) = WD m c (ix3 1 ⟨1024 * (chunkOf t).val + k.val, by omega⟩ d) := by
  have ht := lt64 t
  unfold iblk
  rw [View.read_apply]
  show V m c main_v1 _ = V m c main_v1 _
  congr 1
  funext a
  apply Fin.ext
  match a with
  | ⟨0, _⟩ => show win0_10.index t 0 * 1 + 1 * 0 = 1; rw [(weightPlaces t).2.2.2.2.2.2.1.1]
  | ⟨1, _⟩ => show win0_10.index t 1 * 1024 + 1 * k.val = 1024 * (t.val % 4) + k.val; rw [(weightPlaces t).2.2.2.2.2.2.1.2.1]; omega
  | ⟨2, _⟩ => show win0_10.index t 2 * 1024 + 1 * d.val = d.val; rw [(weightPlaces t).2.2.2.2.2.2.1.2.2]; omega

/-- The gain of the norm. -/
theorem gain_block (c : Dev nD) (t : Fin cfg0.N) (d : Fin 1024) :
    (iblk m c 11 t : Vec Ideal S1x1024 .f32) (ix2 0 d) = G m c (ix2 0 d) := by
  have ht := lt64 t
  unfold iblk
  rw [View.read_apply]
  show V m c main_v9 _ = V m c main_v9 _
  congr 1
  funext a
  apply Fin.ext
  match a with
  | ⟨0, _⟩ => show win0_11.index t 0 * 1 + 1 * 0 = 0; rw [(weightPlaces t).2.2.2.2.2.2.2.1]
  | ⟨1, _⟩ => show win0_11.index t 1 * 1024 + 1 * d.val = d.val; rw [(weightPlaces t).2.2.2.2.2.2.2.2]; omega

end Cert.FfnIdeal.Array

end
-- ==== Proof.Ffn.Array.lean ====
/-
  The array the feed-forward kernel leaves. The grid has four points for each tile of 1024 tokens; each adds the contribution of 1024
  of the 4096 gated columns to the tile's accumulator, and the last writes the tile's block of the result.
-/
module

public import proofs.«01_k».proof.Proof.Ffn.Blocks

@[expose] public section

noncomputable section

namespace Cert.FfnIdeal.Array

open Cert.FfnIdeal Cert.FfnIdeal.Gen Cert.FfnIdeal.Block Cert.FfnIdeal.Tokens Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The sum over the first columns, of the arrays the call finds. -/
abbrev sumTo (c : Dev nD) (n : ℕ) (T : Fin 16384) (d : Fin 1024) : EReal := part 2048 1 (H m c) (WU m c) (CW m c) (CB m c) (WD m c) n T d

/-- What a grid point adds, over a scratch that holds its tile. -/
theorem adds (c : Dev nD) (t : Fin cfg0.N) (hh : Vec Ideal S1040x1024 .bf16) (hH : Holds 2048 (H m c) (tileOf t) hh) (R d : Fin 1024) :
    contribution hh (iblk m c 4 t) (iblk m c 5 t) (iblk m c 6 t) (iblk m c 7 t) (iblk m c 8 t) (iblk m c 9 t) (iblk m c 10 t) R d
      = chunk 2048 1 (H m c) (WU m c) (CW m c) (CB m c) (WD m c) (chunkOf t) (token (tileOf t) R) d :=
  contribution_chunk 1 (WU m c) (CW m c) (CB m c) (WD m c) (.inl rfl) hH (chunkOf t) _ _ _ _ _ _ _ (gate_weights m c t) (value_weights m c t)
    (gate_taps m c t) (value_taps m c t) (gate_bias m c t) (value_bias m c t) (down_weights m c t) R d

/-- What the scratches hold after a grid point: the tile with its neighbours, and the sum so far. -/
structure Inv (c : Dev nD) (t : Fin cfg0.N) : Prop where
  holds : Holds 2048 (H m c) (tileOf t) (outsAt0 m c t.val t.isLt).2.1
  sum : ∀ R d : Fin 1024, (outsAt0 m c t.val t.isLt).2.2 (ix2 R d) = sumTo m c (t.val % 4) (token (tileOf t) R) d

/-- The first point of a tile fills the scratch … -/
theorem first_holds (c : Dev nD) (t : Fin cfg0.N) (h0 : t.val % 4 = 0) (h1 : ¬t.val % 4 = 3) :
    Holds 2048 (H m c) (tileOf t) (outsAt0 m c t.val t.isLt).2.1 := by
  simp only [outsAt0_A m c t h0 h1]
  refine ⟨fun R d => ?_, fun d => ?_, fun d => ?_⟩
  · refine (held_token _ _ _ _ _ _ _ _ _ _ _ _ _ _ _ _ _ _ _ _ _ _ _ _ _ _ _ _ _ _ _ _ _ _ _ _ _ _ _ _ _ _ _ _ _ _ _ _ ⟨R.val, by omega⟩ d R.isLt).trans ?_
    exact tile_block m c t _ d
  · refine (held_before _ _ _ _ _ _ _ _ _ _ _ _ _ _ _ _ _ _ _ _ _ _ _ _ _ _ _ _ _ _ _ _ _ _ _ _ _ _ _ _ _ _ _ _ _ _ _ _ d).trans ?_
    rw [coords_tile t]
    have e : 1024 * (tileOf t).val % 2048 = 0 ↔ t.val / 4 % 2 = 0 := by show 1024 * (t.val / 4) % 2048 = 0 ↔ _; omega
    by_cases hi : t.val / 4 % 2 = 0
    · rw [if_pos hi]; exact (if_pos (e.2 hi)).symm
    · rw [if_neg hi]; exact (before_block m c t d hi).trans (if_neg (hi ∘ e.1)).symm
  · refine (held_after _ _ _ _ _ _ _ _ _ _ _ _ _ _ _ _ _ _ _ _ _ _ _ _ _ _ _ _ _ _ _ _ _ _ _ _ _ _ _ _ _ _ _ _ _ _ _ _ d).trans ?_
    rw [coords_tile t]
    have e : (1024 * (tileOf t).val + 1024) % 2048 = 0 ↔ t.val / 4 % 2 = 1 := by show (1024 * (t.val / 4) + 1024) % 2048 = 0 ↔ _; omega
    by_cases hi : t.val / 4 % 2 = 1
    · rw [if_pos hi, if_pos (e.2 hi)]
    · rw [if_neg hi, if_neg (hi ∘ e.1)]; exact after_block m c t d hi

/-- … and starts the sum. -/
theorem first (c : Dev nD) (t : Fin cfg0.N) (h0 : t.val % 4 = 0) (h1 : ¬t.val % 4 = 3) : Inv m c t where
  holds := first_holds m c t h0 h1
  sum R d := by
    have hH := first_holds m c t h0 h1
    simp only [outsAt0_A m c t h0 h1] at hH ⊢
    refine (acc_A _ _ _ _ _ _ _ _ _ _ _ _ _ _ _ _ _ _ _ _ _ _ _ _ _ _ _ _ _ _ _ _ _ _ _ _ _ _ _ _ _ _ _ _ _ _ _ _ R d).trans ?_
    refine (adds m c t _ hH R d).trans ?_
    rw [show chunkOf t = 0 from Fin.ext h0, h0]
    exact (part_zero _ _ _ _ _ _ _ _ d).symm

/-- A point in the middle adds its contribution. -/
theorem middle (c : Dev nD) (t : Fin cfg0.N) (h0 : ¬t.val % 4 = 0) (h1 : ¬t.val % 4 = 3)
    (hI : Inv m c ⟨t.val - 1, Nat.lt_of_le_of_lt (Nat.sub_le _ _) t.isLt⟩) : Inv m c t := by
  have hT : tileOf ⟨t.val - 1, Nat.lt_of_le_of_lt (Nat.sub_le _ _) t.isLt⟩ = tileOf t :=
    Fin.ext (by show (t.val - 1) / 4 = t.val / 4; omega)
  have hn : (t.val - 1) % 4 = t.val % 4 - 1 := by omega
  have hH := hI.holds
  have hS := hI.sum
  rw [hT] at hH
  rw [hT] at hS
  constructor
  · rw [outsAt0_B m c t h0 h1]
    exact hH
  · intro R d
    simp only [outsAt0_B m c t h0 h1]
    refine (acc_B _ _ _ _ _ _ _ _ _ _ _ _ _ _ _ _ _ _ _ _ _ _ _ _ _ _ _ _ _ _ _ _ _ _ _ _ _ _ _ _ _ _ _ _ _ _ _ _ _ _ R d).trans ?_
    refine (congrArg₂ (· + ·) (hS R d) (adds m c t _ hH R d)).trans ?_
    show part _ _ _ _ _ _ _ ((t.val - 1) % 4) _ d + _ = _
    rw [hn]
    exact part_succ _ _ _ _ _ _ _ (chunkOf t) h0 _ d

/-- What the scratches hold before the last point of a tile. -/
theorem inv (c : Dev nD) : ∀ (n : ℕ) (hn : n < cfg0.N), n % 4 ≠ 3 → Inv m c ⟨n, hn⟩
  | 0, hn, _ => first m c ⟨0, hn⟩ rfl (by show ¬0 % 4 = 3; decide)
  | n + 1, hn, h => by
    by_cases h0 : (n + 1) % 4 = 0
    · exact first m c ⟨n + 1, hn⟩ h0 h
    · exact middle m c ⟨n + 1, hn⟩ h0 h (inv c n (Nat.lt_of_succ_lt hn) (by omega))

/-- The whole output array as a function of the arrays. -/
def whole (h : Vec Ideal S16384x1024 .bf16) (x : Vec Ideal S16384x1024 .f32) (wu : Vec Ideal S2x1024x8192 .bf16) (cw : Vec Ideal S2x3x8192 .f32)
    (cb : Vec Ideal S1x8192 .f32) (wd : Vec Ideal S2x4096x1024 .bf16) (g : Vec Ideal S1x1024 .f32) : Vec Ideal S16384x1024 .f32 := fun i =>
  x (ix2 (i 0) (i 1)) + normed (fun k => part 2048 1 h wu cw cb wd 3 (i 0) k) (fun k => g (ix2 0 k)) (i 1)

/-- The last point of a tile writes the tile's part of the result. -/
theorem last (c : Dev nD) (t : Fin cfg0.N) (h0 : ¬t.val % 4 = 0) (h1 : t.val % 4 = 3) (r d : Fin 1024) :
    (outsAt0 m c t.val t.isLt).1 (ix2 r d)
      = whole (H m c) (X m c) (WU m c) (CW m c) (CB m c) (WD m c) (G m c) (ix2 ⟨1024 * (tileOf t).val + r.val, by omega⟩ d) := by
  have hI : Inv m c ⟨t.val - 1, Nat.lt_of_le_of_lt (Nat.sub_le _ _) t.isLt⟩ := inv m c _ _ (by omega)
  have hT : tileOf ⟨t.val - 1, Nat.lt_of_le_of_lt (Nat.sub_le _ _) t.isLt⟩ = tileOf t :=
    Fin.ext (by show (t.val - 1) / 4 = t.val / 4; omega)
  have hn : (t.val - 1) % 4 = 2 := by omega
  have hH := hI.holds
  have hS := hI.sum
  rw [hT] at hH
  rw [hT] at hS
  simp only [outsAt0_C m c t h0 h1]
  refine (out_C _ _ _ _ _ _ _ _ _ _ _ _ _ _ _ _ _ _ _ _ _ _ _ _ _ _ _ _ _ _ _ _ _ _ _ _ _ _ _ _ _ _ _ _ _ _ _ _ _ _ r d).trans ?_
  refine congrArg₂ (· + ·) (residual_block m c t r d) ?_
  refine congrArg₂ (normed · · d) (funext fun k => ?_) (funext fun k => gain_block m c t k)
  refine (congrArg₂ (· + ·) (hS (slabRow r) k) (adds m c t _ hH (slabRow r) k)).trans ?_
  show part _ _ _ _ _ _ _ ((t.val - 1) % 4) _ k + _ = _
  rw [hn, token_slabRow, show chunkOf t = 3 from Fin.ext h1]
  exact part_succ _ _ _ _ _ _ _ 3 (by decide) _ k

/-- What a grid point writes back is its block of `whole`. -/
theorem flushed_eq (c : Dev nD) (t : Fin cfg0.N) (hf : (cfg0.win 12).flush t = true) :
    (dats m 0 c).flushed 12 t
      = ((cfg0.win 12).blk t).view.read (Elt Ideal) (whole (H m c) (X m c) (WU m c) (CW m c) (CB m c) (WD m c) (G m c)) := by
  have h1 : t.val % 4 = 3 := (flush0_12 t).mp hf
  show (cfg0.win 12).cut (grid0.coords t) ((dats m 0 c).after 12 t) = _
  rw [after0_12]
  funext j
  obtain ⟨r, d, rfl⟩ : ∃ (r d : Fin 1024), j = ix2 r d := ⟨j 0, j 1, eq_ix2 j⟩
  rw [View.read_apply]
  have ht := lt64 t
  refine (last m c t (by omega) h1 r d).trans ?_
  show whole _ _ _ _ _ _ _ (ix2 _ _) = _
  congr 1
  funext a
  apply Fin.ext
  match a with
  | ⟨0, _⟩ => show _ = win0_12.index t 0 * 1024 + 1 * r.val; rw [(places t).2.2.2.2.1]; show 1024 * (t.val / 4) + r.val = _; omega
  | ⟨1, _⟩ => show d.val = win0_12.index t 1 * 1024 + 1 * d.val; rw [(places t).2.2.2.2.2]; omega

/-- The array after the run. -/
theorem final (c : Dev nD) :
    (dats m 0 c).arrAt 12 cfg0.N = whole (H m c) (X m c) (WU m c) (CW m c) (CB m c) (WD m c) (G m c) :=
  (dats m 0 c).arrAt_eq_of_cover 12 _ (flushed_eq m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = 4 * ((i 0 : Nat) / 1024) + 3 :=
      ⟨⟨4 * ((i 0 : Nat) / 1024) + 3, by rw [hN]; omega⟩, rfl⟩
    refine ⟨t, (flush0_12 t).mpr (by omega), ?_⟩
    show i ∈ ((View.whole main_v10).slice (win0_12.rect t)).set
    rw [View.set_slice_whole, Rect.mem_set_unit]
    intro a
    match a with
    | ⟨0, _⟩ =>
      show win0_12.index t 0 * 1024 ≤ (i 0 : Nat) ∧ (i 0 : Nat) < win0_12.index t 0 * 1024 + 1024
      rw [(places t).2.2.2.2.1]; omega
    | ⟨1, _⟩ =>
      show win0_12.index t 1 * 1024 ≤ (i 1 : Nat) ∧ (i 1 : Nat) < win0_12.index t 1 * 1024 + 1024
      rw [(places t).2.2.2.2.2]; omega

/-- The run: afterwards the result's buffer holds the array above, and the arguments are as they were. -/
theorem run_array : θ_run defs (onTc (τ := τ) (main (F := Ideal))) ⟨m, fun _ => 0, ρ⟩ fun r => ∀ c : Dev nD,
      r.2.mem ((c : Thread nD τ).loc main_v10) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 12,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.FfnIdeal.Array

end
-- ==== Proof.Ffn.Host.lean ====
/-
  The arrays that the host code prepares for the feed-forward kernel: the batch and the sequence merged into one axis, the second
  layer's bias and gain as rows; the weights as they are.
-/
module

public import proofs.«01_k».proof.Proof.Ffn.Array
public import Idealize.ShloMosaic.Lib.StableHlo.Run
public import Idealize.ShloMosaic.Lib.StableHlo.RunRead

@[expose] public section

noncomputable section

namespace Cert.FfnIdeal.Host

open Cert.FfnIdeal Cert.FfnIdeal.Gen Cert.FfnIdeal.Array Idealize.ShloMosaic Idealize.ShloMosaic.TcCoe Idealize.SL.Sem

variable (m : (ℓ : Loc nD τ sig) → Buf (Elt Ideal) ℓ)

/-- The normalised tokens. -/
theorem H_apply (c : Dev nD) (T : Fin 16384) (d : Fin 1024) :
    H m c (ix2 T d) = m ((c : Thread nD τ).loc main_arg0) (ix3 ⟨T.val / 2048, by omega⟩ ⟨T.val % 2048, by omega⟩ d) := by
  unfold_abbrev_sides
  after_reads_simp
  pointwise

/-- The tokens themselves. -/
theorem X_apply (c : Dev nD) (T : Fin 16384) (d : Fin 1024) :
    X m c (ix2 T d) = m ((c : Thread nD τ).loc main_arg1) (ix3 ⟨T.val / 2048, by omega⟩ ⟨T.val % 2048, by omega⟩ d) := by
  unfold_abbrev_sides
  after_reads_simp
  pointwise

/-- The up-projection. -/
theorem WU_eq (c : Dev nD) : WU m c = m ((c : Thread nD τ).loc main_arg2) := by
  unfold_abbrev_sides
  after_reads_simp
  rfl

/-- The convolution's weights. -/
theorem CW_eq (c : Dev nD) : CW m c = m ((c : Thread nD τ).loc main_arg3) := V_main_arg3 m c

/-- The convolution's bias. -/
theorem CB_apply (c : Dev nD) (n : Fin 8192) : CB m c (ix2 0 n) = m ((c : Thread nD τ).loc main_arg4) (ix2 1 n) := by
  unfold_abbrev_sides
  after_reads_simp
  pointwise

/-- The down-projection. -/
theorem WD_eq (c : Dev nD) : WD m c = m ((c : Thread nD τ).loc main_arg5) := by
  unfold_abbrev_sides
  after_reads_simp
  rfl

/-- The gain of the norm. -/
theorem G_apply (c : Dev nD) (d : Fin 1024) : G m c (ix2 0 d) = m ((c : Thread nD τ).loc main_arg6) (ix2 1 d) := by
  unfold_abbrev_sides
  after_reads_simp
  pointwise

end Cert.FfnIdeal.Host

end
-- ==== Proof.Ffn.Gelu.lean ====
/-
  The two forms of the gelu: the kernel's quotient by one plus a power of two, and the reference's hyperbolic tangent.
-/
module

public import proofs.«01_k».proof.Proof.Ffn.Conv

@[expose] public section

noncomputable section

namespace Cert.FfnIdeal.Gelu

open Cert.FfnIdeal Cert.FfnIdeal.Block Idealize.ShloMosaic

/-- The two factors inside the reference's hyperbolic tangent. -/
def outer : EReal := Ideal.ofBits FTy.f32 0x3F4C422A#32

/-- The float32 word of 0.044715. -/
def cubic : EReal := Ideal.ofBits FTy.f32 0x3D372713#32

/-- The gelu as the reference computes it. -/
def tanhGelu (x : EReal) : EReal :=
  x * (Ideal.ofBits FTy.f32 0x3F000000#32 * (1 + Ideal.tanh (outer * (x + cubic * (x * x * x)))))

/-- The word of sqrt(2/pi) as a fraction. -/
theorem outer_eq : outer = ((6693141 / 8388608 : ℝ) : EReal) := by
  unfold outer
  show Ideal.ieee 8 23 (0x3F4C422A#32) = _
  simp [Ideal.ieee]
  rw [← EReal.coe_mul]
  norm_num

/-- The word of 0.044715 as a fraction. -/
theorem cubic_eq : cubic = ((12003091 / 268435456 : ℝ) : EReal) := by
  unfold cubic
  show Ideal.ieee 8 23 (0x3D372713#32) = _
  simp [Ideal.ieee]
  rw [← EReal.coe_mul]
  norm_num

/-- The word of one half. -/
theorem half_eq : Ideal.ofBits FTy.f32 0x3F000000#32 = ((1 / 2 : ℝ) : EReal) := by
  show Ideal.ieee 8 23 (0x3F000000#32) = _
  simp [Ideal.ieee]
  rw [← EReal.coe_mul]
  norm_num

/-- The value of the constant `gelu3`. -/
theorem gelu3_eq : Named.named (F := Ideal) (φ := .f32) κ "gelu3" 0xBDD2D3E8#32
    = ((-80338380498831 / 1125899906842624 * (Real.log 2)⁻¹ : ℝ) : EReal) := rfl

/-- The value of the constant `gelu1`. -/
theorem gelu1_eq : Named.named (F := Ideal) (φ := .f32) κ "gelu1" 0xC0135761#32
    = ((-6693141 / 4194304 * (Real.log 2)⁻¹ : ℝ) : EReal) := rfl

/-- The two forms on a real number. -/
theorem real_eq (x : ℝ) (K1 K3 B A : ℝ) (h1 : K1 * Real.log 2 = -2 * B) (h3 : K3 * Real.log 2 = -2 * B * A) :
    x / (1 + Real.rpow 2 (x * (x * x * K3 + K1))) = x * (1 / 2 * (1 + Real.tanh (B * (x + A * (x * x * x))))) := by
  have e : Real.rpow 2 (x * (x * x * K3 + K1)) = Real.exp (-2 * (B * (x + A * (x * x * x)))) := by
    show (2 : ℝ) ^ (x * (x * x * K3 + K1)) = _
    rw [Real.rpow_def_of_pos two_pos]
    congr 1
    linear_combination x * h1 + x * x * x * h3
  rw [e]
  generalize B * (x + A * (x * x * x)) = u
  rw [Real.tanh_eq_sinh_div_cosh, Real.sinh_eq, Real.cosh_eq, show -2 * u = -u - u by ring, Real.exp_sub, Real.exp_neg]
  have hp := Real.exp_pos u
  generalize Real.exp u = p at hp
  field_simp
  ring

/-- The logarithm of two is positive. -/
theorem log_two_pos : 0 < Real.log 2 := Real.log_pos one_lt_two

/-- The two forms agree on every extended real. -/
theorem gelu_eq (x : EReal) : gelu x = tanhGelu x := by
  have hl := log_two_pos
  unfold gelu tanhGelu
  rw [outer_eq, cubic_eq, half_eq, gelu3_eq, gelu1_eq]
  have n3 : (-80338380498831 / 1125899906842624 * (Real.log 2)⁻¹ : ℝ) < 0 :=
    mul_neg_of_neg_of_pos (by norm_num) (inv_pos.mpr hl)
  have h3 : (-80338380498831 / 1125899906842624 * (Real.log 2)⁻¹ : ℝ) * Real.log 2 = -2 * (6693141 / 8388608) * (12003091 / 268435456) := by
    rw [mul_assoc, inv_mul_cancel₀ hl.ne']
    norm_num
  have h1 : (-6693141 / 4194304 * (Real.log 2)⁻¹ : ℝ) * Real.log 2 = -2 * (6693141 / 8388608) := by
    rw [mul_assoc, inv_mul_cancel₀ hl.ne']
    norm_num
  generalize (-80338380498831 / 1125899906842624 * (Real.log 2)⁻¹ : ℝ) = K3 at n3 h3 ⊢
  generalize (-6693141 / 4194304 * (Real.log 2)⁻¹ : ℝ) = K1 at h1 ⊢
  have pB : (0 : ℝ) < 6693141 / 8388608 := by norm_num
  have pA : (0 : ℝ) < 12003091 / 268435456 := by norm_num
  generalize (6693141 / 8388608 : ℝ) = B at *
  generalize (12003091 / 268435456 : ℝ) = A at *
  induction x with
  | bot =>
    rw [EReal.bot_mul_bot, EReal.top_mul_coe_of_neg n3, EReal.bot_add, EReal.bot_mul_bot, EReal.top_mul_bot, EReal.coe_mul_bot_of_pos pA,
      EReal.bot_add, EReal.coe_mul_bot_of_pos pB]
    show Ideal.div ⊥ (1 + ⊤) = ⊥ * (_ * (1 + (-1 : EReal)))
    rw [show (1 : EReal) + -1 = 0 from by
      rw [← EReal.coe_one, ← EReal.coe_neg, ← EReal.coe_add]; norm_num, mul_zero, mul_zero]
    rw [show (1 : EReal) + ⊤ = ⊤ from EReal.coe_add_top 1]
    unfold Ideal.div
    rw [if_neg EReal.top_ne_zero, EReal.inv_top, mul_zero]
  | top =>
    rw [EReal.top_mul_top, EReal.top_mul_coe_of_neg n3, EReal.bot_add, EReal.top_mul_bot, EReal.top_mul_top, EReal.coe_mul_top_of_pos pA,
      EReal.top_add_top, EReal.coe_mul_top_of_pos pB]
    show Ideal.div ⊤ (1 + 0) = ⊤ * (_ * (1 + (1 : EReal)))
    rw [add_zero, show ((1 / 2 : ℝ) : EReal) * (1 + 1) = 1 from by
      rw [← EReal.coe_one, ← EReal.coe_add, ← EReal.coe_mul]; norm_num, mul_one]
    unfold Ideal.div
    rw [if_neg one_ne_zero, inv_one, mul_one]
  | coe x =>
    have e := real_eq x K1 K3 B A h1 h3
    have hp : (0 : ℝ) < 1 + Real.rpow 2 (x * (x * x * K3 + K1)) :=
      add_pos one_pos (Real.rpow_pos_of_pos two_pos _)
    rw [← EReal.coe_mul, ← EReal.coe_mul, ← EReal.coe_add, ← EReal.coe_mul, ← EReal.coe_mul, ← EReal.coe_mul, ← EReal.coe_add, ← EReal.coe_mul]
    show Ideal.div (x : EReal) (((1 : ℝ) : EReal) + ((Real.rpow 2 (x * (x * x * K3 + K1)) : ℝ) : EReal))
      = (x : EReal) * (((1 / 2 : ℝ) : EReal) * (((1 : ℝ) : EReal) + ((Real.tanh (B * (x + A * (x * x * x))) : ℝ) : EReal)))
    rw [← EReal.coe_add, ← EReal.coe_add, ← EReal.coe_mul, ← EReal.coe_mul, Ideal.div_coe hp.ne', ← EReal.coe_mul, ← e, mul_one_div]

end Cert.FfnIdeal.Gelu

end
-- ==== Proof.Ffn.Plain.lean ====
/-
  The feed-forward block of layer `l`, written plainly: the up-projection, the convolution over three tokens of a sequence, the gated
  columns and the down-projection, of `B` sequences of `S` tokens.
-/
module

public import proofs.«01_k».proof.Proof.Ffn.Gelu
public import proofs.«01_k».proof.Proof.Ffn.Last

@[expose] public section

noncomputable section

namespace Cert.FeedForward.Plain

open Cert.FfnIdeal Idealize.ShloMosaic
open Cert.FfnIdeal.Gelu (tanhGelu)

variable (l : Fin 2) {B S : ℕ} (x0 : Fin B → Fin S → Fin 1024 → EReal) (x2 : Vec Ideal S2x1024x8192 .f32) (x3 : Vec Ideal S2x3x8192 .f32)
  (x4 : Vec Ideal S2x8192 .f32) (x5 : Vec Ideal S2x4096x1024 .f32)

/-- Column `n` of the up-projection of token `s` of sequence `b`. -/
def up (b : Fin B) (s : Fin S) (n : Fin 8192) : EReal := ∑ d : Fin 1024, x0 b s d * x2 (ix3 l d n)

/-- The convolution of token `s` with its neighbours in its sequence. -/
def mixed (b : Fin B) (s : Fin S) (n : Fin 8192) : EReal :=
  x3 (ix3 l 0 n) * (if s.val = 0 then 0 else up l x0 x2 b ⟨s.val - 1, by omega⟩ n) + x3 (ix3 l 1 n) * up l x0 x2 b s n
    + x3 (ix3 l 2 n) * (if h : s.val + 1 = S then 0 else up l x0 x2 b ⟨s.val + 1, by omega⟩ n) + x4 (ix2 l n)

/-- Gated column `n`. -/
def gated (b : Fin B) (s : Fin S) (n : Fin 4096) : EReal :=
  tanhGelu (mixed l x0 x2 x3 x4 b s ⟨n.val, by omega⟩) * mixed l x0 x2 x3 x4 b s ⟨4096 + n.val, by omega⟩

/-- Column `d` of the down-projection. -/
def down (b : Fin B) (s : Fin S) (d : Fin 1024) : EReal := ∑ n : Fin 4096, gated l x0 x2 x3 x4 b s n * x5 (ix3 l n d)

end Cert.FeedForward.Plain

end
-- ==== Proof.Ffn.Reference.lean ====
/-
  What the feed-forward reference computes, element by element: the up-projection, the convolution over three tokens of a sequence,
  the gated columns, the down-projection and the norm.
-/
module

public import proofs.«01_k».proof.Proof.Gen.FfnReferenceIdeal.Run
public import proofs.«01_k».proof.Proof.Gen.FfnReferenceIdeal.Read
public import proofs.«01_k».proof.Proof.Ffn.Plain
public import Idealize.ShloMosaic.Lib.Pointwise

@[expose] public section

noncomputable section

namespace Cert.FfnReferenceIdeal.FeedForward

open Cert.FfnReferenceIdeal Cert.FfnReferenceIdeal.Gen Cert.FfnReferenceIdeal.Read Idealize.ShloMosaic Idealize.ShloMosaic.TcCoe Idealize.SL.Sem
open Cert.FeedForward.Plain (up mixed gated down)
open Cert.FfnIdeal.Block (normed)

variable (x0 : Vec Ideal S8x2048x1024 .bf16) (x1 : Vec Ideal S8x2048x1024 .f32) (x2 : Vec Ideal S2x1024x8192 .f32)
  (x3 : Vec Ideal S2x3x8192 .f32) (x4 : Vec Ideal S2x8192 .f32) (x5 : Vec Ideal S2x4096x1024 .f32) (x6 : Vec Ideal S2x1024 .f32)

/-- The normalised tokens by sequence and place. -/
abbrev toks (b : Fin 8) (s : Fin 2048) (d : Fin 1024) : EReal := x0 (ix3 b s d)

/-- The up-projection. -/
theorem projection (b : Fin 8) (s : Fin 2048) (n : Fin 8192) : val_main_v7 x0 x2 (ix3 b s n) = up 1 (toks x0) x2 b s n := by
  pointwise [val_main_v7, val_main_v6, val_main_v5, val_main_v4, up]

/-- The padding is zero. -/
theorem padding (i : S_.Idx) : val_main_call0_v0 (F := Ideal) i = 0 := by
  rw [val_main_call0_v0_apply]
  show (((0 : ℤ) : ℝ) : EReal) = 0
  simp

/-- The up-projection with a row of zeros at either end of a sequence. -/
theorem padded (b : Fin 8) (s : Fin 2050) (n : Fin 8192) :
    val_main_v8 x0 x2 (ix3 b s n) = if h : 1 ≤ s.val ∧ s.val - 1 < 2048 then up 1 (toks x0) x2 b ⟨s.val - 1, h.2⟩ n else 0 := by
  pointwise [val_main_v8]
  simp only [projection, padding]

/-- The convolution. -/
theorem convolution (b : Fin 8) (s : Fin 2048) (n : Fin 8192) :
    val_main_v31 x0 x2 x3 x4 (ix3 b s n) = mixed 1 (toks x0) x2 x3 x4 b s n := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_v3, val_main_v2, val_main_v1, val_main_v0]
  rw [padded, padded, padded]
  unfold mixed
  have hs := s.isLt
  refine congrArg (· + _) (congrArg₂ (· + ·) (congrArg₂ (· + ·) (congrArg (_ * ·) ?_) (congrArg (_ * ·) ?_)) (congrArg (_ * ·) ?_))
  · by_cases h : s.val = 0
    · rw [if_pos h, dif_neg (by simp only []; omega)]
    · rw [if_neg h, dif_pos ⟨by simp only []; omega, by simp only []; omega⟩]
  · rw [dif_pos ⟨by simp only []; omega, by simp only []; omega⟩]
    exact congrArg (up 1 (toks x0) x2 b · n) (Fin.ext (by show 1 + s.val - 1 = s.val; omega))
  · by_cases h : s.val + 1 = 2048
    · rw [dif_pos h, dif_neg (by simp only []; omega)]
    · rw [dif_neg h, dif_pos ⟨by simp only []; omega, by simp only []; omega⟩]
      exact congrArg (up 1 (toks x0) x2 b · n) (Fin.ext (by show 2 + s.val - 1 = s.val + 1; omega))

/-- The gated columns. -/
theorem gates (b : Fin 8) (s : Fin 2048) (n : Fin 4096) : val_main_v47 x0 x2 x3 x4 (ix3 b s n) = gated 1 (toks x0) x2 x3 x4 b s n := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_cst, val_main_cst_0,
    val_main_cst_1, val_main_cst_2]
  rw [convolution, convolution]
  rfl

/-- The down-projection. -/
theorem downs (b : Fin 8) (s : Fin 2048) (d : Fin 1024) : val_main_v50 x0 x2 x3 x4 x5 (ix3 b s d) = down 1 (toks x0) x2 x3 x4 x5 b s d := by
  pointwise [val_main_v50, val_main_v49, val_main_v48]
  simp only [gates]
  rfl

/-- The reference's result at token `T` of the batch. -/
theorem result_apply (T : Fin 16384) (d : Fin 1024) :
    val_main_v67 x0 x1 x2 x3 x4 x5 x6 (ix2 T d)
      = x1 (ix3 ⟨T.val / 2048, by omega⟩ ⟨T.val % 2048, by omega⟩ d)
        + normed (down 1 (toks x0) x2 x3 x4 x5 ⟨T.val / 2048, by omega⟩ ⟨T.val % 2048, by omega⟩) (fun k => x6 (ix2 1 k)) d := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_cst_3,
    val_main_cst_4, val_main_cst_5]
  simp only [downs]
  rfl

end Cert.FfnReferenceIdeal.FeedForward

end
-- ==== Proof.Ffn.Equation.lean ====
/-
  The feed-forward kernel's array is the reference's, token by token.
-/
module

public import proofs.«01_k».proof.Proof.Ffn.Host
public import proofs.«01_k».proof.Proof.Ffn.Reference

@[expose] public section

noncomputable section

namespace Cert.FeedForward

open Cert.FfnIdeal Cert.FfnIdeal.Block Idealize.ShloMosaic Idealize.ShloMosaic.TcCoe Idealize.SL.Sem

/-- A sum over 4096 columns, 1024 at a time. -/
theorem sum_chunks (f : Fin 4096 → EReal) :
    ∑ n, f n = (∑ k : Fin 1024, f ⟨1024 * 0 + k.val, by omega⟩) + (∑ k : Fin 1024, f ⟨1024 * 1 + k.val, by omega⟩)
      + (∑ k : Fin 1024, f ⟨1024 * 2 + k.val, by omega⟩) + ∑ k : Fin 1024, f ⟨1024 * 3 + k.val, by omega⟩ := by
  rw [← Equiv.sum_comp (finProdFinEquiv : Fin 4 × Fin 1024 ≃ Fin 4096) f, Fintype.sum_prod_type, Fin.sum_univ_four]
  have e (c : Fin 4) (k : Fin 1024) : f (finProdFinEquiv (c, k)) = f ⟨1024 * c.val + k.val, by omega⟩ :=
    congrArg f (Fin.ext (by show k.val + 1024 * c.val = _; exact Nat.add_comm _ _))
  simp only [e]
  rfl

variable {B S : ℕ} (hS : (B = 8 ∧ S = 2048) ∨ (B = 4 ∧ S = 4096))

/-- The sequence of a token, in a batch of eight sequences of 2048 tokens or of four of 4096. -/
abbrev seq (T : Fin 16384) : Fin B := ⟨T.val / S, by rcases hS with ⟨rfl, rfl⟩ | ⟨rfl, rfl⟩ <;> omega⟩

/-- The token's place in its sequence. -/
abbrev pos (T : Fin 16384) : Fin S := ⟨T.val % S, by rcases hS with ⟨rfl, rfl⟩ | ⟨rfl, rfl⟩ <;> omega⟩

variable (l : Fin 2) (x0 : Fin B → Fin S → Fin 1024 → EReal) (x2 : Vec Ideal S2x1024x8192 .f32)
  (x3 : Vec Ideal S2x3x8192 .f32) (x4 : Vec Ideal S2x8192 .f32) (x5 : Vec Ideal S2x4096x1024 .f32)
  {h : Vec Ideal S16384x1024 .bf16} {cb : Vec Ideal S1x8192 .f32}

section

variable (hh : ∀ (T : Fin 16384) (d : Fin 1024), h (ix2 T d) = x0 (seq hS T) (pos hS T) d)
include hh

/-- The up-projection of a token is that of its place in its sequence. -/
theorem up_eq (T : Fin 16384) (n : Fin 8192) :
    Tokens.up l h x2 T n = Plain.up l x0 x2 (seq hS T) (pos hS T) n := by
  unfold Tokens.up Plain.up
  simp only [hh]

/-- The token before is the one a place earlier in the sequence, if there is one. -/
theorem before_eq (T : Fin 16384) (n : Fin 8192) :
    Tokens.upBefore S l h x2 T n = if (pos hS T).val = 0 then 0 else
      Plain.up l x0 x2 (seq hS T) ⟨(pos hS T).val - 1, by omega⟩ n := by
  unfold Tokens.upBefore
  by_cases h0 : T.val % S = 0
  · rw [if_pos h0, if_pos h0]
  · rw [if_neg h0, if_neg h0, up_eq hS l x0 x2 hh]
    congr 1
    · exact Fin.ext (by show (T.val - 1) / S = T.val / S; rcases hS with ⟨-, rfl⟩ | ⟨-, rfl⟩ <;> omega)
    · exact Fin.ext (by show (T.val - 1) % S = T.val % S - 1; rcases hS with ⟨-, rfl⟩ | ⟨-, rfl⟩ <;> omega)

/-- The token after is the one a place later in the sequence, if there is one. -/
theorem after_eq (T : Fin 16384) (n : Fin 8192) :
    Tokens.upAfter S l h x2 T n = if hp : (pos hS T).val + 1 = S then 0 else
      Plain.up l x0 x2 (seq hS T) ⟨(pos hS T).val + 1, by omega⟩ n := by
  unfold Tokens.upAfter
  by_cases h0 : (T.val + 1) % S = 0
  · rw [if_pos h0, dif_pos (show T.val % S + 1 = S by rcases hS with ⟨-, rfl⟩ | ⟨-, rfl⟩ <;> omega)]
  · rw [if_neg h0, dif_neg (show ¬T.val % S + 1 = S by rcases hS with ⟨-, rfl⟩ | ⟨-, rfl⟩ <;> omega), up_eq hS l x0 x2 hh]
    congr 1
    · exact Fin.ext (by show (T.val + 1) % 16384 / S = T.val / S; rcases hS with ⟨-, rfl⟩ | ⟨-, rfl⟩ <;> omega)
    · exact Fin.ext (by show (T.val + 1) % 16384 % S = T.val % S + 1; rcases hS with ⟨-, rfl⟩ | ⟨-, rfl⟩ <;> omega)

variable (hcb : ∀ n : Fin 8192, cb (ix2 0 n) = x4 (ix2 l n))
include hcb

/-- The convolutions agree. -/
theorem mixed_eq (T : Fin 16384) (n : Fin 8192) :
    Tokens.mixed S l h x2 x3 cb T n = Plain.mixed l x0 x2 x3 x4 (seq hS T) (pos hS T) n := by
  unfold Tokens.mixed Plain.mixed
  rw [before_eq hS l x0 x2 hh, up_eq hS l x0 x2 hh, after_eq hS l x0 x2 hh, hcb]
  rw [add_comm _ (x4 _), ← add_assoc, ← add_assoc]

/-- The gated columns agree, by the two forms of the gelu. -/
theorem gated_eq (T : Fin 16384) (n : Fin 4096) :
    Tokens.gated S l h x2 x3 cb T n = Plain.gated l x0 x2 x3 x4 (seq hS T) (pos hS T) n := by
  unfold Tokens.gated Plain.gated
  rw [mixed_eq hS l x0 x2 x3 x4 hh hcb, mixed_eq hS l x0 x2 x3 x4 hh hcb, Gelu.gelu_eq]

/-- The four chunks together are the whole down-projection. -/
theorem part_eq (T : Fin 16384) (d : Fin 1024) :
    Tokens.part S l h x2 x3 cb x5 3 T d = Plain.down l x0 x2 x3 x4 x5 (seq hS T) (pos hS T) d := by
  unfold Plain.down
  rw [sum_chunks]
  unfold Tokens.part Tokens.chunk
  rw [if_pos (by decide), if_pos (by decide), if_pos (by decide)]
  simp only [gated_eq hS l x0 x2 x3 x4 hh hcb]
  rfl

end

variable (x0 : Vec Ideal S8x2048x1024 .bf16) (x1 : Vec Ideal S8x2048x1024 .f32) (x2 : Vec Ideal S2x1024x8192 .f32)
  (x3 : Vec Ideal S2x3x8192 .f32) (x4 : Vec Ideal S2x8192 .f32) (x5 : Vec Ideal S2x4096x1024 .f32) (x6 : Vec Ideal S2x1024 .f32)
  {h : Vec Ideal S16384x1024 .bf16} {x : Vec Ideal S16384x1024 .f32} {cb : Vec Ideal S1x8192 .f32} {g : Vec Ideal S1x1024 .f32}

/-- Eight sequences of 2048 tokens. -/
theorem prompts : (8 = 8 ∧ 2048 = 2048) ∨ (8 = 4 ∧ 2048 = 4096) := Or.inl ⟨rfl, rfl⟩

/-- The kernel's array, from the arguments, is the reference's result. -/
theorem equation (hh : ∀ (T : Fin 16384) (d : Fin 1024), h (ix2 T d) = x0 (ix3 (seq prompts T) (pos prompts T) d))
    (hx : ∀ (T : Fin 16384) (d : Fin 1024), x (ix2 T d) = x1 (ix3 (seq prompts T) (pos prompts T) d))
    (hcb : ∀ n : Fin 8192, cb (ix2 0 n) = x4 (ix2 1 n)) (hg : ∀ d : Fin 1024, g (ix2 0 d) = x6 (ix2 1 d)) :
    Array.whole h x x2 x3 cb x5 g = FfnReferenceIdeal.Read.val_main_v67 x0 x1 x2 x3 x4 x5 x6 := by
  funext i
  obtain ⟨T, d, rfl⟩ : ∃ (T : Fin 16384) (d : Fin 1024), i = ix2 T d := ⟨i 0, i 1, eq_ix2 i⟩
  rw [FfnReferenceIdeal.FeedForward.result_apply]
  refine congrArg₂ (· + ·) (hx T d) ?_
  exact congrArg₂ (normed · · d) (funext fun k => part_eq prompts 1 (FfnReferenceIdeal.FeedForward.toks x0) x2 x3 x4 x5 hh hcb T k) (funext hg)

end Cert.FeedForward

end
-- ==== Proof.Ffn.Claim.lean ====
/-
  The feed-forward kernel and its reference are equal over the reals.
-/
module

public import proofs.«01_k».proof.Defs
public import proofs.«01_k».proof.Proof.Ffn.Equation
public import Idealize.ShloMosaic.Adequacy
public import Idealize.ShloMosaic.Init

@[expose] public section

noncomputable section

namespace Cert.FeedForward

open Idealize.ShloMosaic Idealize.ShloMosaic.TcCoe Idealize.SL.Sem

/-- From the same arguments, whatever they are, the kernel and the reference end with the same array. -/
theorem algebraic : Cert.algebraic_FfnIdeal_FfnReferenceIdeal := by
  intro m ρ m' ρ' _ heq
  refine ⟨fun c => (Cert.FfnIdeal.Gen.dats m 0 c).arrAt 12 Cert.FfnIdeal.cfg0.N, Cert.FfnIdeal.Array.run_array m ρ, ?_⟩
  refine (θ_run Cert.FfnReferenceIdeal.defs _ _).mono (fun r h c => ⟨?_, (h c).2⟩)
    (Cert.FfnReferenceIdeal.Value.run (F := Ideal) m' ρ')
  obtain ⟨a0, a1, a2, a3, a4, a5, a6⟩ := heq c
  refine (h c).1.trans ?_
  refine (Cert.FfnReferenceIdeal.Read.val_main_v67_eq _ _).trans ?_
  rw [a0, a1, a2, a3, a4, a5, a6]
  show _ = (Cert.FfnIdeal.Gen.dats m 0 c).arrAt 12 Cert.FfnIdeal.cfg0.N
  rw [Cert.FfnIdeal.Array.final, Cert.FfnIdeal.Host.WU_eq, Cert.FfnIdeal.Host.CW_eq, Cert.FfnIdeal.Host.WD_eq]
  exact (equation _ _ _ _ _ _ _ (Cert.FfnIdeal.Host.H_apply m c) (Cert.FfnIdeal.Host.X_apply m c) (Cert.FfnIdeal.Host.CB_apply m c)
    (Cert.FfnIdeal.Host.G_apply m c)).symm

end Cert.FeedForward

end
-- ==== Proof.Ffn0.Frames.lean ====
/-
  The frames of the kernel of layer 0's feed-forward block and of its reference, and the named constants of the kernel's gelu.
-/
module

public import proofs.«01_k».proof.Defs
public import proofs.«01_k».proof.Proof.Gen.Ffn0.Frame
public import proofs.«01_k».proof.Proof.Gen.Ffn0Ideal.Frame
public import proofs.«01_k».proof.Proof.Gen.Ffn0ReferenceIdeal.Run
public import proofs.«01_k».proof.Proof.Gen.Ffn0ReferenceIdeal.Read
public import Idealize.ShloMosaic.Adequacy
public import Idealize.ShloMosaic.Init

@[expose] public section

noncomputable section

namespace Cert.FeedForward0

open Idealize.ShloMosaic Idealize.ShloMosaic.TcCoe Idealize.SL.Sem

/-- The kernel runs and leaves its arguments as they were. -/
theorem frame_kernel : Cert.quiescent_Ffn0 := fun m ρ _ => Cert.Ffn0.Gen.frame m ρ

/-- The same over the reals. -/
theorem frame_ideal : Cert.quiescent_Ffn0Ideal := fun m ρ _ => Cert.Ffn0Ideal.Gen.frame m ρ

/-- The reference runs and leaves its arguments as they were. -/
theorem frame_reference : Cert.quiescent_Ffn0ReferenceIdeal := fun m ρ _ =>
  (θ_run Cert.Ffn0ReferenceIdeal.defs _ _).mono (fun r h => ⟨fun c => (h c).2.2, sem_eq_zero_of_no_sems (by decide) r.2⟩)
    (Cert.Ffn0ReferenceIdeal.Value.run (F := Ideal) m ρ)

/-- The ideal kernel is the kernel with the two constants of its gelu named. -/
theorem preserves : Cert.preserves_Ffn0_Ffn0Ideal :=
  ⟨IdealRules.named_const.statement Cert.Ffn0Ideal.κ "gelu3" .f32 0xBDD2D3E8#32 _ rfl,
    IdealRules.named_const.statement Cert.Ffn0Ideal.κ "gelu1" .f32 0xC0135761#32 _ rfl⟩

end Cert.FeedForward0

end
-- ==== Proof.Ffn0.Same.lean ====
/-
  The call of layer 0's feed-forward block computes with the same operations as that of layer 1, so what is known of the one's
  values holds of the other's.
-/
module

public import proofs.«01_k».proof.Proof.Ffn.Last
public import proofs.«01_k».proof.Proof.Gen.Ffn0Ideal.Frame

@[expose] public section

noncomputable section

namespace Cert.FeedForward0

open Idealize.ShloMosaic

/-- The constants of the gelu are the same. -/
theorem same_constants : Ffn0Ideal.κ = FfnIdeal.κ := rfl

/-- The values of the two calls, one by one. -/
theorem same :
    Ffn0Ideal.Gen.k0_pay3 (F := Ideal) = FfnIdeal.Gen.k0_pay48 ∧
    Ffn0Ideal.Gen.k0_pay77 (F := Ideal) = FfnIdeal.Gen.k0_pay2 ∧
    Ffn0Ideal.Gen.k0_pay82 (F := Ideal) = FfnIdeal.Gen.k0_pay123 ∧
    Ffn0Ideal.Gen.k0_pay76 (F := Ideal) = FfnIdeal.Gen.k0_pay121 ∧
    Ffn0Ideal.Gen.k0_pay83 (F := Ideal) = FfnIdeal.Gen.k0_pay124 ∧
    Ffn0Ideal.Gen.k0_pay84 (F := Ideal) = FfnIdeal.Gen.k0_pay125 ∧
    Ffn0Ideal.Gen.k0_pay85 (F := Ideal) = FfnIdeal.Gen.k0_pay126 ∧
    Ffn0Ideal.Gen.k0_pay86 (F := Ideal) = FfnIdeal.Gen.k0_pay127 ∧
    Ffn0Ideal.Gen.k0_pay87 (F := Ideal) = FfnIdeal.Gen.k0_pay128 ∧
    Ffn0Ideal.Gen.k0_pay88 (F := Ideal) = FfnIdeal.Gen.k0_pay129 ∧
    Ffn0Ideal.Gen.k0_pay89 (F := Ideal) = FfnIdeal.Gen.k0_pay130 ∧
    Ffn0Ideal.Gen.k0_pay90 (F := Ideal) = FfnIdeal.Gen.k0_pay131 ∧
    Ffn0Ideal.Gen.k0_pay91 (F := Ideal) = FfnIdeal.Gen.k0_pay132 ∧
    Ffn0Ideal.Gen.k0_pay92 (F := Ideal) = FfnIdeal.Gen.k0_pay133 ∧
    Ffn0Ideal.Gen.k0_pay93 (F := Ideal) = FfnIdeal.Gen.k0_pay134 ∧
    Ffn0Ideal.Gen.k0_pay94 (F := Ideal) = FfnIdeal.Gen.k0_pay135 ∧
    Ffn0Ideal.Gen.k0_pay95 (F := Ideal) = FfnIdeal.Gen.k0_pay136 ∧
    Ffn0Ideal.Gen.k0_pay96 (F := Ideal) = FfnIdeal.Gen.k0_pay137 ∧
    Ffn0Ideal.Gen.k0_pay97 (F := Ideal) = FfnIdeal.Gen.k0_pay138 ∧
    Ffn0Ideal.Gen.k0_pay98 (F := Ideal) = FfnIdeal.Gen.k0_pay139 ∧
    Ffn0Ideal.Gen.k0_pay99 (F := Ideal) = FfnIdeal.Gen.k0_pay140 ∧
    Ffn0Ideal.Gen.k0_pay100 (F := Ideal) = FfnIdeal.Gen.k0_pay141 ∧
    Ffn0Ideal.Gen.k0_pay101 (F := Ideal) = FfnIdeal.Gen.k0_pay142 ∧
    Ffn0Ideal.Gen.k0_pay102 (F := Ideal) = FfnIdeal.Gen.k0_pay143 ∧
    Ffn0Ideal.Gen.k0_pay103 (F := Ideal) = FfnIdeal.Gen.k0_pay144 ∧
    Ffn0Ideal.Gen.k0_pay104 (F := Ideal) = FfnIdeal.Gen.k0_pay145 ∧
    Ffn0Ideal.Gen.k0_pay105 (F := Ideal) = FfnIdeal.Gen.k0_pay146 ∧
    Ffn0Ideal.Gen.k0_pay106 (F := Ideal) = FfnIdeal.Gen.k0_pay147 ∧
    Ffn0Ideal.Gen.k0_pay107 (F := Ideal) = FfnIdeal.Gen.k0_pay148 ∧
    Ffn0Ideal.Gen.k0_pay108 (F := Ideal) = FfnIdeal.Gen.k0_pay149 ∧
    Ffn0Ideal.Gen.k0_pay109 (F := Ideal) = FfnIdeal.Gen.k0_pay150 ∧
    Ffn0Ideal.Gen.k0_pay110 (F := Ideal) = FfnIdeal.Gen.k0_pay151 ∧
    Ffn0Ideal.Gen.k0_pay111 (F := Ideal) = FfnIdeal.Gen.k0_pay152 ∧
    Ffn0Ideal.Gen.k0_pay112 (F := Ideal) = FfnIdeal.Gen.k0_pay153 ∧
    Ffn0Ideal.Gen.k0_pay113 (F := Ideal) = FfnIdeal.Gen.k0_pay154 ∧
    Ffn0Ideal.Gen.k0_pay114 (F := Ideal) = FfnIdeal.Gen.k0_pay155 ∧
    Ffn0Ideal.Gen.k0_pay115 (F := Ideal) = FfnIdeal.Gen.k0_pay156 ∧
    Ffn0Ideal.Gen.k0_pay116 (F := Ideal) = FfnIdeal.Gen.k0_pay157 ∧
    Ffn0Ideal.Gen.k0_pay117 (F := Ideal) = FfnIdeal.Gen.k0_pay158 ∧
    Ffn0Ideal.Gen.k0_pay118 (F := Ideal) = FfnIdeal.Gen.k0_pay159 ∧
    Ffn0Ideal.Gen.k0_pay119 (F := Ideal) = FfnIdeal.Gen.k0_pay160 ∧
    Ffn0Ideal.Gen.k0_pay120 (F := Ideal) = FfnIdeal.Gen.k0_pay161 ∧
    Ffn0Ideal.Gen.k0_pay121 (F := Ideal) = FfnIdeal.Gen.k0_pay162 ∧
    Ffn0Ideal.Gen.k0_pay122 (F := Ideal) = FfnIdeal.Gen.k0_pay163 ∧
    Ffn0Ideal.Gen.k0_pay123 (F := Ideal) = FfnIdeal.Gen.k0_pay164 ∧
    Ffn0Ideal.Gen.k0_pay124 (F := Ideal) = FfnIdeal.Gen.k0_pay165 ∧
    Ffn0Ideal.Gen.k0_pay125 (F := Ideal) = FfnIdeal.Gen.k0_pay166 ∧
    Ffn0Ideal.Gen.k0_pay126 (F := Ideal) = FfnIdeal.Gen.k0_pay167 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The sum a grid point adds to. -/
theorem same_sum : Ffn0Ideal.Gen.k0_pay1 (F := Ideal) = FfnIdeal.Gen.k0_pay1 := by
  unfold Ffn0Ideal.Gen.k0_pay1 FfnIdeal.Gen.k0_pay1
  rw [same_constants]
  rfl

end Cert.FeedForward0

end
-- ==== Proof.Ffn0.Block.lean ====
/-
  What one grid point of layer 0's feed-forward call adds to its accumulator: the gated convolution of its block of columns times its
  block of the down-projection.
-/
module

public import proofs.«01_k».proof.Proof.Ffn0.Same
public import Idealize.ShloMosaic.Lib.Pipeline.ValueKit
public import Idealize.ShloMosaic.Lib.Pipeline.ReadBack

@[expose] public section

noncomputable section

namespace Cert.Ffn0Ideal.Block

open Cert.Ffn0Ideal Cert.Ffn0Ideal.Gen Idealize.ShloMosaic
open Cert.FeedForward0 (same same_sum)
open Cert.FfnIdeal.Block (contribution accumulate gate value)

/-- A middle point adds its contribution to the accumulator. -/
theorem acc_B
    (c : Dev nD) (i : grid0.Coords) (arg2 : Memref sig .tc .vmem S16x1024 .bf16) (harg2 : arg2.IsWhole) (arg3 :
    Memref sig .tc .vmem S1024x1024 .bf16) (harg3 : arg3.IsWhole) (arg4 : Memref sig .tc .vmem S16x1024 .bf16)
    (harg4 : arg4.IsWhole) (arg5 : Memref sig .tc .vmem S1024x1024 .f32) (harg5 : arg5.IsWhole) (arg6 : Memref sig
    .tc .vmem S1x1024x1024 .bf16) (harg6 : arg6.IsWhole) (arg7 : Memref sig .tc .vmem S1x1024x1024 .bf16) (harg7 :
    arg7.IsWhole) (arg8 : Memref sig .tc .vmem S1x3x1024 .f32) (harg8 : arg8.IsWhole) (arg9 : Memref sig .tc .vmem
    S1x3x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024x1024
    .bf16) (harg12 : arg12.IsWhole) (arg13 : Memref sig .tc .vmem S1x1024 .f32) (harg13 : arg13.IsWhole) (arg14 :
    Memref sig .tc .vmem S1x1024 .f32) (harg14 : arg14.IsWhole) (arg15 : Memref sig .tc .vmem S1024x1024 .f32)
    (harg15 : arg15.IsWhole) (arg16 : Memref sig .tc .vmem S1024x1024 .bf16) (harg16 : arg16.IsWhole) (arg17 :
    Memref sig .tc .vmem S1040x1024 .bf16) (harg17 : arg17.IsWhole) (arg18 : Memref sig .tc .vmem S1024x1024 .f32)
    (harg18 : arg18.IsWhole) (arg19 : Memref sig .tc .vmem S8x1024x128 .f32) (harg19 : arg19.IsWhole) (hc0 :
    ¬cond0_0 i) (hc1 : ¬cond0_1 i) (x0 : Vec Ideal S16x1024 .bf16) (x1 : Vec Ideal S1024x1024 .bf16) (x2 : Vec Ideal
    S16x1024 .bf16) (x3 : Vec Ideal S1024x1024 .f32) (x4 : Vec Ideal S1x1024x1024 .bf16) (x5 : Vec Ideal
    S1x1024x1024 .bf16) (x6 : Vec Ideal S1x3x1024 .f32) (x7 : Vec Ideal S1x3x1024 .f32) (x8 : Vec Ideal S1x1024
    .f32) (x9 : Vec Ideal S1x1024 .f32) (x10 : Vec Ideal S1x1024x1024 .bf16) (x11 : Vec Ideal S1x1024 .f32) (x12 :
    Vec Ideal S1x1024 .f32) (xs0 : Vec Ideal S1040x1024 .bf16) (xs1 : Vec Ideal S1024x1024 .f32)
    (R d : Fin 1024) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 (ix2 R d)
      = xs1 (ix2 R d) + contribution xs0 x4 x5 x6 x7 x8 x9 x10 R d := by
  frame_out
  simp only [same, same_sum]
  refine (accumulate _ _ _ _ _ _ _ _ _ _ _ _ _ _ _ _ _).trans ?_
  simp only [gate, value]
  rfl

/-- A last point adds its contribution to the accumulator. -/
theorem acc_C
    (c : Dev nD) (i : grid0.Coords) (arg2 : Memref sig .tc .vmem S16x1024 .bf16) (harg2 : arg2.IsWhole) (arg3 :
    Memref sig .tc .vmem S1024x1024 .bf16) (harg3 : arg3.IsWhole) (arg4 : Memref sig .tc .vmem S16x1024 .bf16)
    (harg4 : arg4.IsWhole) (arg5 : Memref sig .tc .vmem S1024x1024 .f32) (harg5 : arg5.IsWhole) (arg6 : Memref sig
    .tc .vmem S1x1024x1024 .bf16) (harg6 : arg6.IsWhole) (arg7 : Memref sig .tc .vmem S1x1024x1024 .bf16) (harg7 :
    arg7.IsWhole) (arg8 : Memref sig .tc .vmem S1x3x1024 .f32) (harg8 : arg8.IsWhole) (arg9 : Memref sig .tc .vmem
    S1x3x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024x1024
    .bf16) (harg12 : arg12.IsWhole) (arg13 : Memref sig .tc .vmem S1x1024 .f32) (harg13 : arg13.IsWhole) (arg14 :
    Memref sig .tc .vmem S1x1024 .f32) (harg14 : arg14.IsWhole) (arg15 : Memref sig .tc .vmem S1024x1024 .f32)
    (harg15 : arg15.IsWhole) (arg16 : Memref sig .tc .vmem S1024x1024 .bf16) (harg16 : arg16.IsWhole) (arg17 :
    Memref sig .tc .vmem S1040x1024 .bf16) (harg17 : arg17.IsWhole) (arg18 : Memref sig .tc .vmem S1024x1024 .f32)
    (harg18 : arg18.IsWhole) (arg19 : Memref sig .tc .vmem S8x1024x128 .f32) (harg19 : arg19.IsWhole) (hc0 :
    ¬cond0_0 i) (hc1 : cond0_1 i) (x0 : Vec Ideal S16x1024 .bf16) (x1 : Vec Ideal S1024x1024 .bf16) (x2 : Vec Ideal
    S16x1024 .bf16) (x3 : Vec Ideal S1024x1024 .f32) (x4 : Vec Ideal S1x1024x1024 .bf16) (x5 : Vec Ideal
    S1x1024x1024 .bf16) (x6 : Vec Ideal S1x3x1024 .f32) (x7 : Vec Ideal S1x3x1024 .f32) (x8 : Vec Ideal S1x1024
    .f32) (x9 : Vec Ideal S1x1024 .f32) (x10 : Vec Ideal S1x1024x1024 .bf16) (x11 : Vec Ideal S1x1024 .f32) (x12 :
    Vec Ideal S1x1024 .f32) (xs0 : Vec Ideal S1040x1024 .bf16) (xs1 : Vec Ideal S1024x1024 .f32)
    (R d : Fin 1024) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 (ix2 R d)
      = xs1 (ix2 R d) + contribution xs0 x4 x5 x6 x7 x8 x9 x10 R d := by
  frame_out
  simp only [same, same_sum]
  refine (accumulate _ _ _ _ _ _ _ _ _ _ _ _ _ _ _ _ _).trans ?_
  simp only [gate, value]
  rfl

end Cert.Ffn0Ideal.Block

end
-- ==== Proof.Ffn0.Held.lean ====
/-
  The tile the first point of a row of the grid leaves for the others: 1024 rows as they come, the token before the tile in row 1024
  and the token after it in row 1025, both zero at the ends of a sequence; and what that point adds to its accumulator.
-/
module

public import proofs.«01_k».proof.Proof.Ffn0.Block
public import proofs.«01_k».proof.Proof.Ffn.Held

@[expose] public section

noncomputable section

namespace Cert.Ffn0Ideal.Block

open Cert.Ffn0Ideal Cert.Ffn0Ideal.Gen Idealize.ShloMosaic
open Cert.FeedForward0 (same same_sum)
open Cert.FfnIdeal.Block (contribution accumulate gate value first_tile last_tile)

variable
    (c : Dev nD) (i : grid0.Coords) (arg2 : Memref sig .tc .vmem S16x1024 .bf16) (harg2 : arg2.IsWhole) (arg3 :
    Memref sig .tc .vmem S1024x1024 .bf16) (harg3 : arg3.IsWhole) (arg4 : Memref sig .tc .vmem S16x1024 .bf16)
    (harg4 : arg4.IsWhole) (arg5 : Memref sig .tc .vmem S1024x1024 .f32) (harg5 : arg5.IsWhole) (arg6 : Memref sig
    .tc .vmem S1x1024x1024 .bf16) (harg6 : arg6.IsWhole) (arg7 : Memref sig .tc .vmem S1x1024x1024 .bf16) (harg7 :
    arg7.IsWhole) (arg8 : Memref sig .tc .vmem S1x3x1024 .f32) (harg8 : arg8.IsWhole) (arg9 : Memref sig .tc .vmem
    S1x3x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024x1024
    .bf16) (harg12 : arg12.IsWhole) (arg13 : Memref sig .tc .vmem S1x1024 .f32) (harg13 : arg13.IsWhole) (arg14 :
    Memref sig .tc .vmem S1x1024 .f32) (harg14 : arg14.IsWhole) (arg15 : Memref sig .tc .vmem S1024x1024 .f32)
    (harg15 : arg15.IsWhole) (arg16 : Memref sig .tc .vmem S1024x1024 .bf16) (harg16 : arg16.IsWhole) (arg17 :
    Memref sig .tc .vmem S1040x1024 .bf16) (harg17 : arg17.IsWhole) (arg18 : Memref sig .tc .vmem S1024x1024 .f32)
    (harg18 : arg18.IsWhole) (arg19 : Memref sig .tc .vmem S8x1024x128 .f32) (harg19 : arg19.IsWhole) (hc0 : cond0_0
    i) (hc1 : ¬cond0_1 i) (x0 : Vec Ideal S16x1024 .bf16) (x1 : Vec Ideal S1024x1024 .bf16) (x2 : Vec Ideal S16x1024
    .bf16) (x3 : Vec Ideal S1024x1024 .f32) (x4 : Vec Ideal S1x1024x1024 .bf16) (x5 : Vec Ideal S1x1024x1024 .bf16)
    (x6 : Vec Ideal S1x3x1024 .f32) (x7 : Vec Ideal S1x3x1024 .f32) (x8 : Vec Ideal S1x1024 .f32) (x9 : Vec Ideal
    S1x1024 .f32) (x10 : Vec Ideal S1x1024x1024 .bf16) (x11 : Vec Ideal S1x1024 .f32) (x12 : Vec Ideal S1x1024 .f32)

/-- What is left in the scratch, as the last of the stores made. -/
theorem held_canon :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12
      = View.canon (kernelRun0_A.sl.HS0_2 c i arg2 harg2 arg3 harg3 arg4 harg4 x0 x1 x2) := by
  unfold sout0_A_0
  rw [View.read_writes_junk_eq_canon]
  rfl

/-- What the first point reads back is what it leaves. -/
theorem held_read :
    kernelRun0_A.sl.v3 c i arg2 harg2 arg3 harg3 arg4 harg4 arg17 x0 x1 x2
      = sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 := by
  rw [held_canon]
  unfold kernelRun0_A.sl.v3
  rw [View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

/-- A row's first point starts the accumulator at zero. -/
theorem acc_A (R d : Fin 1024) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 (ix2 R d)
      = contribution (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12) x4 x5 x6 x7 x8 x9 x10 R d := by
  unfold sout0_A_1
  rw [View.read_writes_junk_eq_canon]
  unfold kernelRun0_A
  dsimp only
  simp (disch := decide) only [View.canon_cons_unit_lit', kernelRun0_A.sl.v286, kernelRun0_A.sl.HS1_1, View.readCov_unit_lit']
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, held_read, View.readAt_eq_ld,
    View.ld_unit_lit', Memref.IsWhole.read_unread]
  simp only [same, same_sum]
  refine (accumulate _ _ _ _ _ _ _ _ _ _ _ _ _ _ _ _ _).trans ?_
  simp only [gate, value]
  have e := held_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12
  have z : (Cert.FfnIdeal.Gen.k0_pay123 : FVec Ideal S1024x1024 .f32) (ix2 R d) = 0 := by
    pointwise [Cert.FfnIdeal.Gen.k0_pay123]
  rw [z, zero_add, ← e]
  rfl

/-- Row `R` of the first 1024: a row of the tile. -/
theorem held_token (R : Fin 1040) (d : Fin 1024) (hR : R.val < 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 (ix2 R d)
      = x1 (ix2 ⟨R.val, hR⟩ d) := by
  rw [held_canon]
  unfold kernelRun0_A.sl.HS0_2
  rw [View.canon_cons_of_not_mem _ _ (by
    rw [Rect.mem_set_unit]
    intro h
    have h' : 1024 ≤ R.val := (h 0).1
    omega)]
  rw [show (ix2 R d : S1040x1024.Idx) = (Rect.unit (s := S1040x1024) ![0, 0] S1024x1024.size (by decide)).emb
      (ix2 (⟨R.val, hR⟩ : Fin 1024) d) from by
    funext a
    apply Fin.ext
    match a with
    | ⟨0, _⟩ => show R.val = 0 + 1 * R.val; omega
    | ⟨1, _⟩ => show d.val = 0 + 1 * d.val; omega]
  refine (View.canon_cons_emb _ _ _ _).trans ?_
  simp (disch := decide) only [View.readAt_eq_ld, View.ld_unit_lit', Memref.IsWhole.read_unread]
  pointwise [k0_pay80]

/-- Row 1024: the token before the tile. -/
theorem held_before (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 (ix2 1024 d)
      = if (i 0).val % 2 = 0 then 0 else x0 (ix2 15 d) := by
  rw [held_canon]
  unfold kernelRun0_A.sl.HS0_2
  rw [show (ix2 1024 d : S1040x1024.Idx) = (Rect.unit (s := S1040x1024) ![1024, 0] S16x1024.size (by decide)).emb
      (ix2 (0 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay81]
  rw [View.readAt_eq_ld, Memref.IsWhole.read_unread]
  refine (first_tile (i 0).val (i 0).isLt _ _).trans (congrArg₂ (ite _) ?_ ?_)
  · rfl
  · refine congrArg x0 ?_
    funext a
    apply Fin.ext
    match a with
    | ⟨0, _⟩ => rfl
    | ⟨1, _⟩ => show 0 + 1 * d.val = d.val; omega

/-- Row 1025: the token after the tile. -/
theorem held_after (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 (ix2 1025 d)
      = if (i 0).val % 2 = 1 then 0 else x2 (ix2 0 d) := by
  rw [held_canon]
  unfold kernelRun0_A.sl.HS0_2
  rw [show (ix2 1025 d : S1040x1024.Idx) = (Rect.unit (s := S1040x1024) ![1024, 0] S16x1024.size (by decide)).emb
      (ix2 (1 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay81]
  rw [View.readAt_eq_ld, Memref.IsWhole.read_unread]
  refine (last_tile (i 0).val (i 0).isLt _ _).trans (congrArg₂ (ite _) ?_ ?_)
  · rfl
  · refine congrArg x2 ?_
    funext a
    apply Fin.ext
    match a with
    | ⟨0, _⟩ => rfl
    | ⟨1, _⟩ => show 0 + 1 * d.val = d.val; omega

end Cert.Ffn0Ideal.Block

end
-- ==== Proof.Ffn0.Blocks.lean ====
/-
  The blocks the grid points of layer 0's feed-forward call read, as parts of the arrays they stand in. The normalised tokens
  arrive in slabs: row `128 r + j` of a tile of 1024 is token `8 j + r` of the tile.
-/
module

public import proofs.«01_k».proof.Proof.Ffn.Tokens
public import proofs.«01_k».proof.Proof.Ffn0.Held
public import Idealize.ShloMosaic.Lib.Pipeline.Value
public import Idealize.ShloMosaic.Lib.Tactic

@[expose] public section

noncomputable section

namespace Cert.Ffn0Ideal.Array

open Cert.Ffn0Ideal Cert.Ffn0Ideal.Gen Cert.FfnIdeal.Tokens Idealize.ShloMosaic Idealize.ShloMosaic.TcCoe Idealize.SL.Sem
open Cert.FfnIdeal.Block (slabRow)
open Idealize.ShloMosaic.Pipeline (Dat)

variable (m : (ℓ : Loc nD τ sig) → Buf (Elt Ideal) ℓ) (ρ : Dev nD → PrngReg)

/-- The arrays as the kernel's call finds them: the normalised tokens, the tokens themselves, the weights. -/
abbrev HS (c : Dev nD) : Vec Ideal S16384x1024 .bf16 := V m c main_v4
abbrev X (c : Dev nD) : Vec Ideal S16384x1024 .f32 := V m c main_v5
abbrev WU (c : Dev nD) : Vec Ideal S2x1024x8192 .bf16 := V m c main_v0
abbrev CW (c : Dev nD) : Vec Ideal S2x3x8192 .f32 := V m c main_arg3
abbrev CB (c : Dev nD) : Vec Ideal S1x8192 .f32 := V m c main_v8
abbrev WD (c : Dev nD) : Vec Ideal S2x4096x1024 .bf16 := V m c main_v1
abbrev G (c : Dev nD) : Vec Ideal S1x1024 .f32 := V m c main_v11
abbrev GN (c : Dev nD) : Vec Ideal S1x1024 .f32 := V m c main_v14

/-- The rows of an array in slabs, in the order of the tokens. -/
def plainRows (v : Vec Ideal S16384x1024 .bf16) : Vec Ideal S16384x1024 .bf16 := fun z =>
  v (ix2 (⟨1024 * ((z 0).val / 1024) + (slabRow ⟨(z 0).val % 1024, by omega⟩).val,
    by have h : (z 0).val < 16384 := (z 0).isLt; omega⟩ : Fin 16384) (z 1))

/-- The rows in order, element by element. -/
theorem plainRows_apply (v : Vec Ideal S16384x1024 .bf16) (T : Fin 16384) (d : Fin 1024) :
    plainRows v (ix2 T d) = v (ix2 ⟨1024 * (T.val / 1024) + (slabRow ⟨T.val % 1024, by omega⟩).val, by omega⟩ d) := rfl

/-- The normalised tokens in their order. -/
abbrev H (c : Dev nD) : Vec Ideal S16384x1024 .bf16 := plainRows (HS m c)

/-- The grid has 64 points. -/
theorem lt64 (t : Fin cfg0.N) : t.val < 64 := t.isLt.trans_eq N_0

/-- The tile of grid point `t`, and its block of the columns. -/
def tileOf (t : Fin cfg0.N) : Fin 16 := ⟨t.val / 4, by have := lt64 t; omega⟩
/-- The block of gated columns a grid point adds. -/
def chunkOf (t : Fin cfg0.N) : Fin 4 := ⟨t.val % 4, by omega⟩

/-- The tile a grid point works on, read off its coordinates. -/
theorem coords_tile : ∀ t : Fin cfg0.N, (grid0.coords t 0).val = t.val / 4 :=
  (by decide +kernel : ∀ t : Fin grid0.N, _)

/-- Where the windows on tokens stand at grid point `t`. -/
theorem places : ∀ t : Fin cfg0.N,
    (win0_0.index t 0 = 64 * (t.val / 4) - 1 ∧ win0_0.index t 1 = 0)
    ∧ (win0_1.index t 0 = t.val / 4 ∧ win0_1.index t 1 = 0)
    ∧ (win0_2.index t 0 = min (64 * (t.val / 4 + 1)) 1023 ∧ win0_2.index t 1 = 0)
    ∧ (win0_3.index t 0 = t.val / 4 ∧ win0_3.index t 1 = 0)
    ∧ (win0_13.index t 0 = t.val / 4 ∧ win0_13.index t 1 = 0)
    ∧ (win0_14.index t 0 = t.val / 4 ∧ win0_14.index t 1 = 0) :=
  (by decide +kernel : ∀ t : Fin grid0.N, _)

/-- Where the windows on weights stand at grid point `t`. -/
theorem weightPlaces : ∀ t : Fin cfg0.N,
    (win0_4.index t 0 = 0 ∧ win0_4.index t 1 = 0 ∧ win0_4.index t 2 = t.val % 4)
    ∧ (win0_5.index t 0 = 0 ∧ win0_5.index t 1 = 0 ∧ win0_5.index t 2 = 4 + t.val % 4)
    ∧ (win0_6.index t 0 = 0 ∧ win0_6.index t 1 = 0 ∧ win0_6.index t 2 = t.val % 4)
    ∧ (win0_7.index t 0 = 0 ∧ win0_7.index t 1 = 0 ∧ win0_7.index t 2 = 4 + t.val % 4)
    ∧ (win0_8.index t 0 = 0 ∧ win0_8.index t 1 = t.val % 4)
    ∧ (win0_9.index t 0 = 0 ∧ win0_9.index t 1 = 4 + t.val % 4)
    ∧ (win0_10.index t 0 = 0 ∧ win0_10.index t 1 = t.val % 4 ∧ win0_10.index t 2 = 0)
    ∧ (win0_11.index t 0 = 0 ∧ win0_11.index t 1 = 0)
    ∧ (win0_12.index t 0 = 0 ∧ win0_12.index t 1 = 0) :=
  (by decide +kernel : ∀ t : Fin grid0.N, _)

/-- The last row of the block before the tile. -/
theorem before_block (c : Dev nD) (t : Fin cfg0.N) (d : Fin 1024) (hi : (tileOf t).val % 2 ≠ 0) :
    (iblk m c 0 t : Vec Ideal S16x1024 .bf16) (ix2 15 d) = H m c (ix2 ⟨1024 * (tileOf t).val - 1, by have := lt64 t; omega⟩ d) := by
  have ht := lt64 t
  have hi' : t.val / 4 % 2 ≠ 0 := hi
  unfold iblk
  rw [View.read_apply]
  show V m c main_v4 _ = V m c main_v4 _
  congr 1
  funext a
  apply Fin.ext
  match a with
  | ⟨0, _⟩ =>
    show win0_0.index t 0 * 16 + 1 * 15 = 1024 * ((1024 * (t.val / 4) - 1) / 1024)
      + (128 * ((1024 * (t.val / 4) - 1) % 1024 % 8) + (1024 * (t.val / 4) - 1) % 1024 / 8)
    rw [(places t).1.1]; omega
  | ⟨1, _⟩ => show win0_0.index t 1 * 1024 + 1 * d.val = d.val; rw [(places t).1.2]; omega

/-- The tile. -/
theorem tile_block (c : Dev nD) (t : Fin cfg0.N) (r d : Fin 1024) :
    (iblk m c 1 t : Vec Ideal S1024x1024 .bf16) (ix2 r d) = H m c (ix2 (token (tileOf t) r) d) := by
  have ht := lt64 t
  have hr := r.isLt
  have hp := place_lt r
  have hs : 128 * (place r.val % 8) + place r.val / 8 = r.val := by unfold place; omega
  unfold iblk
  rw [View.read_apply]
  show V m c main_v4 _ = V m c main_v4 _
  congr 1
  funext a
  apply Fin.ext
  match a with
  | ⟨0, _⟩ =>
    show win0_1.index t 0 * 1024 + 1 * r.val = 1024 * ((1024 * (t.val / 4) + place r.val) / 1024)
      + (128 * ((1024 * (t.val / 4) + place r.val) % 1024 % 8) + (1024 * (t.val / 4) + place r.val) % 1024 / 8)
    rw [(places t).2.1.1, show (1024 * (t.val / 4) + place r.val) / 1024 = t.val / 4 by omega,
      show (1024 * (t.val / 4) + place r.val) % 1024 = place r.val by omega, hs]
    omega
  | ⟨1, _⟩ => show win0_1.index t 1 * 1024 + 1 * d.val = d.val; rw [(places t).2.1.2]; omega

/-- The first row of the block after the tile. -/
theorem after_block (c : Dev nD) (t : Fin cfg0.N) (d : Fin 1024) (hi : (tileOf t).val % 2 ≠ 1) :
    (iblk m c 2 t : Vec Ideal S16x1024 .bf16) (ix2 0 d) = H m c (ix2 ⟨(1024 * (tileOf t).val + 1024) % 16384, by omega⟩ d) := by
  have ht := lt64 t
  have hi' : t.val / 4 % 2 ≠ 1 := hi
  unfold iblk
  rw [View.read_apply]
  show V m c main_v4 _ = V m c main_v4 _
  congr 1
  funext a
  apply Fin.ext
  match a with
  | ⟨0, _⟩ =>
    show win0_2.index t 0 * 16 + 1 * 0 = 1024 * (((1024 * (t.val / 4) + 1024) % 16384) / 1024)
      + (128 * (((1024 * (t.val / 4) + 1024) % 16384) % 1024 % 8) + ((1024 * (t.val / 4) + 1024) % 16384) % 1024 / 8)
    rw [(places t).2.2.1.1]; omega
  | ⟨1, _⟩ => show win0_2.index t 1 * 1024 + 1 * d.val = d.val; rw [(places t).2.2.1.2]; omega

/-- The tile of the tokens themselves. -/
theorem residual_block (c : Dev nD) (t : Fin cfg0.N) (r d : Fin 1024) :
    (iblk m c 3 t : Vec Ideal S1024x1024 .f32) (ix2 r d) = X m c (ix2 ⟨1024 * (tileOf t).val + r.val, by omega⟩ d) := by
  have ht := lt64 t
  unfold iblk
  rw [View.read_apply]
  show V m c main_v5 _ = V m c main_v5 _
  congr 1
  funext a
  apply Fin.ext
  match a with
  | ⟨0, _⟩ => show win0_3.index t 0 * 1024 + 1 * r.val = 1024 * (t.val / 4) + r.val; rw [(places t).2.2.2.1.1]; omega
  | ⟨1, _⟩ => show win0_3.index t 1 * 1024 + 1 * d.val = d.val; rw [(places t).2.2.2.1.2]; omega

/-- The gate columns of the up-projection. -/
theorem gate_weights (c : Dev nD) (t : Fin cfg0.N) (d k : Fin 1024) :
    (iblk m c 4 t : Vec Ideal S1x1024x1024 .bf16) (ix3 0 d k) = WU m c (ix3 0 d ⟨1024 * (chunkOf t).val + k.val, by omega⟩) := by
  have ht := lt64 t
  unfold iblk
  rw [View.read_apply]
  show V m c main_v0 _ = V m c main_v0 _
  congr 1
  funext a
  apply Fin.ext
  match a with
  | ⟨0, _⟩ => show win0_4.index t 0 * 1 + 1 * 0 = 0; rw [(weightPlaces t).1.1]
  | ⟨1, _⟩ => show win0_4.index t 1 * 1024 + 1 * d.val = d.val; rw [(weightPlaces t).1.2.1]; omega
  | ⟨2, _⟩ => show win0_4.index t 2 * 1024 + 1 * k.val = 1024 * (t.val % 4) + k.val; rw [(weightPlaces t).1.2.2]; omega

/-- The value columns of the up-projection. -/
theorem value_weights (c : Dev nD) (t : Fin cfg0.N) (d k : Fin 1024) :
    (iblk m c 5 t : Vec Ideal S1x1024x1024 .bf16) (ix3 0 d k) = WU m c (ix3 0 d ⟨4096 + (1024 * (chunkOf t).val + k.val), by omega⟩) := by
  have ht := lt64 t
  unfold iblk
  rw [View.read_apply]
  show V m c main_v0 _ = V m c main_v0 _
  congr 1
  funext a
  apply Fin.ext
  match a with
  | ⟨0, _⟩ => show win0_5.index t 0 * 1 + 1 * 0 = 0; rw [(weightPlaces t).2.1.1]
  | ⟨1, _⟩ => show win0_5.index t 1 * 1024 + 1 * d.val = d.val; rw [(weightPlaces t).2.1.2.1]; omega
  | ⟨2, _⟩ => show win0_5.index t 2 * 1024 + 1 * k.val = 4096 + (1024 * (t.val % 4) + k.val); rw [(weightPlaces t).2.1.2.2]; omega

/-- The convolution's weights for the gate columns. -/
theorem gate_taps (c : Dev nD) (t : Fin cfg0.N) (j : Fin 3) (k : Fin 1024) :
    (iblk m c 6 t : Vec Ideal S1x3x1024 .f32) (ix3 0 j k) = CW m c (ix3 0 j ⟨1024 * (chunkOf t).val + k.val, by omega⟩) := by
  have ht := lt64 t
  unfold iblk
  rw [View.read_apply]
  show V m c main_arg3 _ = V m c main_arg3 _
  congr 1
  funext a
  apply Fin.ext
  match a with
  | ⟨0, _⟩ => show win0_6.index t 0 * 1 + 1 * 0 = 0; rw [(weightPlaces t).2.2.1.1]
  | ⟨1, _⟩ => show win0_6.index t 1 * 3 + 1 * j.val = j.val; rw [(weightPlaces t).2.2.1.2.1]; omega
  | ⟨2, _⟩ => show win0_6.index t 2 * 1024 + 1 * k.val = 1024 * (t.val % 4) + k.val; rw [(weightPlaces t).2.2.1.2.2]; omega

/-- The convolution's weights for the value columns. -/
theorem value_taps (c : Dev nD) (t : Fin cfg0.N) (j : Fin 3) (k : Fin 1024) :
    (iblk m c 7 t : Vec Ideal S1x3x1024 .f32) (ix3 0 j k) = CW m c (ix3 0 j ⟨4096 + (1024 * (chunkOf t).val + k.val), by omega⟩) := by
  have ht := lt64 t
  unfold iblk
  rw [View.read_apply]
  show V m c main_arg3 _ = V m c main_arg3 _
  congr 1
  funext a
  apply Fin.ext
  match a with
  | ⟨0, _⟩ => show win0_7.index t 0 * 1 + 1 * 0 = 0; rw [(weightPlaces t).2.2.2.1.1]
  | ⟨1, _⟩ => show win0_7.index t 1 * 3 + 1 * j.val = j.val; rw [(weightPlaces t).2.2.2.1.2.1]; omega
  | ⟨2, _⟩ => show win0_7.index t 2 * 1024 + 1 * k.val = 4096 + (1024 * (t.val % 4) + k.val); rw [(weightPlaces t).2.2.2.1.2.2]; omega

/-- The convolution's bias for the gate columns. -/
theorem gate_bias (c : Dev nD) (t : Fin cfg0.N) (k : Fin 1024) :
    (iblk m c 8 t : Vec Ideal S1x1024 .f32) (ix2 0 k) = CB m c (ix2 0 ⟨1024 * (chunkOf t).val + k.val, by omega⟩) := by
  have ht := lt64 t
  unfold iblk
  rw [View.read_apply]
  show V m c main_v8 _ = V m c main_v8 _
  congr 1
  funext a
  apply Fin.ext
  match a with
  | ⟨0, _⟩ => show win0_8.index t 0 * 1 + 1 * 0 = 0; rw [(weightPlaces t).2.2.2.2.1.1]
  | ⟨1, _⟩ => show win0_8.index t 1 * 1024 + 1 * k.val = 1024 * (t.val % 4) + k.val; rw [(weightPlaces t).2.2.2.2.1.2]; omega

/-- The convolution's bias for the value columns. -/
theorem value_bias (c : Dev nD) (t : Fin cfg0.N) (k : Fin 1024) :
    (iblk m c 9 t : Vec Ideal S1x1024 .f32) (ix2 0 k) = CB m c (ix2 0 ⟨4096 + (1024 * (chunkOf t).val + k.val), by omega⟩) := by
  have ht := lt64 t
  unfold iblk
  rw [View.read_apply]
  show V m c main_v8 _ = V m c main_v8 _
  congr 1
  funext a
  apply Fin.ext
  match a with
  | ⟨0, _⟩ => show win0_9.index t 0 * 1 + 1 * 0 = 0; rw [(weightPlaces t).2.2.2.2.2.1.1]
  | ⟨1, _⟩ => show win0_9.index t 1 * 1024 + 1 * k.val = 4096 + (1024 * (t.val % 4) + k.val); rw [(weightPlaces t).2.2.2.2.2.1.2]; omega

/-- The rows of the down-projection. -/
theorem down_weights (c : Dev nD) (t : Fin cfg0.N) (k d : Fin 1024) :
    (iblk m c 10 t : Vec Ideal S1x1024x1024 .bf16) (ix3 0 k d) = WD m c (ix3 0 ⟨1024 * (chunkOf t).val + k.val, by omega⟩ d) := by
  have ht := lt64 t
  unfold iblk
  rw [View.read_apply]
  show V m c main_v1 _ = V m c main_v1 _
  congr 1
  funext a
  apply Fin.ext
  match a with
  | ⟨0, _⟩ => show win0_10.index t 0 * 1 + 1 * 0 = 0; rw [(weightPlaces t).2.2.2.2.2.2.1.1]
  | ⟨1, _⟩ => show win0_10.index t 1 * 1024 + 1 * k.val = 1024 * (t.val % 4) + k.val; rw [(weightPlaces t).2.2.2.2.2.2.1.2.1]; omega
  | ⟨2, _⟩ => show win0_10.index t 2 * 1024 + 1 * d.val = d.val; rw [(weightPlaces t).2.2.2.2.2.2.1.2.2]; omega

/-- The gain of the norm. -/
theorem gain_block (c : Dev nD) (t : Fin cfg0.N) (d : Fin 1024) :
    (iblk m c 11 t : Vec Ideal S1x1024 .f32) (ix2 0 d) = G m c (ix2 0 d) := by
  have ht := lt64 t
  unfold iblk
  rw [View.read_apply]
  show V m c main_v11 _ = V m c main_v11 _
  congr 1
  funext a
  apply Fin.ext
  match a with
  | ⟨0, _⟩ => show win0_11.index t 0 * 1 + 1 * 0 = 0; rw [(weightPlaces t).2.2.2.2.2.2.2.1.1]
  | ⟨1, _⟩ => show win0_11.index t 1 * 1024 + 1 * d.val = d.val; rw [(weightPlaces t).2.2.2.2.2.2.2.1.2]; omega

/-- The gain of the next layer's norm. -/
theorem next_gain_block (c : Dev nD) (t : Fin cfg0.N) (d : Fin 1024) :
    (iblk m c 12 t : Vec Ideal S1x1024 .f32) (ix2 0 d) = GN m c (ix2 0 d) := by
  have ht := lt64 t
  unfold iblk
  rw [View.read_apply]
  show V m c main_v14 _ = V m c main_v14 _
  congr 1
  funext a
  apply Fin.ext
  match a with
  | ⟨0, _⟩ => show win0_12.index t 0 * 1 + 1 * 0 = 0; rw [(weightPlaces t).2.2.2.2.2.2.2.2.1]
  | ⟨1, _⟩ => show win0_12.index t 1 * 1024 + 1 * d.val = d.val; rw [(weightPlaces t).2.2.2.2.2.2.2.2.2]; omega

end Cert.Ffn0Ideal.Array

end
-- ==== Proof.Ffn0.Last.lean ====
/-
  The last point of a row of the grid: it normalizes each row of the accumulator, puts the rows back into the order of the tokens and
  adds the residual; and it normalizes the sums for the next layer.
-/
module

public import proofs.«01_k».proof.Proof.Ffn0.Block

@[expose] public section

noncomputable section

namespace Cert.Ffn0Ideal.Block

open Cert.Ffn0Ideal Cert.Ffn0Ideal.Gen Idealize.ShloMosaic
open Cert.FeedForward0 (same same_sum)
open Cert.FfnIdeal.Block (contribution normed normalize slabRow natural pieces pieces_canon)

variable
    (c : Dev nD) (i : grid0.Coords) (arg2 : Memref sig .tc .vmem S16x1024 .bf16) (harg2 : arg2.IsWhole) (arg3 :
    Memref sig .tc .vmem S1024x1024 .bf16) (harg3 : arg3.IsWhole) (arg4 : Memref sig .tc .vmem S16x1024 .bf16)
    (harg4 : arg4.IsWhole) (arg5 : Memref sig .tc .vmem S1024x1024 .f32) (harg5 : arg5.IsWhole) (arg6 : Memref sig
    .tc .vmem S1x1024x1024 .bf16) (harg6 : arg6.IsWhole) (arg7 : Memref sig .tc .vmem S1x1024x1024 .bf16) (harg7 :
    arg7.IsWhole) (arg8 : Memref sig .tc .vmem S1x3x1024 .f32) (harg8 : arg8.IsWhole) (arg9 : Memref sig .tc .vmem
    S1x3x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024x1024
    .bf16) (harg12 : arg12.IsWhole) (arg13 : Memref sig .tc .vmem S1x1024 .f32) (harg13 : arg13.IsWhole) (arg14 :
    Memref sig .tc .vmem S1x1024 .f32) (harg14 : arg14.IsWhole) (arg15 : Memref sig .tc .vmem S1024x1024 .f32)
    (harg15 : arg15.IsWhole) (arg16 : Memref sig .tc .vmem S1024x1024 .bf16) (harg16 : arg16.IsWhole) (arg17 :
    Memref sig .tc .vmem S1040x1024 .bf16) (harg17 : arg17.IsWhole) (arg18 : Memref sig .tc .vmem S1024x1024 .f32)
    (harg18 : arg18.IsWhole) (arg19 : Memref sig .tc .vmem S8x1024x128 .f32) (harg19 : arg19.IsWhole) (hc0 :
    ¬cond0_0 i) (hc1 : cond0_1 i) (x0 : Vec Ideal S16x1024 .bf16) (x1 : Vec Ideal S1024x1024 .bf16) (x2 : Vec Ideal
    S16x1024 .bf16) (x3 : Vec Ideal S1024x1024 .f32) (x4 : Vec Ideal S1x1024x1024 .bf16) (x5 : Vec Ideal
    S1x1024x1024 .bf16) (x6 : Vec Ideal S1x3x1024 .f32) (x7 : Vec Ideal S1x3x1024 .f32) (x8 : Vec Ideal S1x1024
    .f32) (x9 : Vec Ideal S1x1024 .f32) (x10 : Vec Ideal S1x1024x1024 .bf16) (x11 : Vec Ideal S1x1024 .f32) (x12 :
    Vec Ideal S1x1024 .f32) (xs0 : Vec Ideal S1040x1024 .bf16) (xs1 : Vec Ideal S1024x1024 .f32)

/-- The last point's stores. -/
theorem stores :
    kernelRun0_C.sl.HS2_64 c arg6 harg6 arg7 harg7 arg8 harg8 arg9 harg9 arg10 harg10 arg11 harg11 arg12 harg12 arg13 harg13 arg17 harg17 arg18 harg18 x4 x5 x6 x7 x8 x9 x10 x11 xs0 xs1
      = pieces (kernelRun0_C.sl.r_44 c arg6 harg6 arg7 harg7 arg8 harg8 arg9 harg9 arg10 harg10 arg11 harg11 arg12 harg12 arg13 harg13 arg17 harg17 arg18 harg18 x4 x5 x6 x7 x8 x9 x10 x11 xs0 xs1) := by
  rfl

/-- The accumulator the last point normalizes is the one it has just completed. -/
theorem completed :
    kernelRun0_C.sl.v297 c arg6 harg6 arg7 harg7 arg8 harg8 arg9 harg9 arg10 harg10 arg11 harg11 arg12 harg12 arg17 harg17 arg18 harg18 x4 x5 x6 x7 x8 x9 x10 xs0 xs1
      = sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 := by
  unfold sout0_C_1 kernelRun0_C.sl.v297
  rw [View.read_writes_junk_eq_canon, View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

/-- The normalized row of token `T`. -/
abbrev normedRow (T : Fin 1024) : Fin 1024 → EReal :=
  normed (fun k => xs1 (ix2 (slabRow T) k) + contribution xs0 x4 x5 x6 x7 x8 x9 x10 (slabRow T) k) (fun k => x11 (ix2 0 k))

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x12 in
/-- What the scratch held before the last sum: the rows in the order of the tokens. -/
theorem ordered (T d : Fin 1024) :
    natural (kernelRun0_C.sl.r_44 c arg6 harg6 arg7 harg7 arg8 harg8 arg9 harg9 arg10 harg10 arg11 harg11 arg12 harg12 arg13 harg13 arg17 harg17 arg18 harg18 x4 x5 x6 x7 x8 x9 x10 x11 xs0 xs1)
      (ix3 (⟨d.val / 128, by omega⟩ : Fin 8) T (⟨d.val % 128, by omega⟩ : Fin 128))
      = normedRow x4 x5 x6 x7 x8 x9 x10 x11 xs0 xs1 T d := by
  unfold natural kernelRun0_C.sl.r_44 normedRow
  rw [completed c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1]
  simp (disch := decide) only [View.readAt_eq_ld, View.ld_unit_lit', Memref.IsWhole.read_unread]
  simp only [same]
  refine (normalize _ _ _ _).trans ?_
  simp only [acc_C]
  refine congrArg (normed _ _) (Fin.ext ?_)
  show 128 * (d.val / 128) + d.val % 128 = d.val
  omega

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x12 in
set_option maxHeartbeats 1000000 in
/-- The sum of the residual and the normalized row of token `T`. -/
theorem sums (T d : Fin 1024) :
    kernelRun0_C.sl.r_54 c arg5 harg5 arg6 harg6 arg7 harg7 arg8 harg8 arg9 harg9 arg10 harg10 arg11 harg11 arg12 harg12 arg13 harg13 arg17 harg17 arg18 harg18 arg19 x3 x4 x5 x6 x7 x8 x9 x10 x11 xs0 xs1 (ix2 T d)
      = x3 (ix2 T d) + normedRow x4 x5 x6 x7 x8 x9 x10 x11 xs0 xs1 T d := by
  rw [← ordered c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1]
  have hd := d.isLt
  unfold kernelRun0_C.sl.r_54
  simp (disch := decide) only [kernelRun0_C.sl.r_53, View.readAt_eq_ld, View.ld_unit_lit', Memref.IsWhole.read_unread]
  simp only [kernelRun0_C.sl.v570, kernelRun0_C.sl.v572, kernelRun0_C.sl.v574, kernelRun0_C.sl.v576,
    kernelRun0_C.sl.v578, kernelRun0_C.sl.v580, kernelRun0_C.sl.v582, kernelRun0_C.sl.v584, stores, View.readCov_eq_canon', pieces_canon]
  pointwise [k0_pay77, k0_pay76]
  refine congrArg (x3 (ix2 T d) + ·) ?_
  rcases Cert.FfnIdeal.Tile.lane_cases hd with h | h | h | h | h | h | h | h
  all_goals
    simp (disch := omega) only [dif_pos, dif_neg]
    refine congrArg (natural _) (congrArg₂ (fun a b => ix3 a T b) (Fin.ext ?_) (Fin.ext ?_))
  all_goals
    first
      | (show _ = d.val % 128; dsimp only; omega)
      | (refine Eq.symm ?_; show d.val / 128 = Fin.val _; first
          | exact (by omega : d.val / 128 = 0) | exact (by omega : d.val / 128 = 1) | exact (by omega : d.val / 128 = 2)
          | exact (by omega : d.val / 128 = 3) | exact (by omega : d.val / 128 = 4) | exact (by omega : d.val / 128 = 5)
          | exact (by omega : d.val / 128 = 6) | exact (by omega : d.val / 128 = 7))

/-- The first output block: token `T`'s residual and its normalized row. -/
theorem out_sum (T d : Fin 1024) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 (ix2 T d)
      = x3 (ix2 T d) + normedRow x4 x5 x6 x7 x8 x9 x10 x11 xs0 xs1 T d := by
  rw [← sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1]
  unfold out0_C_13
  rw [View.read_writes_junk_eq_canon]
  unfold kernelRun0_C
  dsimp only
  simp (disch := decide) only [View.canon_cons_unit_lit']
  rfl

/-- The second output block: the sums of token `T`, normalized for the next layer. -/
theorem out_next (T d : Fin 1024) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 (ix2 T d)
      = normed (fun k => x3 (ix2 T k) + normedRow x4 x5 x6 x7 x8 x9 x10 x11 xs0 xs1 T k) (fun k => x12 (ix2 0 k)) d := by
  unfold out0_C_14
  rw [View.read_writes_junk_eq_canon]
  unfold kernelRun0_C
  dsimp only
  simp (disch := decide) only [View.canon_cons_unit_lit']
  simp (disch := decide) only [kernelRun0_C.sl.r_55, View.readAt_eq_ld, View.ld_unit_lit', Memref.IsWhole.read_unread]
  have e : ∀ k : Fin 1024, _ := fun k => sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 T k
  unfold kernelRun0_C.sl.r_54 at e ⊢
  unfold kernelRun0_C.sl.r_56
  pointwise [k0_pay2, k0_pay78, k0_pay79]
  simp only [e]
  rfl

end Cert.Ffn0Ideal.Block

end
-- ==== Proof.Ffn0.Array.lean ====
/-
  The two arrays that layer 0's feed-forward call leaves: the tokens with the block's result added, and the same normalized for the
  next layer. The grid has four points for each tile of 1024 tokens; each adds the contribution of 1024
  of the 4096 gated columns to the tile's accumulator, and the last writes the tile's blocks of the results.
-/
module

public import proofs.«01_k».proof.Proof.Ffn0.Blocks
public import proofs.«01_k».proof.Proof.Ffn0.Last

@[expose] public section

noncomputable section

namespace Cert.Ffn0Ideal.Array

open Cert.Ffn0Ideal Cert.Ffn0Ideal.Gen Cert.Ffn0Ideal.Block Cert.FfnIdeal.Tokens Idealize.ShloMosaic Idealize.ShloMosaic.TcCoe Idealize.SL.Sem
open Cert.FfnIdeal.Block (contribution normed slabRow)
open Idealize.ShloMosaic.Pipeline (Dat)

variable (m : (ℓ : Loc nD τ sig) → Buf (Elt Ideal) ℓ) (ρ : Dev nD → PrngReg)

/-- The sum over the first columns, of the arrays the call finds. -/
abbrev sumTo (c : Dev nD) (n : ℕ) (T : Fin 16384) (d : Fin 1024) : EReal := part 2048 0 (H m c) (WU m c) (CW m c) (CB m c) (WD m c) n T d

/-- What a grid point adds, over a scratch that holds its tile. -/
theorem adds (c : Dev nD) (t : Fin cfg0.N) (hh : Vec Ideal S1040x1024 .bf16) (hH : Holds 2048 (H m c) (tileOf t) hh) (R d : Fin 1024) :
    contribution hh (iblk m c 4 t) (iblk m c 5 t) (iblk m c 6 t) (iblk m c 7 t) (iblk m c 8 t) (iblk m c 9 t) (iblk m c 10 t) R d
      = chunk 2048 0 (H m c) (WU m c) (CW m c) (CB m c) (WD m c) (chunkOf t) (token (tileOf t) R) d :=
  contribution_chunk 0 (WU m c) (CW m c) (CB m c) (WD m c) (.inl rfl) hH (chunkOf t) _ _ _ _ _ _ _ (gate_weights m c t) (value_weights m c t)
    (gate_taps m c t) (value_taps m c t) (gate_bias m c t) (value_bias m c t) (down_weights m c t) R d

/-- What the scratches hold after a grid point: the tile with its neighbours, and the sum so far. -/
structure Inv (c : Dev nD) (t : Fin cfg0.N) : Prop where
  holds : Holds 2048 (H m c) (tileOf t) (outsAt0 m c t.val t.isLt).2.2.1
  sum : ∀ R d : Fin 1024, (outsAt0 m c t.val t.isLt).2.2.2 (ix2 R d) = sumTo m c (t.val % 4) (token (tileOf t) R) d

/-- The first point of a tile fills the scratch … -/
theorem first_holds (c : Dev nD) (t : Fin cfg0.N) (h0 : t.val % 4 = 0) (h1 : ¬t.val % 4 = 3) :
    Holds 2048 (H m c) (tileOf t) (outsAt0 m c t.val t.isLt).2.2.1 := by
  simp only [outsAt0_A m c t h0 h1]
  refine ⟨fun R d => ?_, fun d => ?_, fun d => ?_⟩
  · refine (held_token _ _ _ _ _ _ _ _ _ _ _ _ _ _ _ _ _ _ _ _ _ _ _ _ _ _ _ _ _ _ _ _ _ _ _ _ _ _ _ _ _ _ _ _ _ _ _ _ _ _ _ _ _ ⟨R.val, by omega⟩ d R.isLt).trans ?_
    exact tile_block m c t R d
  · refine (held_before _ _ _ _ _ _ _ _ _ _ _ _ _ _ _ _ _ _ _ _ _ _ _ _ _ _ _ _ _ _ _ _ _ _ _ _ _ _ _ _ _ _ _ _ _ _ _ _ _ _ _ _ _ d).trans ?_
    rw [coords_tile t]
    have e : 1024 * (tileOf t).val % 2048 = 0 ↔ t.val / 4 % 2 = 0 := by show 1024 * (t.val / 4) % 2048 = 0 ↔ _; omega
    by_cases hi : t.val / 4 % 2 = 0
    · rw [if_pos hi]; exact (if_pos (e.2 hi)).symm
    · rw [if_neg hi]; exact (before_block m c t d hi).trans (if_neg (hi ∘ e.1)).symm
  · refine (held_after _ _ _ _ _ _ _ _ _ _ _ _ _ _ _ _ _ _ _ _ _ _ _ _ _ _ _ _ _ _ _ _ _ _ _ _ _ _ _ _ _ _ _ _ _ _ _ _ _ _ _ _ _ d).trans ?_
    rw [coords_tile t]
    have e : (1024 * (tileOf t).val + 1024) % 2048 = 0 ↔ t.val / 4 % 2 = 1 := by show (1024 * (t.val / 4) + 1024) % 2048 = 0 ↔ _; omega
    by_cases hi : t.val / 4 % 2 = 1
    · rw [if_pos hi, if_pos (e.2 hi)]
    · rw [if_neg hi, if_neg (hi ∘ e.1)]; exact after_block m c t d hi

/-- … and starts the sum. -/
theorem first (c : Dev nD) (t : Fin cfg0.N) (h0 : t.val % 4 = 0) (h1 : ¬t.val % 4 = 3) : Inv m c t where
  holds := first_holds m c t h0 h1
  sum R d := by
    have hH := first_holds m c t h0 h1
    simp only [outsAt0_A m c t h0 h1] at hH ⊢
    refine (acc_A _ _ _ _ _ _ _ _ _ _ _ _ _ _ _ _ _ _ _ _ _ _ _ _ _ _ _ _ _ _ _ _ _ _ _ _ _ _ _ _ _ _ _ _ _ _ _ _ _ _ _ _ _ R d).trans ?_
    refine (adds m c t _ hH R d).trans ?_
    rw [show chunkOf t = 0 from Fin.ext h0, h0]
    exact (part_zero _ _ _ _ _ _ _ _ d).symm

/-- A point in the middle adds its contribution. -/
theorem middle (c : Dev nD) (t : Fin cfg0.N) (h0 : ¬t.val % 4 = 0) (h1 : ¬t.val % 4 = 3)
    (hI : Inv m c ⟨t.val - 1, Nat.lt_of_le_of_lt (Nat.sub_le _ _) t.isLt⟩) : Inv m c t := by
  have hT : tileOf ⟨t.val - 1, Nat.lt_of_le_of_lt (Nat.sub_le _ _) t.isLt⟩ = tileOf t :=
    Fin.ext (by show (t.val - 1) / 4 = t.val / 4; omega)
  have hn : (t.val - 1) % 4 = t.val % 4 - 1 := by omega
  have hH := hI.holds
  have hS := hI.sum
  rw [hT] at hH
  rw [hT] at hS
  constructor
  · rw [outsAt0_B m c t h0 h1]
    exact hH
  · intro R d
    simp only [outsAt0_B m c t h0 h1]
    refine (acc_B _ _ _ _ _ _ _ _ _ _ _ _ _ _ _ _ _ _ _ _ _ _ _ _ _ _ _ _ _ _ _ _ _ _ _ _ _ _ _ _ _ _ _ _ _ _ _ _ _ _ _ _ _ _ _ R d).trans ?_
    refine (congrArg₂ (· + ·) (hS R d) (adds m c t _ hH R d)).trans ?_
    show part _ _ _ _ _ _ _ ((t.val - 1) % 4) _ d + _ = _
    rw [hn]
    exact part_succ _ _ _ _ _ _ _ (chunkOf t) h0 _ d

/-- What the scratches hold before the last point of a tile. -/
theorem inv (c : Dev nD) : ∀ (n : ℕ) (hn : n < cfg0.N), n % 4 ≠ 3 → Inv m c ⟨n, hn⟩
  | 0, hn, _ => first m c ⟨0, hn⟩ rfl (by show ¬0 % 4 = 3; decide)
  | n + 1, hn, h => by
    by_cases h0 : (n + 1) % 4 = 0
    · exact first m c ⟨n + 1, hn⟩ h0 h
    · exact middle m c ⟨n + 1, hn⟩ h0 h (inv c n (Nat.lt_of_succ_lt hn) (by omega))

/-- The first output array as a function of the arrays: the tokens with the block's result added. -/
def whole (h : Vec Ideal S16384x1024 .bf16) (x : Vec Ideal S16384x1024 .f32) (wu : Vec Ideal S2x1024x8192 .bf16) (cw : Vec Ideal S2x3x8192 .f32)
    (cb : Vec Ideal S1x8192 .f32) (wd : Vec Ideal S2x4096x1024 .bf16) (g : Vec Ideal S1x1024 .f32) : Vec Ideal S16384x1024 .f32 := fun i =>
  x (ix2 (i 0) (i 1)) + normed (fun k => part 2048 0 h wu cw cb wd 3 (i 0) k) (fun k => g (ix2 0 k)) (i 1)

/-- The second output array: the first, normalized for the next layer. -/
def next (v : Vec Ideal S16384x1024 .f32) (g : Vec Ideal S1x1024 .f32) : Vec Ideal S16384x1024 .bf16 := fun i =>
  normed (fun k => v (ix2 (i 0) k)) (fun k => g (ix2 0 k)) (i 1)

/-- The arrays, of the arrays the call finds. -/
abbrev sumsAt (c : Dev nD) : Vec Ideal S16384x1024 .f32 := whole (H m c) (X m c) (WU m c) (CW m c) (CB m c) (WD m c) (G m c)
abbrev nextAt (c : Dev nD) : Vec Ideal S16384x1024 .bf16 := next (sumsAt m c) (GN m c)

/-- A row of a tile's sums. -/
theorem last_row (c : Dev nD) (t : Fin cfg0.N) (h0 : ¬t.val % 4 = 0) (h1 : t.val % 4 = 3) (r d : Fin 1024) :
    @HAdd.hAdd EReal EReal EReal _ ((iblk m c 3 t : Vec Ideal S1024x1024 .f32) (ix2 r d))
        (normedRow (iblk m c 4 t) (iblk m c 5 t) (iblk m c 6 t) (iblk m c 7 t) (iblk m c 8 t) (iblk m c 9 t) (iblk m c 10 t) (iblk m c 11 t)
        (outsAt0 m c (t.val - 1) (Nat.lt_of_le_of_lt (Nat.sub_le _ _) t.isLt)).2.2.1
        (outsAt0 m c (t.val - 1) (Nat.lt_of_le_of_lt (Nat.sub_le _ _) t.isLt)).2.2.2 r d)
      = sumsAt m c (ix2 ⟨1024 * (tileOf t).val + r.val, by omega⟩ d) := by
  have hI : Inv m c ⟨t.val - 1, Nat.lt_of_le_of_lt (Nat.sub_le _ _) t.isLt⟩ := inv m c _ _ (by omega)
  have hT : tileOf ⟨t.val - 1, Nat.lt_of_le_of_lt (Nat.sub_le _ _) t.isLt⟩ = tileOf t :=
    Fin.ext (by show (t.val - 1) / 4 = t.val / 4; omega)
  have hn : (t.val - 1) % 4 = 2 := by omega
  have hH := hI.holds
  have hS := hI.sum
  rw [hT] at hH
  rw [hT] at hS
  refine congrArg₂ (· + ·) (residual_block m c t r d) ?_
  refine congrArg₂ (normed · · d) (funext fun k => ?_) (funext fun k => gain_block m c t k)
  refine (congrArg₂ (· + ·) (hS (slabRow r) k) (adds m c t _ hH (slabRow r) k)).trans ?_
  show part _ _ _ _ _ _ _ ((t.val - 1) % 4) _ k + _ = _
  rw [hn, token_slabRow, show chunkOf t = 3 from Fin.ext h1]
  exact part_succ _ _ _ _ _ _ _ 3 (by decide) _ k

/-- The last point of a tile writes the tile's part of the first result … -/
theorem last_sum (c : Dev nD) (t : Fin cfg0.N) (h0 : ¬t.val % 4 = 0) (h1 : t.val % 4 = 3) (r d : Fin 1024) :
    (outsAt0 m c t.val t.isLt).1 (ix2 r d) = sumsAt m c (ix2 ⟨1024 * (tileOf t).val + r.val, by omega⟩ d) := by
  simp only [outsAt0_C m c t h0 h1]
  refine (out_sum _ _ _ _ _ _ _ _ _ _ _ _ _ _ _ _ _ _ _ _ _ _ _ _ _ _ _ _ _ _ _ _ _ _ _ _ _ _ _ _ _ _ _ _ _ _ _ _ _ _ _ _ _ _ _ r d).trans ?_
  exact last_row m c t h0 h1 r d

/-- … and of the second. -/
theorem last_next (c : Dev nD) (t : Fin cfg0.N) (h0 : ¬t.val % 4 = 0) (h1 : t.val % 4 = 3) (r d : Fin 1024) :
    (outsAt0 m c t.val t.isLt).2.1 (ix2 r d) = nextAt m c (ix2 ⟨1024 * (tileOf t).val + r.val, by omega⟩ d) := by
  simp only [outsAt0_C m c t h0 h1]
  refine (out_next _ _ _ _ _ _ _ _ _ _ _ _ _ _ _ _ _ _ _ _ _ _ _ _ _ _ _ _ _ _ _ _ _ _ _ _ _ _ _ _ _ _ _ _ _ _ _ _ _ _ _ _ _ _ _ r d).trans ?_
  exact congrArg₂ (normed · · d) (funext fun k => last_row m c t h0 h1 r k) (funext fun k => next_gain_block m c t k)

/-- What a grid point writes back of the first result is its block. -/
theorem flushed_sum (c : Dev nD) (t : Fin cfg0.N) (hf : (cfg0.win 13).flush t = true) :
    (dats m 0 c).flushed 13 t = ((cfg0.win 13).blk t).view.read (Elt Ideal) (sumsAt m c) := by
  have h1 : t.val % 4 = 3 := (flush0_13 t).mp hf
  show (cfg0.win 13).cut (grid0.coords t) ((dats m 0 c).after 13 t) = _
  rw [after0_13]
  funext j
  obtain ⟨r, d, rfl⟩ : ∃ (r d : Fin 1024), j = ix2 r d := ⟨j 0, j 1, eq_ix2 j⟩
  rw [View.read_apply]
  have ht := lt64 t
  refine (last_sum m c t (by omega) h1 r d).trans ?_
  show sumsAt m c (ix2 _ _) = _
  congr 1
  funext a
  apply Fin.ext
  match a with
  | ⟨0, _⟩ => show _ = win0_13.index t 0 * 1024 + 1 * r.val; rw [(places t).2.2.2.2.1.1]; show 1024 * (t.val / 4) + r.val = _; omega
  | ⟨1, _⟩ => show d.val = win0_13.index t 1 * 1024 + 1 * d.val; rw [(places t).2.2.2.2.1.2]; omega

/-- The first result after the run. -/
theorem final_sum (c : Dev nD) : (dats m 0 c).arrAt 13 cfg0.N = sumsAt m c :=
  (dats m 0 c).arrAt_eq_of_cover 13 _ (flushed_sum m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = 4 * ((i 0 : Nat) / 1024) + 3 :=
      ⟨⟨4 * ((i 0 : Nat) / 1024) + 3, by rw [hN]; omega⟩, rfl⟩
    refine ⟨t, (flush0_13 t).mpr (by omega), ?_⟩
    show i ∈ ((View.whole main_v15_0).slice (win0_13.rect t)).set
    rw [View.set_slice_whole, Rect.mem_set_unit]
    intro a
    match a with
    | ⟨0, _⟩ =>
      show win0_13.index t 0 * 1024 ≤ (i 0 : Nat) ∧ (i 0 : Nat) < win0_13.index t 0 * 1024 + 1024
      rw [(places t).2.2.2.2.1.1]; omega
    | ⟨1, _⟩ =>
      show win0_13.index t 1 * 1024 ≤ (i 1 : Nat) ∧ (i 1 : Nat) < win0_13.index t 1 * 1024 + 1024
      rw [(places t).2.2.2.2.1.2]; omega

/-- What a grid point writes back of the second result is its block. -/
theorem flushed_next (c : Dev nD) (t : Fin cfg0.N) (hf : (cfg0.win 14).flush t = true) :
    (dats m 0 c).flushed 14 t = ((cfg0.win 14).blk t).view.read (Elt Ideal) (nextAt m c) := by
  have h1 : t.val % 4 = 3 := (flush0_14 t).mp hf
  show (cfg0.win 14).cut (grid0.coords t) ((dats m 0 c).after 14 t) = _
  rw [after0_14]
  funext j
  obtain ⟨r, d, rfl⟩ : ∃ (r d : Fin 1024), j = ix2 r d := ⟨j 0, j 1, eq_ix2 j⟩
  rw [View.read_apply]
  have ht := lt64 t
  refine (last_next m c t (by omega) h1 r d).trans ?_
  show nextAt m c (ix2 _ _) = _
  congr 1
  funext a
  apply Fin.ext
  match a with
  | ⟨0, _⟩ => show _ = win0_14.index t 0 * 1024 + 1 * r.val; rw [(places t).2.2.2.2.2.1]; show 1024 * (t.val / 4) + r.val = _; omega
  | ⟨1, _⟩ => show d.val = win0_14.index t 1 * 1024 + 1 * d.val; rw [(places t).2.2.2.2.2.2]; omega

/-- The second result after the run. -/
theorem final_next (c : Dev nD) : (dats m 0 c).arrAt 14 cfg0.N = nextAt m c :=
  (dats m 0 c).arrAt_eq_of_cover 14 _ (flushed_next m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = 4 * ((i 0 : Nat) / 1024) + 3 :=
      ⟨⟨4 * ((i 0 : Nat) / 1024) + 3, by rw [hN]; omega⟩, rfl⟩
    refine ⟨t, (flush0_14 t).mpr (by omega), ?_⟩
    show i ∈ ((View.whole main_v15_1).slice (win0_14.rect t)).set
    rw [View.set_slice_whole, Rect.mem_set_unit]
    intro a
    match a with
    | ⟨0, _⟩ =>
      show win0_14.index t 0 * 1024 ≤ (i 0 : Nat) ∧ (i 0 : Nat) < win0_14.index t 0 * 1024 + 1024
      rw [(places t).2.2.2.2.2.1]; omega
    | ⟨1, _⟩ =>
      show win0_14.index t 1 * 1024 ≤ (i 1 : Nat) ∧ (i 1 : Nat) < win0_14.index t 1 * 1024 + 1024
      rw [(places t).2.2.2.2.2.2]; omega

/-- The run: afterwards the results' buffers hold the arrays above, and the arguments are as they were. -/
theorem run_array : θ_run defs (onTc (τ := τ) (main (F := Ideal))) ⟨m, fun _ => 0, ρ⟩ fun r => ∀ c : Dev nD,
      r.2.mem ((c : Thread nD τ).loc main_v15_0) = (dats m 0 c).arrAt 13 cfg0.N
      ∧ r.2.mem ((c : Thread nD τ).loc main_v15_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 13, (h c).1 14,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Ffn0Ideal.Array

end
-- ==== Proof.Ffn0.Host.lean ====
/-
  The arrays that the host code prepares for layer 0's feed-forward call: the batch and the sequence merged into one axis, the
  normalised tokens put into slabs, the layer's bias and gains as rows; the weights as they are.
-/
module

public import proofs.«01_k».proof.Proof.Ffn0.Array
public import Idealize.ShloMosaic.Lib.StableHlo.Run
public import Idealize.ShloMosaic.Lib.StableHlo.RunRead

@[expose] public section

noncomputable section

namespace Cert.Ffn0Ideal.Host

open Cert.Ffn0Ideal Cert.Ffn0Ideal.Gen Cert.Ffn0Ideal.Array Idealize.ShloMosaic Idealize.ShloMosaic.TcCoe Idealize.SL.Sem

variable (m : (ℓ : Loc nD τ sig) → Buf (Elt Ideal) ℓ)

/-- The normalised tokens, in slabs: row `128 r + j` of a tile is token `8 j + r`. -/
theorem HS_apply (c : Dev nD) (T : Fin 16384) (d : Fin 1024) :
    HS m c (ix2 T d) = m ((c : Thread nD τ).loc main_arg0)
      (ix3 ⟨(1024 * (T.val / 1024) + (8 * (T.val % 128) + T.val % 1024 / 128)) / 2048, by omega⟩
        ⟨(1024 * (T.val / 1024) + (8 * (T.val % 128) + T.val % 1024 / 128)) % 2048, by omega⟩ d) := by
  unfold_abbrev_sides
  after_reads_simp
  pointwise
  have h1 : T.val % 1024 / 128 = T.val / 128 % 8 := by omega
  refine congrArg _ (congrArg₂ (ix3 · · d) (Fin.ext ?_) (Fin.ext ?_))
  · show T.val / 1024 / 2 = (1024 * (T.val / 1024) + (8 * (T.val % 128) + T.val % 1024 / 128)) / 2048
    omega
  · show T.val / 1024 % 2 * 1024 + T.val % 128 * 8 + T.val / 128 % 8
      = (1024 * (T.val / 1024) + (8 * (T.val % 128) + T.val % 1024 / 128)) % 2048
    omega

/-- The normalised tokens, in their order. -/
theorem H_apply (c : Dev nD) (T : Fin 16384) (d : Fin 1024) :
    H m c (ix2 T d) = m ((c : Thread nD τ).loc main_arg0) (ix3 ⟨T.val / 2048, by omega⟩ ⟨T.val % 2048, by omega⟩ d) := by
  refine (plainRows_apply _ _ _).trans ((HS_apply m c _ _).trans ?_)
  have e : 1024 * ((1024 * (T.val / 1024) + (128 * (T.val % 1024 % 8) + T.val % 1024 / 8)) / 1024)
      + (8 * ((1024 * (T.val / 1024) + (128 * (T.val % 1024 % 8) + T.val % 1024 / 8)) % 128)
        + (1024 * (T.val / 1024) + (128 * (T.val % 1024 % 8) + T.val % 1024 / 8)) % 1024 / 128) = T.val := by
    have h1 : (1024 * (T.val / 1024) + (128 * (T.val % 1024 % 8) + T.val % 1024 / 8)) / 1024 = T.val / 1024 := by omega
    have h2 : (1024 * (T.val / 1024) + (128 * (T.val % 1024 % 8) + T.val % 1024 / 8)) % 128 = T.val % 1024 / 8 := by omega
    have h3 : (1024 * (T.val / 1024) + (128 * (T.val % 1024 % 8) + T.val % 1024 / 8)) % 1024
        = 128 * (T.val % 1024 % 8) + T.val % 1024 / 8 := by omega
    have h4 : (128 * (T.val % 1024 % 8) + T.val % 1024 / 8) / 128 = T.val % 1024 % 8 := by omega
    rw [h1, h2, h3, h4]
    omega
  congr 1
  congr 1
  · exact Fin.ext (congrArg (· / 2048) e)
  · exact Fin.ext (congrArg (· % 2048) e)

/-- The tokens themselves. -/
theorem X_apply (c : Dev nD) (T : Fin 16384) (d : Fin 1024) :
    X m c (ix2 T d) = m ((c : Thread nD τ).loc main_arg1) (ix3 ⟨T.val / 2048, by omega⟩ ⟨T.val % 2048, by omega⟩ d) := by
  unfold_abbrev_sides
  after_reads_simp
  pointwise

/-- The up-projection. -/
theorem WU_eq (c : Dev nD) : WU m c = m ((c : Thread nD τ).loc main_arg2) := by
  unfold_abbrev_sides
  after_reads_simp
  rfl

/-- The convolution's weights. -/
theorem CW_eq (c : Dev nD) : CW m c = m ((c : Thread nD τ).loc main_arg3) := V_main_arg3 m c

/-- The convolution's bias. -/
theorem CB_apply (c : Dev nD) (n : Fin 8192) : CB m c (ix2 0 n) = m ((c : Thread nD τ).loc main_arg4) (ix2 0 n) := by
  unfold_abbrev_sides
  after_reads_simp
  pointwise

/-- The down-projection. -/
theorem WD_eq (c : Dev nD) : WD m c = m ((c : Thread nD τ).loc main_arg5) := by
  unfold_abbrev_sides
  after_reads_simp
  rfl

/-- The gain of the norm. -/
theorem G_apply (c : Dev nD) (d : Fin 1024) : G m c (ix2 0 d) = m ((c : Thread nD τ).loc main_arg6) (ix2 0 d) := by
  unfold_abbrev_sides
  after_reads_simp
  pointwise

/-- The gain of the next layer's norm. -/
theorem GN_apply (c : Dev nD) (d : Fin 1024) : GN m c (ix2 0 d) = m ((c : Thread nD τ).loc main_arg7) (ix2 1 d) := by
  unfold_abbrev_sides
  after_reads_simp
  pointwise

end Cert.Ffn0Ideal.Host

end
-- ==== Proof.Ffn0.Reference.lean ====
/-
  What layer 0's feed-forward reference computes, element by element: the up-projection, the convolution over three tokens of a sequence,
  the gated columns, the down-projection, the norm, and the norm of the next layer.
-/
module

public import proofs.«01_k».proof.Proof.Gen.Ffn0ReferenceIdeal.Run
public import proofs.«01_k».proof.Proof.Gen.Ffn0ReferenceIdeal.Read
public import proofs.«01_k».proof.Proof.Ffn.Plain
public import Idealize.ShloMosaic.Lib.Pointwise

@[expose] public section

noncomputable section

namespace Cert.Ffn0ReferenceIdeal.FeedForward

open Cert.Ffn0ReferenceIdeal Cert.Ffn0ReferenceIdeal.Gen Cert.Ffn0ReferenceIdeal.Read Idealize.ShloMosaic Idealize.ShloMosaic.TcCoe Idealize.SL.Sem
open Cert.FeedForward.Plain (up mixed gated down)
open Cert.FfnIdeal.Block (normed)

variable (x0 : Vec Ideal S8x2048x1024 .bf16) (x1 : Vec Ideal S8x2048x1024 .f32) (x2 : Vec Ideal S2x1024x8192 .f32)
  (x3 : Vec Ideal S2x3x8192 .f32) (x4 : Vec Ideal S2x8192 .f32) (x5 : Vec Ideal S2x4096x1024 .f32) (x6 : Vec Ideal S2x1024 .f32)
  (x7 : Vec Ideal S2x1024 .f32)

/-- The normalised tokens by sequence and place. -/
abbrev toks (b : Fin 8) (s : Fin 2048) (d : Fin 1024) : EReal := x0 (ix3 b s d)

/-- The up-projection. -/
theorem projection (b : Fin 8) (s : Fin 2048) (n : Fin 8192) : val_main_v7 x0 x2 (ix3 b s n) = up 0 (toks x0) x2 b s n := by
  pointwise [val_main_v7, val_main_v6, val_main_v5, val_main_v4, up]

/-- The padding is zero. -/
theorem padding (i : S_.Idx) : val_main_call0_v0 (F := Ideal) i = 0 := by
  rw [val_main_call0_v0_apply]
  show (((0 : ℤ) : ℝ) : EReal) = 0
  simp

/-- The up-projection with a row of zeros at either end of a sequence. -/
theorem padded (b : Fin 8) (s : Fin 2050) (n : Fin 8192) :
    val_main_v8 x0 x2 (ix3 b s n) = if h : 1 ≤ s.val ∧ s.val - 1 < 2048 then up 0 (toks x0) x2 b ⟨s.val - 1, h.2⟩ n else 0 := by
  pointwise [val_main_v8]
  simp only [projection, padding]

/-- The convolution. -/
theorem convolution (b : Fin 8) (s : Fin 2048) (n : Fin 8192) :
    val_main_v31 x0 x2 x3 x4 (ix3 b s n) = mixed 0 (toks x0) x2 x3 x4 b s n := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_v3, val_main_v2, val_main_v1, val_main_v0]
  rw [padded, padded, padded]
  unfold mixed
  have hs := s.isLt
  refine congrArg (· + _) (congrArg₂ (· + ·) (congrArg₂ (· + ·) (congrArg (_ * ·) ?_) (congrArg (_ * ·) ?_)) (congrArg (_ * ·) ?_))
  · by_cases h : s.val = 0
    · rw [if_pos h, dif_neg (by simp only []; omega)]
    · rw [if_neg h, dif_pos ⟨by simp only []; omega, by simp only []; omega⟩]
  · rw [dif_pos ⟨by simp only []; omega, by simp only []; omega⟩]
    exact congrArg (up 0 (toks x0) x2 b · n) (Fin.ext (by show 1 + s.val - 1 = s.val; omega))
  · by_cases h : s.val + 1 = 2048
    · rw [dif_pos h, dif_neg (by simp only []; omega)]
    · rw [dif_neg h, dif_pos ⟨by simp only []; omega, by simp only []; omega⟩]
      exact congrArg (up 0 (toks x0) x2 b · n) (Fin.ext (by show 2 + s.val - 1 = s.val + 1; omega))

/-- The gated columns. -/
theorem gates (b : Fin 8) (s : Fin 2048) (n : Fin 4096) : val_main_v47 x0 x2 x3 x4 (ix3 b s n) = gated 0 (toks x0) x2 x3 x4 b s n := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_cst, val_main_cst_0,
    val_main_cst_1, val_main_cst_2]
  rw [convolution, convolution]
  rfl

/-- The down-projection. -/
theorem downs (b : Fin 8) (s : Fin 2048) (d : Fin 1024) : val_main_v50 x0 x2 x3 x4 x5 (ix3 b s d) = down 0 (toks x0) x2 x3 x4 x5 b s d := by
  pointwise [val_main_v50, val_main_v49, val_main_v48]
  simp only [gates]
  rfl

/-- The residual sums. -/
theorem sums (b : Fin 8) (s : Fin 2048) (d : Fin 1024) :
    val_main_v66 x0 x1 x2 x3 x4 x5 x6 (ix3 b s d)
      = x1 (ix3 b s d) + normed (down 0 (toks x0) x2 x3 x4 x5 b s) (fun k => x6 (ix2 0 k)) d := by
  pointwise [val_main_v66, val_main_v65, val_main_v64, val_main_v63, val_main_v62, val_main_v61, val_main_v60, val_main_v59,
    val_main_v58, val_main_v57, val_main_v56, val_main_v55, val_main_v54, val_main_v53, val_main_v52, val_main_v51, val_main_cst_3,
    val_main_cst_4, val_main_cst_5]
  simp only [downs]
  rfl

/-- The reference's first result at token `T` of the batch. -/
theorem sum_apply (T : Fin 16384) (d : Fin 1024) :
    val_main_v67 x0 x1 x2 x3 x4 x5 x6 (ix2 T d)
      = x1 (ix3 ⟨T.val / 2048, by omega⟩ ⟨T.val % 2048, by omega⟩ d)
        + normed (down 0 (toks x0) x2 x3 x4 x5 ⟨T.val / 2048, by omega⟩ ⟨T.val % 2048, by omega⟩) (fun k => x6 (ix2 0 k)) d := by
  pointwise [val_main_v67]
  rw [sums]

/-- The reference's second result at token `T` of the batch: the first, normalized with the next layer's gain. -/
theorem next_apply (T : Fin 16384) (d : Fin 1024) :
    val_main_v84 x0 x1 x2 x3 x4 x5 x6 x7 (ix2 T d)
      = normed (fun k => val_main_v67 x0 x1 x2 x3 x4 x5 x6 (ix2 T k)) (fun k => x7 (ix2 1 k)) d := by
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_cst_6,
    val_main_cst_7, val_main_cst_8]
  simp only [sum_apply, sums]
  rfl

end Cert.Ffn0ReferenceIdeal.FeedForward

end
-- ==== Proof.Ffn0.Equation.lean ====
/-
  The arrays of layer 0's feed-forward call are the reference's, token by token.
-/
module

public import proofs.«01_k».proof.Proof.Ffn.Equation
public import proofs.«01_k».proof.Proof.Ffn0.Host
public import proofs.«01_k».proof.Proof.Ffn0.Reference

@[expose] public section

noncomputable section

namespace Cert.FeedForward0

open Cert.FeedForward Cert.FfnIdeal Cert.FfnIdeal.Block Idealize.ShloMosaic Idealize.ShloMosaic.TcCoe Idealize.SL.Sem
open Cert.Ffn0Ideal.Array (whole next)
open Cert.Ffn0ReferenceIdeal.Read (val_main_v67 val_main_v84)

variable (x0 : Vec Ideal S8x2048x1024 .bf16) (x1 : Vec Ideal S8x2048x1024 .f32) (x2 : Vec Ideal S2x1024x8192 .bf16)
  (x3 : Vec Ideal S2x3x8192 .f32) (x4 : Vec Ideal S2x8192 .f32) (x5 : Vec Ideal S2x4096x1024 .bf16) (x6 : Vec Ideal S2x1024 .f32)
  (x7 : Vec Ideal S2x1024 .f32)
  {h : Vec Ideal S16384x1024 .bf16} {x : Vec Ideal S16384x1024 .f32} {cb : Vec Ideal S1x8192 .f32} {g gn : Vec Ideal S1x1024 .f32}

/-- The first array, from the arguments, is the reference's first result. -/
theorem sum_equation (hh : ∀ (T : Fin 16384) (d : Fin 1024), h (ix2 T d) = x0 (ix3 (seq prompts T) (pos prompts T) d))
    (hx : ∀ (T : Fin 16384) (d : Fin 1024), x (ix2 T d) = x1 (ix3 (seq prompts T) (pos prompts T) d))
    (hcb : ∀ n : Fin 8192, cb (ix2 0 n) = x4 (ix2 0 n)) (hg : ∀ d : Fin 1024, g (ix2 0 d) = x6 (ix2 0 d)) :
    whole h x x2 x3 cb x5 g = val_main_v67 x0 x1 x2 x3 x4 x5 x6 := by
  funext i
  obtain ⟨T, d, rfl⟩ : ∃ (T : Fin 16384) (d : Fin 1024), i = ix2 T d := ⟨i 0, i 1, eq_ix2 i⟩
  refine Eq.trans ?_ (Ffn0ReferenceIdeal.FeedForward.sum_apply x0 x1 x2 x3 x4 x5 x6 T d).symm
  refine congrArg₂ (· + ·) (hx T d) ?_
  exact congrArg₂ (normed · · d) (funext fun k => part_eq prompts 0 (Ffn0ReferenceIdeal.FeedForward.toks x0) x2 x3 x4 x5 hh hcb T k) (funext hg)

/-- The second array, from the first, is the reference's second result. -/
theorem next_equation {v : Vec Ideal S16384x1024 .f32} (hv : v = val_main_v67 x0 x1 x2 x3 x4 x5 x6)
    (hg : ∀ d : Fin 1024, gn (ix2 0 d) = x7 (ix2 1 d)) : next v gn = val_main_v84 x0 x1 x2 x3 x4 x5 x6 x7 := by
  subst hv
  funext i
  obtain ⟨T, d, rfl⟩ : ∃ (T : Fin 16384) (d : Fin 1024), i = ix2 T d := ⟨i 0, i 1, eq_ix2 i⟩
  refine Eq.trans ?_ (Ffn0ReferenceIdeal.FeedForward.next_apply x0 x1 x2 x3 x4 x5 x6 x7 T d).symm
  exact congrArg₂ (normed · · d) rfl (funext hg)

end Cert.FeedForward0

end
-- ==== Proof.Ffn0.Claim.lean ====
/-
  Layer 0's feed-forward call and its reference are equal over the reals, in both results.
-/
module

public import proofs.«01_k».proof.Defs
public import proofs.«01_k».proof.Proof.Ffn0.Equation
public import Idealize.ShloMosaic.Adequacy
public import Idealize.ShloMosaic.Init

@[expose] public section

noncomputable section

namespace Cert.FeedForward0

open Idealize.ShloMosaic Idealize.ShloMosaic.TcCoe Idealize.SL.Sem
open Cert.Ffn0ReferenceIdeal (nD τ main_arg0 main_arg1 main_arg2 main_arg3 main_arg4 main_arg5 main_arg6 main_arg7)
open Cert.Ffn0Ideal.Array (sumsAt nextAt)
open Cert.Ffn0Ideal.Host (H_apply X_apply WU_eq CW_eq CB_apply WD_eq G_apply GN_apply)

/-- From the same arguments, whatever they are, the call and the reference end with the same two arrays. -/
theorem algebraic : Cert.algebraic_Ffn0Ideal_Ffn0ReferenceIdeal := by
  intro m ρ m' ρ' _ heq
  refine ⟨fun c => (Cert.Ffn0Ideal.Gen.dats m 0 c).arrAt 13 Cert.Ffn0Ideal.cfg0.N,
    fun c => (Cert.Ffn0Ideal.Gen.dats m 0 c).arrAt 14 Cert.Ffn0Ideal.cfg0.N, Cert.Ffn0Ideal.Array.run_array m ρ, ?_⟩
  refine (θ_run Cert.Ffn0ReferenceIdeal.defs _ _).mono (fun r h c => ⟨?_, ?_, (h c).2.2⟩)
    (Cert.Ffn0ReferenceIdeal.Value.run (F := Ideal) m' ρ')
  · obtain ⟨a0, a1, a2, a3, a4, a5, a6, a7⟩ := heq c
    refine (h c).1.trans ?_
    refine (Cert.Ffn0ReferenceIdeal.Read.val_main_v67_eq _).trans ?_
    show Cert.Ffn0ReferenceIdeal.Read.val_main_v67 (m' ((c : Thread nD τ).loc main_arg0)) (m' ((c : Thread nD τ).loc main_arg1)) (m' ((c : Thread nD τ).loc main_arg2))
      (m' ((c : Thread nD τ).loc main_arg3)) (m' ((c : Thread nD τ).loc main_arg4)) (m' ((c : Thread nD τ).loc main_arg5)) (m' ((c : Thread nD τ).loc main_arg6)) = _
    rw [a0, a1, a2, a3, a4, a5, a6]
    show _ = (Cert.Ffn0Ideal.Gen.dats m 0 c).arrAt 13 Cert.Ffn0Ideal.cfg0.N
    rw [Cert.Ffn0Ideal.Array.final_sum]
    unfold sumsAt
    rw [WU_eq, CW_eq, WD_eq]
    exact (sum_equation _ _ _ _ _ _ _ (H_apply m c) (X_apply m c) (CB_apply m c) (G_apply m c)).symm
  · obtain ⟨a0, a1, a2, a3, a4, a5, a6, a7⟩ := heq c
    refine (h c).2.1.trans ?_
    refine (Cert.Ffn0ReferenceIdeal.Read.val_main_v84_eq _).trans ?_
    show Cert.Ffn0ReferenceIdeal.Read.val_main_v84 (m' ((c : Thread nD τ).loc main_arg0)) (m' ((c : Thread nD τ).loc main_arg1)) (m' ((c : Thread nD τ).loc main_arg2))
      (m' ((c : Thread nD τ).loc main_arg3)) (m' ((c : Thread nD τ).loc main_arg4)) (m' ((c : Thread nD τ).loc main_arg5)) (m' ((c : Thread nD τ).loc main_arg6)) (m' ((c : Thread nD τ).loc main_arg7)) = _
    rw [a0, a1, a2, a3, a4, a5, a6, a7]
    show _ = (Cert.Ffn0Ideal.Gen.dats m 0 c).arrAt 14 Cert.Ffn0Ideal.cfg0.N
    rw [Cert.Ffn0Ideal.Array.final_next]
    unfold nextAt sumsAt
    rw [WU_eq, CW_eq, WD_eq]
    exact (next_equation _ _ _ _ _ _ _ _ (sum_equation _ _ _ _ _ _ _ (H_apply m c) (X_apply m c) (CB_apply m c) (G_apply m c))
      (GN_apply m c)).symm

end Cert.FeedForward0

end
-- ==== Proof.Out.Frames.lean ====
/-
  The frames of the attention's output projection and of its reference.
-/
module

public import proofs.«01_k».proof.Defs
public import proofs.«01_k».proof.Proof.Gen.Out.Frame
public import proofs.«01_k».proof.Proof.Gen.OutIdeal.Frame
public import proofs.«01_k».proof.Proof.Gen.OutReferenceIdeal.Run
public import proofs.«01_k».proof.Proof.Gen.OutReferenceIdeal.Read
public import Idealize.ShloMosaic.Adequacy
public import Idealize.ShloMosaic.Init

@[expose] public section

noncomputable section

namespace Cert.Output

open Idealize.ShloMosaic Idealize.ShloMosaic.TcCoe Idealize.SL.Sem

/-- The kernel runs and leaves its arguments as they were. -/
theorem frame_kernel : Cert.quiescent_Out := fun m ρ _ => Cert.Out.Gen.frame m ρ

/-- The same over the reals. -/
theorem frame_ideal : Cert.quiescent_OutIdeal := fun m ρ _ => Cert.OutIdeal.Gen.frame m ρ

/-- The reference runs and leaves its arguments as they were. -/
theorem frame_reference : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

end Cert.Output

end
-- ==== Proof.Out.Block.lean ====
/-
  What one grid point of the attention's output projection computes: a tile of 1024 tokens' rows of the two head groups times the two
  halves of the projection, the sum normalized and added to the residual; and the sums normalized for the feed-forward part, put into
  slabs through a scratch of eight lane groups read back every eighth row.
-/
module

public import proofs.«01_k».proof.Proof.Gen.OutIdeal.Frame
public import proofs.«01_k».proof.Proof.Ffn.Tile
public import proofs.«01_k».proof.Proof.Ffn.Last
public import Idealize.ShloMosaic.Lib.Pointwise
public import Idealize.ShloMosaic.Lib.Pipeline.ValueKit
public import Idealize.ShloMosaic.Lib.Pipeline.ReadBack

@[expose] public section

noncomputable section

namespace Cert.OutIdeal.Block

open Cert.OutIdeal Cert.OutIdeal.Gen Idealize.ShloMosaic
open Cert.FfnIdeal.Block (normed)
open Cert.FfnIdeal.Tile (lanes group at_index placed strided lane_cases)

variable
  (c : Dev nD) (i : grid0.Coords) (arg1 : Memref sig .tc .vmem S1024x512 .bf16) (harg1 : arg1.IsWhole) (arg2 :
  Memref sig .tc .vmem S1024x512 .bf16) (harg2 : arg2.IsWhole) (arg3 : Memref sig .tc .vmem S512x1024 .bf16) (harg3
  : arg3.IsWhole) (arg4 : Memref sig .tc .vmem S512x1024 .bf16) (harg4 : arg4.IsWhole) (arg5 : Memref sig .tc .vmem
  S1024x1024 .f32) (harg5 : arg5.IsWhole) (arg6 : Memref sig .tc .vmem S1x1024 .f32) (harg6 : arg6.IsWhole) (arg7 :
  Memref sig .tc .vmem S1x1024 .f32) (harg7 : arg7.IsWhole) (arg8 : Memref sig .tc .vmem S1024x1024 .f32) (harg8 :
  arg8.IsWhole) (arg9 : Memref sig .tc .vmem S1024x1024 .bf16) (harg9 : arg9.IsWhole) (arg10 : Memref sig .tc .vmem
  S8x1024x128 .f32) (harg10 : arg10.IsWhole) (x0 : Vec Ideal S1024x512 .bf16) (x1 : Vec Ideal S1024x512 .bf16) (x2 :
  Vec Ideal S512x1024 .bf16) (x3 : Vec Ideal S512x1024 .bf16) (x4 : Vec Ideal S1024x1024 .f32) (x5 : Vec Ideal
  S1x1024 .f32) (x6 : Vec Ideal S1x1024 .f32)

/-- A token's row of the projection. -/
def projected (T d : Fin 1024) : EReal :=
  (∑ k : Fin 512, x0 (ix2 T k) * x2 (ix2 k d)) + ∑ k : Fin 512, x1 (ix2 T k) * x3 (ix2 k d)

/-- The residual and the normalized row of the projection. -/
def sumRow (T d : Fin 1024) : EReal := x4 (ix2 T d) + normed (projected x0 x1 x2 x3 T) (fun k => x5 (ix2 0 k)) d

/-- The sums, normalized for the feed-forward part. -/
def rows : Vec Ideal S1024x1024 .bf16 := fun z => normed (sumRow x0 x1 x2 x3 x4 x5 (z 0)) (fun k => x6 (ix2 0 k)) (z 1)

/-- The residual sums of a block. -/
theorem sums (T d : Fin 1024) :
    kernelRun0_A.sl.r c arg1 harg1 arg2 harg2 arg3 harg3 arg4 harg4 arg5 harg5 arg6 harg6 x0 x1 x2 x3 x4 x5 (ix2 T d) = sumRow x0 x1 x2 x3 x4 x5 T d := by
  unfold kernelRun0_A.sl.r
  simp (disch := decide) only [View.readAt_eq_ld, View.ld_unit_lit', Memref.IsWhole.read_unread]
  pointwise [k0_pay2]
  rfl

/-- The normalized sums of a block. -/
theorem next (T d : Fin 1024) :
    k0_pay5 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix2 T d)
      = rows x0 x1 x2 x3 x4 x5 x6 (ix2 T d) := by
  have e := fun k : Fin 1024 => sums c arg1 harg1 arg2 harg2 arg3 harg3 arg4 harg4 arg5 harg5 arg6 harg6 x0 x1 x2 x3 x4 x5 T k
  unfold kernelRun0_A.sl.r_1 kernelRun0_A.sl.cst_21
  simp (disch := decide) only [View.readAt_eq_ld, View.ld_unit_lit', Memref.IsWhole.read_unread]
  unfold kernelRun0_A.sl.r at e ⊢
  unfold kernelRun0_A.sl.r_2
  pointwise [k0_pay5, k0_pay3, k0_pay4]
  simp only [e]
  rfl

/-- Each store of the scratch is a group of lanes. -/
theorem stored (T : Fin 1024) (l : Fin 128) :
    k0_pay6 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨l.val, by omega⟩)
    ∧ k0_pay7 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨128 + l.val, by omega⟩)
    ∧ k0_pay8 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨256 + l.val, by omega⟩)
    ∧ k0_pay9 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨384 + l.val, by omega⟩)
    ∧ k0_pay10 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨512 + l.val, by omega⟩)
    ∧ k0_pay11 (kernelRun0_A.sl.r c arg1 harg1 arg2 harg2 arg3 harg3 arg4 harg4 arg5 harg5 arg6 harg6 x0 x1 x2 x3 x4 x5) (kernelRun0_A.sl.r_1 c arg7 harg7 x6)
      (kernelRun0_A.sl.r_2 c arg1 harg1 arg2 harg2 arg3 harg3 arg4 harg4 arg5 harg5 arg6 harg6 x0 x1 x2 x3 x4 x5) kernelRun0_A.sl.cst_21 (ix3 0 T l) = rows x0 x1 x2 x3 x4 x5 x6 (ix2 T ⟨640 + l.val, by omega⟩)
    ∧ k0_pay13 (kernelRun0_A.sl.r_4 c arg1 harg1 arg2 harg2 arg3 harg3 arg4 harg4 arg5 harg5 arg6 harg6 arg7 harg7 x0 x1 x2 x3 x4 x5 x6) (ix3 0 T l) = rows x0 x1 x2 x3 x4 x5 x6 (ix2 T ⟨768 + l.val, by omega⟩)
    ∧ k0_pay14 (kernelRun0_A.sl.r_3 c arg1 harg1 arg2 harg2 arg3 harg3 arg4 harg4 arg5 harg5 arg6 harg6 arg7 harg7 x0 x1 x2 x3 x4 x5 x6) (ix3 0 T l) = rows x0 x1 x2 x3 x4 x5 x6 (ix2 T ⟨896 + l.val, by omega⟩) := by
  refine ⟨?_, ?_, ?_, ?_, ?_, ?_, ?_, ?_⟩
  · pointwise [k0_pay6]; exact next ..
  · pointwise [k0_pay7]; exact next ..
  · pointwise [k0_pay8]; exact next ..
  · pointwise [k0_pay9]; exact next ..
  · pointwise [k0_pay10]; exact next ..
  · pointwise [k0_pay11]; exact next ..
  · unfold kernelRun0_A.sl.r_4; pointwise [k0_pay13, k0_pay12]; exact next ..
  · unfold kernelRun0_A.sl.r_3; pointwise [k0_pay14]; exact next ..

/-- Reading the scratch anywhere gives the columns. -/
theorem scratch (B : LoadRect S8x1024x128) (y : B.shape.Idx) :
    arg10.view.readCov (kernelRun0_A.sl.HS0_8 c arg1 harg1 arg2 harg2 arg3 harg3 arg4 harg4 arg5 harg5 arg6 harg6 arg7 harg7 x0 x1 x2 x3 x4 x5 x6) B y
      = lanes (rows x0 x1 x2 x3 x4 x5 x6) (B.idx y) := by
  rw [View.readCov_eq_canon']
  refine View.canon_apply_of_pieces (Val := Elt Ideal) (e := .f32) (lanes (rows x0 x1 x2 x3 x4 x5 x6)) _ ?_ _ ?_
  · unfold kernelRun0_A.sl.HS0_8
    simp only [List.forall_mem_cons, List.not_mem_nil, false_imp_iff, implies_true, and_true]
    refine ⟨?_, ?_, ?_, ?_, ?_, ?_, ?_, ?_⟩
    · refine at_index ?_; exact fun T l => (stored c arg1 harg1 arg2 harg2 arg3 harg3 arg4 harg4 arg5 harg5 arg6 harg6 arg7 harg7 x0 x1 x2 x3 x4 x5 x6 T l).2.2.2.2.2.2.2.trans (placed (rows x0 x1 x2 x3 x4 x5 x6) 7 _ _ _)
    · refine at_index ?_; exact fun T l => (stored c arg1 harg1 arg2 harg2 arg3 harg3 arg4 harg4 arg5 harg5 arg6 harg6 arg7 harg7 x0 x1 x2 x3 x4 x5 x6 T l).2.2.2.2.2.2.1.trans (placed (rows x0 x1 x2 x3 x4 x5 x6) 6 _ _ _)
    · refine at_index ?_; exact fun T l => (stored c arg1 harg1 arg2 harg2 arg3 harg3 arg4 harg4 arg5 harg5 arg6 harg6 arg7 harg7 x0 x1 x2 x3 x4 x5 x6 T l).2.2.2.2.2.1.trans (placed (rows x0 x1 x2 x3 x4 x5 x6) 5 _ _ _)
    · refine at_index ?_; exact fun T l => (stored c arg1 harg1 arg2 harg2 arg3 harg3 arg4 harg4 arg5 harg5 arg6 harg6 arg7 harg7 x0 x1 x2 x3 x4 x5 x6 T l).2.2.2.2.1.trans (placed (rows x0 x1 x2 x3 x4 x5 x6) 4 _ _ _)
    · refine at_index ?_; exact fun T l => (stored c arg1 harg1 arg2 harg2 arg3 harg3 arg4 harg4 arg5 harg5 arg6 harg6 arg7 harg7 x0 x1 x2 x3 x4 x5 x6 T l).2.2.2.1.trans (placed (rows x0 x1 x2 x3 x4 x5 x6) 3 _ _ _)
    · refine at_index ?_; exact fun T l => (stored c arg1 harg1 arg2 harg2 arg3 harg3 arg4 harg4 arg5 harg5 arg6 harg6 arg7 harg7 x0 x1 x2 x3 x4 x5 x6 T l).2.2.1.trans (placed (rows x0 x1 x2 x3 x4 x5 x6) 2 _ _ _)
    · refine at_index ?_; exact fun T l => (stored c arg1 harg1 arg2 harg2 arg3 harg3 arg4 harg4 arg5 harg5 arg6 harg6 arg7 harg7 x0 x1 x2 x3 x4 x5 x6 T l).2.1.trans (placed (rows x0 x1 x2 x3 x4 x5 x6) 1 _ _ _)
    · refine at_index ?_; exact fun T l => (stored c arg1 harg1 arg2 harg2 arg3 harg3 arg4 harg4 arg5 harg5 arg6 harg6 arg7 harg7 x0 x1 x2 x3 x4 x5 x6 T l).1.trans (placed (rows x0 x1 x2 x3 x4 x5 x6) 0 _ _ _)
  · unfold kernelRun0_A.sl.HS0_8
    simp only [List.exists_mem_cons_iff]
    have hz : (B.idx y 0).val < 8 := (B.idx y 0).isLt
    rcases (by omega : (B.idx y 0).val = 7 ∨ (B.idx y 0).val = 6 ∨ (B.idx y 0).val = 5 ∨ (B.idx y 0).val = 4
      ∨ (B.idx y 0).val = 3 ∨ (B.idx y 0).val = 2 ∨ (B.idx y 0).val = 1 ∨ (B.idx y 0).val = 0) with h | h | h | h | h | h | h | h
    · exact Or.inl (group h _)
    · exact Or.inr (Or.inl (group h _))
    · exact Or.inr (Or.inr (Or.inl (group h _)))
    · exact Or.inr (Or.inr (Or.inr (Or.inl (group h _))))
    · exact Or.inr (Or.inr (Or.inr (Or.inr (Or.inl (group h _)))))
    · exact Or.inr (Or.inr (Or.inr (Or.inr (Or.inr (Or.inl (group h _))))))
    · exact Or.inr (Or.inr (Or.inr (Or.inr (Or.inr (Or.inr (Or.inl (group h _)))))))
    · exact Or.inr (Or.inr (Or.inr (Or.inr (Or.inr (Or.inr (Or.inr (Or.inl (group h _))))))))

set_option maxHeartbeats 1000000 in
/-- The slabs: row `j` of slab `r` is token `8 j + r`. -/
theorem slab (j : Fin 128) (d : Fin 1024) :
    kernelRun0_A.sl.r_5 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val, by omega⟩ d)
    ∧ kernelRun0_A.sl.r_7 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 1, by omega⟩ d)
    ∧ kernelRun0_A.sl.r_13 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 2, by omega⟩ d)
    ∧ kernelRun0_A.sl.r_14 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 3, by omega⟩ d)
    ∧ kernelRun0_A.sl.r_16 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 4, by omega⟩ d)
    ∧ kernelRun0_A.sl.r_21 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 5, by omega⟩ d)
    ∧ kernelRun0_A.sl.r_22 c arg1 harg1 arg2 harg2 arg3 harg3 arg4 harg4 arg5 harg5 arg6 harg6 arg7 harg7 arg10 x0 x1 x2 x3 x4 x5 x6 (ix2 j d)
      = rows x0 x1 x2 x3 x4 x5 x6 (ix2 ⟨8 * j.val + 6, by omega⟩ d)
    ∧ k0_pay32 (kernelRun0_A.sl.v192 c arg1 harg1 arg2 harg2 arg3 harg3 arg4 harg4 arg5 harg5 arg6 harg6 arg7 harg7 arg10 x0 x1 x2 x3 x4 x5 x6) (kernelRun0_A.sl.v194 c arg1 harg1 arg2 harg2 arg3 harg3 arg4 harg4 arg5 harg5 arg6 harg6 arg7 harg7 arg10 x0 x1 x2 x3 x4 x5 x6) (kernelRun0_A.sl.v196 c arg1 harg1 arg2 harg2 arg3 harg3 arg4 harg4 arg5 harg5 arg6 harg6 arg7 harg7 arg10 x0 x1 x2 x3 x4 x5 x6) (kernelRun0_A.sl.v198 c arg1 harg1 arg2 harg2 arg3 harg3 arg4 harg4 arg5 harg5 arg6 harg6 arg7 harg7 arg10 x0 x1 x2 x3 x4 x5 x6) (kernelRun0_A.sl.v200 c arg1 harg1 arg2 harg2 arg3 harg3 arg4 harg4 arg5 harg5 arg6 harg6 arg7 harg7 arg10 x0 x1 x2 x3 x4 x5 x6) (kernelRun0_A.sl.v202 c arg1 harg1 arg2 harg2 arg3 harg3 arg4 harg4 arg5 harg5 arg6 harg6 arg7 harg7 arg10 x0 x1 x2 x3 x4 x5 x6) (kernelRun0_A.sl.v204 c arg1 harg1 arg2 harg2 arg3 harg3 arg4 harg4 arg5 harg5 arg6 harg6 arg7 harg7 arg10 x0 x1 x2 x3 x4 x5 x6) (kernelRun0_A.sl.v206 c arg1 harg1 arg2 harg2 arg3 harg3 arg4 harg4 arg5 harg5 arg6 harg6 arg7 harg7 arg10 x0 x1 x2 x3 x4 x5 x6) (ix2 j d)
      = rows x0 x1 x2 x3 x4 x5 x6 (ix2 ⟨8 * j.val + 7, by omega⟩ d) := by
  have hd := d.isLt
  refine ⟨?_, ?_, ?_, ?_, ?_, ?_, ?_, ?_⟩
  · unfold kernelRun0_A.sl.r_5
    pointwise [k0_pay15]
    simp only [kernelRun0_A.sl.v73, kernelRun0_A.sl.v75, kernelRun0_A.sl.v77, kernelRun0_A.sl.v79, kernelRun0_A.sl.v81, kernelRun0_A.sl.v83, kernelRun0_A.sl.v85, kernelRun0_A.sl.v87, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_7
    pointwise [k0_pay17, kernelRun0_A.sl.r_6, k0_pay16]
    simp only [kernelRun0_A.sl.v90, kernelRun0_A.sl.v92, kernelRun0_A.sl.v94, kernelRun0_A.sl.v96, kernelRun0_A.sl.v98, kernelRun0_A.sl.v100, kernelRun0_A.sl.v102, kernelRun0_A.sl.v104, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_13
    pointwise [k0_pay23, kernelRun0_A.sl.r_8, kernelRun0_A.sl.r_9, kernelRun0_A.sl.r_10, kernelRun0_A.sl.r_11, kernelRun0_A.sl.r_12, k0_pay18, k0_pay19, k0_pay20, k0_pay21, k0_pay22]
    simp only [kernelRun0_A.sl.v107, kernelRun0_A.sl.v109, kernelRun0_A.sl.v111, kernelRun0_A.sl.v113, kernelRun0_A.sl.v115, kernelRun0_A.sl.v117, kernelRun0_A.sl.v119, kernelRun0_A.sl.v121, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_14
    pointwise [k0_pay24]
    simp only [kernelRun0_A.sl.v124, kernelRun0_A.sl.v126, kernelRun0_A.sl.v128, kernelRun0_A.sl.v130, kernelRun0_A.sl.v132, kernelRun0_A.sl.v134, kernelRun0_A.sl.v136, kernelRun0_A.sl.v138, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_16
    pointwise [k0_pay26, kernelRun0_A.sl.r_15, k0_pay25]
    simp only [kernelRun0_A.sl.v141, kernelRun0_A.sl.v143, kernelRun0_A.sl.v145, kernelRun0_A.sl.v147, kernelRun0_A.sl.v149, kernelRun0_A.sl.v151, kernelRun0_A.sl.v153, kernelRun0_A.sl.v155, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_21
    pointwise [k0_pay31, kernelRun0_A.sl.r_17, kernelRun0_A.sl.r_18, kernelRun0_A.sl.r_19, kernelRun0_A.sl.r_20, k0_pay27, k0_pay28, k0_pay29, k0_pay30]
    simp only [kernelRun0_A.sl.v158, kernelRun0_A.sl.v160, kernelRun0_A.sl.v162, kernelRun0_A.sl.v164, kernelRun0_A.sl.v166, kernelRun0_A.sl.v168, kernelRun0_A.sl.v170, kernelRun0_A.sl.v172, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · unfold kernelRun0_A.sl.r_22
    pointwise [k0_pay32]
    simp only [kernelRun0_A.sl.v175, kernelRun0_A.sl.v177, kernelRun0_A.sl.v179, kernelRun0_A.sl.v181, kernelRun0_A.sl.v183, kernelRun0_A.sl.v185, kernelRun0_A.sl.v187, kernelRun0_A.sl.v189, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))
  · pointwise [k0_pay32]
    simp only [kernelRun0_A.sl.v192, kernelRun0_A.sl.v194, kernelRun0_A.sl.v196, kernelRun0_A.sl.v198, kernelRun0_A.sl.v200, kernelRun0_A.sl.v202, kernelRun0_A.sl.v204, kernelRun0_A.sl.v206, scratch]
    rcases lane_cases hd with h | h | h | h | h | h | h | h
    all_goals
      simp (disch := omega) only [dif_pos, dif_neg]
      exact strided (rows x0 x1 x2 x3 x4 x5 x6) _ _ _ _ _ (by first | rfl | (simp only []; omega)) (by first | rfl | (simp only []; omega))

/-- Eight slabs, one after the other. -/
def stack (s0 s1 s2 s3 s4 s5 s6 s7 : FVec Ideal S128x1024 .f32) : FVec Ideal S1024x1024 .bf16 :=
  truncf .bf16 (concatenate S1024x1024 0 [⟨S128x1024, s0⟩, ⟨S128x1024, s1⟩, ⟨S128x1024, s2⟩, ⟨S128x1024, s3⟩, ⟨S128x1024, s4⟩,
    ⟨S128x1024, s5⟩, ⟨S128x1024, s6⟩, ⟨S128x1024, s7⟩]
    concatenates_S128x1024_S128x1024_S128x1024_S128x1024_S128x1024_S128x1024_S128x1024_S128x1024_S1024x1024_d0) bitsLt_bf16_f32

/-- If row `j` of slab `r` is row `8 j + r` of an array, slab row `R` is the array's row `8 (R mod 128) + R / 128`. -/
theorem stacked (s0 s1 s2 s3 s4 s5 s6 s7 : FVec Ideal S128x1024 .f32) (w : Vec Ideal S1024x1024 .bf16)
    (h0 : ∀ (j : Fin 128) (d : Fin 1024), s0 (ix2 j d) = w (ix2 ⟨8 * j.val, by omega⟩ d))
    (h1 : ∀ (j : Fin 128) (d : Fin 1024), s1 (ix2 j d) = w (ix2 ⟨8 * j.val + 1, by omega⟩ d))
    (h2 : ∀ (j : Fin 128) (d : Fin 1024), s2 (ix2 j d) = w (ix2 ⟨8 * j.val + 2, by omega⟩ d))
    (h3 : ∀ (j : Fin 128) (d : Fin 1024), s3 (ix2 j d) = w (ix2 ⟨8 * j.val + 3, by omega⟩ d))
    (h4 : ∀ (j : Fin 128) (d : Fin 1024), s4 (ix2 j d) = w (ix2 ⟨8 * j.val + 4, by omega⟩ d))
    (h5 : ∀ (j : Fin 128) (d : Fin 1024), s5 (ix2 j d) = w (ix2 ⟨8 * j.val + 5, by omega⟩ d))
    (h6 : ∀ (j : Fin 128) (d : Fin 1024), s6 (ix2 j d) = w (ix2 ⟨8 * j.val + 6, by omega⟩ d))
    (h7 : ∀ (j : Fin 128) (d : Fin 1024), s7 (ix2 j d) = w (ix2 ⟨8 * j.val + 7, by omega⟩ d))
    (R d : Fin 1024) :
    stack s0 s1 s2 s3 s4 s5 s6 s7 (ix2 R d) = w (ix2 ⟨8 * (R.val % 128) + R.val / 128, by omega⟩ d) := by
  have hR := R.isLt
  pointwise [stack]
  rcases lane_cases hR with h | h | h | h | h | h | h | h
  all_goals
    simp (disch := omega) only [dif_pos, dif_neg]
    simp only [h0, h1, h2, h3, h4, h5, h6, h7]
    exact congrArg w (congrArg₂ ix2 (Fin.ext (by first | rfl | (simp only []; omega))) rfl)

/-- The slabs one after the other: slab row `R` holds token `8 (R mod 128) + R / 128`. -/
theorem slabs (R d : Fin 1024) :
    k0_pay1 (kernelRun0_A.sl.r_5 c arg1 harg1 arg2 harg2 arg3 harg3 arg4 harg4 arg5 harg5 arg6 harg6 arg7 harg7 arg10 x0 x1 x2 x3 x4 x5 x6) (kernelRun0_A.sl.r_7 c arg1 harg1 arg2 harg2 arg3 harg3 arg4 harg4 arg5 harg5 arg6 harg6 arg7 harg7 arg10 x0 x1 x2 x3 x4 x5 x6) (kernelRun0_A.sl.r_13 c arg1 harg1 arg2 harg2 arg3 harg3 arg4 harg4 arg5 harg5 arg6 harg6 arg7 harg7 arg10 x0 x1 x2 x3 x4 x5 x6) (kernelRun0_A.sl.r_14 c arg1 harg1 arg2 harg2 arg3 harg3 arg4 harg4 arg5 harg5 arg6 harg6 arg7 harg7 arg10 x0 x1 x2 x3 x4 x5 x6) (kernelRun0_A.sl.r_16 c arg1 harg1 arg2 harg2 arg3 harg3 arg4 harg4 arg5 harg5 arg6 harg6 arg7 harg7 arg10 x0 x1 x2 x3 x4 x5 x6) (kernelRun0_A.sl.r_21 c arg1 harg1 arg2 harg2 arg3 harg3 arg4 harg4 arg5 harg5 arg6 harg6 arg7 harg7 arg10 x0 x1 x2 x3 x4 x5 x6) (kernelRun0_A.sl.r_22 c arg1 harg1 arg2 harg2 arg3 harg3 arg4 harg4 arg5 harg5 arg6 harg6 arg7 harg7 arg10 x0 x1 x2 x3 x4 x5 x6) (kernelRun0_A.sl.v192 c arg1 harg1 arg2 harg2 arg3 harg3 arg4 harg4 arg5 harg5 arg6 harg6 arg7 harg7 arg10 x0 x1 x2 x3 x4 x5 x6) (kernelRun0_A.sl.v194 c arg1 harg1 arg2 harg2 arg3 harg3 arg4 harg4 arg5 harg5 arg6 harg6 arg7 harg7 arg10 x0 x1 x2 x3 x4 x5 x6) (kernelRun0_A.sl.v196 c arg1 harg1 arg2 harg2 arg3 harg3 arg4 harg4 arg5 harg5 arg6 harg6 arg7 harg7 arg10 x0 x1 x2 x3 x4 x5 x6) (kernelRun0_A.sl.v198 c arg1 harg1 arg2 harg2 arg3 harg3 arg4 harg4 arg5 harg5 arg6 harg6 arg7 harg7 arg10 x0 x1 x2 x3 x4 x5 x6) (kernelRun0_A.sl.v200 c arg1 harg1 arg2 harg2 arg3 harg3 arg4 harg4 arg5 harg5 arg6 harg6 arg7 harg7 arg10 x0 x1 x2 x3 x4 x5 x6) (kernelRun0_A.sl.v202 c arg1 harg1 arg2 harg2 arg3 harg3 arg4 harg4 arg5 harg5 arg6 harg6 arg7 harg7 arg10 x0 x1 x2 x3 x4 x5 x6) (kernelRun0_A.sl.v204 c arg1 harg1 arg2 harg2 arg3 harg3 arg4 harg4 arg5 harg5 arg6 harg6 arg7 harg7 arg10 x0 x1 x2 x3 x4 x5 x6) (kernelRun0_A.sl.v206 c arg1 harg1 arg2 harg2 arg3 harg3 arg4 harg4 arg5 harg5 arg6 harg6 arg7 harg7 arg10 x0 x1 x2 x3 x4 x5 x6) (ix2 R d)
      = rows x0 x1 x2 x3 x4 x5 x6 (ix2 ⟨8 * (R.val % 128) + R.val / 128, by omega⟩ d) := by
  have e := slab c arg1 harg1 arg2 harg2 arg3 harg3 arg4 harg4 arg5 harg5 arg6 harg6 arg7 harg7 arg10 x0 x1 x2 x3 x4 x5 x6
  exact stacked _ _ _ _ _ _ _ _ (rows x0 x1 x2 x3 x4 x5 x6) (fun j d => (e j d).1) (fun j d => (e j d).2.1) (fun j d => (e j d).2.2.1)
    (fun j d => (e j d).2.2.2.1) (fun j d => (e j d).2.2.2.2.1) (fun j d => (e j d).2.2.2.2.2.1) (fun j d => (e j d).2.2.2.2.2.2.1)
    (fun j d => (e j d).2.2.2.2.2.2.2) R d

/-- The first output block. -/
theorem out_sum (T d : Fin 1024) :
    out0_A_7 c i arg1 harg1 arg2 harg2 arg3 harg3 arg4 harg4 arg5 harg5 arg6 harg6 arg7 harg7 arg8 harg8 arg9 harg9 arg10 harg10 x0 x1 x2 x3 x4 x5 x6 (ix2 T d)
      = sumRow x0 x1 x2 x3 x4 x5 T d := by
  rw [← sums c arg1 harg1 arg2 harg2 arg3 harg3 arg4 harg4 arg5 harg5 arg6 harg6 x0 x1 x2 x3 x4 x5]
  unfold out0_A_7
  rw [View.read_writes_junk_eq_canon]
  unfold kernelRun0_A
  dsimp only
  simp (disch := decide) only [View.canon_cons_unit_lit']
  rfl

/-- The second output block. -/
theorem out_next (R d : Fin 1024) :
    out0_A_8 c i arg1 harg1 arg2 harg2 arg3 harg3 arg4 harg4 arg5 harg5 arg6 harg6 arg7 harg7 arg8 harg8 arg9 harg9 arg10 harg10 x0 x1 x2 x3 x4 x5 x6 (ix2 R d)
      = rows x0 x1 x2 x3 x4 x5 x6 (ix2 ⟨8 * (R.val % 128) + R.val / 128, by omega⟩ d) := by
  refine Eq.trans ?_ (slabs c arg1 harg1 arg2 harg2 arg3 harg3 arg4 harg4 arg5 harg5 arg6 harg6 arg7 harg7 arg10 x0 x1 x2 x3 x4 x5 x6 R d)
  unfold out0_A_8
  rw [View.read_writes_junk_eq_canon]
  unfold kernelRun0_A
  dsimp only
  simp (disch := decide) only [View.canon_cons_unit_lit']

end Cert.OutIdeal.Block

end
-- ==== Proof.Out.Array.lean ====
/-
  The arrays that the attention's output projection leaves: the residual with the normalized projection added, and the same
  normalized for the feed-forward part, in slabs. The grid has a point for each tile of 1024 tokens. After the call the host puts the
  slabs' rows back into the tokens' order.
-/
module

public import proofs.«01_k».proof.Proof.Out.Block
public import Idealize.ShloMosaic.Lib.Pipeline.Value
public import Idealize.ShloMosaic.Lib.StableHlo.Run
public import Idealize.ShloMosaic.Lib.StableHlo.RunRead
public import Idealize.ShloMosaic.Lib.Tactic

@[expose] public section

noncomputable section

namespace Cert.OutIdeal.Array

open Cert.OutIdeal Cert.OutIdeal.Gen Cert.OutIdeal.Block Idealize.ShloMosaic Idealize.ShloMosaic.TcCoe Idealize.SL.Sem
open Cert.FfnIdeal.Block (normed)
open Idealize.ShloMosaic.Pipeline (Dat)

variable (m : (ℓ : Loc nD τ sig) → Buf (Elt Ideal) ℓ) (ρ : Dev nD → PrngReg)

/-- The arrays as the kernel's call finds them: the two groups of heads, the two halves of the projection, the residual, the gains. -/
abbrev A0 (c : Dev nD) : Vec Ideal S16384x512 .bf16 := V m c main_arg0
abbrev A1 (c : Dev nD) : Vec Ideal S16384x512 .bf16 := V m c main_arg1
abbrev W0 (c : Dev nD) : Vec Ideal S512x1024 .bf16 := V m c main_v2
abbrev W1 (c : Dev nD) : Vec Ideal S512x1024 .bf16 := V m c main_v3
abbrev X (c : Dev nD) : Vec Ideal S16384x1024 .f32 := V m c main_v4
abbrev G (c : Dev nD) : Vec Ideal S1x1024 .f32 := V m c main_v7
abbrev GN (c : Dev nD) : Vec Ideal S1x1024 .f32 := V m c main_v10

/-- The grid has 16 points. -/
theorem lt16 (t : Fin cfg0.N) : t.val < 16 := t.isLt.trans_eq N_0

/-- Where the windows stand at grid point `t`. -/
theorem places : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- The token that row `r` of tile `t` is. -/
def token (t : Fin cfg0.N) (r : Fin 1024) : Fin 16384 := ⟨1024 * t.val + r.val, by have := lt16 t; omega⟩

/-- A tile of the first group of heads. -/
theorem first_block (c : Dev nD) (t : Fin cfg0.N) (r : Fin 1024) (k : Fin 512) :
    (iblk m c 0 t : Vec Ideal S1024x512 .bf16) (ix2 r k) = A0 m c (ix2 (token t r) k) := by
  have ht := lt16 t
  unfold iblk
  rw [View.read_apply]
  show V m c main_arg0 _ = V m c main_arg0 _
  congr 1
  funext a
  apply Fin.ext
  match a with
  | ⟨0, _⟩ => show win0_0.index t 0 * 1024 + 1 * r.val = 1024 * t.val + r.val; rw [(places t).1.1]; omega
  | ⟨1, _⟩ => show win0_0.index t 1 * 512 + 1 * k.val = k.val; rw [(places t).1.2]; omega

/-- A tile of the second group of heads. -/
theorem second_block (c : Dev nD) (t : Fin cfg0.N) (r : Fin 1024) (k : Fin 512) :
    (iblk m c 1 t : Vec Ideal S1024x512 .bf16) (ix2 r k) = A1 m c (ix2 (token t r) k) := by
  have ht := lt16 t
  unfold iblk
  rw [View.read_apply]
  show V m c main_arg1 _ = V m c main_arg1 _
  congr 1
  funext a
  apply Fin.ext
  match a with
  | ⟨0, _⟩ => show win0_1.index t 0 * 1024 + 1 * r.val = 1024 * t.val + r.val; rw [(places t).2.1.1]; omega
  | ⟨1, _⟩ => show win0_1.index t 1 * 512 + 1 * k.val = k.val; rw [(places t).2.1.2]; omega

/-- The first half of the projection. -/
theorem first_weights (c : Dev nD) (t : Fin cfg0.N) (r : Fin 512) (k : Fin 1024) :
    (iblk m c 2 t : Vec Ideal S512x1024 .bf16) (ix2 r k) = W0 m c (ix2 r k) := by
  have ht := lt16 t
  unfold iblk
  rw [View.read_apply]
  show V m c main_v2 _ = V m c main_v2 _
  congr 1
  funext a
  apply Fin.ext
  match a with
  | ⟨0, _⟩ => show win0_2.index t 0 * 512 + 1 * r.val = r.val; rw [(places t).2.2.1.1]; omega
  | ⟨1, _⟩ => show win0_2.index t 1 * 1024 + 1 * k.val = k.val; rw [(places t).2.2.1.2]; omega

/-- The second half of the projection. -/
theorem second_weights (c : Dev nD) (t : Fin cfg0.N) (r : Fin 512) (k : Fin 1024) :
    (iblk m c 3 t : Vec Ideal S512x1024 .bf16) (ix2 r k) = W1 m c (ix2 r k) := by
  have ht := lt16 t
  unfold iblk
  rw [View.read_apply]
  show V m c main_v3 _ = V m c main_v3 _
  congr 1
  funext a
  apply Fin.ext
  match a with
  | ⟨0, _⟩ => show win0_3.index t 0 * 512 + 1 * r.val = r.val; rw [(places t).2.2.2.1.1]; omega
  | ⟨1, _⟩ => show win0_3.index t 1 * 1024 + 1 * k.val = k.val; rw [(places t).2.2.2.1.2]; omega

/-- A tile of the residual. -/
theorem residual_block (c : Dev nD) (t : Fin cfg0.N) (r : Fin 1024) (k : Fin 1024) :
    (iblk m c 4 t : Vec Ideal S1024x1024 .f32) (ix2 r k) = X m c (ix2 (token t r) k) := by
  have ht := lt16 t
  unfold iblk
  rw [View.read_apply]
  show V m c main_v4 _ = V m c main_v4 _
  congr 1
  funext a
  apply Fin.ext
  match a with
  | ⟨0, _⟩ => show win0_4.index t 0 * 1024 + 1 * r.val = 1024 * t.val + r.val; rw [(places t).2.2.2.2.1.1]; omega
  | ⟨1, _⟩ => show win0_4.index t 1 * 1024 + 1 * k.val = k.val; rw [(places t).2.2.2.2.1.2]; omega

/-- The gain of the norm. -/
theorem gain_block (c : Dev nD) (t : Fin cfg0.N) (k : Fin 1024) :
    (iblk m c 5 t : Vec Ideal S1x1024 .f32) (ix2 0 k) = G m c (ix2 0 k) := by
  have ht := lt16 t
  unfold iblk
  rw [View.read_apply]
  show V m c main_v7 _ = V m c main_v7 _
  congr 1
  funext a
  apply Fin.ext
  match a with
  | ⟨0, _⟩ => show win0_5.index t 0 * 1 + 1 * 0 = 0; rw [(places t).2.2.2.2.2.1.1]
  | ⟨1, _⟩ => show win0_5.index t 1 * 1024 + 1 * k.val = k.val; rw [(places t).2.2.2.2.2.1.2]; omega

/-- The gain of the norm of the feed-forward part. -/
theorem next_gain_block (c : Dev nD) (t : Fin cfg0.N) (k : Fin 1024) :
    (iblk m c 6 t : Vec Ideal S1x1024 .f32) (ix2 0 k) = GN m c (ix2 0 k) := by
  have ht := lt16 t
  unfold iblk
  rw [View.read_apply]
  show V m c main_v10 _ = V m c main_v10 _
  congr 1
  funext a
  apply Fin.ext
  match a with
  | ⟨0, _⟩ => show win0_6.index t 0 * 1 + 1 * 0 = 0; rw [(places t).2.2.2.2.2.2.1.1]
  | ⟨1, _⟩ => show win0_6.index t 1 * 1024 + 1 * k.val = k.val; rw [(places t).2.2.2.2.2.2.1.2]; omega

/-- A token's row of the projection. -/
def projection (a0 a1 : Vec Ideal S16384x512 .bf16) (w0 w1 : Vec Ideal S512x1024 .bf16) (T : Fin 16384) (d : Fin 1024) : EReal :=
  (∑ k : Fin 512, a0 (ix2 T k) * w0 (ix2 k d)) + ∑ k : Fin 512, a1 (ix2 T k) * w1 (ix2 k d)

/-- The first output array as a function of the arrays: the residual with the normalized projection added. -/
def whole (a0 a1 : Vec Ideal S16384x512 .bf16) (w0 w1 : Vec Ideal S512x1024 .bf16) (x : Vec Ideal S16384x1024 .f32)
    (g : Vec Ideal S1x1024 .f32) : Vec Ideal S16384x1024 .f32 := fun i =>
  x (ix2 (i 0) (i 1)) + normed (projection a0 a1 w0 w1 (i 0)) (fun k => g (ix2 0 k)) (i 1)

/-- The first, normalized for the feed-forward part. -/
def next (v : Vec Ideal S16384x1024 .f32) (g : Vec Ideal S1x1024 .f32) : Vec Ideal S16384x1024 .bf16 := fun i =>
  normed (fun k => v (ix2 (i 0) k)) (fun k => g (ix2 0 k)) (i 1)

/-- The token that row `R` of an array in slabs is: row `128 r + j` of a tile is its token `8 j + r`. -/
def unslab (R : Fin 16384) : Fin 16384 := ⟨1024 * (R.val / 1024) + (8 * (R.val % 1024 % 128) + R.val % 1024 / 128), by omega⟩

/-- An array in slabs. -/
def inSlabs (v : Vec Ideal S16384x1024 .bf16) : Vec Ideal S16384x1024 .bf16 := fun i => v (ix2 (unslab (i 0)) (i 1))

/-- The arrays, of the arrays the call finds. -/
abbrev sumsAt (c : Dev nD) : Vec Ideal S16384x1024 .f32 := whole (A0 m c) (A1 m c) (W0 m c) (W1 m c) (X m c) (G m c)
abbrev nextAt (c : Dev nD) : Vec Ideal S16384x1024 .bf16 := next (sumsAt m c) (GN m c)
abbrev slabsAt (c : Dev nD) : Vec Ideal S16384x1024 .bf16 := inSlabs (nextAt m c)

/-- A row of a tile's sums. -/
theorem tile_row (c : Dev nD) (t : Fin cfg0.N) (r d : Fin 1024) :
    sumRow (iblk m c 0 t) (iblk m c 1 t) (iblk m c 2 t) (iblk m c 3 t) (iblk m c 4 t) (iblk m c 5 t) r d
      = sumsAt m c (ix2 (token t r) d) := by
  refine congrArg₂ (· + ·) (residual_block m c t r d) ?_
  refine congrArg₂ (normed · · d) (funext fun k => ?_) (funext fun k => gain_block m c t k)
  refine congrArg₂ (· + ·) (Finset.sum_congr rfl fun q _ => ?_) (Finset.sum_congr rfl fun q _ => ?_)
  · exact congrArg₂ (· * ·) (first_block m c t r q) (first_weights m c t q k)
  · exact congrArg₂ (· * ·) (second_block m c t r q) (second_weights m c t q k)

/-- What a grid point leaves of the first result … -/
theorem tile_sum (c : Dev nD) (t : Fin cfg0.N) (r d : Fin 1024) : (outsAt0 m c t).1 (ix2 r d) = sumsAt m c (ix2 (token t r) d) := by
  unfold outsAt0
  dsimp only
  refine (out_sum _ _ _ _ _ _ _ _ _ _ _ _ _ _ _ _ _ _ _ _ _ _ _ _ _ _ _ _ _ r d).trans ?_
  exact tile_row m c t r d

/-- … and of the second. -/
theorem tile_next (c : Dev nD) (t : Fin cfg0.N) (r d : Fin 1024) :
    (outsAt0 m c t).2 (ix2 r d) = nextAt m c (ix2 (token t ⟨8 * (r.val % 128) + r.val / 128, by omega⟩) d) := by
  unfold outsAt0
  dsimp only
  refine (out_next _ _ _ _ _ _ _ _ _ _ _ _ _ _ _ _ _ _ _ _ _ _ _ _ _ _ _ _ _ r d).trans ?_
  exact congrArg₂ (normed · · d) (funext fun k => tile_row m c t _ k) (funext fun k => next_gain_block m c t k)

/-- What a grid point writes back of the first result is its block. -/
theorem flushed_sum (c : Dev nD) (t : Fin cfg0.N) (hf : (cfg0.win 7).flush t = true) :
    (dats m 0 c).flushed 7 t = ((cfg0.win 7).blk t).view.read (Elt Ideal) (sumsAt m c) := by
  show (cfg0.win 7).cut (grid0.coords t) ((dats m 0 c).after 7 t) = _
  rw [after0_7]
  funext j
  obtain ⟨r, d, rfl⟩ : ∃ (r d : Fin 1024), j = ix2 r d := ⟨j 0, j 1, eq_ix2 j⟩
  rw [View.read_apply]
  have ht := lt16 t
  refine (tile_sum m c t r d).trans ?_
  show sumsAt m c (ix2 _ _) = _
  congr 1
  funext a
  apply Fin.ext
  match a with
  | ⟨0, _⟩ => show 1024 * t.val + r.val = win0_7.index t 0 * 1024 + 1 * r.val; rw [(places t).2.2.2.2.2.2.2.1.1]; omega
  | ⟨1, _⟩ => show d.val = win0_7.index t 1 * 1024 + 1 * d.val; rw [(places t).2.2.2.2.2.2.2.1.2]; omega

/-- What a grid point writes back of the second result is its block. -/
theorem flushed_slabs (c : Dev nD) (t : Fin cfg0.N) (hf : (cfg0.win 8).flush t = true) :
    (dats m 0 c).flushed 8 t = ((cfg0.win 8).blk t).view.read (Elt Ideal) (slabsAt m c) := by
  show (cfg0.win 8).cut (grid0.coords t) ((dats m 0 c).after 8 t) = _
  rw [after0_8]
  funext j
  obtain ⟨r, d, rfl⟩ : ∃ (r d : Fin 1024), j = ix2 r d := ⟨j 0, j 1, eq_ix2 j⟩
  rw [View.read_apply]
  have ht := lt16 t
  refine (tile_next m c t r d).trans ?_
  show nextAt m c (ix2 (token t ⟨8 * (r.val % 128) + r.val / 128, by omega⟩) d) = nextAt m c _
  congr 1
  funext a
  apply Fin.ext
  match a with
  | ⟨0, _⟩ =>
    have h0 : win0_8.index t 0 * 1024 + 1 * r.val = 1024 * t.val + r.val := by rw [(places t).2.2.2.2.2.2.2.2.1]; omega
    show 1024 * t.val + (8 * (r.val % 128) + r.val / 128)
      = 1024 * ((win0_8.index t 0 * 1024 + 1 * r.val) / 1024) + (8 * ((win0_8.index t 0 * 1024 + 1 * r.val) % 1024 % 128)
        + (win0_8.index t 0 * 1024 + 1 * r.val) % 1024 / 128)
    rw [h0]
    have h1 : (1024 * t.val + r.val) / 1024 = t.val := by omega
    have h2 : (1024 * t.val + r.val) % 1024 = r.val := by omega
    rw [h1, h2]
  | ⟨1, _⟩ => show d.val = win0_8.index t 1 * 1024 + 1 * d.val; rw [(places t).2.2.2.2.2.2.2.2.2]; omega

/-- The first array after the call. -/
theorem final_sum (c : Dev nD) : (dats m 0 c).arrAt 7 cfg0.N = sumsAt m c :=
  (dats m 0 c).arrAt_eq_of_cover 7 _ (flushed_sum m c) fun i => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_7 t, ?_⟩
    show i ∈ ((View.whole main_v11_0).slice (win0_7.rect t)).set
    rw [View.set_slice_whole, Rect.mem_set_unit]
    intro a
    match a with
    | ⟨0, _⟩ =>
      show win0_7.index t 0 * 1024 ≤ (i 0 : Nat) ∧ (i 0 : Nat) < win0_7.index t 0 * 1024 + 1024
      rw [(places t).2.2.2.2.2.2.2.1.1]; omega
    | ⟨1, _⟩ =>
      show win0_7.index t 1 * 1024 ≤ (i 1 : Nat) ∧ (i 1 : Nat) < win0_7.index t 1 * 1024 + 1024
      rw [(places t).2.2.2.2.2.2.2.1.2]; omega

/-- The second array after the call. -/
theorem final_slabs (c : Dev nD) : (dats m 0 c).arrAt 8 cfg0.N = slabsAt m c :=
  (dats m 0 c).arrAt_eq_of_cover 8 _ (flushed_slabs m c) fun i => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_8 t, ?_⟩
    show i ∈ ((View.whole main_v11_1).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [(places t).2.2.2.2.2.2.2.2.1]; omega
    | ⟨1, _⟩ =>
      show win0_8.index t 1 * 1024 ≤ (i 1 : Nat) ∧ (i 1 : Nat) < win0_8.index t 1 * 1024 + 1024
      rw [(places t).2.2.2.2.2.2.2.2.2]; omega

/-- Reading an array in slabs as tiles of eight slabs of 128 rows, the rows of a tile taken slab by slab, gives the tokens in their order. -/
theorem unslab_token (T : ℕ) (hT : T < 16384) :
    1024 * ((T / 1024 * 1024 + T % 8 * 128 + T / 8 % 128) / 1024)
      + (8 * ((T / 1024 * 1024 + T % 8 * 128 + T / 8 % 128) % 1024 % 128)
        + (T / 1024 * 1024 + T % 8 * 128 + T / 8 % 128) % 1024 / 128) = T := by
  have h1 : (T / 1024 * 1024 + T % 8 * 128 + T / 8 % 128) / 1024 = T / 1024 := by omega
  have h2 : (T / 1024 * 1024 + T % 8 * 128 + T / 8 % 128) % 1024 = T % 8 * 128 + T / 8 % 128 := by omega
  have h3 : (T % 8 * 128 + T / 8 % 128) % 128 = T / 8 % 128 := by omega
  have h4 : (T % 8 * 128 + T / 8 % 128) / 128 = T % 8 := by omega
  rw [h1, h2, h3, h4]
  omega

/-- What the host leaves of the second array: the tokens in their order. -/
theorem tail (c : Dev nD) : Pipeline.afterTail₀ cfgs (dats m) 0 (V0 m) [hostOps1] c main_v14 = nextAt m c := by
  have e : Pipeline.withArrays spec0 c (V0 m c) (fun w => (dats m 0 c).arrAt w cfg0.N) (Proc.devRef .tc main_v11_1) = slabsAt m c :=
    (Pipeline.withArrays_arr spec0 winFacts0.arr_inj c (V0 m c) _ 8).trans (final_slabs m c)
  show StableHlo.after (List.flatten [hostOps1]) (Pipeline.withArrays spec0 c (V0 m c) fun w => (dats m 0 c).arrAt w cfg0.N)
    (Proc.devRef .tc main_v14) = _
  generalize Pipeline.withArrays spec0 c (V0 m c) (fun w => (dats m 0 c).arrAt w cfg0.N) = W at e ⊢
  after_reads_simp
  rw [e]
  funext i
  obtain ⟨T, d, rfl⟩ : ∃ (T : Fin 16384) (d : Fin 1024), i = ix2 T d := ⟨i 0, i 1, eq_ix2 i⟩
  pointwise
  exact congrArg (nextAt m c) (congrArg (ix2 · d) (Fin.ext (unslab_token T.val T.isLt)))

/-- The run: afterwards the results' buffers hold the arrays above, and the arguments are as they were. -/
theorem run_array : θ_run defs (onTc (τ := τ) (main (F := Ideal))) ⟨m, fun _ => 0, ρ⟩ fun r => ∀ c : Dev nD,
      r.2.mem ((c : Thread nD τ).loc main_v11_0) = sumsAt m c
      ∧ r.2.mem ((c : Thread nD τ).loc main_v14) = nextAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final_sum m c),
      ((h c).2 main_v14 (Pipeline.mem_restRefs_of main_v14 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.OutIdeal.Array

end
-- ==== Proof.Out.Host.lean ====
/-
  The arrays that the host code prepares for the attention's output projection: the projection in two halves, the batch and the
  sequence of the residual merged into one axis, the layer's gains as rows.
-/
module

public import proofs.«01_k».proof.Proof.Out.Array

@[expose] public section

noncomputable section

namespace Cert.OutIdeal.Host

open Cert.OutIdeal Cert.OutIdeal.Gen Cert.OutIdeal.Array Idealize.ShloMosaic Idealize.ShloMosaic.TcCoe Idealize.SL.Sem

variable (m : (ℓ : Loc nD τ sig) → Buf (Elt Ideal) ℓ)

/-- The two groups of heads. -/
theorem A0_eq (c : Dev nD) : A0 m c = m ((c : Thread nD τ).loc main_arg0) := V_main_arg0 m c
/-- The neighbourhood attention's heads are the argument. -/
theorem A1_eq (c : Dev nD) : A1 m c = m ((c : Thread nD τ).loc main_arg1) := V_main_arg1 m c

/-- The first half of the projection. -/
theorem W0_apply (c : Dev nD) (k : Fin 512) (d : Fin 1024) :
    W0 m c (ix2 k d) = m ((c : Thread nD τ).loc main_arg3) (ix3 0 ⟨k.val, by omega⟩ d) := by
  unfold_abbrev_sides
  after_reads_simp
  pointwise

/-- The second half of the projection. -/
theorem W1_apply (c : Dev nD) (k : Fin 512) (d : Fin 1024) :
    W1 m c (ix2 k d) = m ((c : Thread nD τ).loc main_arg3) (ix3 0 ⟨512 + k.val, by omega⟩ d) := by
  unfold_abbrev_sides
  after_reads_simp
  pointwise

/-- The residual. -/
theorem X_apply (c : Dev nD) (T : Fin 16384) (d : Fin 1024) :
    X m c (ix2 T d) = m ((c : Thread nD τ).loc main_arg2) (ix3 ⟨T.val / 2048, by omega⟩ ⟨T.val % 2048, by omega⟩ d) := by
  unfold_abbrev_sides
  after_reads_simp
  pointwise

/-- The gain of the norm. -/
theorem G_apply (c : Dev nD) (d : Fin 1024) : G m c (ix2 0 d) = m ((c : Thread nD τ).loc main_arg4) (ix2 0 d) := by
  unfold_abbrev_sides
  after_reads_simp
  pointwise

/-- The gain of the norm of the feed-forward part. -/
theorem GN_apply (c : Dev nD) (d : Fin 1024) : GN m c (ix2 0 d) = m ((c : Thread nD τ).loc main_arg5) (ix2 0 d) := by
  unfold_abbrev_sides
  after_reads_simp
  pointwise

end Cert.OutIdeal.Host

end
-- ==== Proof.Out.Reference.lean ====
/-
  What the reference of the attention's output projection computes, element by element: the product with the projection, the norm, the
  sum with the residual, and the norm of the feed-forward part.
-/
module

public import proofs.«01_k».proof.Proof.Gen.OutReferenceIdeal.Run
public import proofs.«01_k».proof.Proof.Gen.OutReferenceIdeal.Read
public import proofs.«01_k».proof.Proof.Ffn.Last
public import Idealize.ShloMosaic.Lib.Pointwise

@[expose] public section

noncomputable section

namespace Cert.OutReferenceIdeal.Output

open Cert.OutReferenceIdeal Cert.OutReferenceIdeal.Gen Cert.OutReferenceIdeal.Read Idealize.ShloMosaic Idealize.ShloMosaic.TcCoe Idealize.SL.Sem
open Cert.FfnIdeal.Block (normed)

variable (x0 x1 : Vec Ideal S16384x512 .bf16) (x2 : Vec Ideal S8x2048x1024 .f32) (x3 : Vec Ideal S1x1024x1024 .f32)
  (x4 x5 : Vec Ideal S2x1024 .f32)

/-- A token's row of the product: the heads of both groups with their halves of the projection. -/
def product (T : Fin 16384) (d : Fin 1024) : EReal :=
  (∑ k : Fin 512, x0 (ix2 T k) * x3 (ix3 0 ⟨k.val, by omega⟩ d)) + ∑ k : Fin 512, x1 (ix2 T k) * x3 (ix3 0 ⟨512 + k.val, by omega⟩ d)

/-- The heads of a token, the second group after the first. -/
theorem joined (T : Fin 16384) (k : Fin 1024) :
    val_main_v1 (F := Ideal) x0 x1 (ix2 T k)
      = if h : k.val < 512 then x0 (ix2 T ⟨k.val, h⟩) else x1 (ix2 T ⟨k.val - 512, by omega⟩) := by
  pointwise [val_main_v1, val_main_v0]

/-- The projection of the concatenated heads. -/
theorem products (T : Fin 16384) (d : Fin 1024) : val_main_v3 x0 x1 x3 (ix2 T d) = product x0 x1 x3 T d := by
  pointwise [val_main_v3, val_main_v2]
  simp only [joined]
  refine (Fin.sum_univ_add (a := 512) (b := 512) _).trans ?_
  refine congrArg₂ (· + ·) (Finset.sum_congr rfl fun k _ => ?_) (Finset.sum_congr rfl fun k _ => ?_)
  · rw [dif_pos (show (Fin.castAdd 512 k).val < 512 from k.isLt)]
    rfl
  · rw [dif_neg (show ¬(Fin.natAdd 512 k).val < 512 from Nat.not_lt.mpr (Nat.le_add_right _ _))]
    refine congrArg (· * _) (congrArg x1 (congrArg (ix2 T) (Fin.ext ?_)))
    exact Nat.add_sub_cancel_left 512 k.val

/-- The reference's first result at token `T` of the batch. -/
theorem sum_apply (T : Fin 16384) (d : Fin 1024) :
    val_main_v20 x0 x1 x2 x3 x4 (ix2 T d)
      = x2 (ix3 ⟨T.val / 2048, by omega⟩ ⟨T.val % 2048, by omega⟩ d) + normed (product x0 x1 x3 T) (fun k => x4 (ix2 0 k)) d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [products]
  rfl

/-- The reference's second result at token `T` of the batch: the first, normalized for the feed-forward part. -/
theorem next_apply (T : Fin 16384) (d : Fin 1024) :
    val_main_v36 x0 x1 x2 x3 x4 x5 (ix2 T d)
      = normed (fun k => val_main_v20 x0 x1 x2 x3 x4 (ix2 T k)) (fun k => x5 (ix2 0 k)) d := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  rfl

end Cert.OutReferenceIdeal.Output

end
-- ==== Proof.Out.Equation.lean ====
/-
  The arrays of the attention's output projection are the reference's, token by token.
-/
module

public import proofs.«01_k».proof.Proof.Out.Host
public import proofs.«01_k».proof.Proof.Out.Reference

@[expose] public section

noncomputable section

namespace Cert.Output

open Cert.OutIdeal Idealize.ShloMosaic Idealize.ShloMosaic.TcCoe Idealize.SL.Sem
open Cert.FfnIdeal.Block (normed)
open Cert.OutIdeal.Array (whole next)
open Cert.OutReferenceIdeal.Read (val_main_v20 val_main_v36)

variable (x0 x1 : Vec Ideal S16384x512 .bf16) (x2 : Vec Ideal S8x2048x1024 .f32) (x3 : Vec Ideal S1x1024x1024 .f32)
  (x4 x5 : Vec Ideal S2x1024 .f32)
  {w0 w1 : Vec Ideal S512x1024 .bf16} {x : Vec Ideal S16384x1024 .f32} {g gn : Vec Ideal S1x1024 .f32}

/-- The first array, from the arguments, is the reference's first result. -/
theorem sum_equation (hw0 : ∀ (k : Fin 512) (d : Fin 1024), w0 (ix2 k d) = x3 (ix3 0 ⟨k.val, by omega⟩ d))
    (hw1 : ∀ (k : Fin 512) (d : Fin 1024), w1 (ix2 k d) = x3 (ix3 0 ⟨512 + k.val, by omega⟩ d))
    (hx : ∀ (T : Fin 16384) (d : Fin 1024), x (ix2 T d) = x2 (ix3 ⟨T.val / 2048, by omega⟩ ⟨T.val % 2048, by omega⟩ d))
    (hg : ∀ d : Fin 1024, g (ix2 0 d) = x4 (ix2 0 d)) :
    whole x0 x1 w0 w1 x g = val_main_v20 x0 x1 x2 x3 x4 := by
  funext i
  obtain ⟨T, d, rfl⟩ : ∃ (T : Fin 16384) (d : Fin 1024), i = ix2 T d := ⟨i 0, i 1, eq_ix2 i⟩
  refine Eq.trans ?_ (Cert.OutReferenceIdeal.Output.sum_apply x0 x1 x2 x3 x4 T d).symm
  refine congrArg₂ (· + ·) (hx T d) ?_
  refine congrArg₂ (normed · · d) (funext fun k => ?_) (funext hg)
  refine congrArg₂ (· + ·) (Finset.sum_congr rfl fun q _ => ?_) (Finset.sum_congr rfl fun q _ => ?_)
  · exact congrArg (x0 (ix2 T q) * ·) (hw0 q k)
  · exact congrArg (x1 (ix2 T q) * ·) (hw1 q k)

/-- The second array, from the first, is the reference's second result. -/
theorem next_equation {v : Vec Ideal S16384x1024 .f32} (hv : v = val_main_v20 x0 x1 x2 x3 x4)
    (hg : ∀ d : Fin 1024, gn (ix2 0 d) = x5 (ix2 0 d)) : next v gn = val_main_v36 x0 x1 x2 x3 x4 x5 := by
  subst hv
  funext i
  obtain ⟨T, d, rfl⟩ : ∃ (T : Fin 16384) (d : Fin 1024), i = ix2 T d := ⟨i 0, i 1, eq_ix2 i⟩
  refine Eq.trans ?_ (Cert.OutReferenceIdeal.Output.next_apply x0 x1 x2 x3 x4 x5 T d).symm
  exact congrArg₂ (normed · · d) rfl (funext hg)

end Cert.Output

end
-- ==== Proof.Out.Claim.lean ====
/-
  The attention's output projection and its reference are equal over the reals, in both results.
-/
module

public import proofs.«01_k».proof.Defs
public import proofs.«01_k».proof.Proof.Out.Equation
public import Idealize.ShloMosaic.Adequacy
public import Idealize.ShloMosaic.Init

@[expose] public section

noncomputable section

namespace Cert.Output

open Idealize.ShloMosaic Idealize.ShloMosaic.TcCoe Idealize.SL.Sem
open Cert.OutReferenceIdeal (nD τ main_arg0 main_arg1 main_arg2 main_arg3 main_arg4 main_arg5)
open Cert.OutIdeal.Array (sumsAt nextAt)
open Cert.OutIdeal.Host (A0_eq A1_eq W0_apply W1_apply X_apply G_apply GN_apply)

/-- From the same arguments, whatever they are, the call and the reference end with the same two arrays. -/
theorem algebraic : Cert.algebraic_OutIdeal_OutReferenceIdeal := by
  intro m ρ m' ρ' _ heq
  refine ⟨fun c => sumsAt m c, fun c => nextAt m c, Cert.OutIdeal.Array.run_array m ρ, ?_⟩
  refine (θ_run Cert.OutReferenceIdeal.defs _ _).mono (fun r h c => ⟨?_, ?_, (h c).2.2⟩)
    (Cert.OutReferenceIdeal.Value.run (F := Ideal) m' ρ')
  · obtain ⟨a0, a1, a2, a3, a4, a5⟩ := heq c
    refine (h c).1.trans ?_
    refine (Cert.OutReferenceIdeal.Read.val_main_v20_eq _ _ _ _ _).trans ?_
    show Cert.OutReferenceIdeal.Read.val_main_v20 (m' ((c : Thread nD τ).loc main_arg0)) (m' ((c : Thread nD τ).loc main_arg1)) (m' ((c : Thread nD τ).loc main_arg2))
      (m' ((c : Thread nD τ).loc main_arg3)) (m' ((c : Thread nD τ).loc main_arg4)) = _
    rw [a0, a1, a2, a3, a4]
    show _ = sumsAt m c
    unfold sumsAt
    rw [A0_eq, A1_eq]
    exact (sum_equation _ _ _ _ _ (W0_apply m c) (W1_apply m c) (X_apply m c) (G_apply m c)).symm
  · obtain ⟨a0, a1, a2, a3, a4, a5⟩ := heq c
    refine (h c).2.1.trans ?_
    refine (Cert.OutReferenceIdeal.Read.val_main_v36_eq _ _).trans ?_
    show Cert.OutReferenceIdeal.Read.val_main_v36 (m' ((c : Thread nD τ).loc main_arg0)) (m' ((c : Thread nD τ).loc main_arg1)) (m' ((c : Thread nD τ).loc main_arg2))
      (m' ((c : Thread nD τ).loc main_arg3)) (m' ((c : Thread nD τ).loc main_arg4)) (m' ((c : Thread nD τ).loc main_arg5)) = _
    rw [a0, a1, a2, a3, a4, a5]
    show _ = nextAt m c
    unfold nextAt sumsAt
    rw [A0_eq, A1_eq]
    exact (next_equation _ _ _ _ _ _ (sum_equation _ _ _ _ _ (W0_apply m c) (W1_apply m c) (X_apply m c) (G_apply m c))
      (GN_apply m c)).symm

end Cert.Output

end
-- ==== Proof.In.Frames.lean ====
/-
  The frames of the attention's input projection and of its reference.
-/
module

public import proofs.«01_k».proof.Defs
public import proofs.«01_k».proof.Proof.Gen.AttnIn.Frame
public import proofs.«01_k».proof.Proof.Gen.AttnInIdeal.Frame
public import proofs.«01_k».proof.Proof.Gen.AttnInReferenceIdeal.Run
public import proofs.«01_k».proof.Proof.Gen.AttnInReferenceIdeal.Read
public import Idealize.ShloMosaic.Adequacy
public import Idealize.ShloMosaic.Init

@[expose] public section

noncomputable section

namespace Cert.Input

open Idealize.ShloMosaic Idealize.ShloMosaic.TcCoe Idealize.SL.Sem

/-- The kernel runs and leaves its arguments as they were. -/
theorem frame_kernel : Cert.quiescent_AttnIn := fun m ρ _ => Cert.AttnIn.Gen.frame m ρ

/-- The same over the reals. -/
theorem frame_ideal : Cert.quiescent_AttnInIdeal := fun m ρ _ => Cert.AttnInIdeal.Gen.frame m ρ

/-- The reference runs and leaves its arguments as they were. -/
theorem frame_reference : Cert.quiescent_AttnInReferenceIdeal := fun m ρ _ =>
  (θ_run Cert.AttnInReferenceIdeal.defs _ _).mono (fun r h => ⟨fun c => (h c).2.2.2.2.2.2, sem_eq_zero_of_no_sems (by decide) r.2⟩)
    (Cert.AttnInReferenceIdeal.Value.run (F := Ideal) m ρ)

/-- The ideal kernel is the kernel with the two factors of the queries named. -/
theorem preserves : Cert.preserves_AttnIn_AttnInIdeal :=
  ⟨IdealRules.named_const.statement Cert.AttnInIdeal.κ "qscale" .f32 0x3E16C740#32 _ rfl,
    IdealRules.named_const.statement Cert.AttnInIdeal.κ "nascale" .f32 0x3E38AA3B#32 _ rfl⟩

end Cert.Input

end
-- ==== Proof.In.Block.lean ====
/-
  What one grid point of the attention's input projection computes from a tile of 1024 tokens: the tokens' rows normalized and projected,
  the two latents normalized and projected again, the rotary lanes of the queries and the keys turned.
-/
module

public import proofs.«01_k».proof.Proof.Gen.AttnInIdeal.Frame
public import Idealize.ShloMosaic.Lib.Pointwise
public import Idealize.ShloMosaic.Lib.Pipeline.ValueKit
public import Idealize.ShloMosaic.Lib.Pipeline.ReadBack

@[expose] public section

noncomputable section

namespace Cert.AttnInIdeal.Block

open Cert.AttnInIdeal Cert.AttnInIdeal.Gen Idealize.ShloMosaic

/-- A row divided by its root mean square, times the gain; `n` is the float of the row's length. -/
def normed {k : ℕ} (n : BitVec 32) (a g : Fin k → EReal) (d : Fin k) : EReal :=
  a d * FloatOps.rsqrt (F := Ideal) (φ := .f32) (Ideal.div (∑ q : Fin k, a q * a q) (FloatOps.ofBits (F := Ideal) .f32 n)
    + FloatOps.ofBits (F := Ideal) .f32 0x358637BD#32) * g d

/-- The partner of a rotary lane: 16 lanes on below lane 80, 16 lanes back from there. -/
def partner (z : Fin 128 → EReal) (l : Fin 128) : EReal :=
  if l.val < 80 then z ⟨(l.val + 128 - 112) % 128, by omega⟩ else z ⟨(l.val + 128 - 16) % 128, by omega⟩

/-- A head's lanes times the cosines and, lane by lane, the partner's times the sines. -/
def turned (z c s : Fin 128 → EReal) (l : Fin 128) : EReal := z l * c l + partner z l * s l

/-- The comparison of a lane's number with 80 chooses the partner. -/
theorem chosen (l : Fin 128) (a b : EReal) :
    Scalar.select (IntOp.cmpi CmpIPredicate.slt (BitVec.ofNat 32 l.val) 80#32) a b = if l.val < 80 then a else b := by
  have h : ∀ l : Fin 128, IntOp.cmpi CmpIPredicate.slt (BitVec.ofNat 32 l.val) 80#32 = if l.val < 80 then 1#1 else 0#1 := by decide
  rw [h l]
  by_cases hl : l.val < 80
  · rw [if_pos hl, if_pos hl]; rfl
  · rw [if_neg hl, if_neg hl]; rfl

/-- An array of eight heads of 128 lanes by head, row and lane. -/
def heads (f : Fin 8 → Fin 1024 → Fin 128 → EReal) (z : S1024x1024.Idx) : EReal :=
  f ⟨(z 1).val / 128, by have h : (z 1).val < 1024 := (z 1).isLt; omega⟩ ⟨(z 0).val, (z 0).isLt⟩ ⟨(z 1).val % 128, by omega⟩

/-- The columns of a row that are a head's. -/
def head (v : Fin 1024 → EReal) (q : Fin 8) (l : Fin 128) : EReal := v ⟨128 * q.val + l.val, by omega⟩

/-- What a head's store writes, as the array's columns. -/
theorem placed (f : Fin 8 → Fin 1024 → Fin 128 → EReal) (q : Fin 8) {o : ℕ} (ho : o = 128 * q.val)
    (hq : ∀ a, ![0, o] a + S1024x128.size a ≤ S1024x1024.size a) {g : S1024x128.Idx → EReal} (h : ∀ T l, g (ix2 T l) = f q T l) (x : S1024x128.Idx) :
    g x = heads f ((Rect.unit (s := S1024x1024) ![0, o] S1024x128.size hq).emb x) := by
  subst ho
  have hl : (x 1).val < 128 := (x 1).isLt
  have e : x = ix2 (⟨(x 0).val, (x 0).isLt⟩ : Fin 1024) (⟨(x 1).val, hl⟩ : Fin 128) := by
    funext a
    match a with
    | ⟨0, _⟩ => rfl
    | ⟨1, _⟩ => rfl
  refine (congrArg g e).trans ((h _ _).trans ?_)
  have h0 : (⟨(x 0).val, (x 0).isLt⟩ : Fin 1024) = ⟨0 + 1 * (x 0).val, by have h : (x 0).val < 1024 := (x 0).isLt; omega⟩ := Fin.ext (by show (x 0).val = 0 + 1 * (x 0).val; omega)
  have h1 : q = ⟨(128 * q.val + 1 * (x 1).val) / 128, by omega⟩ := Fin.ext (by show q.val = (128 * q.val + 1 * (x 1).val) / 128; omega)
  have h2 : (⟨(x 1).val, hl⟩ : Fin 128) = ⟨(128 * q.val + 1 * (x 1).val) % 128, by omega⟩ := Fin.ext (by show (x 1).val = (128 * q.val + 1 * (x 1).val) % 128; omega)
  show _ = f ⟨(128 * q.val + 1 * (x 1).val) / 128, _⟩ ⟨0 + 1 * (x 0).val, _⟩ ⟨(128 * q.val + 1 * (x 1).val) % 128, _⟩
  rw [← h0, ← h1, ← h2]

variable (x0 : Vec Ideal S1024x1024 .f32) (x1 : Vec Ideal S1x1024 .f32) (x2 : Vec Ideal S1024x2304 .bf16) (x3 : Vec Ideal S1x384 .f32)
  (x4 : Vec Ideal S384x1024 .bf16) (x5 : Vec Ideal S1x256 .f32) (x6 : Vec Ideal S256x1024 .bf16) (x7 : Vec Ideal S256x512 .bf16)
  (x8 x9 : Vec Ideal S1024x128 .f32)

/-- A token's row of the first projection, from the token's row `a`. -/
def lat (a : Fin 1024 → EReal) (j : Fin 2304) : EReal :=
  ∑ k : Fin 1024, normed 0x44800000#32 a (fun q => x1 (ix2 0 q)) k * x2 (ix2 k j)

/-- A token's queries before they are turned. -/
def queries (a : Fin 1024 → EReal) (j : Fin 1024) : EReal :=
  ∑ k : Fin 384, normed 0x43C00000#32 (fun q : Fin 384 => lat x1 x2 a ⟨q.val, by omega⟩) (fun q => x3 (ix2 0 q)) k * x4 (ix2 k j)

/-- A token's normalized latent of keys and values. -/
def latent (a : Fin 1024 → EReal) (k : Fin 256) : EReal :=
  normed 0x43800000#32 (fun q : Fin 256 => lat x1 x2 a ⟨384 + q.val, by omega⟩) (fun q => x5 (ix2 0 q)) k

/-- A token's row of a tile. -/
abbrev row (T : Fin 1024) : Fin 1024 → EReal := fun k => x0 (ix2 T k)

/-- The first projection of a row. -/
theorem lat_apply (T : Fin 1024) (j : Fin 2304) : k0_pay39 x0 x1 x2 x3 x4 x5 x6 x7 x8 x9 (ix2 T j) = lat x1 x2 (row x0 T) j := by
  unfold k0_pay39
  simp (disch := decide) only [View.ld_unit_lit']
  pointwise [k0_pay1]
  rfl

/-- The cosines, as read. -/
theorem cos_apply (T : Fin 1024) (l : Fin 128) : k0_pay40 x0 x1 x2 x3 x4 x5 x6 x7 x8 x9 (ix2 T l) = x8 (ix2 T l) := by
  unfold k0_pay40
  simp (disch := decide) only [View.ld_unit_lit']
  pointwise [k0_pay2]

/-- The sines, as read. -/
theorem sin_apply (T : Fin 1024) (l : Fin 128) : k0_pay41 x0 x1 x2 x3 x4 x5 x6 x7 x8 x9 (ix2 T l) = x9 (ix2 T l) := by
  unfold k0_pay41
  simp (disch := decide) only [View.ld_unit_lit']
  pointwise [k0_pay3]

/-- The normalized latent of the queries. -/
theorem query_latent (T : Fin 1024) (k : Fin 384) :
    k0_pay42 x0 x1 x2 x3 x4 x5 x6 x7 x8 x9 (ix2 T k)
      = normed 0x43C00000#32 (fun q : Fin 384 => lat x1 x2 (row x0 T) ⟨q.val, by omega⟩) (fun q => x3 (ix2 0 q)) k := by
  have e := fun j => lat_apply x0 x1 x2 x3 x4 x5 x6 x7 x8 x9 T j
  unfold k0_pay39 at e
  unfold k0_pay42
  simp (disch := decide) only [View.ld_unit_lit'] at e ⊢
  pointwise [k0_pay4]
  simp only [e]
  rfl

/-- The second projection of the queries' latent. -/
theorem queries_apply (T j : Fin 1024) : k0_pay43 x0 x1 x2 x3 x4 x5 x6 x7 x8 x9 (ix2 T j) = queries x1 x2 x3 x4 (row x0 T) j := by
  unfold k0_pay43
  simp (disch := decide) only [View.ld_unit_lit']
  pointwise [k0_pay5]
  simp only [query_latent]
  rfl

/-- The normalized latent of the keys and values. -/
theorem latent_apply (T : Fin 1024) (k : Fin 256) :
    k0_pay24 (k0_pay44 x0 x1 x2 x3 x4 x5 x6 x7 x8 x9) (k0_pay45 x0 x1 x2 x3 x4 x5 x6 x7 x8 x9) (k0_pay46 x0 x1 x2 x3 x4 x5 x6 x7 x8 x9) (ix2 T k)
      = latent x1 x2 x5 (row x0 T) k := by
  unfold k0_pay44 k0_pay45 k0_pay46
  simp (disch := decide) only [View.ld_unit_lit']
  pointwise [k0_pay24, k0_pay21, k0_pay22, k0_pay23]
  simp only [lat_apply]
  rfl

/-- A head's lanes turned and scaled. -/
def scaled (v : FVec Ideal S1024x1024 .f32) (c s : FVec Ideal S1024x128 .f32) (q : Fin 8) (T : Fin 1024) (l : Fin 128) : EReal :=
  turned (head (fun d => v (ix2 T d)) q) (fun l => c (ix2 T l)) (fun l => s (ix2 T l)) l * Named.named (F := Ideal) (φ := .f32) κ "qscale" 0x3E16C740#32

/-- The first head: its columns begin at the first. -/
theorem first (v : Fin 1024 → EReal) : head v 0 = fun l => v ⟨l.val, by omega⟩ :=
  funext fun l => congrArg v (Fin.ext (show 128 * 0 + l.val = l.val by omega))

/-- The first heads of the queries. -/
theorem query_heads (c s : FVec Ideal S1024x128 .f32) (n : FVec Ideal S1024x384 .bf16) (w : Vec Ideal S384x1024 .bf16) (T : Fin 1024) (l : Fin 128) :
    k0_pay6 c s n w (ix2 T l) = scaled (k0_pay5 n w) c s 0 T l
    ∧ k0_pay7 c s n w (ix2 T l) = scaled (k0_pay5 n w) c s 1 T l
    ∧ k0_pay11 (k0_pay9 c n w) (k0_pay10 s n w) (ix2 T l) = scaled (k0_pay5 n w) c s 2 T l := by
  refine ⟨?_, ?_, ?_⟩
  · pointwise [k0_pay6]; simp only [chosen]; unfold scaled; rw [first]; rfl
  · pointwise [k0_pay7]; simp only [chosen]; rfl
  · pointwise [k0_pay11, k0_pay10, k0_pay9, k0_pay8]; simp only [chosen]; rfl

/-- The other heads of the queries. -/
theorem query_heads' (c s : FVec Ideal S1024x128 .f32) (v : FVec Ideal S1024x1024 .f32) (T : Fin 1024) (l : Fin 128) :
    k0_pay12 c s v (ix2 T l) = scaled v c s 3 T l
    ∧ k0_pay13 c s v (ix2 T l) = scaled v c s 4 T l
    ∧ k0_pay18 c s (k0_pay14 v) k0_pay15 (k0_pay16 v) (k0_pay17 v) (ix2 T l) = scaled v c s 5 T l
    ∧ k0_pay19 c s v (ix2 T l) = scaled v c s 6 T l
    ∧ k0_pay20 c s v (ix2 T l) = scaled v c s 7 T l := by
  refine ⟨?_, ?_, ?_, ?_, ?_⟩
  · pointwise [k0_pay12]; simp only [chosen]; rfl
  · pointwise [k0_pay13]; simp only [chosen]; rfl
  · pointwise [k0_pay18, k0_pay17, k0_pay16, k0_pay15, k0_pay14]; simp only [chosen]; rfl
  · pointwise [k0_pay19]; simp only [chosen]; rfl
  · pointwise [k0_pay20]; simp only [chosen]; rfl

/-- The lanes of the keys all heads share, turned. -/
theorem shared (z : FVec Ideal S1024x2304 .f32) (c s : FVec Ideal S1024x128 .f32) (T : Fin 1024) (l : Fin 128) :
    k0_pay26 z c s (ix2 T l) = turned (fun l => z (ix2 T ⟨640 + l.val, by omega⟩)) (fun l => c (ix2 T l)) (fun l => s (ix2 T l)) l := by
  pointwise [k0_pay26]; simp only [chosen]; rfl

/-- A head's keys: its own lanes and the shared ones. -/
def joined (k : FVec Ideal S1024x1024 .f32) (z : FVec Ideal S1024x128 .f32) (q : Fin 8) (T : Fin 1024) (l : Fin 128) : EReal :=
  head (fun d => k (ix2 T d)) q l + z (ix2 T l)

/-- The first heads of the keys. -/
theorem key_heads (z : FVec Ideal S1024x2304 .f32) (c s : FVec Ideal S1024x128 .f32) (n : FVec Ideal S1024x256 .f32) (g : FVec Ideal S1x256 .f32)
    (p : FVec Ideal S1024x256 .f32) (w : Vec Ideal S256x1024 .bf16) (T : Fin 1024) (l : Fin 128) :
    k0_pay27 z c s n g p w (ix2 T l) = joined (k0_pay25 n g p w) (k0_pay26 z c s) 0 T l
    ∧ k0_pay28 z c s n g p w (ix2 T l) = joined (k0_pay25 n g p w) (k0_pay26 z c s) 1 T l
    ∧ k0_pay29 z c s n g p w (ix2 T l) = joined (k0_pay25 n g p w) (k0_pay26 z c s) 2 T l
    ∧ k0_pay30 z c s n g p w (ix2 T l) = joined (k0_pay25 n g p w) (k0_pay26 z c s) 3 T l := by
  refine ⟨?_, ?_, ?_, ?_⟩
  · pointwise [k0_pay27]; unfold joined; rw [first]
  · pointwise [k0_pay28]; rfl
  · pointwise [k0_pay29]; rfl
  · pointwise [k0_pay30]; rfl

/-- The other heads of the keys. -/
theorem key_heads' (k : FVec Ideal S1024x1024 .f32) (r : FVec Ideal S1024x128 .f32) (T : Fin 1024) (l : Fin 128) :
    k0_pay31 k r (ix2 T l) = joined k r 4 T l
    ∧ k0_pay32 k r (ix2 T l) = joined k r 5 T l
    ∧ k0_pay33 k r (ix2 T l) = joined k r 6 T l
    ∧ k0_pay34 k r (ix2 T l) = joined k r 7 T l := by
  refine ⟨?_, ?_, ?_, ?_⟩
  · pointwise [k0_pay31]; rfl
  · pointwise [k0_pay32]; rfl
  · pointwise [k0_pay33]; rfl
  · pointwise [k0_pay34]; rfl

/-- A token's queries, turned by the cosines `c` and the sines `s` and scaled. -/
def queryRow (a : Fin 1024 → EReal) (c s : Fin 128 → EReal) (q : Fin 8) (l : Fin 128) : EReal :=
  turned (head (queries x1 x2 x3 x4 a) q) c s l * Named.named (F := Ideal) (φ := .f32) κ "qscale" 0x3E16C740#32

/-- A token's keys: a head's own lanes, and the shared lanes turned. -/
def keyRow (a : Fin 1024 → EReal) (c s : Fin 128 → EReal) (q : Fin 8) (l : Fin 128) : EReal :=
  head (fun d => ∑ k : Fin 256, latent x1 x2 x5 a k * x6 (ix2 k d)) q l + turned (fun l => lat x1 x2 a ⟨640 + l.val, by omega⟩) c s l

/-- The queries and the keys of a tile. -/
def queryTile (q : Fin 8) (T : Fin 1024) (l : Fin 128) : EReal :=
  queryRow x1 x2 x3 x4 (row x0 T) (fun l => x8 (ix2 T l)) (fun l => x9 (ix2 T l)) q l

/-- The keys of a tile. -/
def keyTile (q : Fin 8) (T : Fin 1024) (l : Fin 128) : EReal :=
  keyRow x1 x2 x5 x6 (row x0 T) (fun l => x8 (ix2 T l)) (fun l => x9 (ix2 T l)) q l

/-- The scaled heads of the values read in the program are those of the tile. -/
theorem scaled_eq (q : Fin 8) (T : Fin 1024) (l : Fin 128) :
    scaled (k0_pay43 x0 x1 x2 x3 x4 x5 x6 x7 x8 x9) (k0_pay40 x0 x1 x2 x3 x4 x5 x6 x7 x8 x9) (k0_pay41 x0 x1 x2 x3 x4 x5 x6 x7 x8 x9) q T l
      = queryTile x0 x1 x2 x3 x4 x8 x9 q T l := by
  unfold scaled queryTile queryRow
  simp only [queries_apply, cos_apply, sin_apply]

/-- The second projection of the keys' latent. -/
theorem keys_apply (T d : Fin 1024) :
    k0_pay47 x0 x1 x2 x3 x4 x5 x6 x7 x8 x9 (ix2 T d) = ∑ k : Fin 256, latent x1 x2 x5 (row x0 T) k * x6 (ix2 k d) := by
  unfold k0_pay47
  simp (disch := decide) only [View.ld_unit_lit']
  pointwise [k0_pay25]
  simp only [latent_apply]

/-- The heads of the keys, with the rotary lanes joined to them, are those of the tile. -/
theorem joined_eq (q : Fin 8) (T : Fin 1024) (l : Fin 128) :
    joined (k0_pay47 x0 x1 x2 x3 x4 x5 x6 x7 x8 x9) (k0_pay48 x0 x1 x2 x3 x4 x5 x6 x7 x8 x9) q T l = keyTile x0 x1 x2 x5 x6 x8 x9 q T l := by
  unfold joined keyTile keyRow k0_pay48
  simp only [keys_apply, shared, lat_apply, cos_apply, sin_apply]

/-- A column lies in its head's store. -/
theorem stored {z : S1024x1024.Idx} (q : Fin 8) {o : ℕ} (ho : o = 128 * q.val) (h : (z 1).val / 128 = q.val)
    (hq : ∀ a, ![0, o] a + S1024x128.size a ≤ S1024x1024.size a) : z ∈ (Rect.unit (s := S1024x1024) ![0, o] S1024x128.size hq).set := by
  subst ho
  rw [Rect.mem_set_unit]
  intro a
  match a with
  | ⟨0, _⟩ => exact ⟨Nat.zero_le _, show (z 0).val < 0 + 1024 by have h : (z 0).val < 1024 := (z 0).isLt; omega⟩
  | ⟨1, _⟩ => exact ⟨show 128 * q.val ≤ (z 1).val by omega, show (z 1).val < 128 * q.val + 128 by omega⟩

/-- The queries' tile. -/
theorem query_tile (z : S1024x1024.Idx) :
    out0_10 x0 x1 x2 x3 x4 x5 x6 x7 x8 x9 z = heads (queryTile x0 x1 x2 x3 x4 x8 x9) z := by
  have e := scaled_eq x0 x1 x2 x3 x4 x5 x6 x7 x8 x9
  unfold out0_10
  refine View.canon_apply_of_pieces (Val := Elt Ideal) (e := .bf16) (heads (queryTile x0 x1 x2 x3 x4 x8 x9)) _ ?_ _ (cover0_10 _ _ _ _ _ _ _ _ z)
  simp only [List.forall_mem_cons, List.not_mem_nil, false_imp_iff, implies_true, and_true]
  refine ⟨?_, ?_, ?_, ?_, ?_, ?_, ?_, ?_⟩
  · exact placed _ 7 rfl _ fun T l => (query_heads' _ _ _ T l).2.2.2.2.trans (e 7 T l)
  · exact placed _ 6 rfl _ fun T l => (query_heads' _ _ _ T l).2.2.2.1.trans (e 6 T l)
  · exact placed _ 5 rfl _ fun T l => (query_heads' _ _ _ T l).2.2.1.trans (e 5 T l)
  · exact placed _ 4 rfl _ fun T l => (query_heads' _ _ _ T l).2.1.trans (e 4 T l)
  · exact placed _ 3 rfl _ fun T l => (query_heads' _ _ _ T l).1.trans (e 3 T l)
  · exact placed _ 2 rfl _ fun T l => (query_heads _ _ _ _ T l).2.2.trans (e 2 T l)
  · exact placed _ 1 rfl _ fun T l => (query_heads _ _ _ _ T l).2.1.trans (e 1 T l)
  · exact placed _ 0 rfl _ fun T l => (query_heads _ _ _ _ T l).1.trans (e 0 T l)

/-- The keys' tile. -/
theorem key_tile (z : S1024x1024.Idx) :
    out0_11 x0 x1 x2 x3 x4 x5 x6 x7 x8 x9 z = heads (keyTile x0 x1 x2 x5 x6 x8 x9) z := by
  have e := joined_eq x0 x1 x2 x3 x4 x5 x6 x7 x8 x9
  unfold out0_11
  refine View.canon_apply_of_pieces (Val := Elt Ideal) (e := .bf16) (heads (keyTile x0 x1 x2 x5 x6 x8 x9)) _ ?_ _ (cover0_11 _ _ _ _ _ _ _ _ z)
  simp only [List.forall_mem_cons, List.not_mem_nil, false_imp_iff, implies_true, and_true]
  refine ⟨?_, ?_, ?_, ?_, ?_, ?_, ?_, ?_⟩
  · exact placed _ 7 rfl _ fun T l => (key_heads' _ _ T l).2.2.2.trans (e 7 T l)
  · exact placed _ 6 rfl _ fun T l => (key_heads' _ _ T l).2.2.1.trans (e 6 T l)
  · exact placed _ 5 rfl _ fun T l => (key_heads' _ _ T l).2.1.trans (e 5 T l)
  · exact placed _ 4 rfl _ fun T l => (key_heads' _ _ T l).1.trans (e 4 T l)
  · exact placed _ 3 rfl _ fun T l => (key_heads _ _ _ _ _ _ _ T l).2.2.2.trans (e 3 T l)
  · exact placed _ 2 rfl _ fun T l => (key_heads _ _ _ _ _ _ _ T l).2.2.1.trans (e 2 T l)
  · exact placed _ 1 rfl _ fun T l => (key_heads _ _ _ _ _ _ _ T l).2.1.trans (e 1 T l)
  · exact placed _ 0 rfl _ fun T l => (key_heads _ _ _ _ _ _ _ T l).1.trans (e 0 T l)

/-- The values' tile. -/
theorem value_tile (T : Fin 1024) (d : Fin 512) :
    out0_12 x0 x1 x2 x3 x4 x5 x6 x7 x8 x9 (ix2 T d) = ∑ k : Fin 256, latent x1 x2 x5 (row x0 T) k * x7 (ix2 k d) := by
  unfold out0_12
  simp (disch := decide) only [View.canon_cons_unit_lit', View.ld_unit_lit']
  pointwise [k0_pay35]
  simp only [latent_apply]

/-- The neighbourhood attention's queries, keys and values. -/
theorem near_query_tile (T : Fin 1024) (d : Fin 512) :
    out0_13 x0 x1 x2 x3 x4 x5 x6 x7 x8 x9 (ix2 T d)
      = lat x1 x2 (row x0 T) ⟨768 + d.val, by omega⟩ * Named.named (F := Ideal) (φ := .f32) κ "nascale" 0x3E38AA3B#32 := by
  unfold out0_13
  simp (disch := decide) only [View.canon_cons_unit_lit']
  pointwise [k0_pay36]
  simp only [lat_apply]

/-- The neighbourhood attention's keys of a tile. -/
theorem near_key_tile (T : Fin 1024) (d : Fin 512) :
    out0_14 x0 x1 x2 x3 x4 x5 x6 x7 x8 x9 (ix2 T d) = lat x1 x2 (row x0 T) ⟨1280 + d.val, by omega⟩ := by
  unfold out0_14
  simp (disch := decide) only [View.canon_cons_unit_lit']
  pointwise [k0_pay37]
  simp only [lat_apply]

/-- The neighbourhood attention's values of a tile. -/
theorem near_value_tile (T : Fin 1024) (d : Fin 512) :
    out0_15 x0 x1 x2 x3 x4 x5 x6 x7 x8 x9 (ix2 T d) = lat x1 x2 (row x0 T) ⟨1792 + d.val, by omega⟩ := by
  unfold out0_15
  simp (disch := decide) only [View.canon_cons_unit_lit']
  pointwise [k0_pay38]
  simp only [lat_apply]

end Cert.AttnInIdeal.Block

end
-- ==== Proof.In.Array.lean ====
/-
  The arrays that the attention's input projection leaves: the queries and the keys, heads of 128 lanes, and the values of the latent
  attention; the queries, keys and values of the neighbourhood attention. The grid has a point for each tile of 1024 tokens; the tables of
  cosines and sines are read at the token's place in its sequence of 2048.
-/
module

public import proofs.«01_k».proof.Proof.In.Block
public import Idealize.ShloMosaic.Lib.Pipeline.Value
public import Idealize.ShloMosaic.Lib.StableHlo.Run
public import Idealize.ShloMosaic.Lib.StableHlo.RunRead
public import Idealize.ShloMosaic.Lib.Tactic

@[expose] public section

noncomputable section

namespace Cert.AttnInIdeal.Array

open Cert.AttnInIdeal Cert.AttnInIdeal.Gen Cert.AttnInIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arrays as the kernel's call finds them: the tokens, the first gain and projection, the gain and the projection of the queries'
    latent, the gain and the two projections of the latent of keys and values, the tables of cosines and sines. -/
abbrev X (c : Dev nD) : Vec Ideal S16384x1024 .f32 := V m c main_v49
abbrev G (c : Dev nD) : Vec Ideal S1x1024 .f32 := V m c main_v52
abbrev W (c : Dev nD) : Vec Ideal S1024x2304 .bf16 := V m c main_v20
abbrev GQ (c : Dev nD) : Vec Ideal S1x384 .f32 := V m c main_v54
abbrev WQ (c : Dev nD) : Vec Ideal S384x1024 .bf16 := V m c main_v21
abbrev GK (c : Dev nD) : Vec Ideal S1x256 .f32 := V m c main_v56
abbrev WK (c : Dev nD) : Vec Ideal S256x1024 .bf16 := V m c main_v22
abbrev WV (c : Dev nD) : Vec Ideal S256x512 .bf16 := V m c main_v23
abbrev COS (c : Dev nD) : Vec Ideal S4096x128 .f32 := V m c main_v44
abbrev SIN (c : Dev nD) : Vec Ideal S4096x128 .f32 := V m c main_v48

/-- The grid has 16 points. -/
theorem lt16 (t : Fin cfg0.N) : t.val < 16 := t.isLt.trans_eq N_0

/-- Where the windows stand at grid point `t`. -/
theorem places : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val % 2 ∧ win0_8.index t 1 = 0)
    ∧ (win0_9.index t 0 = t.val % 2 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0) :=
  (by decide +kernel : ∀ t : Fin grid0.N, _)

/-- The token that row `r` of tile `t` is. -/
def token (t : Fin cfg0.N) (r : Fin 1024) : Fin 16384 := ⟨1024 * t.val + r.val, by have := lt16 t; omega⟩

/-- A token's place in its sequence. -/
def place (T : Fin 16384) : Fin 4096 := ⟨T.val % 2048, by omega⟩

/-- A tile of the tokens. -/
theorem token_block (c : Dev nD) (t : Fin cfg0.N) (r k : Fin 1024) :
    (iblk m c 0 t : Vec Ideal S1024x1024 .f32) (ix2 r k) = X m c (ix2 (token t r) k) := by
  have ht := lt16 t
  unfold iblk
  rw [View.read_apply]
  show V m c main_v49 _ = V m c main_v49 _
  congr 1
  funext a
  apply Fin.ext
  match a with
  | ⟨0, _⟩ => show win0_0.index t 0 * 1024 + 1 * r.val = 1024 * t.val + r.val; rw [(places t).1.1]; omega
  | ⟨1, _⟩ => show win0_0.index t 1 * 1024 + 1 * k.val = k.val; rw [(places t).1.2]; omega

/-- The first gain. -/
theorem gain_block (c : Dev nD) (t : Fin cfg0.N) : (iblk m c 1 t : Vec Ideal S1x1024 .f32) = G m c := by
  funext j
  obtain ⟨r, k, rfl⟩ : ∃ (r : Fin 1) (k : Fin 1024), j = ix2 r k := ⟨j 0, j 1, eq_ix2 j⟩
  unfold iblk
  rw [View.read_apply]
  show V m c main_v52 _ = V m c main_v52 _
  congr 1
  funext a
  apply Fin.ext
  match a with
  | ⟨0, _⟩ => show win0_1.index t 0 * 1 + 1 * r.val = r.val; rw [(places t).2.1.1]; omega
  | ⟨1, _⟩ => show win0_1.index t 1 * 1024 + 1 * k.val = k.val; rw [(places t).2.1.2]; omega

/-- The first projection. -/
theorem weights_block (c : Dev nD) (t : Fin cfg0.N) : (iblk m c 2 t : Vec Ideal S1024x2304 .bf16) = W m c := by
  funext j
  obtain ⟨r, k, rfl⟩ : ∃ (r : Fin 1024) (k : Fin 2304), j = ix2 r k := ⟨j 0, j 1, eq_ix2 j⟩
  unfold iblk
  rw [View.read_apply]
  show V m c main_v20 _ = V m c main_v20 _
  congr 1
  funext a
  apply Fin.ext
  match a with
  | ⟨0, _⟩ => show win0_2.index t 0 * 1024 + 1 * r.val = r.val; rw [(places t).2.2.1.1]; omega
  | ⟨1, _⟩ => show win0_2.index t 1 * 2304 + 1 * k.val = k.val; rw [(places t).2.2.1.2]; omega

/-- The gain of the queries' latent. -/
theorem query_gain_block (c : Dev nD) (t : Fin cfg0.N) : (iblk m c 3 t : Vec Ideal S1x384 .f32) = GQ m c := by
  funext j
  obtain ⟨r, k, rfl⟩ : ∃ (r : Fin 1) (k : Fin 384), j = ix2 r k := ⟨j 0, j 1, eq_ix2 j⟩
  unfold iblk
  rw [View.read_apply]
  show V m c main_v54 _ = V m c main_v54 _
  congr 1
  funext a
  apply Fin.ext
  match a with
  | ⟨0, _⟩ => show win0_3.index t 0 * 1 + 1 * r.val = r.val; rw [(places t).2.2.2.1.1]; omega
  | ⟨1, _⟩ => show win0_3.index t 1 * 384 + 1 * k.val = k.val; rw [(places t).2.2.2.1.2]; omega

/-- The projection of the queries' latent. -/
theorem query_weights_block (c : Dev nD) (t : Fin cfg0.N) : (iblk m c 4 t : Vec Ideal S384x1024 .bf16) = WQ m c := by
  funext j
  obtain ⟨r, k, rfl⟩ : ∃ (r : Fin 384) (k : Fin 1024), j = ix2 r k := ⟨j 0, j 1, eq_ix2 j⟩
  unfold iblk
  rw [View.read_apply]
  show V m c main_v21 _ = V m c main_v21 _
  congr 1
  funext a
  apply Fin.ext
  match a with
  | ⟨0, _⟩ => show win0_4.index t 0 * 384 + 1 * r.val = r.val; rw [(places t).2.2.2.2.1.1]; omega
  | ⟨1, _⟩ => show win0_4.index t 1 * 1024 + 1 * k.val = k.val; rw [(places t).2.2.2.2.1.2]; omega

/-- The gain of the latent of keys and values. -/
theorem key_gain_block (c : Dev nD) (t : Fin cfg0.N) : (iblk m c 5 t : Vec Ideal S1x256 .f32) = GK m c := by
  funext j
  obtain ⟨r, k, rfl⟩ : ∃ (r : Fin 1) (k : Fin 256), j = ix2 r k := ⟨j 0, j 1, eq_ix2 j⟩
  unfold iblk
  rw [View.read_apply]
  show V m c main_v56 _ = V m c main_v56 _
  congr 1
  funext a
  apply Fin.ext
  match a with
  | ⟨0, _⟩ => show win0_5.index t 0 * 1 + 1 * r.val = r.val; rw [(places t).2.2.2.2.2.1.1]; omega
  | ⟨1, _⟩ => show win0_5.index t 1 * 256 + 1 * k.val = k.val; rw [(places t).2.2.2.2.2.1.2]; omega

/-- The projection to the keys. -/
theorem key_weights_block (c : Dev nD) (t : Fin cfg0.N) : (iblk m c 6 t : Vec Ideal S256x1024 .bf16) = WK m c := by
  funext j
  obtain ⟨r, k, rfl⟩ : ∃ (r : Fin 256) (k : Fin 1024), j = ix2 r k := ⟨j 0, j 1, eq_ix2 j⟩
  unfold iblk
  rw [View.read_apply]
  show V m c main_v22 _ = V m c main_v22 _
  congr 1
  funext a
  apply Fin.ext
  match a with
  | ⟨0, _⟩ => show win0_6.index t 0 * 256 + 1 * r.val = r.val; rw [(places t).2.2.2.2.2.2.1.1]; omega
  | ⟨1, _⟩ => show win0_6.index t 1 * 1024 + 1 * k.val = k.val; rw [(places t).2.2.2.2.2.2.1.2]; omega

/-- The projection to the values. -/
theorem value_weights_block (c : Dev nD) (t : Fin cfg0.N) : (iblk m c 7 t : Vec Ideal S256x512 .bf16) = WV m c := by
  funext j
  obtain ⟨r, k, rfl⟩ : ∃ (r : Fin 256) (k : Fin 512), j = ix2 r k := ⟨j 0, j 1, eq_ix2 j⟩
  unfold iblk
  rw [View.read_apply]
  show V m c main_v23 _ = V m c main_v23 _
  congr 1
  funext a
  apply Fin.ext
  match a with
  | ⟨0, _⟩ => show win0_7.index t 0 * 256 + 1 * r.val = r.val; rw [(places t).2.2.2.2.2.2.2.1.1]; omega
  | ⟨1, _⟩ => show win0_7.index t 1 * 512 + 1 * k.val = k.val; rw [(places t).2.2.2.2.2.2.2.1.2]; omega

/-- A tile of the cosines. -/
theorem cos_block (c : Dev nD) (t : Fin cfg0.N) (r : Fin 1024) (l : Fin 128) :
    (iblk m c 8 t : Vec Ideal S1024x128 .f32) (ix2 r l) = COS m c (ix2 (place (token t r)) l) := by
  have ht := lt16 t
  unfold iblk
  rw [View.read_apply]
  show V m c main_v44 _ = V m c main_v44 _
  congr 1
  funext a
  apply Fin.ext
  match a with
  | ⟨0, _⟩ => show win0_8.index t 0 * 1024 + 1 * r.val = (1024 * t.val + r.val) % 2048; rw [(places t).2.2.2.2.2.2.2.2.1.1]; omega
  | ⟨1, _⟩ => show win0_8.index t 1 * 128 + 1 * l.val = l.val; rw [(places t).2.2.2.2.2.2.2.2.1.2]; omega

/-- A tile of the sines. -/
theorem sin_block (c : Dev nD) (t : Fin cfg0.N) (r : Fin 1024) (l : Fin 128) :
    (iblk m c 9 t : Vec Ideal S1024x128 .f32) (ix2 r l) = SIN m c (ix2 (place (token t r)) l) := by
  have ht := lt16 t
  unfold iblk
  rw [View.read_apply]
  show V m c main_v48 _ = V m c main_v48 _
  congr 1
  funext a
  apply Fin.ext
  match a with
  | ⟨0, _⟩ => show win0_9.index t 0 * 1024 + 1 * r.val = (1024 * t.val + r.val) % 2048; rw [(places t).2.2.2.2.2.2.2.2.2.1.1]; omega
  | ⟨1, _⟩ => show win0_9.index t 1 * 128 + 1 * l.val = l.val; rw [(places t).2.2.2.2.2.2.2.2.2.1.2]; omega

section
variable (x : Vec Ideal S16384x1024 .f32) (g : Vec Ideal S1x1024 .f32) (w : Vec Ideal S1024x2304 .bf16) (gq : Vec Ideal S1x384 .f32)
  (wq : Vec Ideal S384x1024 .bf16) (gk : Vec Ideal S1x256 .f32) (wk : Vec Ideal S256x1024 .bf16) (wv : Vec Ideal S256x512 .bf16)
  (cs sn : Vec Ideal S4096x128 .f32)

/-- A token's row. -/
abbrev rowOf (T : Fin 16384) : Fin 1024 → EReal := fun k => x (ix2 T k)

/-- The results as functions of the arrays: the queries … -/
def queryArray : Vec Ideal S16384x1024 .bf16 := fun i =>
  queryRow g w gq wq (rowOf x (i 0)) (fun l => cs (ix2 (place (i 0)) l)) (fun l => sn (ix2 (place (i 0)) l))
    ⟨(i 1).val / 128, by have h : (i 1).val < 1024 := (i 1).isLt; omega⟩ ⟨(i 1).val % 128, by omega⟩

/-- … the keys … -/
def keyArray : Vec Ideal S16384x1024 .bf16 := fun i =>
  keyRow g w gk wk (rowOf x (i 0)) (fun l => cs (ix2 (place (i 0)) l)) (fun l => sn (ix2 (place (i 0)) l))
    ⟨(i 1).val / 128, by have h : (i 1).val < 1024 := (i 1).isLt; omega⟩ ⟨(i 1).val % 128, by omega⟩

/-- … the values … -/
def valueArray : Vec Ideal S16384x512 .bf16 := fun i => ∑ k : Fin 256, latent g w gk (rowOf x (i 0)) k * wv (ix2 k (i 1))

/-- … and the neighbourhood attention's queries, keys and values. -/
def nearQueryArray : Vec Ideal S16384x512 .bf16 := fun i =>
  lat g w (rowOf x (i 0)) ⟨768 + (i 1).val, by have h : (i 1).val < 512 := (i 1).isLt; omega⟩
    * Named.named (F := Ideal) (φ := .f32) κ "nascale" 0x3E38AA3B#32

/-- The neighbourhood attention's keys. -/
def nearKeyArray : Vec Ideal S16384x512 .bf16 := fun i =>
  lat g w (rowOf x (i 0)) ⟨1280 + (i 1).val, by have h : (i 1).val < 512 := (i 1).isLt; omega⟩

/-- The neighbourhood attention's values. -/
def nearValueArray : Vec Ideal S16384x512 .bf16 := fun i =>
  lat g w (rowOf x (i 0)) ⟨1792 + (i 1).val, by have h : (i 1).val < 512 := (i 1).isLt; omega⟩
end

/-- The results, of the arrays the call finds. -/
abbrev queriesAt (c : Dev nD) : Vec Ideal S16384x1024 .bf16 := queryArray (X m c) (G m c) (W m c) (GQ m c) (WQ m c) (COS m c) (SIN m c)
abbrev keysAt (c : Dev nD) : Vec Ideal S16384x1024 .bf16 := keyArray (X m c) (G m c) (W m c) (GK m c) (WK m c) (COS m c) (SIN m c)
abbrev valuesAt (c : Dev nD) : Vec Ideal S16384x512 .bf16 := valueArray (X m c) (G m c) (W m c) (GK m c) (WV m c)
abbrev nearQueriesAt (c : Dev nD) : Vec Ideal S16384x512 .bf16 := nearQueryArray (X m c) (G m c) (W m c)
abbrev nearKeysAt (c : Dev nD) : Vec Ideal S16384x512 .bf16 := nearKeyArray (X m c) (G m c) (W m c)
abbrev nearValuesAt (c : Dev nD) : Vec Ideal S16384x512 .bf16 := nearValueArray (X m c) (G m c) (W m c)

/-- A row of a tile is a token's row. -/
theorem tile_row (c : Dev nD) (t : Fin cfg0.N) (r : Fin 1024) : row (iblk m c 0 t) r = rowOf (X m c) (token t r) :=
  funext fun k => token_block m c t r k

/-- A row of a tile's cosines is that of the token's place. -/
theorem tile_cos (c : Dev nD) (t : Fin cfg0.N) (r : Fin 1024) :
    (fun l => (iblk m c 8 t : Vec Ideal S1024x128 .f32) (ix2 r l)) = fun l => COS m c (ix2 (place (token t r)) l) :=
  funext fun l => cos_block m c t r l

/-- A row of a tile's sines is that of the token's place. -/
theorem tile_sin (c : Dev nD) (t : Fin cfg0.N) (r : Fin 1024) :
    (fun l => (iblk m c 9 t : Vec Ideal S1024x128 .f32) (ix2 r l)) = fun l => SIN m c (ix2 (place (token t r)) l) :=
  funext fun l => sin_block m c t r l

/-- What a grid point computes of the queries. -/
theorem tile_query (c : Dev nD) (t : Fin cfg0.N) (r : Fin 1024) (d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r d) = queriesAt m c (ix2 (token t r) d) := by
  refine (query_tile _ _ _ _ _ _ _ _ _ _ _).trans ?_
  show queryRow (iblk m c 1 t) (iblk m c 2 t) (iblk m c 3 t) (iblk m c 4 t) (row (iblk m c 0 t) r)
    (fun l => (iblk m c 8 t : Vec Ideal S1024x128 .f32) (ix2 r l)) (fun l => (iblk m c 9 t : Vec Ideal S1024x128 .f32) (ix2 r l)) _ _ = _
  rw [tile_row, tile_cos, tile_sin, gain_block, weights_block, query_gain_block, query_weights_block]
  rfl

/-- What a grid point computes of the keys. -/
theorem tile_key (c : Dev nD) (t : Fin cfg0.N) (r : Fin 1024) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r d) = keysAt m c (ix2 (token t r) d) := by
  refine (key_tile _ _ _ _ _ _ _ _ _ _ _).trans ?_
  show keyRow (iblk m c 1 t) (iblk m c 2 t) (iblk m c 5 t) (iblk m c 6 t) (row (iblk m c 0 t) r)
    (fun l => (iblk m c 8 t : Vec Ideal S1024x128 .f32) (ix2 r l)) (fun l => (iblk m c 9 t : Vec Ideal S1024x128 .f32) (ix2 r l)) _ _ = _
  rw [tile_row, tile_cos, tile_sin, gain_block, weights_block, key_gain_block, key_weights_block]
  rfl

/-- What a grid point computes of the values. -/
theorem tile_value (c : Dev nD) (t : Fin cfg0.N) (r : Fin 1024) (d : Fin 512) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r d) = valuesAt m c (ix2 (token t r) d) := by
  refine (value_tile _ _ _ _ _ _ _ _ _ _ r d).trans ?_
  rw [tile_row, gain_block, weights_block, key_gain_block, value_weights_block]
  rfl

/-- What a grid point computes of the neighbourhood attention's queries. -/
theorem tile_near_query (c : Dev nD) (t : Fin cfg0.N) (r : Fin 1024) (d : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (ix2 r d) = nearQueriesAt m c (ix2 (token t r) d) := by
  refine (near_query_tile _ _ _ _ _ _ _ _ _ _ r d).trans ?_
  rw [tile_row, gain_block, weights_block]
  rfl

/-- What a grid point computes of the neighbourhood attention's keys. -/
theorem tile_near_key (c : Dev nD) (t : Fin cfg0.N) (r : Fin 1024) (d : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (ix2 r d) = nearKeysAt m c (ix2 (token t r) d) := by
  refine (near_key_tile _ _ _ _ _ _ _ _ _ _ r d).trans ?_
  rw [tile_row, gain_block, weights_block]
  rfl

/-- What a grid point computes of the neighbourhood attention's values. -/
theorem tile_near_value (c : Dev nD) (t : Fin cfg0.N) (r : Fin 1024) (d : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (ix2 r d) = nearValuesAt m c (ix2 (token t r) d) := by
  refine (near_value_tile _ _ _ _ _ _ _ _ _ _ r d).trans ?_
  rw [tile_row, gain_block, weights_block]
  rfl

/-- What a grid point writes back of the queries is their block. -/
theorem flushed_query (c : Dev nD) (t : Fin cfg0.N) (hf : (cfg0.win 10).flush t = true) :
    (dats m 0 c).flushed 10 t = ((cfg0.win 10).blk t).view.read (Elt Ideal) (queriesAt m c) := by
  show (cfg0.win 10).cut (grid0.coords t) ((dats m 0 c).after 10 t) = _
  rw [after0_10]
  funext j
  obtain ⟨r, d, rfl⟩ : ∃ (r : Fin 1024) (d : Fin 1024), j = ix2 r d := ⟨j 0, j 1, eq_ix2 j⟩
  rw [View.read_apply]
  have ht := lt16 t
  refine (tile_query m c t r d).trans ?_
  show queriesAt m c (ix2 _ _) = _
  congr 1
  funext a
  apply Fin.ext
  match a with
  | ⟨0, _⟩ => show 1024 * t.val + r.val = win0_10.index t 0 * 1024 + 1 * r.val; rw [(places t).2.2.2.2.2.2.2.2.2.2.1.1]; omega
  | ⟨1, _⟩ => show d.val = win0_10.index t 1 * 1024 + 1 * d.val; rw [(places t).2.2.2.2.2.2.2.2.2.2.1.2]; omega

/-- The array of the queries after the call. -/
theorem final_query (c : Dev nD) : (dats m 0 c).arrAt 10 cfg0.N = queriesAt m c :=
  (dats m 0 c).arrAt_eq_of_cover 10 _ (flushed_query m c) fun i => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_10 t, ?_⟩
    show i ∈ ((View.whole main_v57_0).slice (win0_10.rect t)).set
    rw [View.set_slice_whole, Rect.mem_set_unit]
    intro a
    match a with
    | ⟨0, _⟩ =>
      show win0_10.index t 0 * 1024 ≤ (i 0 : Nat) ∧ (i 0 : Nat) < win0_10.index t 0 * 1024 + 1024
      rw [(places t).2.2.2.2.2.2.2.2.2.2.1.1]; omega
    | ⟨1, _⟩ =>
      show win0_10.index t 1 * 1024 ≤ (i 1 : Nat) ∧ (i 1 : Nat) < win0_10.index t 1 * 1024 + 1024
      rw [(places t).2.2.2.2.2.2.2.2.2.2.1.2]; omega

/-- What a grid point writes back of the keys is their block. -/
theorem flushed_key (c : Dev nD) (t : Fin cfg0.N) (hf : (cfg0.win 11).flush t = true) :
    (dats m 0 c).flushed 11 t = ((cfg0.win 11).blk t).view.read (Elt Ideal) (keysAt m c) := by
  show (cfg0.win 11).cut (grid0.coords t) ((dats m 0 c).after 11 t) = _
  rw [after0_11]
  funext j
  obtain ⟨r, d, rfl⟩ : ∃ (r : Fin 1024) (d : Fin 1024), j = ix2 r d := ⟨j 0, j 1, eq_ix2 j⟩
  rw [View.read_apply]
  have ht := lt16 t
  refine (tile_key m c t r d).trans ?_
  show keysAt m c (ix2 _ _) = _
  congr 1
  funext a
  apply Fin.ext
  match a with
  | ⟨0, _⟩ => show 1024 * t.val + r.val = win0_11.index t 0 * 1024 + 1 * r.val; rw [(places t).2.2.2.2.2.2.2.2.2.2.2.1.1]; omega
  | ⟨1, _⟩ => show d.val = win0_11.index t 1 * 1024 + 1 * d.val; rw [(places t).2.2.2.2.2.2.2.2.2.2.2.1.2]; omega

/-- The array of the keys after the call. -/
theorem final_key (c : Dev nD) : (dats m 0 c).arrAt 11 cfg0.N = keysAt m c :=
  (dats m 0 c).arrAt_eq_of_cover 11 _ (flushed_key m c) fun i => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_11 t, ?_⟩
    show i ∈ ((View.whole main_v57_1).slice (win0_11.rect t)).set
    rw [View.set_slice_whole, Rect.mem_set_unit]
    intro a
    match a with
    | ⟨0, _⟩ =>
      show win0_11.index t 0 * 1024 ≤ (i 0 : Nat) ∧ (i 0 : Nat) < win0_11.index t 0 * 1024 + 1024
      rw [(places t).2.2.2.2.2.2.2.2.2.2.2.1.1]; omega
    | ⟨1, _⟩ =>
      show win0_11.index t 1 * 1024 ≤ (i 1 : Nat) ∧ (i 1 : Nat) < win0_11.index t 1 * 1024 + 1024
      rw [(places t).2.2.2.2.2.2.2.2.2.2.2.1.2]; omega

/-- What a grid point writes back of the values is their block. -/
theorem flushed_value (c : Dev nD) (t : Fin cfg0.N) (hf : (cfg0.win 12).flush t = true) :
    (dats m 0 c).flushed 12 t = ((cfg0.win 12).blk t).view.read (Elt Ideal) (valuesAt m c) := by
  show (cfg0.win 12).cut (grid0.coords t) ((dats m 0 c).after 12 t) = _
  rw [after0_12]
  funext j
  obtain ⟨r, d, rfl⟩ : ∃ (r : Fin 1024) (d : Fin 512), j = ix2 r d := ⟨j 0, j 1, eq_ix2 j⟩
  rw [View.read_apply]
  have ht := lt16 t
  refine (tile_value m c t r d).trans ?_
  show valuesAt m c (ix2 _ _) = _
  congr 1
  funext a
  apply Fin.ext
  match a with
  | ⟨0, _⟩ => show 1024 * t.val + r.val = win0_12.index t 0 * 1024 + 1 * r.val; rw [(places t).2.2.2.2.2.2.2.2.2.2.2.2.1.1]; omega
  | ⟨1, _⟩ => show d.val = win0_12.index t 1 * 512 + 1 * d.val; rw [(places t).2.2.2.2.2.2.2.2.2.2.2.2.1.2]; omega

/-- The array of the values after the call. -/
theorem final_value (c : Dev nD) : (dats m 0 c).arrAt 12 cfg0.N = valuesAt m c :=
  (dats m 0 c).arrAt_eq_of_cover 12 _ (flushed_value m c) fun i => by
    have h0 : (i 0 : Nat) < 16384 := (i 0).isLt
    have h1 : (i 1 : Nat) < 512 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_12 t, ?_⟩
    show i ∈ ((View.whole main_v57_2).slice (win0_12.rect t)).set
    rw [View.set_slice_whole, Rect.mem_set_unit]
    intro a
    match a with
    | ⟨0, _⟩ =>
      show win0_12.index t 0 * 1024 ≤ (i 0 : Nat) ∧ (i 0 : Nat) < win0_12.index t 0 * 1024 + 1024
      rw [(places t).2.2.2.2.2.2.2.2.2.2.2.2.1.1]; omega
    | ⟨1, _⟩ =>
      show win0_12.index t 1 * 512 ≤ (i 1 : Nat) ∧ (i 1 : Nat) < win0_12.index t 1 * 512 + 512
      rw [(places t).2.2.2.2.2.2.2.2.2.2.2.2.1.2]; omega

/-- What a grid point writes back of the neighbourhood attention's queries is their block. -/
theorem flushed_near_query (c : Dev nD) (t : Fin cfg0.N) (hf : (cfg0.win 13).flush t = true) :
    (dats m 0 c).flushed 13 t = ((cfg0.win 13).blk t).view.read (Elt Ideal) (nearQueriesAt m c) := by
  show (cfg0.win 13).cut (grid0.coords t) ((dats m 0 c).after 13 t) = _
  rw [after0_13]
  funext j
  obtain ⟨r, d, rfl⟩ : ∃ (r : Fin 1024) (d : Fin 512), j = ix2 r d := ⟨j 0, j 1, eq_ix2 j⟩
  rw [View.read_apply]
  have ht := lt16 t
  refine (tile_near_query m c t r d).trans ?_
  show nearQueriesAt m c (ix2 _ _) = _
  congr 1
  funext a
  apply Fin.ext
  match a with
  | ⟨0, _⟩ => show 1024 * t.val + r.val = win0_13.index t 0 * 1024 + 1 * r.val; rw [(places t).2.2.2.2.2.2.2.2.2.2.2.2.2.1.1]; omega
  | ⟨1, _⟩ => show d.val = win0_13.index t 1 * 512 + 1 * d.val; rw [(places t).2.2.2.2.2.2.2.2.2.2.2.2.2.1.2]; omega

/-- The array of the neighbourhood attention's queries after the call. -/
theorem final_near_query (c : Dev nD) : (dats m 0 c).arrAt 13 cfg0.N = nearQueriesAt m c :=
  (dats m 0 c).arrAt_eq_of_cover 13 _ (flushed_near_query m c) fun i => by
    have h0 : (i 0 : Nat) < 16384 := (i 0).isLt
    have h1 : (i 1 : Nat) < 512 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_13 t, ?_⟩
    show i ∈ ((View.whole main_v57_3).slice (win0_13.rect t)).set
    rw [View.set_slice_whole, Rect.mem_set_unit]
    intro a
    match a with
    | ⟨0, _⟩ =>
      show win0_13.index t 0 * 1024 ≤ (i 0 : Nat) ∧ (i 0 : Nat) < win0_13.index t 0 * 1024 + 1024
      rw [(places t).2.2.2.2.2.2.2.2.2.2.2.2.2.1.1]; omega
    | ⟨1, _⟩ =>
      show win0_13.index t 1 * 512 ≤ (i 1 : Nat) ∧ (i 1 : Nat) < win0_13.index t 1 * 512 + 512
      rw [(places t).2.2.2.2.2.2.2.2.2.2.2.2.2.1.2]; omega

/-- What a grid point writes back of the neighbourhood attention's keys is their block. -/
theorem flushed_near_key (c : Dev nD) (t : Fin cfg0.N) (hf : (cfg0.win 14).flush t = true) :
    (dats m 0 c).flushed 14 t = ((cfg0.win 14).blk t).view.read (Elt Ideal) (nearKeysAt m c) := by
  show (cfg0.win 14).cut (grid0.coords t) ((dats m 0 c).after 14 t) = _
  rw [after0_14]
  funext j
  obtain ⟨r, d, rfl⟩ : ∃ (r : Fin 1024) (d : Fin 512), j = ix2 r d := ⟨j 0, j 1, eq_ix2 j⟩
  rw [View.read_apply]
  have ht := lt16 t
  refine (tile_near_key m c t r d).trans ?_
  show nearKeysAt m c (ix2 _ _) = _
  congr 1
  funext a
  apply Fin.ext
  match a with
  | ⟨0, _⟩ => show 1024 * t.val + r.val = win0_14.index t 0 * 1024 + 1 * r.val; rw [(places t).2.2.2.2.2.2.2.2.2.2.2.2.2.2.1.1]; omega
  | ⟨1, _⟩ => show d.val = win0_14.index t 1 * 512 + 1 * d.val; rw [(places t).2.2.2.2.2.2.2.2.2.2.2.2.2.2.1.2]; omega

/-- The array of the neighbourhood attention's keys after the call. -/
theorem final_near_key (c : Dev nD) : (dats m 0 c).arrAt 14 cfg0.N = nearKeysAt m c :=
  (dats m 0 c).arrAt_eq_of_cover 14 _ (flushed_near_key m c) fun i => by
    have h0 : (i 0 : Nat) < 16384 := (i 0).isLt
    have h1 : (i 1 : Nat) < 512 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_14 t, ?_⟩
    show i ∈ ((View.whole main_v57_4).slice (win0_14.rect t)).set
    rw [View.set_slice_whole, Rect.mem_set_unit]
    intro a
    match a with
    | ⟨0, _⟩ =>
      show win0_14.index t 0 * 1024 ≤ (i 0 : Nat) ∧ (i 0 : Nat) < win0_14.index t 0 * 1024 + 1024
      rw [(places t).2.2.2.2.2.2.2.2.2.2.2.2.2.2.1.1]; omega
    | ⟨1, _⟩ =>
      show win0_14.index t 1 * 512 ≤ (i 1 : Nat) ∧ (i 1 : Nat) < win0_14.index t 1 * 512 + 512
      rw [(places t).2.2.2.2.2.2.2.2.2.2.2.2.2.2.1.2]; omega

/-- What a grid point writes back of the neighbourhood attention's values is their block. -/
theorem flushed_near_value (c : Dev nD) (t : Fin cfg0.N) (hf : (cfg0.win 15).flush t = true) :
    (dats m 0 c).flushed 15 t = ((cfg0.win 15).blk t).view.read (Elt Ideal) (nearValuesAt m c) := by
  show (cfg0.win 15).cut (grid0.coords t) ((dats m 0 c).after 15 t) = _
  rw [after0_15]
  funext j
  obtain ⟨r, d, rfl⟩ : ∃ (r : Fin 1024) (d : Fin 512), j = ix2 r d := ⟨j 0, j 1, eq_ix2 j⟩
  rw [View.read_apply]
  have ht := lt16 t
  refine (tile_near_value m c t r d).trans ?_
  show nearValuesAt m c (ix2 _ _) = _
  congr 1
  funext a
  apply Fin.ext
  match a with
  | ⟨0, _⟩ => show 1024 * t.val + r.val = win0_15.index t 0 * 1024 + 1 * r.val; rw [(places t).2.2.2.2.2.2.2.2.2.2.2.2.2.2.2.1]; omega
  | ⟨1, _⟩ => show d.val = win0_15.index t 1 * 512 + 1 * d.val; rw [(places t).2.2.2.2.2.2.2.2.2.2.2.2.2.2.2.2]; omega

/-- The array of the neighbourhood attention's values after the call. -/
theorem final_near_value (c : Dev nD) : (dats m 0 c).arrAt 15 cfg0.N = nearValuesAt m c :=
  (dats m 0 c).arrAt_eq_of_cover 15 _ (flushed_near_value m c) fun i => by
    have h0 : (i 0 : Nat) < 16384 := (i 0).isLt
    have h1 : (i 1 : Nat) < 512 := (i 1).isLt
    have hN : cfg0.N = 16 := N_0
    obtain ⟨t, ht⟩ : ∃ t : Fin cfg0.N, t.val = (i 0 : Nat) / 1024 := ⟨⟨(i 0 : Nat) / 1024, by rw [hN]; omega⟩, rfl⟩
    refine ⟨t, flush0_15 t, ?_⟩
    show i ∈ ((View.whole main_v57_5).slice (win0_15.rect t)).set
    rw [View.set_slice_whole, Rect.mem_set_unit]
    intro a
    match a with
    | ⟨0, _⟩ =>
      show win0_15.index t 0 * 1024 ≤ (i 0 : Nat) ∧ (i 0 : Nat) < win0_15.index t 0 * 1024 + 1024
      rw [(places t).2.2.2.2.2.2.2.2.2.2.2.2.2.2.2.1]; omega
    | ⟨1, _⟩ =>
      show win0_15.index t 1 * 512 ≤ (i 1 : Nat) ∧ (i 1 : Nat) < win0_15.index t 1 * 512 + 512
      rw [(places t).2.2.2.2.2.2.2.2.2.2.2.2.2.2.2.2]; omega

set_option maxHeartbeats 2000000 in

/-- The run: afterwards the results' buffers hold the arrays above, and the arguments are as they were. -/
theorem run_array : θ_run defs (onTc (τ := τ) (main (F := Ideal))) ⟨m, fun _ => 0, ρ⟩ fun r => ∀ c : Dev nD,
      r.2.mem ((c : Thread nD τ).loc main_v57_0) = queriesAt m c
      ∧ r.2.mem ((c : Thread nD τ).loc main_v57_1) = keysAt m c
      ∧ r.2.mem ((c : Thread nD τ).loc main_v57_2) = valuesAt m c
      ∧ r.2.mem ((c : Thread nD τ).loc main_v57_3) = nearQueriesAt m c
      ∧ r.2.mem ((c : Thread nD τ).loc main_v57_4) = nearKeysAt m c
      ∧ r.2.mem ((c : Thread nD τ).loc main_v57_5) = nearValuesAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 10).trans (final_query m c),
      ((h c).1 11).trans (final_key m c),
      ((h c).1 12).trans (final_value m c),
      ((h c).1 13).trans (final_near_query m c),
      ((h c).1 14).trans (final_near_key m c),
      ((h c).1 15).trans (final_near_value m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.AttnInIdeal.Array

end
-- ==== Proof.In.Reference.lean ====
/-
  What the reference of the attention's input projection computes, element by element: the normalized token times the first projection;
  the two latents normalized and projected again; the rotary lanes turned; the heads' lanes put side by side.
-/
module

public import proofs.«01_k».proof.Proof.Gen.AttnInReferenceIdeal.Run
public import proofs.«01_k».proof.Proof.Gen.AttnInReferenceIdeal.Read
public import proofs.«01_k».proof.Proof.In.Block
public import Idealize.ShloMosaic.Lib.Pointwise

@[expose] public section

noncomputable section

namespace Cert.AttnInReferenceIdeal.Input

open Cert.AttnInReferenceIdeal Cert.AttnInReferenceIdeal.Gen Cert.AttnInReferenceIdeal.Read Idealize.ShloMosaic Idealize.ShloMosaic.TcCoe Idealize.SL.Sem
open Cert.AttnInIdeal.Block (normed)

variable (x0 : Vec Ideal S8x2048x1024 .f32) (x1 : Vec Ideal S2x1024 .f32) (x2 : Vec Ideal S1x1024x2208 .f32) (x3 : Vec Ideal S1x384 .f32)
  (x4 : Vec Ideal S1x384x768 .f32) (x5 : Vec Ideal S1x256 .f32) (x6 : Vec Ideal S1x256x1024 .f32)

/-- The angle of rotary pair `p` at place `R` of the sequence. -/
def angle (R p : ℕ) : EReal :=
  FloatOps.sitofp (F := Ideal) FTy.f32 (BitVec.ofNat 32 R)
    * Ideal.pow (Ideal.ofBits FTy.f32 0x461C4000#32)
        (Ideal.div (-(Ideal.ofBits FTy.f32 0x40000000#32 * FloatOps.sitofp (F := Ideal) FTy.f32 (BitVec.ofNat 32 p))) (Ideal.ofBits FTy.f32 0x42000000#32))

/-- A token's row of the first projection. -/
def first (b : Fin 8) (s : Fin 2048) (j : Fin 2208) : EReal :=
  ∑ k : Fin 1024, normed 0x44800000#32 (fun q => x0 (ix3 b s q)) (fun q => x1 (ix2 0 q)) k * x2 (ix3 0 k j)

/-- A token's queries before they are turned. -/
def queries (b : Fin 8) (s : Fin 2048) (j : Fin 768) : EReal :=
  ∑ k : Fin 384, normed 0x43C00000#32 (fun q : Fin 384 => first x0 x1 x2 b s ⟨q.val, by omega⟩) (fun q => x3 (ix2 0 q)) k * x4 (ix3 0 k j)

/-- A token's keys and values. -/
def keysValues (b : Fin 8) (s : Fin 2048) (j : Fin 1024) : EReal :=
  ∑ k : Fin 256, normed 0x43800000#32 (fun q : Fin 256 => first x0 x1 x2 b s ⟨384 + q.val, by omega⟩) (fun q => x5 (ix2 0 q)) k * x6 (ix3 0 k j)

/-- Thirty-two lanes turned by the angles of place `R`: the first sixteen and the last sixteen are the two halves of the pairs. -/
def rotated (z : Fin 32 → EReal) (R : ℕ) (l : Fin 32) : EReal :=
  if h : l.val < 16 then z l * Ideal.cos (angle R l.val) - z ⟨16 + l.val, by omega⟩ * Ideal.sin (angle R l.val)
  else z ⟨16 + (l.val - 16), by omega⟩ * Ideal.cos (angle R (l.val - 16)) + z ⟨l.val - 16, by omega⟩ * Ideal.sin (angle R (l.val - 16))

/-- A head's 128 lanes: 64 as they are, 32 turned, 32 zero. -/
def lanes (own : Fin 64 → EReal) (t : Fin 32 → EReal) (R : ℕ) (l : Fin 128) : EReal :=
  if h : l.val < 64 then own ⟨l.val, h⟩ else if h' : l.val - 64 < 32 then rotated t R ⟨l.val - 64, h'⟩ else 0

/-- Element `(b, s, j)` of the first projection. -/
theorem first_apply (b : Fin 8) (s : Fin 2048) (j : Fin 2208) : val_main_v16 (F := Ideal) x0 x1 x2 (ix3 b s j) = first x0 x1 x2 b s j := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The normalized query latent. -/
theorem query_latent (b : Fin 8) (s : Fin 2048) (k : Fin 384) :
    val_main_v36 (F := Ideal) x0 x1 x2 x3 (ix3 b s k)
      = normed 0x43C00000#32 (fun q : Fin 384 => first x0 x1 x2 b s ⟨q.val, by omega⟩) (fun q => x3 (ix2 0 q)) k := by
  pointwise [val_main_v36, val_main_v35, val_main_v34, val_main_v33, val_main_v32, val_main_v31, val_main_v30, val_main_v29, val_main_v28, val_main_v27, val_main_v26, val_main_v25, val_main_v24, val_main_v23, val_main_v17, val_main_cst_2, val_main_cst_3, val_main_cst_4]
  simp only [first_apply]
  rfl

/-- The projected queries, by head. -/
theorem queries_apply (b : Fin 8) (s : Fin 2048) (h : Fin 8) (l : Fin 96) :
    val_main_v39 (F := Ideal) x0 x1 x2 x3 x4 (ix4 b s h l) = queries x0 x1 x2 x3 x4 b s ⟨h.val * 96 + l.val, by omega⟩ := by
  pointwise [val_main_v39, val_main_v38, val_main_v37]
  simp only [query_latent]
  rfl

/-- The normalized key latent. -/
theorem key_latent (b : Fin 8) (s : Fin 2048) (k : Fin 256) :
    val_main_v53 (F := Ideal) x0 x1 x2 x5 (ix3 b s k)
      = normed 0x43800000#32 (fun q : Fin 256 => first x0 x1 x2 b s ⟨384 + q.val, by omega⟩) (fun q => x5 (ix2 0 q)) k := by
  pointwise [val_main_v53, val_main_v52, val_main_v51, val_main_v50, val_main_v49, val_main_v48, val_main_v47, val_main_v46, val_main_v45, val_main_v44, val_main_v43, val_main_v42, val_main_v41, val_main_v40, val_main_v18, val_main_cst_5, val_main_cst_6, val_main_cst_7]
  simp only [first_apply]
  rfl

/-- The projected keys and values, by head. -/
theorem keysValues_apply (b : Fin 8) (s : Fin 2048) (h : Fin 8) (l : Fin 128) :
    val_main_v56 (F := Ideal) x0 x1 x2 x5 x6 (ix4 b s h l) = keysValues x0 x1 x2 x5 x6 b s ⟨h.val * 128 + l.val, by omega⟩ := by
  pointwise [val_main_v56, val_main_v55, val_main_v54]
  simp only [key_latent]
  rfl

/-- The table of cosines. -/
theorem cos_apply (s : Fin 2048) (p : Fin 16) : val_main_v73 (F := Ideal) (ix2 s p) = Ideal.cos (angle s.val p.val) := by
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_cst_8, val_main_cst_9, val_main_cst_10, val_main_cst_11]
  rfl

/-- The table of sines. -/
theorem sin_apply (s : Fin 2048) (p : Fin 16) : val_main_v74 (F := Ideal) (ix2 s p) = Ideal.sin (angle s.val p.val) := by
  pointwise [val_main_v74, val_main_v72, val_main_v71, val_main_v70, val_main_v69, val_main_v68, val_main_v67, val_main_v66, val_main_v65, val_main_v64, val_main_v63, val_main_v62, val_main_v61, val_main_v60, val_main_v59, val_main_v58, val_main_v57, val_main_cst_8, val_main_cst_9, val_main_cst_10, val_main_cst_11]
  rfl

/-- The rotary lanes of the queries, turned. -/
theorem query_turned (b : Fin 8) (s : Fin 2048) (h : Fin 8) (l : Fin 32) :
    val_main_v94 (F := Ideal) x0 x1 x2 x3 x4 (ix4 b s h l)
      = rotated (fun l : Fin 32 => queries x0 x1 x2 x3 x4 b s ⟨h.val * 96 + (64 + l.val), by omega⟩) s.val l := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75]
  simp only [queries_apply, cos_apply, sin_apply]
  rfl

/-- The rotary lanes of the keys, turned. -/
theorem key_turned (b : Fin 8) (s : Fin 2048) (l : Fin 32) : val_main_v111 (F := Ideal) x0 x1 x2 (ix3 b s l)
      = rotated (fun l : Fin 32 => first x0 x1 x2 b s ⟨640 + l.val, by omega⟩) s.val l := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v19]
  simp only [first_apply, cos_apply, sin_apply]
  rfl

/-- Element `(T, j)` of the queries. -/
theorem query_result (T : Fin 16384) (j : Fin 1024) : val_main_v130 (F := Ideal) x0 x1 x2 x3 x4 (ix2 T j)
      = Ideal.div
          (lanes (fun l : Fin 64 => queries x0 x1 x2 x3 x4 ⟨T.val / 2048, by omega⟩ ⟨T.val % 2048, by omega⟩ ⟨j.val / 128 * 96 + l.val, by omega⟩)
              (fun l : Fin 32 => queries x0 x1 x2 x3 x4 ⟨T.val / 2048, by omega⟩ ⟨T.val % 2048, by omega⟩ ⟨j.val / 128 * 96 + (64 + l.val), by omega⟩)
              (T.val % 2048) ⟨j.val % 128, by omega⟩
            * Ideal.ofBits FTy.f32 0x3DD105EC#32)
          (Ideal.log (Ideal.ofBits FTy.f32 0x40000000#32)) := by
  pointwise [val_main_v130, val_main_v129, val_main_v121, val_main_v120, val_main_v119, val_main_v118, val_main_v117, val_main_v116, val_main_v115, val_main_v114, val_main_cst_12, val_main_cst_13, val_main_cst_14]
  simp only [queries_apply, query_turned]
  rfl

/-- Element `(T, j)` of the keys. -/
theorem key_result (T : Fin 16384) (j : Fin 1024) : val_main_v132 (F := Ideal) x0 x1 x2 x5 x6 (ix2 T j)
      = lanes (fun l : Fin 64 => keysValues x0 x1 x2 x5 x6 ⟨T.val / 2048, by omega⟩ ⟨T.val % 2048, by omega⟩ ⟨j.val / 128 * 128 + l.val, by omega⟩)
          (fun l : Fin 32 => first x0 x1 x2 ⟨T.val / 2048, by omega⟩ ⟨T.val % 2048, by omega⟩ ⟨640 + l.val, by omega⟩) (T.val % 2048) ⟨j.val % 128, by omega⟩ := by
  pointwise [val_main_v132, val_main_v131, val_main_v123, val_main_v122, val_main_v114, val_main_v113, val_main_v112, val_main_cst_12]
  simp only [keysValues_apply, key_turned]
  rfl

/-- Element `(T, j)` of the values. -/
theorem value_result (T : Fin 16384) (j : Fin 512) : val_main_v134 (F := Ideal) x0 x1 x2 x5 x6 (ix2 T j)
      = keysValues x0 x1 x2 x5 x6 ⟨T.val / 2048, by omega⟩ ⟨T.val % 2048, by omega⟩ ⟨j.val / 64 * 128 + (64 + j.val % 64), by omega⟩ := by
  pointwise [val_main_v134, val_main_v133, val_main_v128]
  simp only [keysValues_apply]

/-- Element `(T, j)` of the neighbourhood queries. -/
theorem near_query_result (T : Fin 16384) (j : Fin 512) : val_main_v136 (F := Ideal) x0 x1 x2 (ix2 T j)
      = Ideal.div (first x0 x1 x2 ⟨T.val / 2048, by omega⟩ ⟨T.val % 2048, by omega⟩ ⟨672 + j.val, by omega⟩ * Ideal.ofBits FTy.f32 0x3E000000#32)
          (Ideal.log (Ideal.ofBits FTy.f32 0x40000000#32)) := by
  pointwise [val_main_v136, val_main_v135, val_main_v127, val_main_v126, val_main_v125, val_main_v124, val_main_v115, val_main_v20, val_main_cst_13, val_main_cst_15]
  simp only [first_apply]

/-- Element `(T, j)` of the neighbourhood keys. -/
theorem near_key_result (T : Fin 16384) (j : Fin 512) : val_main_v138 (F := Ideal) x0 x1 x2 (ix2 T j)
      = first x0 x1 x2 ⟨T.val / 2048, by omega⟩ ⟨T.val % 2048, by omega⟩ ⟨1184 + j.val, by omega⟩ := by
  pointwise [val_main_v138, val_main_v137, val_main_v21]
  simp only [first_apply]

/-- Element `(T, j)` of the neighbourhood values. -/
theorem near_value_result (T : Fin 16384) (j : Fin 512) : val_main_v140 (F := Ideal) x0 x1 x2 (ix2 T j)
      = first x0 x1 x2 ⟨T.val / 2048, by omega⟩ ⟨T.val % 2048, by omega⟩ ⟨1696 + j.val, by omega⟩ := by
  pointwise [val_main_v140, val_main_v139, val_main_v22]
  simp only [first_apply]

end Cert.AttnInReferenceIdeal.Input

end
-- ==== Proof.In.Host.lean ====
/-
  The arrays that the host code prepares for the attention's input projection: the batch and the sequence merged into one axis, the gains
  as rows, the projections with columns of zeros between the groups, the tables of cosines and sines.
-/
module

public import proofs.«01_k».proof.Proof.In.Array
public import proofs.«01_k».proof.Proof.In.Reference

@[expose] public section

noncomputable section

namespace Cert.AttnInIdeal.Host

open Cert.AttnInIdeal Cert.AttnInIdeal.Gen Cert.AttnInIdeal.Array Idealize.ShloMosaic Idealize.ShloMosaic.TcCoe Idealize.SL.Sem
open Cert.AttnInReferenceIdeal.Input (angle)

/-- The first projection's columns put at lanes that are multiples of 128: 640 for the latents, 64 of zeros, 32 for the rotary keys, 32 of
zeros, and the neighbourhood attention's. -/
def firstPad (w : Fin 2208 → EReal) (j : Fin 2304) : EReal :=
  if h : j.val < 640 then w ⟨j.val, by omega⟩
  else if h : j.val - 640 < 64 then 0
  else if h : j.val - 640 - 64 < 32 then w ⟨640 + (j.val - 640 - 64), by omega⟩
  else if h : j.val - 640 - 64 - 32 < 32 then 0
  else w ⟨672 + (j.val - 640 - 64 - 32 - 32), by omega⟩

/-- A head's 96 columns of queries followed by 32 of zeros. -/
def queryPad (w : Fin 768 → EReal) (j : Fin 1024) : EReal :=
  if h : j.val % 128 < 96 then w ⟨j.val / 128 * 96 + j.val % 128, by omega⟩ else 0

/-- A head's 64 columns of keys followed by 64 of zeros. -/
def keyPad (w : Fin 1024 → EReal) (j : Fin 1024) : EReal :=
  if h : j.val % 128 < 64 then w j else 0

/-- A head's row of cosines: ones, the cosines twice, zeros. -/
def cosLane (R : ℕ) (l : Fin 128) : EReal :=
  if h : l.val < 64 then 1
  else if h : l.val - 64 < 16 then Ideal.cos (angle R (l.val - 64))
  else if h : l.val - 64 - 16 < 16 then Ideal.cos (angle R (l.val - 64 - 16))
  else 0

/-- A head's row of sines: zeros, the sines negated, the sines, zeros. -/
def sinLane (R : ℕ) (l : Fin 128) : EReal :=
  if h : l.val < 64 then 0
  else if h : l.val - 64 < 16 then -Ideal.sin (angle R (l.val - 64))
  else if h : l.val - 64 - 16 < 16 then Ideal.sin (angle R (l.val - 64 - 16))
  else 0

variable (m : (ℓ : Loc nD τ sig) → Buf (Elt Ideal) ℓ)

/-- The tokens. -/
theorem X_apply (c : Dev nD) (T : Fin 16384) (d : Fin 1024) :
    X m c (ix2 T d) = m ((c : Thread nD τ).loc main_arg0) (ix3 ⟨T.val / 2048, by omega⟩ ⟨T.val % 2048, by omega⟩ d) := by
  unfold_abbrev_sides
  after_reads_simp
  pointwise

/-- The gains. -/
theorem G_apply (c : Dev nD) (d : Fin 1024) : G m c (ix2 0 d) = m ((c : Thread nD τ).loc main_arg1) (ix2 0 d) := by
  unfold_abbrev_sides
  after_reads_simp
  pointwise

/-- The gains of the queries' latent. -/
theorem GQ_apply (c : Dev nD) (d : Fin 384) : GQ m c (ix2 0 d) = m ((c : Thread nD τ).loc main_arg3) (ix2 0 d) := by
  unfold_abbrev_sides
  after_reads_simp
  pointwise

/-- The gains of the keys' latent. -/
theorem GK_apply (c : Dev nD) (d : Fin 256) : GK m c (ix2 0 d) = m ((c : Thread nD τ).loc main_arg5) (ix2 0 d) := by
  unfold_abbrev_sides
  after_reads_simp
  pointwise

/-- The first projection. -/
theorem W_apply (c : Dev nD) (k : Fin 1024) (j : Fin 2304) :
    W m c (ix2 k j) = firstPad (fun q => m ((c : Thread nD τ).loc main_arg2) (ix3 0 k q)) j := by
  unfold_abbrev_sides
  after_reads_simp
  pointwise
  after_reads_simp
  pointwise
  rfl

/-- The projection of the queries' latent. -/
theorem WQ_apply (c : Dev nD) (k : Fin 384) (j : Fin 1024) : WQ m c (ix2 k j) = queryPad (fun q => m ((c : Thread nD τ).loc main_arg4) (ix3 0 k q)) j := by
  unfold_abbrev_sides
  after_reads_simp
  pointwise
  after_reads_simp
  pointwise
  rfl

/-- The projection to the keys. -/
theorem WK_apply (c : Dev nD) (k : Fin 256) (j : Fin 1024) : WK m c (ix2 k j) = keyPad (fun q => m ((c : Thread nD τ).loc main_arg6) (ix3 0 k q)) j := by
  unfold_abbrev_sides
  after_reads_simp
  pointwise
  after_reads_simp
  pointwise
  rfl

/-- The projection to the values. -/
theorem WV_apply (c : Dev nD) (k : Fin 256) (j : Fin 512) :
    WV m c (ix2 k j) = m ((c : Thread nD τ).loc main_arg6) (ix3 0 k ⟨j.val / 64 * 128 + (64 + j.val % 64), by omega⟩) := by
  unfold_abbrev_sides
  after_reads_simp
  pointwise

/-- The table of cosines. -/
theorem COS_apply (c : Dev nD) (R : Fin 4096) (l : Fin 128) : COS m c (ix2 R l) = cosLane R.val l := by
  unfold_abbrev_sides
  after_reads_simp
  pointwise
  after_reads_simp
  pointwise
  rfl

/-- The table of sines. -/
theorem SIN_apply (c : Dev nD) (R : Fin 4096) (l : Fin 128) : SIN m c (ix2 R l) = sinLane R.val l := by
  unfold_abbrev_sides
  after_reads_simp
  pointwise
  after_reads_simp
  pointwise
  rfl

end Cert.AttnInIdeal.Host

end
-- ==== Proof.In.Equation.lean ====
/-
  The six arrays of the attention's input projection are the reference's. The columns of zeros between the groups of the projections give
  lanes that are zero; the lanes are turned by the tables' cosines and sines; a factor divided by the logarithm of two is one factor.
-/
module

public import proofs.«01_k».proof.Proof.In.Host

@[expose] public section

noncomputable section

namespace Cert.Input

open Cert.AttnInIdeal Idealize.ShloMosaic Idealize.ShloMosaic.TcCoe Idealize.SL.Sem
open Cert.AttnInIdeal.Block (normed turned partner head lat latent queryRow keyRow)
open Cert.AttnInIdeal.Array (rowOf place queryArray keyArray valueArray nearQueryArray nearKeyArray nearValueArray)
open Cert.AttnInIdeal.Host (firstPad queryPad keyPad cosLane sinLane)
open Cert.AttnInReferenceIdeal.Input (angle rotated lanes first keysValues)
open Cert.AttnInReferenceIdeal.Read (val_main_v130 val_main_v132 val_main_v134 val_main_v136 val_main_v138 val_main_v140)

/-- A sum over a padded column is the padded sum. -/
theorem sum_firstPad {n : ℕ} (a : Fin n → EReal) (w : Fin n → Fin 2208 → EReal) (j : Fin 2304) :
    ∑ k, a k * firstPad (w k) j = firstPad (fun q => ∑ k, a k * w k q) j := by
  unfold firstPad
  split_ifs <;> simp

/-- The same for the queries' padding. -/
theorem sum_queryPad {n : ℕ} (a : Fin n → EReal) (w : Fin n → Fin 768 → EReal) (j : Fin 1024) :
    ∑ k, a k * queryPad (w k) j = queryPad (fun q => ∑ k, a k * w k q) j := by
  unfold queryPad
  split_ifs <;> simp

/-- The same for the keys' padding. -/
theorem sum_keyPad {n : ℕ} (a : Fin n → EReal) (w : Fin n → Fin 1024 → EReal) (j : Fin 1024) :
    ∑ k, a k * keyPad (w k) j = keyPad (fun q => ∑ k, a k * w k q) j := by
  unfold keyPad
  split_ifs <;> simp

/-- Lanes turned by a row of the tables: 64 as they are, 32 turned, 32 zero. -/
theorem turned_lanes {z : Fin 128 → EReal} {own : Fin 64 → EReal} {t : Fin 32 → EReal} (R : ℕ)
    (ho : ∀ l : Fin 64, z ⟨l.val, by omega⟩ = own l) (ht : ∀ l : Fin 32, z ⟨64 + l.val, by omega⟩ = t l) (l : Fin 128) :
    turned z (cosLane R) (sinLane R) l = lanes own t R l := by
  unfold turned cosLane sinLane lanes
  by_cases h : l.val < 64
  · rw [dif_pos h, dif_pos h, dif_pos h, ← ho, mul_one, mul_zero, add_zero]
  rw [dif_neg h, dif_neg h, dif_neg h]
  by_cases h1 : l.val - 64 < 16
  · rw [dif_pos h1, dif_pos h1, dif_pos (by omega)]
    unfold rotated partner
    rw [dif_pos h1, if_pos (by omega), ← ht, ← ht, mul_neg, sub_eq_add_neg]
    congr 4 <;> exact Fin.ext (by dsimp only; omega)
  rw [dif_neg h1, dif_neg h1]
  by_cases h2 : l.val - 64 - 16 < 16
  · rw [dif_pos h2, dif_pos h2, dif_pos (by omega)]
    unfold rotated partner
    rw [dif_neg h1, if_neg (by omega), ← ht, ← ht]
    congr 3 <;> exact Fin.ext (by dsimp only; omega)
  · rw [dif_neg h2, dif_neg h2, dif_neg (by omega), mul_zero, mul_zero, add_zero]

/-- The keys' own lanes added to their turned lanes. -/
theorem lanes_add (own : Fin 64 → EReal) (t : Fin 32 → EReal) (R : ℕ) {v : EReal} (l : Fin 128)
    (hv : v = if h : l.val < 64 then own ⟨l.val, h⟩ else 0) : v + lanes (fun _ => 0) t R l = lanes own t R l := by
  rw [hv]
  unfold lanes
  by_cases h : l.val < 64
  · rw [dif_pos h, dif_pos h, dif_pos h, add_zero]
  · rw [dif_neg h, dif_neg h, dif_neg h, zero_add]

/-- The float two is the number two. -/
theorem word_two : Ideal.ofBits FTy.f32 0x40000000#32 = ((2 : ℝ) : EReal) := by
  show Ideal.ieee 8 23 (0x40000000#32) = _
  simp [Ideal.ieee]
  rw [← EReal.coe_mul]
  norm_num

/-- The scale of the queries. -/
theorem word_scale : Ideal.ofBits FTy.f32 0x3DD105EC#32 = ((3424635 / 33554432 : ℝ) : EReal) := by
  show Ideal.ieee 8 23 (0x3DD105EC#32) = _
  simp [Ideal.ieee]
  rw [← EReal.coe_mul]
  norm_num

/-- The scale of the neighbourhood attention's queries. -/
theorem word_eighth : Ideal.ofBits FTy.f32 0x3E000000#32 = ((1 / 8 : ℝ) : EReal) := by
  show Ideal.ieee 8 23 (0x3E000000#32) = _
  simp [Ideal.ieee]
  rw [← EReal.coe_mul]
  norm_num

/-- A scale divided by the logarithm of two, as one factor. -/
theorem one_factor (v : EReal) (c : ℝ) :
    v * ((c * (Real.log 2)⁻¹ : ℝ) : EReal) = Ideal.div (v * (c : EReal)) (Ideal.log (Ideal.ofBits FTy.f32 0x40000000#32)) := by
  have hl : (0 : ℝ) < Real.log 2 := Real.log_pos (by norm_num)
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  rw [word_two, hlog, Ideal.div_coe hl.ne', EReal.coe_mul, ← mul_assoc, one_div]

/-- The queries' named factor. -/
theorem qscale_factor (v : EReal) :
    v * Named.named (F := Ideal) (φ := .f32) κ "qscale" 0x3E16C740#32
      = Ideal.div (v * Ideal.ofBits FTy.f32 0x3DD105EC#32) (Ideal.log (Ideal.ofBits FTy.f32 0x40000000#32)) := by
  rw [word_scale, ← one_factor]
  rfl

/-- The neighbourhood attention's queries' named factor. -/
theorem nascale_factor (v : EReal) :
    v * Named.named (F := Ideal) (φ := .f32) κ "nascale" 0x3E38AA3B#32
      = Ideal.div (v * Ideal.ofBits FTy.f32 0x3E000000#32) (Ideal.log (Ideal.ofBits FTy.f32 0x40000000#32)) := by
  rw [word_eighth, ← one_factor]
  rfl

variable {x0 : Vec Ideal S8x2048x1024 .f32} {x1 : Vec Ideal S2x1024 .f32} {x2 : Vec Ideal S1x1024x2208 .f32} {x3 : Vec Ideal S1x384 .f32}
  {x4 : Vec Ideal S1x384x768 .f32} {x5 : Vec Ideal S1x256 .f32} {x6 : Vec Ideal S1x256x1024 .f32}
  {x : Vec Ideal S16384x1024 .f32} {g : Vec Ideal S1x1024 .f32} {w : Vec Ideal S1024x2304 .bf16} {gq : Vec Ideal S1x384 .f32}
  {wq : Vec Ideal S384x1024 .bf16} {gk : Vec Ideal S1x256 .f32} {wk : Vec Ideal S256x1024 .bf16} {wv : Vec Ideal S256x512 .bf16}
  {cs sn : Vec Ideal S4096x128 .f32}

/-- A token's row of the padded first projection. -/
theorem lat_eq (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (T : Fin 16384) (j : Fin 2304) :
    lat g w (rowOf x T) j = firstPad (first x0 x1 x2 ⟨T.val / 2048, by omega⟩ ⟨T.val % 2048, by omega⟩) j := by
  unfold lat
  rw [show rowOf x T = fun k => x0 (ix3 ⟨T.val / 2048, by omega⟩ ⟨T.val % 2048, by omega⟩ k) from funext fun k => hx T k,
    show (fun q => g (ix2 0 q)) = fun q => x1 (ix2 0 q) from funext hg]
  simp only [hw]
  exact sum_firstPad _ (fun k q => x2 (ix3 0 k q)) j

/-- The neighbourhood attention's columns. -/
theorem near_eq (f : Fin 2208 → EReal) (o : ℕ) (j : Fin 512) (ho : 768 ≤ o) (h : o + 512 ≤ 2304) :
    firstPad f ⟨o + j.val, by omega⟩ = f ⟨o - 96 + j.val, by omega⟩ := by
  unfold firstPad
  rw [dif_neg (by show ¬ (o + j.val < 640); omega), dif_neg (by show ¬ (o + j.val - 640 < 64); omega),
    dif_neg (by show ¬ (o + j.val - 640 - 64 < 32); omega), dif_neg (by show ¬ (o + j.val - 640 - 64 - 32 < 32); omega)]
  congr 1
  exact Fin.ext (by show 672 + (o + j.val - 640 - 64 - 32 - 32) = o - 96 + j.val; omega)

/-- The latents' columns. -/
theorem latent_columns (f : Fin 2208 → EReal) (j : Fin 2304) (h : j.val < 640) : firstPad f j = f ⟨j.val, by omega⟩ := by
  unfold firstPad
  rw [dif_pos h]

/-- The keys' normalized latent. -/
theorem latent_eq (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (hgk : ∀ d : Fin 256, gk (ix2 0 d) = x5 (ix2 0 d)) (T : Fin 16384) (k : Fin 256) :
    latent g w gk (rowOf x T) k = normed 0x43800000#32
      (fun q : Fin 256 => first x0 x1 x2 ⟨T.val / 2048, by omega⟩ ⟨T.val % 2048, by omega⟩ ⟨384 + q.val, by omega⟩) (fun q => x5 (ix2 0 q)) k := by
  unfold latent
  refine congrArg₂ (normed _ · · k) (funext fun q => ?_) (funext hgk)
  rw [lat_eq hx hg hw, latent_columns _ _ (by show 384 + q.val < 640; omega)]

/-- A token's queries before they are turned. -/
theorem queries_eq (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (hgq : ∀ d : Fin 384, gq (ix2 0 d) = x3 (ix2 0 d)) (hwq : ∀ (k : Fin 384) (j : Fin 1024), wq (ix2 k j) = queryPad (fun q => x4 (ix3 0 k q)) j)
    (T : Fin 16384) (j : Fin 1024) :
    Block.queries g w gq wq (rowOf x T) j
      = queryPad (Cert.AttnInReferenceIdeal.Input.queries x0 x1 x2 x3 x4 ⟨T.val / 2048, by omega⟩ ⟨T.val % 2048, by omega⟩) j := by
  unfold Block.queries
  rw [show (fun q : Fin 384 => lat g w (rowOf x T) ⟨q.val, by omega⟩)
      = fun q : Fin 384 => first x0 x1 x2 ⟨T.val / 2048, by omega⟩ ⟨T.val % 2048, by omega⟩ ⟨q.val, by omega⟩ from
      funext fun q => by rw [lat_eq hx hg hw, latent_columns _ _ (by show q.val < 640; omega)],
    show (fun q => gq (ix2 0 q)) = fun q => x3 (ix2 0 q) from funext hgq]
  simp only [hwq]
  exact sum_queryPad _ (fun k q => x4 (ix3 0 k q)) j

/-- The queries. -/
theorem query_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (hgq : ∀ d : Fin 384, gq (ix2 0 d) = x3 (ix2 0 d)) (hwq : ∀ (k : Fin 384) (j : Fin 1024), wq (ix2 k j) = queryPad (fun q => x4 (ix3 0 k q)) j)
    (hcs : ∀ (R : Fin 4096) (l : Fin 128), cs (ix2 R l) = cosLane R.val l) (hsn : ∀ (R : Fin 4096) (l : Fin 128), sn (ix2 R l) = sinLane R.val l) :
    queryArray x g w gq wq cs sn = val_main_v130 x0 x1 x2 x3 x4 := by
  funext i
  obtain ⟨T, j, rfl⟩ : ∃ (T : Fin 16384) (j : Fin 1024), i = ix2 T j := ⟨i 0, i 1, eq_ix2 i⟩
  refine Eq.trans ?_ (Cert.AttnInReferenceIdeal.Input.query_result x0 x1 x2 x3 x4 T j).symm
  show queryRow g w gq wq (rowOf x T) (fun l => cs (ix2 (place T) l)) (fun l => sn (ix2 (place T) l)) ⟨j.val / 128, _⟩ ⟨j.val % 128, _⟩ = _
  unfold queryRow
  rw [show (fun l => cs (ix2 (place T) l)) = cosLane (T.val % 2048) from funext fun l => hcs _ l,
    show (fun l => sn (ix2 (place T) l)) = sinLane (T.val % 2048) from funext fun l => hsn _ l, qscale_factor]
  congr 2
  refine turned_lanes (T.val % 2048) (fun l => ?_) (fun l => ?_) _ <;> unfold head <;> rw [queries_eq hx hg hw hgq hwq] <;> unfold queryPad
  · rw [dif_pos (by show (128 * (j.val / 128) + l.val) % 128 < 96; omega)]
    congr 1
    exact Fin.ext (by show (128 * (j.val / 128) + l.val) / 128 * 96 + (128 * (j.val / 128) + l.val) % 128 = j.val / 128 * 96 + l.val; omega)
  · rw [dif_pos (by show (128 * (j.val / 128) + (64 + l.val)) % 128 < 96; omega)]
    congr 1
    exact Fin.ext (by
      show (128 * (j.val / 128) + (64 + l.val)) / 128 * 96 + (128 * (j.val / 128) + (64 + l.val)) % 128 = j.val / 128 * 96 + (64 + l.val)
      omega)

/-- The keys. -/
theorem key_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (hgk : ∀ d : Fin 256, gk (ix2 0 d) = x5 (ix2 0 d)) (hwk : ∀ (k : Fin 256) (j : Fin 1024), wk (ix2 k j) = keyPad (fun q => x6 (ix3 0 k q)) j)
    (hcs : ∀ (R : Fin 4096) (l : Fin 128), cs (ix2 R l) = cosLane R.val l) (hsn : ∀ (R : Fin 4096) (l : Fin 128), sn (ix2 R l) = sinLane R.val l) :
    keyArray x g w gk wk cs sn = val_main_v132 x0 x1 x2 x5 x6 := by
  funext i
  obtain ⟨T, j, rfl⟩ : ∃ (T : Fin 16384) (j : Fin 1024), i = ix2 T j := ⟨i 0, i 1, eq_ix2 i⟩
  refine Eq.trans ?_ (Cert.AttnInReferenceIdeal.Input.key_result x0 x1 x2 x5 x6 T j).symm
  show keyRow g w gk wk (rowOf x T) (fun l => cs (ix2 (place T) l)) (fun l => sn (ix2 (place T) l)) ⟨j.val / 128, _⟩ ⟨j.val % 128, _⟩ = _
  unfold keyRow
  rw [show (fun l => cs (ix2 (place T) l)) = cosLane (T.val % 2048) from funext fun l => hcs _ l,
    show (fun l => sn (ix2 (place T) l)) = sinLane (T.val % 2048) from funext fun l => hsn _ l,
    turned_lanes (own := fun _ => 0)
      (t := fun l : Fin 32 => first x0 x1 x2 ⟨T.val / 2048, by omega⟩ ⟨T.val % 2048, by omega⟩ ⟨640 + l.val, by omega⟩) (T.val % 2048) ?_ ?_]
  · refine lanes_add _ _ _ _ ?_
    unfold head
    simp only [latent_eq hx hg hw hgk, hwk]
    rw [sum_keyPad _ (fun k q => x6 (ix3 0 k q))]
    unfold keyPad
    by_cases h : j.val % 128 < 64
    · rw [dif_pos (by show (128 * (j.val / 128) + j.val % 128) % 128 < 64; omega), dif_pos h]
      show keysValues x0 x1 x2 x5 x6 _ _ _ = keysValues x0 x1 x2 x5 x6 _ _ _
      congr 1
      exact Fin.ext (by show 128 * (j.val / 128) + j.val % 128 = j.val / 128 * 128 + j.val % 128; omega)
    · rw [dif_neg (by show ¬ ((128 * (j.val / 128) + j.val % 128) % 128 < 64); omega), dif_neg h]
  · intro l
    show lat g w (rowOf x T) ⟨640 + l.val, _⟩ = 0
    rw [lat_eq hx hg hw]
    unfold firstPad
    rw [dif_neg (by show ¬ (640 + l.val < 640); omega), dif_pos (by show 640 + l.val - 640 < 64; omega)]
  · intro l
    show lat g w (rowOf x T) ⟨640 + (64 + l.val), _⟩ = _
    rw [lat_eq hx hg hw]
    unfold firstPad
    rw [dif_neg (by show ¬ (640 + (64 + l.val) < 640); omega), dif_neg (by show ¬ (640 + (64 + l.val) - 640 < 64); omega),
      dif_pos (by show 640 + (64 + l.val) - 640 - 64 < 32; omega)]
    congr 1
    exact Fin.ext (by show 640 + (640 + (64 + l.val) - 640 - 64) = 640 + l.val; omega)

/-- The values. -/
theorem value_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j)
    (hgk : ∀ d : Fin 256, gk (ix2 0 d) = x5 (ix2 0 d))
    (hwv : ∀ (k : Fin 256) (j : Fin 512), wv (ix2 k j) = x6 (ix3 0 k ⟨j.val / 64 * 128 + (64 + j.val % 64), by omega⟩)) :
    valueArray x g w gk wv = val_main_v134 x0 x1 x2 x5 x6 := by
  funext i
  obtain ⟨T, j, rfl⟩ : ∃ (T : Fin 16384) (j : Fin 512), i = ix2 T j := ⟨i 0, i 1, eq_ix2 i⟩
  refine Eq.trans ?_ (Cert.AttnInReferenceIdeal.Input.value_result x0 x1 x2 x5 x6 T j).symm
  refine Finset.sum_congr rfl fun k _ => ?_
  exact congrArg₂ (· * ·) (latent_eq hx hg hw hgk T k) (hwv k j)

/-- The neighbourhood attention's queries. -/
theorem near_query_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j) :
    nearQueryArray x g w = val_main_v136 x0 x1 x2 := by
  funext i
  obtain ⟨T, j, rfl⟩ : ∃ (T : Fin 16384) (j : Fin 512), i = ix2 T j := ⟨i 0, i 1, eq_ix2 i⟩
  refine Eq.trans ?_ (Cert.AttnInReferenceIdeal.Input.near_query_result x0 x1 x2 T j).symm
  show lat g w (rowOf x T) ⟨768 + j.val, _⟩ * _ = _
  rw [nascale_factor, lat_eq hx hg hw, near_eq _ 768 j (by omega) (by omega)]

/-- The neighbourhood attention's keys. -/
theorem near_key_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j) :
    nearKeyArray x g w = val_main_v138 x0 x1 x2 := by
  funext i
  obtain ⟨T, j, rfl⟩ : ∃ (T : Fin 16384) (j : Fin 512), i = ix2 T j := ⟨i 0, i 1, eq_ix2 i⟩
  refine Eq.trans ?_ (Cert.AttnInReferenceIdeal.Input.near_key_result x0 x1 x2 T j).symm
  show lat g w (rowOf x T) ⟨1280 + j.val, _⟩ = _
  rw [lat_eq hx hg hw, near_eq _ 1280 j (by omega) (by omega)]

/-- The neighbourhood attention's values. -/
theorem near_value_equation (hx : ∀ (T : Fin 16384) (d : Fin 1024), x (ix2 T d) = x0 (ix3 ⟨T.val / 2048, by omega⟩ ⟨T.val % 2048, by omega⟩ d))
    (hg : ∀ d : Fin 1024, g (ix2 0 d) = x1 (ix2 0 d)) (hw : ∀ (k : Fin 1024) (j : Fin 2304), w (ix2 k j) = firstPad (fun q => x2 (ix3 0 k q)) j) :
    nearValueArray x g w = val_main_v140 x0 x1 x2 := by
  funext i
  obtain ⟨T, j, rfl⟩ : ∃ (T : Fin 16384) (j : Fin 512), i = ix2 T j := ⟨i 0, i 1, eq_ix2 i⟩
  refine Eq.trans ?_ (Cert.AttnInReferenceIdeal.Input.near_value_result x0 x1 x2 T j).symm
  show lat g w (rowOf x T) ⟨1792 + j.val, _⟩ = _
  rw [lat_eq hx hg hw, near_eq _ 1792 j (by omega) (by omega)]

end Cert.Input

end
-- ==== Proof.In.Claim.lean ====
/-
  The attention's input projection and its reference are equal over the reals, in all six results.
-/
module

public import proofs.«01_k».proof.Defs
public import proofs.«01_k».proof.Proof.In.Equation
public import Idealize.ShloMosaic.Adequacy
public import Idealize.ShloMosaic.Init

@[expose] public section

noncomputable section

namespace Cert.Input

open Idealize.ShloMosaic Idealize.ShloMosaic.TcCoe Idealize.SL.Sem
open Cert.AttnInReferenceIdeal (nD τ main_arg0 main_arg1 main_arg2 main_arg3 main_arg4 main_arg5 main_arg6)
open Cert.AttnInIdeal.Array (queriesAt keysAt valuesAt nearQueriesAt nearKeysAt nearValuesAt)
open Cert.AttnInIdeal.Host (X_apply G_apply W_apply GQ_apply WQ_apply GK_apply WK_apply WV_apply COS_apply SIN_apply)

/-- From the same arguments, whatever they are, the call and the reference end with the same six arrays. -/
theorem algebraic : Cert.algebraic_AttnInIdeal_AttnInReferenceIdeal := by
  intro m ρ m' ρ' _ heq
  refine ⟨fun c => queriesAt m c, fun c => keysAt m c, fun c => valuesAt m c, fun c => nearQueriesAt m c, fun c => nearKeysAt m c,
    fun c => nearValuesAt m c, Cert.AttnInIdeal.Array.run_array m ρ, ?_⟩
  refine (θ_run Cert.AttnInReferenceIdeal.defs _ _).mono (fun r h c => ⟨?_, ?_, ?_, ?_, ?_, ?_, (h c).2.2.2.2.2.2⟩)
    (Cert.AttnInReferenceIdeal.Value.run (F := Ideal) m' ρ')
  · obtain ⟨a0, a1, a2, a3, a4, a5, a6⟩ := heq c
    refine (h c).1.trans ?_
    refine (Cert.AttnInReferenceIdeal.Read.val_main_v130_eq _ _).trans ?_
    show Cert.AttnInReferenceIdeal.Read.val_main_v130 (m' ((c : Thread nD τ).loc main_arg0)) (m' ((c : Thread nD τ).loc main_arg1)) (m' ((c : Thread nD τ).loc main_arg2))
      (m' ((c : Thread nD τ).loc main_arg3)) (m' ((c : Thread nD τ).loc main_arg4)) = _
    rw [a0, a1, a2, a3, a4]
    exact (query_equation (X_apply m c) (G_apply m c) (W_apply m c) (GQ_apply m c) (WQ_apply m c) (COS_apply m c) (SIN_apply m c)).symm
  · obtain ⟨a0, a1, a2, a3, a4, a5, a6⟩ := heq c
    refine (h c).2.1.trans ?_
    refine (Cert.AttnInReferenceIdeal.Read.val_main_v132_eq _ _).trans ?_
    show Cert.AttnInReferenceIdeal.Read.val_main_v132 (m' ((c : Thread nD τ).loc main_arg0)) (m' ((c : Thread nD τ).loc main_arg1)) (m' ((c : Thread nD τ).loc main_arg2))
      (m' ((c : Thread nD τ).loc main_arg5)) (m' ((c : Thread nD τ).loc main_arg6)) = _
    rw [a0, a1, a2, a5, a6]
    exact (key_equation (X_apply m c) (G_apply m c) (W_apply m c) (GK_apply m c) (WK_apply m c) (COS_apply m c) (SIN_apply m c)).symm
  · obtain ⟨a0, a1, a2, a3, a4, a5, a6⟩ := heq c
    refine (h c).2.2.1.trans ?_
    refine (Cert.AttnInReferenceIdeal.Read.val_main_v134_eq _ _).trans ?_
    show Cert.AttnInReferenceIdeal.Read.val_main_v134 (m' ((c : Thread nD τ).loc main_arg0)) (m' ((c : Thread nD τ).loc main_arg1)) (m' ((c : Thread nD τ).loc main_arg2))
      (m' ((c : Thread nD τ).loc main_arg5)) (m' ((c : Thread nD τ).loc main_arg6)) = _
    rw [a0, a1, a2, a5, a6]
    exact (value_equation (X_apply m c) (G_apply m c) (W_apply m c) (GK_apply m c) (WV_apply m c)).symm
  · obtain ⟨a0, a1, a2, a3, a4, a5, a6⟩ := heq c
    refine (h c).2.2.2.1.trans ?_
    refine (Cert.AttnInReferenceIdeal.Read.val_main_v136_eq _ _ _).trans ?_
    show Cert.AttnInReferenceIdeal.Read.val_main_v136 (m' ((c : Thread nD τ).loc main_arg0)) (m' ((c : Thread nD τ).loc main_arg1)) (m' ((c : Thread nD τ).loc main_arg2)) = _
    rw [a0, a1, a2]
    exact (near_query_equation (X_apply m c) (G_apply m c) (W_apply m c)).symm
  · obtain ⟨a0, a1, a2, a3, a4, a5, a6⟩ := heq c
    refine (h c).2.2.2.2.1.trans ?_
    refine (Cert.AttnInReferenceIdeal.Read.val_main_v138_eq _ _ _).trans ?_
    show Cert.AttnInReferenceIdeal.Read.val_main_v138 (m' ((c : Thread nD τ).loc main_arg0)) (m' ((c : Thread nD τ).loc main_arg1)) (m' ((c : Thread nD τ).loc main_arg2)) = _
    rw [a0, a1, a2]
    exact (near_key_equation (X_apply m c) (G_apply m c) (W_apply m c)).symm
  · obtain ⟨a0, a1, a2, a3, a4, a5, a6⟩ := heq c
    refine (h c).2.2.2.2.2.1.trans ?_
    refine (Cert.AttnInReferenceIdeal.Read.val_main_v140_eq _ _ _).trans ?_
    show Cert.AttnInReferenceIdeal.Read.val_main_v140 (m' ((c : Thread nD τ).loc main_arg0)) (m' ((c : Thread nD τ).loc main_arg1)) (m' ((c : Thread nD τ).loc main_arg2)) = _
    rw [a0, a1, a2]
    exact (near_value_equation (X_apply m c) (G_apply m c) (W_apply m c)).symm

end Cert.Input

end
-- ==== Proof.FfnSample.Frames.lean ====
/-
  The frames of the feed-forward call for the sampled sequences and of its reference, and the named constants of the kernel's gelu.
-/
module

public import proofs.«01_k».proof.Defs
public import proofs.«01_k».proof.Proof.Gen.FfnSample.Frame
public import proofs.«01_k».proof.Proof.Gen.FfnSampleIdeal.Frame
public import proofs.«01_k».proof.Proof.Gen.FfnSampleReferenceIdeal.Run
public import Idealize.ShloMosaic.Adequacy
public import Idealize.ShloMosaic.Init

@[expose] public section

noncomputable section

namespace Cert.FeedForwardSample

open Idealize.ShloMosaic Idealize.ShloMosaic.TcCoe Idealize.SL.Sem

/-- The kernel runs and leaves its arguments as they were. -/
theorem frame_kernel : Cert.quiescent_FfnSample := fun m ρ _ => Cert.FfnSample.Gen.frame m ρ

/-- The same over the reals. -/
theorem frame_ideal : Cert.quiescent_FfnSampleIdeal := fun m ρ _ => Cert.FfnSampleIdeal.Gen.frame m ρ

/-- The reference runs and leaves its arguments as they were. -/
theorem frame_reference : Cert.quiescent_FfnSampleReferenceIdeal := fun m ρ _ =>
  (θ_run Cert.FfnSampleReferenceIdeal.defs _ _).mono (fun r h => ⟨fun c => (h c).2, sem_eq_zero_of_no_sems (by decide) r.2⟩)
    (Cert.FfnSampleReferenceIdeal.Value.run (F := Ideal) m ρ)

/-- The ideal kernel is the kernel with the two constants of its gelu named. -/
theorem preserves : Cert.preserves_FfnSample_FfnSampleIdeal :=
  ⟨IdealRules.named_const.statement Cert.FfnSampleIdeal.κ "gelu3" .f32 0xBDD2D3E8#32 _ rfl,
    IdealRules.named_const.statement Cert.FfnSampleIdeal.κ "gelu1" .f32 0xC0135761#32 _ rfl⟩

end Cert.FeedForwardSample

end
-- ==== Proof.FfnSample.Same.lean ====
/-
  The feed-forward call for the sampled sequences computes with the same operations as that for the prompts, so what is known of the
  one's values holds of the other's.
-/
module

public import proofs.«01_k».proof.Proof.Ffn.Last
public import proofs.«01_k».proof.Proof.Gen.FfnSampleIdeal.Frame

@[expose] public section

noncomputable section

namespace Cert.FeedForwardSample

open Idealize.ShloMosaic

/-- The constants of the gelu are the same. -/
theorem same_constants : FfnSampleIdeal.κ = FfnIdeal.κ := rfl

/-- The values of the two calls, one by one. -/
theorem same :
    FfnSampleIdeal.Gen.k0_pay48 (F := Ideal) = FfnIdeal.Gen.k0_pay48 ∧
    FfnSampleIdeal.Gen.k0_pay121 (F := Ideal) = FfnIdeal.Gen.k0_pay121 ∧
    FfnSampleIdeal.Gen.k0_pay123 (F := Ideal) = FfnIdeal.Gen.k0_pay123 ∧
    FfnSampleIdeal.Gen.k0_pay124 (F := Ideal) = FfnIdeal.Gen.k0_pay124 ∧
    FfnSampleIdeal.Gen.k0_pay125 (F := Ideal) = FfnIdeal.Gen.k0_pay125 ∧
    FfnSampleIdeal.Gen.k0_pay126 (F := Ideal) = FfnIdeal.Gen.k0_pay126 ∧
    FfnSampleIdeal.Gen.k0_pay127 (F := Ideal) = FfnIdeal.Gen.k0_pay127 ∧
    FfnSampleIdeal.Gen.k0_pay128 (F := Ideal) = FfnIdeal.Gen.k0_pay128 ∧
    FfnSampleIdeal.Gen.k0_pay129 (F := Ideal) = FfnIdeal.Gen.k0_pay129 ∧
    FfnSampleIdeal.Gen.k0_pay130 (F := Ideal) = FfnIdeal.Gen.k0_pay130 ∧
    FfnSampleIdeal.Gen.k0_pay131 (F := Ideal) = FfnIdeal.Gen.k0_pay131 ∧
    FfnSampleIdeal.Gen.k0_pay132 (F := Ideal) = FfnIdeal.Gen.k0_pay132 ∧
    FfnSampleIdeal.Gen.k0_pay133 (F := Ideal) = FfnIdeal.Gen.k0_pay133 ∧
    FfnSampleIdeal.Gen.k0_pay134 (F := Ideal) = FfnIdeal.Gen.k0_pay134 ∧
    FfnSampleIdeal.Gen.k0_pay135 (F := Ideal) = FfnIdeal.Gen.k0_pay135 ∧
    FfnSampleIdeal.Gen.k0_pay136 (F := Ideal) = FfnIdeal.Gen.k0_pay136 ∧
    FfnSampleIdeal.Gen.k0_pay137 (F := Ideal) = FfnIdeal.Gen.k0_pay137 ∧
    FfnSampleIdeal.Gen.k0_pay138 (F := Ideal) = FfnIdeal.Gen.k0_pay138 ∧
    FfnSampleIdeal.Gen.k0_pay139 (F := Ideal) = FfnIdeal.Gen.k0_pay139 ∧
    FfnSampleIdeal.Gen.k0_pay140 (F := Ideal) = FfnIdeal.Gen.k0_pay140 ∧
    FfnSampleIdeal.Gen.k0_pay141 (F := Ideal) = FfnIdeal.Gen.k0_pay141 ∧
    FfnSampleIdeal.Gen.k0_pay142 (F := Ideal) = FfnIdeal.Gen.k0_pay142 ∧
    FfnSampleIdeal.Gen.k0_pay143 (F := Ideal) = FfnIdeal.Gen.k0_pay143 ∧
    FfnSampleIdeal.Gen.k0_pay144 (F := Ideal) = FfnIdeal.Gen.k0_pay144 ∧
    FfnSampleIdeal.Gen.k0_pay145 (F := Ideal) = FfnIdeal.Gen.k0_pay145 ∧
    FfnSampleIdeal.Gen.k0_pay146 (F := Ideal) = FfnIdeal.Gen.k0_pay146 ∧
    FfnSampleIdeal.Gen.k0_pay147 (F := Ideal) = FfnIdeal.Gen.k0_pay147 ∧
    FfnSampleIdeal.Gen.k0_pay148 (F := Ideal) = FfnIdeal.Gen.k0_pay148 ∧
    FfnSampleIdeal.Gen.k0_pay149 (F := Ideal) = FfnIdeal.Gen.k0_pay149 ∧
    FfnSampleIdeal.Gen.k0_pay150 (F := Ideal) = FfnIdeal.Gen.k0_pay150 ∧
    FfnSampleIdeal.Gen.k0_pay151 (F := Ideal) = FfnIdeal.Gen.k0_pay151 ∧
    FfnSampleIdeal.Gen.k0_pay152 (F := Ideal) = FfnIdeal.Gen.k0_pay152 ∧
    FfnSampleIdeal.Gen.k0_pay153 (F := Ideal) = FfnIdeal.Gen.k0_pay153 ∧
    FfnSampleIdeal.Gen.k0_pay154 (F := Ideal) = FfnIdeal.Gen.k0_pay154 ∧
    FfnSampleIdeal.Gen.k0_pay155 (F := Ideal) = FfnIdeal.Gen.k0_pay155 ∧
    FfnSampleIdeal.Gen.k0_pay156 (F := Ideal) = FfnIdeal.Gen.k0_pay156 ∧
    FfnSampleIdeal.Gen.k0_pay157 (F := Ideal) = FfnIdeal.Gen.k0_pay157 ∧
    FfnSampleIdeal.Gen.k0_pay158 (F := Ideal) = FfnIdeal.Gen.k0_pay158 ∧
    FfnSampleIdeal.Gen.k0_pay159 (F := Ideal) = FfnIdeal.Gen.k0_pay159 ∧
    FfnSampleIdeal.Gen.k0_pay160 (F := Ideal) = FfnIdeal.Gen.k0_pay160 ∧
    FfnSampleIdeal.Gen.k0_pay161 (F := Ideal) = FfnIdeal.Gen.k0_pay161 ∧
    FfnSampleIdeal.Gen.k0_pay162 (F := Ideal) = FfnIdeal.Gen.k0_pay162 ∧
    FfnSampleIdeal.Gen.k0_pay163 (F := Ideal) = FfnIdeal.Gen.k0_pay163 ∧
    FfnSampleIdeal.Gen.k0_pay164 (F := Ideal) = FfnIdeal.Gen.k0_pay164 ∧
    FfnSampleIdeal.Gen.k0_pay165 (F := Ideal) = FfnIdeal.Gen.k0_pay165 ∧
    FfnSampleIdeal.Gen.k0_pay166 (F := Ideal) = FfnIdeal.Gen.k0_pay166 ∧
    FfnSampleIdeal.Gen.k0_pay167 (F := Ideal) = FfnIdeal.Gen.k0_pay167 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The sum a grid point adds to. -/
theorem same_sum : FfnSampleIdeal.Gen.k0_pay1 (F := Ideal) = FfnIdeal.Gen.k0_pay1 := by
  unfold FfnSampleIdeal.Gen.k0_pay1 FfnIdeal.Gen.k0_pay1
  rw [same_constants]
  rfl

end Cert.FeedForwardSample

end
-- ==== Proof.FfnSample.Block.lean ====
/-
  What one grid point of the feed-forward call for the sampled sequences adds to its accumulator: the gated convolution of its block of
  columns times its block of the down-projection.
-/
module

public import proofs.«01_k».proof.Proof.FfnSample.Same
public import Idealize.ShloMosaic.Lib.Pipeline.ValueKit
public import Idealize.ShloMosaic.Lib.Pipeline.ReadBack

@[expose] public section

noncomputable section

namespace Cert.FfnSampleIdeal.Block

open Cert.FfnSampleIdeal Cert.FfnSampleIdeal.Gen Idealize.ShloMosaic
open Cert.FeedForwardSample (same same_sum)
open Cert.FfnIdeal.Block (contribution accumulate gate value)

/-- A middle point adds its contribution to the accumulator. -/
theorem acc_B
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    ¬cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)
    (R d : Fin 1024) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 R d)
      = xs1 (ix2 R d) + contribution xs0 x4 x5 x6 x7 x8 x9 x10 R d := by
  frame_out
  simp only [same, same_sum]
  refine (accumulate _ _ _ _ _ _ _ _ _ _ _ _ _ _ _ _ _).trans ?_
  simp only [gate, value]
  rfl

/-- A last point adds its contribution to the accumulator. -/
theorem acc_C
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)
    (R d : Fin 1024) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 R d)
      = xs1 (ix2 R d) + contribution xs0 x4 x5 x6 x7 x8 x9 x10 R d := by
  frame_out
  simp only [same, same_sum]
  refine (accumulate _ _ _ _ _ _ _ _ _ _ _ _ _ _ _ _ _).trans ?_
  simp only [gate, value]
  rfl

end Cert.FfnSampleIdeal.Block

end
-- ==== Proof.FfnSample.Tile.lean ====
/-
  The tile in slabs, in the call for the sampled sequences: the first point of a row of the grid puts its 1024 tokens through a scratch
  of eight lane groups, read back every eighth row, so that slab row `128 r + j` of the tile holds token `8 j + r`.
-/
module

public import proofs.«01_k».proof.Proof.Gen.FfnSampleIdeal.Frame
public import proofs.«01_k».proof.Proof.Ffn.Tile
public import Idealize.ShloMosaic.Lib.Pointwise
public import Idealize.ShloMosaic.Lib.Pipeline.ValueKit
public import Idealize.ShloMosaic.Lib.Pipeline.ReadBack

@[expose] public section

noncomputable section

namespace Cert.FfnSampleIdeal.Tile

open Cert.FfnSampleIdeal Cert.FfnSampleIdeal.Gen Idealize.ShloMosaic
open Cert.FfnIdeal.Tile (lanes group at_index placed strided lane_cases)

variable (c : Dev nD) (arg3 : Memref sig .tc .vmem S1024x1024 .bf16) (harg3 : arg3.IsWhole)
  (arg17 : Memref sig .tc .vmem S8x1024x128 .f32) (x1 : Vec Ideal S1024x1024 .bf16)

/-- The tile's block as loaded. -/
theorem loaded (T d : Fin 1024) : kernelRun0_A.sl.v300 c arg3 harg3 x1 (ix2 T d) = x1 (ix2 T d) := by
  unfold kernelRun0_A.sl.v300
  rw [View.readAt_eq_ld, Memref.IsWhole.read_unread]
  pointwise []

/-- Each store of the first point's scratch is a group of lanes. -/
theorem stored (T : Fin 1024) (l : Fin 128) :
kernelRun0_A.sl.v305 c arg3 harg3 x1 (ix3 0 T l) = x1 (ix2 T ⟨l.val, by omega⟩)
    ∧ kernelRun0_A.sl.v310 c arg3 harg3 x1 (ix3 0 T l) = x1 (ix2 T ⟨128 + l.val, by omega⟩)
    ∧ kernelRun0_A.sl.v315 c arg3 harg3 x1 (ix3 0 T l) = x1 (ix2 T ⟨256 + l.val, by omega⟩)
    ∧ kernelRun0_A.sl.v320 c arg3 harg3 x1 (ix3 0 T l) = x1 (ix2 T ⟨384 + l.val, by omega⟩)
    ∧ kernelRun0_A.sl.v325 c arg3 harg3 x1 (ix3 0 T l) = x1 (ix2 T ⟨512 + l.val, by omega⟩)
    ∧ kernelRun0_A.sl.v330 c arg3 harg3 x1 (ix3 0 T l) = x1 (ix2 T ⟨640 + l.val, by omega⟩)
    ∧ kernelRun0_A.sl.v335 c arg3 harg3 x1 (ix3 0 T l) = x1 (ix2 T ⟨768 + l.val, by omega⟩)
    ∧ kernelRun0_A.sl.v340 c arg3 harg3 x1 (ix3 0 T l) = x1 (ix2 T ⟨896 + l.val, by omega⟩) := by
  refine ⟨?_, ?_, ?_, ?_, ?_, ?_, ?_, ?_⟩
  · pointwise [kernelRun0_A.sl.v305, kernelRun0_A.sl.v302, kernelRun0_A.sl.v301]; exact loaded ..
  · pointwise [kernelRun0_A.sl.v310, kernelRun0_A.sl.v307, kernelRun0_A.sl.v306]; exact loaded ..
  · pointwise [kernelRun0_A.sl.v315, kernelRun0_A.sl.v312, kernelRun0_A.sl.v311]; exact loaded ..
  · pointwise [kernelRun0_A.sl.v320, kernelRun0_A.sl.v317, kernelRun0_A.sl.v316]; exact loaded ..
  · pointwise [kernelRun0_A.sl.v325, kernelRun0_A.sl.v322, kernelRun0_A.sl.v321]; exact loaded ..
  · pointwise [kernelRun0_A.sl.v330, kernelRun0_A.sl.v327, kernelRun0_A.sl.v326]; exact loaded ..
  · pointwise [kernelRun0_A.sl.v335, kernelRun0_A.sl.v332, kernelRun0_A.sl.v331]; exact loaded ..
  · pointwise [kernelRun0_A.sl.v340, kernelRun0_A.sl.v337, kernelRun0_A.sl.v336]; exact loaded ..

/-- Reading the scratch anywhere gives the tile's columns. -/
theorem scratch (B : LoadRect S8x1024x128) (y : B.shape.Idx) :
    arg17.view.readCov (kernelRun0_A.sl.HS2_8 c arg3 harg3 x1) B y = lanes x1 (B.idx y) := by
  rw [View.readCov_eq_canon']
  refine View.canon_apply_of_pieces (Val := Elt Ideal) (e := .f32) (lanes x1) _ ?_ _ ?_
  · unfold kernelRun0_A.sl.HS2_8
    simp only [List.forall_mem_cons, List.not_mem_nil, false_imp_iff, implies_true, and_true]
    refine ⟨?_, ?_, ?_, ?_, ?_, ?_, ?_, ?_⟩
    · refine at_index ?_; exact fun T l => (stored c arg3 harg3 x1 T l).2.2.2.2.2.2.2.trans (placed x1 7 _ _ _)
    · refine at_index ?_; exact fun T l => (stored c arg3 harg3 x1 T l).2.2.2.2.2.2.1.trans (placed x1 6 _ _ _)
    · refine at_index ?_; exact fun T l => (stored c arg3 harg3 x1 T l).2.2.2.2.2.1.trans (placed x1 5 _ _ _)
    · refine at_index ?_; exact fun T l => (stored c arg3 harg3 x1 T l).2.2.2.2.1.trans (placed x1 4 _ _ _)
    · refine at_index ?_; exact fun T l => (stored c arg3 harg3 x1 T l).2.2.2.1.trans (placed x1 3 _ _ _)
    · refine at_index ?_; exact fun T l => (stored c arg3 harg3 x1 T l).2.2.1.trans (placed x1 2 _ _ _)
    · refine at_index ?_; exact fun T l => (stored c arg3 harg3 x1 T l).2.1.trans (placed x1 1 _ _ _)
    · refine at_index ?_; exact fun T l => (stored c arg3 harg3 x1 T l).1.trans (placed x1 0 _ _ _)
  · unfold kernelRun0_A.sl.HS2_8
    simp only [List.exists_mem_cons_iff]
    have hz : (B.idx y 0).val < 8 := (B.idx y 0).isLt
    rcases (by omega : (B.idx y 0).val = 7 ∨ (B.idx y 0).val = 6 ∨ (B.idx y 0).val = 5 ∨ (B.idx y 0).val = 4
      ∨ (B.idx y 0).val = 3 ∨ (B.idx y 0).val = 2 ∨ (B.idx y 0).val = 1 ∨ (B.idx y 0).val = 0) with h | h | h | h | h | h | h | h
    · exact Or.inl (group h _)
    · exact Or.inr (Or.inl (group h _))
    · exact Or.inr (Or.inr (Or.inl (group h _)))
    · exact Or.inr (Or.inr (Or.inr (Or.inl (group h _))))
    · exact Or.inr (Or.inr (Or.inr (Or.inr (Or.inl (group h _)))))
    · exact Or.inr (Or.inr (Or.inr (Or.inr (Or.inr (Or.inl (group h _))))))
    · exact Or.inr (Or.inr (Or.inr (Or.inr (Or.inr (Or.inr (Or.inl (group h _)))))))
    · exact Or.inr (Or.inr (Or.inr (Or.inr (Or.inr (Or.inr (Or.inr (Or.inl (group h _))))))))

set_option maxHeartbeats 1000000 in
/-- The eight slabs: row `j` of slab `r` is token `8 j + r`. -/
theorem slab (j : Fin 128) (d : Fin 1024) :
    kernelRun0_A.sl.v357 c arg3 harg3 arg17 x1 (ix2 j d) = x1 (ix2 ⟨8 * j.val, by omega⟩ d)
    ∧ kernelRun0_A.sl.v374 c arg3 harg3 arg17 x1 (ix2 j d) = x1 (ix2 ⟨8 * j.val + 1, by omega⟩ d)
    ∧ kernelRun0_A.sl.v391 c arg3 harg3 arg17 x1 (ix2 j d) = x1 (ix2 ⟨8 * j.val + 2, by omega⟩ d)
    ∧ kernelRun0_A.sl.v408 c arg3 harg3 arg17 x1 (ix2 j d) = x1 (ix2 ⟨8 * j.val + 3, by omega⟩ d)
    ∧ kernelRun0_A.sl.v425 c arg3 harg3 arg17 x1 (ix2 j d) = x1 (ix2 ⟨8 * j.val + 4, by omega⟩ d)
    ∧ kernelRun0_A.sl.v442 c arg3 harg3 arg17 x1 (ix2 j d) = x1 (ix2 ⟨8 * j.val + 5, by omega⟩ d)
    ∧ kernelRun0_A.sl.v459 c arg3 harg3 arg17 x1 (ix2 j d) = x1 (ix2 ⟨8 * j.val + 6, by omega⟩ d)
    ∧ kernelRun0_A.sl.v476 c arg3 harg3 arg17 x1 (ix2 j d) = x1 (ix2 ⟨8 * j.val + 7, by omega⟩ d) := by
  have hd := d.isLt
  refine ⟨?_, ?_, ?_, ?_, ?_, ?_, ?_, ?_⟩
  · pointwise [kernelRun0_A.sl.v357, kernelRun0_A.sl.v342, kernelRun0_A.sl.v344, kernelRun0_A.sl.v346, kernelRun0_A.sl.v348, kernelRun0_A.sl.v350, kernelRun0_A.sl.v352, kernelRun0_A.sl.v354, kernelRun0_A.sl.v356]
    simp only [kernelRun0_A.sl.v341, kernelRun0_A.sl.v343, kernelRun0_A.sl.v345, kernelRun0_A.sl.v347, kernelRun0_A.sl.v349, kernelRun0_A.sl.v351, kernelRun0_A.sl.v353, kernelRun0_A.sl.v355, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v374, kernelRun0_A.sl.v359, kernelRun0_A.sl.v361, kernelRun0_A.sl.v363, kernelRun0_A.sl.v365, kernelRun0_A.sl.v367, kernelRun0_A.sl.v369, kernelRun0_A.sl.v371, kernelRun0_A.sl.v373]
    simp only [kernelRun0_A.sl.v358, kernelRun0_A.sl.v360, kernelRun0_A.sl.v362, kernelRun0_A.sl.v364, kernelRun0_A.sl.v366, kernelRun0_A.sl.v368, kernelRun0_A.sl.v370, kernelRun0_A.sl.v372, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v391, kernelRun0_A.sl.v376, kernelRun0_A.sl.v378, kernelRun0_A.sl.v380, kernelRun0_A.sl.v382, kernelRun0_A.sl.v384, kernelRun0_A.sl.v386, kernelRun0_A.sl.v388, kernelRun0_A.sl.v390]
    simp only [kernelRun0_A.sl.v375, kernelRun0_A.sl.v377, kernelRun0_A.sl.v379, kernelRun0_A.sl.v381, kernelRun0_A.sl.v383, kernelRun0_A.sl.v385, kernelRun0_A.sl.v387, kernelRun0_A.sl.v389, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v408, kernelRun0_A.sl.v393, kernelRun0_A.sl.v395, kernelRun0_A.sl.v397, kernelRun0_A.sl.v399, kernelRun0_A.sl.v401, kernelRun0_A.sl.v403, kernelRun0_A.sl.v405, kernelRun0_A.sl.v407]
    simp only [kernelRun0_A.sl.v392, kernelRun0_A.sl.v394, kernelRun0_A.sl.v396, kernelRun0_A.sl.v398, kernelRun0_A.sl.v400, kernelRun0_A.sl.v402, kernelRun0_A.sl.v404, kernelRun0_A.sl.v406, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v425, kernelRun0_A.sl.v410, kernelRun0_A.sl.v412, kernelRun0_A.sl.v414, kernelRun0_A.sl.v416, kernelRun0_A.sl.v418, kernelRun0_A.sl.v420, kernelRun0_A.sl.v422, kernelRun0_A.sl.v424]
    simp only [kernelRun0_A.sl.v409, kernelRun0_A.sl.v411, kernelRun0_A.sl.v413, kernelRun0_A.sl.v415, kernelRun0_A.sl.v417, kernelRun0_A.sl.v419, kernelRun0_A.sl.v421, kernelRun0_A.sl.v423, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v442, kernelRun0_A.sl.v427, kernelRun0_A.sl.v429, kernelRun0_A.sl.v431, kernelRun0_A.sl.v433, kernelRun0_A.sl.v435, kernelRun0_A.sl.v437, kernelRun0_A.sl.v439, kernelRun0_A.sl.v441]
    simp only [kernelRun0_A.sl.v426, kernelRun0_A.sl.v428, kernelRun0_A.sl.v430, kernelRun0_A.sl.v432, kernelRun0_A.sl.v434, kernelRun0_A.sl.v436, kernelRun0_A.sl.v438, kernelRun0_A.sl.v440, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v459, kernelRun0_A.sl.v444, kernelRun0_A.sl.v446, kernelRun0_A.sl.v448, kernelRun0_A.sl.v450, kernelRun0_A.sl.v452, kernelRun0_A.sl.v454, kernelRun0_A.sl.v456, kernelRun0_A.sl.v458]
    simp only [kernelRun0_A.sl.v443, kernelRun0_A.sl.v445, kernelRun0_A.sl.v447, kernelRun0_A.sl.v449, kernelRun0_A.sl.v451, kernelRun0_A.sl.v453, kernelRun0_A.sl.v455, kernelRun0_A.sl.v457, scratch]
    rcases lane_cases hd with h | h | h | h | h | h | h | h
    all_goals
      simp (disch := omega) only [dif_pos, dif_neg]
      exact strided x1 _ _ _ _ _ (by first | rfl | (simp only []; omega)) (by first | rfl | (simp only []; omega))

  · pointwise [kernelRun0_A.sl.v476, kernelRun0_A.sl.v461, kernelRun0_A.sl.v463, kernelRun0_A.sl.v465, kernelRun0_A.sl.v467, kernelRun0_A.sl.v469, kernelRun0_A.sl.v471, kernelRun0_A.sl.v473, kernelRun0_A.sl.v475]
    simp only [kernelRun0_A.sl.v460, kernelRun0_A.sl.v462, kernelRun0_A.sl.v464, kernelRun0_A.sl.v466, kernelRun0_A.sl.v468, kernelRun0_A.sl.v470, kernelRun0_A.sl.v472, kernelRun0_A.sl.v474, scratch]
    rcases lane_cases hd with h | h | h | h | h | h | h | h
    all_goals
      simp (disch := omega) only [dif_pos, dif_neg]
      exact strided x1 _ _ _ _ _ (by first | rfl | (simp only []; omega)) (by first | rfl | (simp only []; omega))

/-- The tile in slabs: slab row `R` holds token `8 (R mod 128) + R / 128`. -/
theorem tile (R d : Fin 1024) : kernelRun0_A.sl.v481 c arg3 harg3 arg17 x1 (ix2 R d)
    = x1 (ix2 ⟨8 * (R.val % 128) + R.val / 128, by omega⟩ d) := by
  have hR := R.isLt
  pointwise [kernelRun0_A.sl.v481, kernelRun0_A.sl.v478, kernelRun0_A.sl.v477]
  rcases lane_cases hR with h | h | h | h | h | h | h | h
  all_goals
    simp (disch := omega) only [dif_pos, dif_neg]
    simp only [slab]
    exact congrArg x1 (congrArg₂ ix2 (Fin.ext (by first | rfl | (simp only []; omega))) rfl)

end Cert.FfnSampleIdeal.Tile

end
-- ==== Proof.FfnSample.Held.lean ====
/-
  The tile the first point of a row of the grid leaves for the others, in the call for the sampled sequences: 1024 rows of tokens in
  slabs, the token before the tile in row 1024 and the token after it in row 1025, both zero at the ends of a sequence; and what that
  point adds to its accumulator.
-/
module

public import proofs.«01_k».proof.Proof.FfnSample.Block
public import proofs.«01_k».proof.Proof.FfnSample.Tile

@[expose] public section

noncomputable section

namespace Cert.FfnSampleIdeal.Block

open Cert.FfnSampleIdeal Cert.FfnSampleIdeal.Gen Idealize.ShloMosaic
open Cert.FeedForwardSample (same same_sum)
open Cert.FfnIdeal.Block (contribution accumulate gate value)

variable
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : cond0_0 i) (hc1 :
    ¬cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32)

/-- What is left in the scratch, as the last of the stores made. -/
theorem held_canon :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11
      = View.canon (kernelRun0_A.sl.HS0_2 c i arg2 harg2 arg3 harg3 arg4 harg4 arg17 x0 x1 x2) := by
  unfold sout0_A_0
  rw [View.read_writes_junk_eq_canon]
  rfl

/-- What the first point reads back is what it leaves. -/
theorem held_read :
    kernelRun0_A.sl.v3 c i arg2 harg2 arg3 harg3 arg4 harg4 arg15 arg17 x0 x1 x2
      = sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 := by
  rw [held_canon]
  unfold kernelRun0_A.sl.v3
  rw [View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

/-- A row's first point starts the accumulator at zero. -/
theorem acc_A (R d : Fin 1024) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 R d)
      = contribution (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11) x4 x5 x6 x7 x8 x9 x10 R d := by
  unfold sout0_A_1
  rw [View.read_writes_junk_eq_canon]
  unfold kernelRun0_A
  dsimp only
  simp (disch := decide) only [View.canon_cons_unit_lit', kernelRun0_A.sl.v286, kernelRun0_A.sl.HS1_1, View.readCov_unit_lit']
  simp (disch := decide) only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, held_read, View.readAt_eq_ld,
    View.ld_unit_lit', Memref.IsWhole.read_unread]
  simp only [same, same_sum]
  refine (accumulate _ _ _ _ _ _ _ _ _ _ _ _ _ _ _ _ _).trans ?_
  simp only [gate, value]
  have e := held_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11
  have z : (Cert.FfnIdeal.Gen.k0_pay123 : FVec Ideal S1024x1024 .f32) (ix2 R d) = 0 := by
    pointwise [Cert.FfnIdeal.Gen.k0_pay123]
  rw [z, zero_add, ← e]
  rfl

/-- Row `R` of the first 1024: a token of the tile. -/
theorem held_token (R : Fin 1040) (d : Fin 1024) (hR : R.val < 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 R d)
      = x1 (ix2 ⟨8 * (R.val % 128) + R.val / 128, by omega⟩ d) := by
  rw [held_canon]
  unfold kernelRun0_A.sl.HS0_2
  rw [View.canon_cons_of_not_mem _ _ (by
    rw [Rect.mem_set_unit]
    intro h
    have h' : 1024 ≤ R.val := (h 0).1
    omega)]
  rw [show (ix2 R d : S1040x1024.Idx) = (Rect.unit (s := S1040x1024) ![0, 0] S1024x1024.size (by decide)).emb
      (ix2 (⟨R.val, hR⟩ : Fin 1024) d) from by
    funext a
    apply Fin.ext
    match a with
    | ⟨0, _⟩ => show R.val = 0 + 1 * R.val; omega
    | ⟨1, _⟩ => show d.val = 0 + 1 * d.val; omega]
  exact (View.canon_cons_emb _ _ _ _).trans (Tile.tile c arg3 harg3 arg17 x1 ⟨R.val, hR⟩ d)

/-- Whether a tile begins its sequence. -/
theorem first_tile (n : ℕ) (hn : n < 16) (a b : EReal) :
    Scalar.select (Scalar.cmpi CmpIPredicate.eq (Scalar.remsi (Scalar.muli (BitVec.ofNat 32 n) 1024#32) 4096#32) 0#32) a b
      = if n % 4 = 0 then a else b := by
  have h : ∀ j : Fin 16, Scalar.cmpi CmpIPredicate.eq (Scalar.remsi (Scalar.muli (BitVec.ofNat 32 j.val) 1024#32) 4096#32) 0#32
      = if j.val % 4 = 0 then 1#1 else 0#1 := by
    decide +kernel
  rw [h ⟨n, hn⟩]
  dsimp only
  split_ifs <;> rfl

/-- Whether a tile ends its sequence. -/
theorem last_tile (n : ℕ) (hn : n < 16) (a b : EReal) :
    Scalar.select (Scalar.cmpi CmpIPredicate.eq (Scalar.addi (Scalar.remsi (Scalar.muli (BitVec.ofNat 32 n) 1024#32) 4096#32)
      1024#32) 4096#32) a b = if n % 4 = 3 then a else b := by
  have h : ∀ j : Fin 16, Scalar.cmpi CmpIPredicate.eq (Scalar.addi (Scalar.remsi (Scalar.muli (BitVec.ofNat 32 j.val) 1024#32)
      4096#32) 1024#32) 4096#32 = if j.val % 4 = 3 then 1#1 else 0#1 := by
    decide +kernel
  rw [h ⟨n, hn⟩]
  dsimp only
  split_ifs <;> rfl

/-- Row 1024: the token before the tile. -/
theorem held_before (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 1024 d)
      = if (i 0).val % 4 = 0 then 0 else x0 (ix2 15 d) := by
  rw [held_canon]
  unfold kernelRun0_A.sl.HS0_2
  rw [show (ix2 1024 d : S1040x1024.Idx) = (Rect.unit (s := S1040x1024) ![1024, 0] S16x1024.size (by decide)).emb
      (ix2 (0 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay122]
  rw [View.readAt_eq_ld, Memref.IsWhole.read_unread]
  refine (first_tile (i 0).val (i 0).isLt _ _).trans (congrArg₂ (ite _) ?_ ?_)
  · show Ideal.ieee 8 23 0x00000000#32 = 0
    simp [Ideal.ieee]
  · refine congrArg x0 ?_
    funext a
    apply Fin.ext
    match a with
    | ⟨0, _⟩ => rfl
    | ⟨1, _⟩ => show 0 + 1 * d.val = d.val; omega

/-- Row 1025: the token after the tile. -/
theorem held_after (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 (ix2 1025 d)
      = if (i 0).val % 4 = 3 then 0 else x2 (ix2 0 d) := by
  rw [held_canon]
  unfold kernelRun0_A.sl.HS0_2
  rw [show (ix2 1025 d : S1040x1024.Idx) = (Rect.unit (s := S1040x1024) ![1024, 0] S16x1024.size (by decide)).emb
      (ix2 (1 : Fin 16) d) from by
    funext a
    apply Fin.ext
    match a with
    | ⟨0, _⟩ => rfl
    | ⟨1, _⟩ => show d.val = 0 + 1 * d.val; omega]
  refine (View.canon_cons_emb _ _ _ _).trans ?_
  pointwise [k0_pay122]
  rw [View.readAt_eq_ld, Memref.IsWhole.read_unread]
  refine (last_tile (i 0).val (i 0).isLt _ _).trans (congrArg₂ (ite _) ?_ ?_)
  · show Ideal.ieee 8 23 0x00000000#32 = 0
    simp [Ideal.ieee]
  · refine congrArg x2 ?_
    funext a
    apply Fin.ext
    match a with
    | ⟨0, _⟩ => rfl
    | ⟨1, _⟩ => show 0 + 1 * d.val = d.val; omega

end Cert.FfnSampleIdeal.Block

end
-- ==== Proof.FfnSample.Blocks.lean ====
/-
  The blocks that the grid points of the feed-forward call for the sampled sequences read, as parts of the arrays they stand in.
-/
module

public import proofs.«01_k».proof.Proof.Ffn.Tokens
public import proofs.«01_k».proof.Proof.FfnSample.Held
public import Idealize.ShloMosaic.Lib.Pipeline.Value
public import Idealize.ShloMosaic.Lib.Tactic

@[expose] public section

noncomputable section

namespace Cert.FfnSampleIdeal.Array

open Cert.FfnSampleIdeal Cert.FfnSampleIdeal.Gen Cert.FfnSampleIdeal.Block Cert.FfnIdeal.Tokens Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arrays as the kernel's call finds them: the normalised tokens, the tokens themselves, the weights. -/
abbrev H (c : Dev nD) : Vec Ideal S16384x1024 .bf16 := V m c main_v2
abbrev X (c : Dev nD) : Vec Ideal S16384x1024 .f32 := V m c main_v3
abbrev WU (c : Dev nD) : Vec Ideal S2x1024x8192 .bf16 := V m c main_v0
abbrev CW (c : Dev nD) : Vec Ideal S2x3x8192 .f32 := V m c main_arg3
abbrev CB (c : Dev nD) : Vec Ideal S1x8192 .f32 := V m c main_v6
abbrev WD (c : Dev nD) : Vec Ideal S2x4096x1024 .bf16 := V m c main_v1
abbrev G (c : Dev nD) : Vec Ideal S1x1024 .f32 := V m c main_v9

/-- The grid has 64 points. -/
theorem lt64 (t : Fin cfg0.N) : t.val < 64 := t.isLt.trans_eq N_0

/-- The tile of grid point `t`, and its block of the columns. -/
def tileOf (t : Fin cfg0.N) : Fin 16 := ⟨t.val / 4, by have := lt64 t; omega⟩
/-- The block of gated columns a grid point adds. -/
def chunkOf (t : Fin cfg0.N) : Fin 4 := ⟨t.val % 4, by omega⟩

/-- The tile a grid point works on, read off its coordinates. -/
theorem coords_tile : ∀ t : Fin cfg0.N, (grid0.coords t 0).val = t.val / 4 :=
  (by decide +kernel : ∀ t : Fin grid0.N, _)

/-- Where the windows on tokens stand at grid point `t`. -/
theorem places : ∀ t : Fin cfg0.N,
    (win0_0.index t 0 = 64 * (t.val / 4) - 1 ∧ win0_0.index t 1 = 0)
    ∧ (win0_1.index t 0 = t.val / 4 ∧ win0_1.index t 1 = 0)
    ∧ (win0_2.index t 0 = min (64 * (t.val / 4 + 1)) 1023 ∧ win0_2.index t 1 = 0)
    ∧ (win0_3.index t 0 = t.val / 4 ∧ win0_3.index t 1 = 0)
    ∧ (win0_12.index t 0 = t.val / 4 ∧ win0_12.index t 1 = 0) :=
  (by decide +kernel : ∀ t : Fin grid0.N, _)

/-- Where the windows on weights stand at grid point `t`. -/
theorem weightPlaces : ∀ t : Fin cfg0.N,
    (win0_4.index t 0 = 1 ∧ win0_4.index t 1 = 0 ∧ win0_4.index t 2 = t.val % 4)
    ∧ (win0_5.index t 0 = 1 ∧ win0_5.index t 1 = 0 ∧ win0_5.index t 2 = 4 + t.val % 4)
    ∧ (win0_6.index t 0 = 1 ∧ win0_6.index t 1 = 0 ∧ win0_6.index t 2 = t.val % 4)
    ∧ (win0_7.index t 0 = 1 ∧ win0_7.index t 1 = 0 ∧ win0_7.index t 2 = 4 + t.val % 4)
    ∧ (win0_8.index t 0 = 0 ∧ win0_8.index t 1 = t.val % 4)
    ∧ (win0_9.index t 0 = 0 ∧ win0_9.index t 1 = 4 + t.val % 4)
    ∧ (win0_10.index t 0 = 1 ∧ win0_10.index t 1 = t.val % 4 ∧ win0_10.index t 2 = 0)
    ∧ (win0_11.index t 0 = 0 ∧ win0_11.index t 1 = 0) :=
  (by decide +kernel : ∀ t : Fin grid0.N, _)

/-- The last row of the block before the tile. -/
theorem before_block (c : Dev nD) (t : Fin cfg0.N) (d : Fin 1024) (hi : (tileOf t).val % 4 ≠ 0) :
    (iblk m c 0 t : Vec Ideal S16x1024 .bf16) (ix2 15 d) = H m c (ix2 ⟨1024 * (tileOf t).val - 1, by have := lt64 t; omega⟩ d) := by
  have ht := lt64 t
  have hi' : t.val / 4 % 4 ≠ 0 := hi
  unfold iblk
  rw [View.read_apply]
  show V m c main_v2 _ = V m c main_v2 _
  congr 1
  funext a
  apply Fin.ext
  match a with
  | ⟨0, _⟩ => show win0_0.index t 0 * 16 + 1 * 15 = 1024 * (t.val / 4) - 1; rw [(places t).1.1]; omega
  | ⟨1, _⟩ => show win0_0.index t 1 * 1024 + 1 * d.val = d.val; rw [(places t).1.2]; omega

/-- The tile. -/
theorem tile_block (c : Dev nD) (t : Fin cfg0.N) (r d : Fin 1024) :
    (iblk m c 1 t : Vec Ideal S1024x1024 .bf16) (ix2 r d) = H m c (ix2 ⟨1024 * (tileOf t).val + r.val, by omega⟩ d) := by
  have ht := lt64 t
  unfold iblk
  rw [View.read_apply]
  show V m c main_v2 _ = V m c main_v2 _
  congr 1
  funext a
  apply Fin.ext
  match a with
  | ⟨0, _⟩ => show win0_1.index t 0 * 1024 + 1 * r.val = 1024 * (t.val / 4) + r.val; rw [(places t).2.1.1]; omega
  | ⟨1, _⟩ => show win0_1.index t 1 * 1024 + 1 * d.val = d.val; rw [(places t).2.1.2]; omega

/-- The first row of the block after the tile. -/
theorem after_block (c : Dev nD) (t : Fin cfg0.N) (d : Fin 1024) (hi : (tileOf t).val % 4 ≠ 3) :
    (iblk m c 2 t : Vec Ideal S16x1024 .bf16) (ix2 0 d) = H m c (ix2 ⟨(1024 * (tileOf t).val + 1024) % 16384, by omega⟩ d) := by
  have ht := lt64 t
  have hi' : t.val / 4 % 4 ≠ 3 := hi
  unfold iblk
  rw [View.read_apply]
  show V m c main_v2 _ = V m c main_v2 _
  congr 1
  funext a
  apply Fin.ext
  match a with
  | ⟨0, _⟩ => show win0_2.index t 0 * 16 + 1 * 0 = (1024 * (t.val / 4) + 1024) % 16384; rw [(places t).2.2.1.1]; omega
  | ⟨1, _⟩ => show win0_2.index t 1 * 1024 + 1 * d.val = d.val; rw [(places t).2.2.1.2]; omega

/-- The tile of the tokens themselves. -/
theorem residual_block (c : Dev nD) (t : Fin cfg0.N) (r d : Fin 1024) :
    (iblk m c 3 t : Vec Ideal S1024x1024 .f32) (ix2 r d) = X m c (ix2 ⟨1024 * (tileOf t).val + r.val, by omega⟩ d) := by
  have ht := lt64 t
  unfold iblk
  rw [View.read_apply]
  show V m c main_v3 _ = V m c main_v3 _
  congr 1
  funext a
  apply Fin.ext
  match a with
  | ⟨0, _⟩ => show win0_3.index t 0 * 1024 + 1 * r.val = 1024 * (t.val / 4) + r.val; rw [(places t).2.2.2.1.1]; omega
  | ⟨1, _⟩ => show win0_3.index t 1 * 1024 + 1 * d.val = d.val; rw [(places t).2.2.2.1.2]; omega

/-- The gate columns of the up-projection. -/
theorem gate_weights (c : Dev nD) (t : Fin cfg0.N) (d k : Fin 1024) :
    (iblk m c 4 t : Vec Ideal S1x1024x1024 .bf16) (ix3 0 d k) = WU m c (ix3 1 d ⟨1024 * (chunkOf t).val + k.val, by omega⟩) := by
  have ht := lt64 t
  unfold iblk
  rw [View.read_apply]
  show V m c main_v0 _ = V m c main_v0 _
  congr 1
  funext a
  apply Fin.ext
  match a with
  | ⟨0, _⟩ => show win0_4.index t 0 * 1 + 1 * 0 = 1; rw [(weightPlaces t).1.1]
  | ⟨1, _⟩ => show win0_4.index t 1 * 1024 + 1 * d.val = d.val; rw [(weightPlaces t).1.2.1]; omega
  | ⟨2, _⟩ => show win0_4.index t 2 * 1024 + 1 * k.val = 1024 * (t.val % 4) + k.val; rw [(weightPlaces t).1.2.2]; omega

/-- The value columns of the up-projection. -/
theorem value_weights (c : Dev nD) (t : Fin cfg0.N) (d k : Fin 1024) :
    (iblk m c 5 t : Vec Ideal S1x1024x1024 .bf16) (ix3 0 d k) = WU m c (ix3 1 d ⟨4096 + (1024 * (chunkOf t).val + k.val), by omega⟩) := by
  have ht := lt64 t
  unfold iblk
  rw [View.read_apply]
  show V m c main_v0 _ = V m c main_v0 _
  congr 1
  funext a
  apply Fin.ext
  match a with
  | ⟨0, _⟩ => show win0_5.index t 0 * 1 + 1 * 0 = 1; rw [(weightPlaces t).2.1.1]
  | ⟨1, _⟩ => show win0_5.index t 1 * 1024 + 1 * d.val = d.val; rw [(weightPlaces t).2.1.2.1]; omega
  | ⟨2, _⟩ => show win0_5.index t 2 * 1024 + 1 * k.val = 4096 + (1024 * (t.val % 4) + k.val); rw [(weightPlaces t).2.1.2.2]; omega

/-- The convolution's weights for the gate columns. -/
theorem gate_taps (c : Dev nD) (t : Fin cfg0.N) (j : Fin 3) (k : Fin 1024) :
    (iblk m c 6 t : Vec Ideal S1x3x1024 .f32) (ix3 0 j k) = CW m c (ix3 1 j ⟨1024 * (chunkOf t).val + k.val, by omega⟩) := by
  have ht := lt64 t
  unfold iblk
  rw [View.read_apply]
  show V m c main_arg3 _ = V m c main_arg3 _
  congr 1
  funext a
  apply Fin.ext
  match a with
  | ⟨0, _⟩ => show win0_6.index t 0 * 1 + 1 * 0 = 1; rw [(weightPlaces t).2.2.1.1]
  | ⟨1, _⟩ => show win0_6.index t 1 * 3 + 1 * j.val = j.val; rw [(weightPlaces t).2.2.1.2.1]; omega
  | ⟨2, _⟩ => show win0_6.index t 2 * 1024 + 1 * k.val = 1024 * (t.val % 4) + k.val; rw [(weightPlaces t).2.2.1.2.2]; omega

/-- The convolution's weights for the value columns. -/
theorem value_taps (c : Dev nD) (t : Fin cfg0.N) (j : Fin 3) (k : Fin 1024) :
    (iblk m c 7 t : Vec Ideal S1x3x1024 .f32) (ix3 0 j k) = CW m c (ix3 1 j ⟨4096 + (1024 * (chunkOf t).val + k.val), by omega⟩) := by
  have ht := lt64 t
  unfold iblk
  rw [View.read_apply]
  show V m c main_arg3 _ = V m c main_arg3 _
  congr 1
  funext a
  apply Fin.ext
  match a with
  | ⟨0, _⟩ => show win0_7.index t 0 * 1 + 1 * 0 = 1; rw [(weightPlaces t).2.2.2.1.1]
  | ⟨1, _⟩ => show win0_7.index t 1 * 3 + 1 * j.val = j.val; rw [(weightPlaces t).2.2.2.1.2.1]; omega
  | ⟨2, _⟩ => show win0_7.index t 2 * 1024 + 1 * k.val = 4096 + (1024 * (t.val % 4) + k.val); rw [(weightPlaces t).2.2.2.1.2.2]; omega

/-- The convolution's bias for the gate columns. -/
theorem gate_bias (c : Dev nD) (t : Fin cfg0.N) (k : Fin 1024) :
    (iblk m c 8 t : Vec Ideal S1x1024 .f32) (ix2 0 k) = CB m c (ix2 0 ⟨1024 * (chunkOf t).val + k.val, by omega⟩) := by
  have ht := lt64 t
  unfold iblk
  rw [View.read_apply]
  show V m c main_v6 _ = V m c main_v6 _
  congr 1
  funext a
  apply Fin.ext
  match a with
  | ⟨0, _⟩ => show win0_8.index t 0 * 1 + 1 * 0 = 0; rw [(weightPlaces t).2.2.2.2.1.1]
  | ⟨1, _⟩ => show win0_8.index t 1 * 1024 + 1 * k.val = 1024 * (t.val % 4) + k.val; rw [(weightPlaces t).2.2.2.2.1.2]; omega

/-- The convolution's bias for the value columns. -/
theorem value_bias (c : Dev nD) (t : Fin cfg0.N) (k : Fin 1024) :
    (iblk m c 9 t : Vec Ideal S1x1024 .f32) (ix2 0 k) = CB m c (ix2 0 ⟨4096 + (1024 * (chunkOf t).val + k.val), by omega⟩) := by
  have ht := lt64 t
  unfold iblk
  rw [View.read_apply]
  show V m c main_v6 _ = V m c main_v6 _
  congr 1
  funext a
  apply Fin.ext
  match a with
  | ⟨0, _⟩ => show win0_9.index t 0 * 1 + 1 * 0 = 0; rw [(weightPlaces t).2.2.2.2.2.1.1]
  | ⟨1, _⟩ => show win0_9.index t 1 * 1024 + 1 * k.val = 4096 + (1024 * (t.val % 4) + k.val); rw [(weightPlaces t).2.2.2.2.2.1.2]; omega

/-- The rows of the down-projection. -/
theorem down_weights (c : Dev nD) (t : Fin cfg0.N) (k d : Fin 1024) :
    (iblk m c 10 t : Vec Ideal S1x1024x1024 .bf16) (ix3 0 k d) = WD m c (ix3 1 ⟨1024 * (chunkOf t).val + k.val, by omega⟩ d) := by
  have ht := lt64 t
  unfold iblk
  rw [View.read_apply]
  show V m c main_v1 _ = V m c main_v1 _
  congr 1
  funext a
  apply Fin.ext
  match a with
  | ⟨0, _⟩ => show win0_10.index t 0 * 1 + 1 * 0 = 1; rw [(weightPlaces t).2.2.2.2.2.2.1.1]
  | ⟨1, _⟩ => show win0_10.index t 1 * 1024 + 1 * k.val = 1024 * (t.val % 4) + k.val; rw [(weightPlaces t).2.2.2.2.2.2.1.2.1]; omega
  | ⟨2, _⟩ => show win0_10.index t 2 * 1024 + 1 * d.val = d.val; rw [(weightPlaces t).2.2.2.2.2.2.1.2.2]; omega

/-- The gain of the norm. -/
theorem gain_block (c : Dev nD) (t : Fin cfg0.N) (d : Fin 1024) :
    (iblk m c 11 t : Vec Ideal S1x1024 .f32) (ix2 0 d) = G m c (ix2 0 d) := by
  have ht := lt64 t
  unfold iblk
  rw [View.read_apply]
  show V m c main_v9 _ = V m c main_v9 _
  congr 1
  funext a
  apply Fin.ext
  match a with
  | ⟨0, _⟩ => show win0_11.index t 0 * 1 + 1 * 0 = 0; rw [(weightPlaces t).2.2.2.2.2.2.2.1]
  | ⟨1, _⟩ => show win0_11.index t 1 * 1024 + 1 * d.val = d.val; rw [(weightPlaces t).2.2.2.2.2.2.2.2]; omega

end Cert.FfnSampleIdeal.Array

end
-- ==== Proof.FfnSample.Last.lean ====
/-
  The last point of a row of the grid, in the call for the sampled sequences: it normalizes each row of the accumulator, puts the rows
  back into the order of the tokens and adds the residual.
-/
module

public import proofs.«01_k».proof.Proof.FfnSample.Block
public import proofs.«01_k».proof.Proof.FfnSample.Tile

@[expose] public section

noncomputable section

namespace Cert.FfnSampleIdeal.Block

open Cert.FfnSampleIdeal Cert.FfnSampleIdeal.Gen Idealize.ShloMosaic
open Cert.FfnIdeal.Block (contribution normed normalize natural pieces pieces_canon slabRow)

variable
    (c : Dev nD) (i : grid0.Coords) (arg2 : Memref sig .tc .vmem S16x1024 .bf16) (harg2 : arg2.IsWhole) (arg3 : Memref sig
    .tc .vmem S1024x1024 .bf16) (harg3 : arg3.IsWhole) (arg4 : Memref sig .tc .vmem S16x1024 .bf16) (harg4 : arg4.IsWhole)
    (arg5 : Memref sig .tc .vmem S1024x1024 .f32) (harg5 : arg5.IsWhole) (arg6 : Memref sig .tc .vmem S1x1024x1024 .bf16)
    (harg6 : arg6.IsWhole) (arg7 : Memref sig .tc .vmem S1x1024x1024 .bf16) (harg7 : arg7.IsWhole) (arg8 : Memref sig .tc
    .vmem S1x3x1024 .f32) (harg8 : arg8.IsWhole) (arg9 : Memref sig .tc .vmem S1x3x1024 .f32) (harg9 : arg9.IsWhole) (arg10
    : Memref sig .tc .vmem S1x1024 .f32) (harg10 : arg10.IsWhole) (arg11 : Memref sig .tc .vmem S1x1024 .f32) (harg11 :
    arg11.IsWhole) (arg12 : Memref sig .tc .vmem S1x1024x1024 .bf16) (harg12 : arg12.IsWhole) (arg13 : Memref sig .tc .vmem
    S1x1024 .f32) (harg13 : arg13.IsWhole) (arg14 : Memref sig .tc .vmem S1024x1024 .f32) (harg14 : arg14.IsWhole) (arg15 :
    Memref sig .tc .vmem S1040x1024 .bf16) (harg15 : arg15.IsWhole) (arg16 : Memref sig .tc .vmem S1024x1024 .f32) (harg16 :
    arg16.IsWhole) (arg17 : Memref sig .tc .vmem S8x1024x128 .f32) (harg17 : arg17.IsWhole) (hc0 : ¬cond0_0 i) (hc1 :
    cond0_1 i)    (x0 : Vec Ideal S16x1024 .bf16) (x1 : Vec Ideal S1024x1024 .bf16) (x2 : Vec Ideal S16x1024 .bf16) (x3 :
    Vec Ideal S1024x1024 .f32) (x4 : Vec Ideal S1x1024x1024 .bf16) (x5 : Vec Ideal S1x1024x1024 .bf16) (x6 : Vec Ideal
    S1x3x1024 .f32) (x7 : Vec Ideal S1x3x1024 .f32) (x8 : Vec Ideal S1x1024 .f32) (x9 : Vec Ideal S1x1024 .f32) (x10 : Vec
    Ideal S1x1024x1024 .bf16) (x11 : Vec Ideal S1x1024 .f32) (xs0 : Vec Ideal S1040x1024 .bf16) (xs1 : Vec Ideal S1024x1024
    .f32)

/-- The last point's stores. -/
theorem stores :
    kernelRun0_C.sl.HS2_64 c arg6 harg6 arg7 harg7 arg8 harg8 arg9 harg9 arg10 harg10 arg11 harg11 arg12 harg12 arg13 harg13 arg15 harg15 arg16 harg16  x4 x5 x6 x7 x8 x9 x10 x11 xs0 xs1
      = pieces (kernelRun0_C.sl.r_44 c arg6 harg6 arg7 harg7 arg8 harg8 arg9 harg9 arg10 harg10 arg11 harg11 arg12 harg12 arg13 harg13 arg15 harg15 arg16 harg16  x4 x5 x6 x7 x8 x9 x10 x11 xs0 xs1) := by
  rfl

/-- The accumulator the last point normalizes is the one it has just completed. -/
theorem completed :
    kernelRun0_C.sl.v297 c arg6 harg6 arg7 harg7 arg8 harg8 arg9 harg9 arg10 harg10 arg11 harg11 arg12 harg12  arg15 harg15 arg16 harg16  x4 x5 x6 x7 x8 x9 x10  xs0 xs1
      = sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 := by
  unfold sout0_C_1 kernelRun0_C.sl.v297
  rw [View.read_writes_junk_eq_canon, View.readCov_eq_canon']
  funext y
  refine congrArg _ ?_
  funext a
  apply Fin.ext
  match a with
  | ⟨0, _⟩ => show 0 + 1 * (y 0).val = (y 0).val; omega
  | ⟨1, _⟩ => show 0 + 1 * (y 1).val = (y 1).val; omega

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 in
/-- What the scratch held before the last sum: the rows in the order of the tokens. -/
theorem ordered (T d : Fin 1024) :
    natural (kernelRun0_C.sl.r_44 c arg6 harg6 arg7 harg7 arg8 harg8 arg9 harg9 arg10 harg10 arg11 harg11 arg12 harg12 arg13 harg13 arg15 harg15 arg16 harg16  x4 x5 x6 x7 x8 x9 x10 x11 xs0 xs1)
      (ix3 (⟨d.val / 128, by omega⟩ : Fin 8) T (⟨d.val % 128, by omega⟩ : Fin 128))
      = normed (fun k => xs1 (ix2 (slabRow T) k) + contribution xs0 x4 x5 x6 x7 x8 x9 x10 (slabRow T) k) (fun k => x11 (ix2 0 k)) d := by
  unfold natural kernelRun0_C.sl.r_44
  rw [completed c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1]
  simp (disch := decide) only [View.readAt_eq_ld, View.ld_unit_lit', Memref.IsWhole.read_unread]
  simp only [FeedForwardSample.same]
  refine (normalize _ _ _ _).trans ?_
  simp only [acc_C]
  refine congrArg (normed _ _) (Fin.ext ?_)
  show 128 * (d.val / 128) + d.val % 128 = d.val
  omega

set_option maxHeartbeats 1000000 in
/-- The output block: token `T`'s residual and its normalized row. -/
theorem out_C (T d : Fin 1024) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1 (ix2 T d)
      = x3 (ix2 T d) + normed (fun k => xs1 (ix2 (slabRow T) k) + contribution xs0 x4 x5 x6 x7 x8 x9 x10 (slabRow T) k)
          (fun k => x11 (ix2 0 k)) d := by
  rw [← ordered c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 xs0 xs1]
  have hd := d.isLt
  unfold out0_C_12
  rw [View.read_writes_junk_eq_canon]
  unfold kernelRun0_C
  dsimp only
  simp (disch := decide) only [View.canon_cons_unit_lit', kernelRun0_C.sl.r_53, View.readAt_eq_ld, View.ld_unit_lit',
    Memref.IsWhole.read_unread]
  simp only [kernelRun0_C.sl.v570, kernelRun0_C.sl.v572, kernelRun0_C.sl.v574, kernelRun0_C.sl.v576,
    kernelRun0_C.sl.v578, kernelRun0_C.sl.v580, kernelRun0_C.sl.v582, kernelRun0_C.sl.v584, stores, View.readCov_eq_canon', pieces_canon]
  pointwise [k0_pay2, k0_pay121]
  refine congrArg (x3 (ix2 T d) + ·) ?_
  rcases FfnIdeal.Tile.lane_cases hd with h | h | h | h | h | h | h | h
  all_goals
    simp (disch := omega) only [dif_pos, dif_neg]
    refine congrArg (natural _) (congrArg₂ (fun a b => ix3 a T b) (Fin.ext ?_) (Fin.ext ?_))
  all_goals
    first
      | (show _ = d.val % 128; dsimp only; omega)
      | (refine Eq.symm ?_; show d.val / 128 = Fin.val _; first
          | exact (by omega : d.val / 128 = 0) | exact (by omega : d.val / 128 = 1) | exact (by omega : d.val / 128 = 2)
          | exact (by omega : d.val / 128 = 3) | exact (by omega : d.val / 128 = 4) | exact (by omega : d.val / 128 = 5)
          | exact (by omega : d.val / 128 = 6) | exact (by omega : d.val / 128 = 7))

end Cert.FfnSampleIdeal.Block

end
-- ==== Proof.FfnSample.Array.lean ====
/-
  The array the feed-forward call for the sampled sequences leaves. The grid has four points for each tile of 1024 tokens; each adds
  the contribution of 1024 of the 4096 gated columns to the tile's accumulator, and the last writes the tile's block of the result.
-/
module

public import proofs.«01_k».proof.Proof.FfnSample.Blocks
public import proofs.«01_k».proof.Proof.FfnSample.Last

@[expose] public section

noncomputable section

namespace Cert.FfnSampleIdeal.Array

open Cert.FfnSampleIdeal Cert.FfnSampleIdeal.Gen Cert.FfnSampleIdeal.Block Cert.FfnIdeal.Tokens Idealize.ShloMosaic Idealize.ShloMosaic.TcCoe Idealize.SL.Sem
open Cert.FfnIdeal.Block (contribution normed slabRow)
open Idealize.ShloMosaic.Pipeline (Dat)

variable (m : (ℓ : Loc nD τ sig) → Buf (Elt Ideal) ℓ) (ρ : Dev nD → PrngReg)

/-- The sum over the first columns, of the arrays the call finds. -/
abbrev sumTo (c : Dev nD) (n : ℕ) (T : Fin 16384) (d : Fin 1024) : EReal := part 4096 1 (H m c) (WU m c) (CW m c) (CB m c) (WD m c) n T d

/-- What a grid point adds, over a scratch that holds its tile. -/
theorem adds (c : Dev nD) (t : Fin cfg0.N) (hh : Vec Ideal S1040x1024 .bf16) (hH : Holds 4096 (H m c) (tileOf t) hh) (R d : Fin 1024) :
    contribution hh (iblk m c 4 t) (iblk m c 5 t) (iblk m c 6 t) (iblk m c 7 t) (iblk m c 8 t) (iblk m c 9 t) (iblk m c 10 t) R d
      = chunk 4096 1 (H m c) (WU m c) (CW m c) (CB m c) (WD m c) (chunkOf t) (token (tileOf t) R) d :=
  contribution_chunk 1 (WU m c) (CW m c) (CB m c) (WD m c) (.inr rfl) hH (chunkOf t) _ _ _ _ _ _ _ (gate_weights m c t) (value_weights m c t)
    (gate_taps m c t) (value_taps m c t) (gate_bias m c t) (value_bias m c t) (down_weights m c t) R d

/-- What the scratches hold after a grid point: the tile with its neighbours, and the sum so far. -/
structure Inv (c : Dev nD) (t : Fin cfg0.N) : Prop where
  holds : Holds 4096 (H m c) (tileOf t) (outsAt0 m c t.val t.isLt).2.1
  sum : ∀ R d : Fin 1024, (outsAt0 m c t.val t.isLt).2.2 (ix2 R d) = sumTo m c (t.val % 4) (token (tileOf t) R) d

/-- The first point of a tile fills the scratch … -/
theorem first_holds (c : Dev nD) (t : Fin cfg0.N) (h0 : t.val % 4 = 0) (h1 : ¬t.val % 4 = 3) :
    Holds 4096 (H m c) (tileOf t) (outsAt0 m c t.val t.isLt).2.1 := by
  simp only [outsAt0_A m c t h0 h1]
  refine ⟨fun R d => ?_, fun d => ?_, fun d => ?_⟩
  · refine (held_token _ _ _ _ _ _ _ _ _ _ _ _ _ _ _ _ _ _ _ _ _ _ _ _ _ _ _ _ _ _ _ _ _ _ _ _ _ _ _ _ _ _ _ _ _ _ _ _ ⟨R.val, by omega⟩ d R.isLt).trans ?_
    exact tile_block m c t _ d
  · refine (held_before _ _ _ _ _ _ _ _ _ _ _ _ _ _ _ _ _ _ _ _ _ _ _ _ _ _ _ _ _ _ _ _ _ _ _ _ _ _ _ _ _ _ _ _ _ _ _ _ d).trans ?_
    rw [coords_tile t]
    have e : 1024 * (tileOf t).val % 4096 = 0 ↔ t.val / 4 % 4 = 0 := by show 1024 * (t.val / 4) % 4096 = 0 ↔ _; omega
    by_cases hi : t.val / 4 % 4 = 0
    · rw [if_pos hi]; exact (if_pos (e.2 hi)).symm
    · rw [if_neg hi]; exact (before_block m c t d hi).trans (if_neg (hi ∘ e.1)).symm
  · refine (held_after _ _ _ _ _ _ _ _ _ _ _ _ _ _ _ _ _ _ _ _ _ _ _ _ _ _ _ _ _ _ _ _ _ _ _ _ _ _ _ _ _ _ _ _ _ _ _ _ d).trans ?_
    rw [coords_tile t]
    have e : (1024 * (tileOf t).val + 1024) % 4096 = 0 ↔ t.val / 4 % 4 = 3 := by show (1024 * (t.val / 4) + 1024) % 4096 = 0 ↔ _; omega
    by_cases hi : t.val / 4 % 4 = 3
    · rw [if_pos hi, if_pos (e.2 hi)]
    · rw [if_neg hi, if_neg (hi ∘ e.1)]; exact after_block m c t d hi

/-- … and starts the sum. -/
theorem first (c : Dev nD) (t : Fin cfg0.N) (h0 : t.val % 4 = 0) (h1 : ¬t.val % 4 = 3) : Inv m c t where
  holds := first_holds m c t h0 h1
  sum R d := by
    have hH := first_holds m c t h0 h1
    simp only [outsAt0_A m c t h0 h1] at hH ⊢
    refine (acc_A _ _ _ _ _ _ _ _ _ _ _ _ _ _ _ _ _ _ _ _ _ _ _ _ _ _ _ _ _ _ _ _ _ _ _ _ _ _ _ _ _ _ _ _ _ _ _ _ R d).trans ?_
    refine (adds m c t _ hH R d).trans ?_
    rw [show chunkOf t = 0 from Fin.ext h0, h0]
    exact (part_zero _ _ _ _ _ _ _ _ d).symm

/-- A point in the middle adds its contribution. -/
theorem middle (c : Dev nD) (t : Fin cfg0.N) (h0 : ¬t.val % 4 = 0) (h1 : ¬t.val % 4 = 3)
    (hI : Inv m c ⟨t.val - 1, Nat.lt_of_le_of_lt (Nat.sub_le _ _) t.isLt⟩) : Inv m c t := by
  have hT : tileOf ⟨t.val - 1, Nat.lt_of_le_of_lt (Nat.sub_le _ _) t.isLt⟩ = tileOf t :=
    Fin.ext (by show (t.val - 1) / 4 = t.val / 4; omega)
  have hn : (t.val - 1) % 4 = t.val % 4 - 1 := by omega
  have hH := hI.holds
  have hS := hI.sum
  rw [hT] at hH
  rw [hT] at hS
  constructor
  · rw [outsAt0_B m c t h0 h1]
    exact hH
  · intro R d
    simp only [outsAt0_B m c t h0 h1]
    refine (acc_B _ _ _ _ _ _ _ _ _ _ _ _ _ _ _ _ _ _ _ _ _ _ _ _ _ _ _ _ _ _ _ _ _ _ _ _ _ _ _ _ _ _ _ _ _ _ _ _ _ _ R d).trans ?_
    refine (congrArg₂ (· + ·) (hS R d) (adds m c t _ hH R d)).trans ?_
    show part _ _ _ _ _ _ _ ((t.val - 1) % 4) _ d + _ = _
    rw [hn]
    exact part_succ _ _ _ _ _ _ _ (chunkOf t) h0 _ d

/-- What the scratches hold before the last point of a tile. -/
theorem inv (c : Dev nD) : ∀ (n : ℕ) (hn : n < cfg0.N), n % 4 ≠ 3 → Inv m c ⟨n, hn⟩
  | 0, hn, _ => first m c ⟨0, hn⟩ rfl (by show ¬0 % 4 = 3; decide)
  | n + 1, hn, h => by
    by_cases h0 : (n + 1) % 4 = 0
    · exact first m c ⟨n + 1, hn⟩ h0 h
    · exact middle m c ⟨n + 1, hn⟩ h0 h (inv c n (Nat.lt_of_succ_lt hn) (by omega))

/-- The whole output array as a function of the arrays. -/
def whole (h : Vec Ideal S16384x1024 .bf16) (x : Vec Ideal S16384x1024 .f32) (wu : Vec Ideal S2x1024x8192 .bf16) (cw : Vec Ideal S2x3x8192 .f32)
    (cb : Vec Ideal S1x8192 .f32) (wd : Vec Ideal S2x4096x1024 .bf16) (g : Vec Ideal S1x1024 .f32) : Vec Ideal S16384x1024 .f32 := fun i =>
  x (ix2 (i 0) (i 1)) + normed (fun k => part 4096 1 h wu cw cb wd 3 (i 0) k) (fun k => g (ix2 0 k)) (i 1)

/-- The last point of a tile writes the tile's part of the result. -/
theorem last (c : Dev nD) (t : Fin cfg0.N) (h0 : ¬t.val % 4 = 0) (h1 : t.val % 4 = 3) (r d : Fin 1024) :
    (outsAt0 m c t.val t.isLt).1 (ix2 r d)
      = whole (H m c) (X m c) (WU m c) (CW m c) (CB m c) (WD m c) (G m c) (ix2 ⟨1024 * (tileOf t).val + r.val, by omega⟩ d) := by
  have hI : Inv m c ⟨t.val - 1, Nat.lt_of_le_of_lt (Nat.sub_le _ _) t.isLt⟩ := inv m c _ _ (by omega)
  have hT : tileOf ⟨t.val - 1, Nat.lt_of_le_of_lt (Nat.sub_le _ _) t.isLt⟩ = tileOf t :=
    Fin.ext (by show (t.val - 1) / 4 = t.val / 4; omega)
  have hn : (t.val - 1) % 4 = 2 := by omega
  have hH := hI.holds
  have hS := hI.sum
  rw [hT] at hH
  rw [hT] at hS
  simp only [outsAt0_C m c t h0 h1]
  refine (out_C _ _ _ _ _ _ _ _ _ _ _ _ _ _ _ _ _ _ _ _ _ _ _ _ _ _ _ _ _ _ _ _ _ _ _ _ _ _ _ _ _ _ _ _ _ _ _ _ _ _ r d).trans ?_
  refine congrArg₂ (· + ·) (residual_block m c t r d) ?_
  refine congrArg₂ (normed · · d) (funext fun k => ?_) (funext fun k => gain_block m c t k)
  refine (congrArg₂ (· + ·) (hS (slabRow r) k) (adds m c t _ hH (slabRow r) k)).trans ?_
  show part _ _ _ _ _ _ _ ((t.val - 1) % 4) _ k + _ = _
  rw [hn, token_slabRow, show chunkOf t = 3 from Fin.ext h1]
  exact part_succ _ _ _ _ _ _ _ 3 (by decide) _ k

/-- What a grid point writes back is its block of `whole`. -/
theorem flushed_eq (c : Dev nD) (t : Fin cfg0.N) (hf : (cfg0.win 12).flush t = true) :
    (dats m 0 c).flushed 12 t
      = ((cfg0.win 12).blk t).view.read (Elt Ideal) (whole (H m c) (X m c) (WU m c) (CW m c) (CB m c) (WD m c) (G m c)) := by
  have h1 : t.val % 4 = 3 := (flush0_12 t).mp hf
  show (cfg0.win 12).cut (grid0.coords t) ((dats m 0 c).after 12 t) = _
  rw [after0_12]
  funext j
  obtain ⟨r, d, rfl⟩ : ∃ (r d : Fin 1024), j = ix2 r d := ⟨j 0, j 1, eq_ix2 j⟩
  rw [View.read_apply]
  have ht := lt64 t
  refine (last m c t (by omega) h1 r d).trans ?_
  show whole _ _ _ _ _ _ _ (ix2 _ _) = _
  congr 1
  funext a
  apply Fin.ext
  match a with
  | ⟨0, _⟩ => show _ = win0_12.index t 0 * 1024 + 1 * r.val; rw [(places t).2.2.2.2.1]; show 1024 * (t.val / 4) + r.val = _; omega
  | ⟨1, _⟩ => show d.val = win0_12.index t 1 * 1024 + 1 * d.val; rw [(places t).2.2.2.2.2]; omega

/-- The array after the run. -/
theorem final (c : Dev nD) :
    (dats m 0 c).arrAt 12 cfg0.N = whole (H m c) (X m c) (WU m c) (CW m c) (CB m c) (WD m c) (G m c) :=
  (dats m 0 c).arrAt_eq_of_cover 12 _ (flushed_eq m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = 4 * ((i 0 : Nat) / 1024) + 3 :=
      ⟨⟨4 * ((i 0 : Nat) / 1024) + 3, by rw [hN]; omega⟩, rfl⟩
    refine ⟨t, (flush0_12 t).mpr (by omega), ?_⟩
    show i ∈ ((View.whole main_v10).slice (win0_12.rect t)).set
    rw [View.set_slice_whole, Rect.mem_set_unit]
    intro a
    match a with
    | ⟨0, _⟩ =>
      show win0_12.index t 0 * 1024 ≤ (i 0 : Nat) ∧ (i 0 : Nat) < win0_12.index t 0 * 1024 + 1024
      rw [(places t).2.2.2.2.1]; omega
    | ⟨1, _⟩ =>
      show win0_12.index t 1 * 1024 ≤ (i 1 : Nat) ∧ (i 1 : Nat) < win0_12.index t 1 * 1024 + 1024
      rw [(places t).2.2.2.2.2]; omega

/-- The run: afterwards the result's buffer holds the array above, and the arguments are as they were. -/
theorem run_array : θ_run defs (onTc (τ := τ) (main (F := Ideal))) ⟨m, fun _ => 0, ρ⟩ fun r => ∀ c : Dev nD,
      r.2.mem ((c : Thread nD τ).loc main_v10) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 12,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.FfnSampleIdeal.Array

end
-- ==== Proof.FfnSample.Host.lean ====
/-
  The arrays that the host code prepares for the feed-forward call for the sampled sequences: the batch and the sequence merged into
  one axis, the second layer's bias and gain as rows; the weights as they are.
-/
module

public import proofs.«01_k».proof.Proof.FfnSample.Array
public import Idealize.ShloMosaic.Lib.StableHlo.Run
public import Idealize.ShloMosaic.Lib.StableHlo.RunRead

@[expose] public section

noncomputable section

namespace Cert.FfnSampleIdeal.Host

open Cert.FfnSampleIdeal Cert.FfnSampleIdeal.Gen Cert.FfnSampleIdeal.Array Idealize.ShloMosaic Idealize.ShloMosaic.TcCoe Idealize.SL.Sem

variable (m : (ℓ : Loc nD τ sig) → Buf (Elt Ideal) ℓ)

/-- The normalised tokens. -/
theorem H_apply (c : Dev nD) (T : Fin 16384) (d : Fin 1024) :
    H m c (ix2 T d) = m ((c : Thread nD τ).loc main_arg0) (ix3 ⟨T.val / 4096, by omega⟩ ⟨T.val % 4096, by omega⟩ d) := by
  unfold_abbrev_sides
  after_reads_simp
  pointwise

/-- The tokens themselves. -/
theorem X_apply (c : Dev nD) (T : Fin 16384) (d : Fin 1024) :
    X m c (ix2 T d) = m ((c : Thread nD τ).loc main_arg1) (ix3 ⟨T.val / 4096, by omega⟩ ⟨T.val % 4096, by omega⟩ d) := by
  unfold_abbrev_sides
  after_reads_simp
  pointwise

/-- The up-projection. -/
theorem WU_eq (c : Dev nD) : WU m c = m ((c : Thread nD τ).loc main_arg2) := by
  unfold_abbrev_sides
  after_reads_simp
  rfl

/-- The convolution's weights. -/
theorem CW_eq (c : Dev nD) : CW m c = m ((c : Thread nD τ).loc main_arg3) := V_main_arg3 m c

/-- The convolution's bias. -/
theorem CB_apply (c : Dev nD) (n : Fin 8192) : CB m c (ix2 0 n) = m ((c : Thread nD τ).loc main_arg4) (ix2 1 n) := by
  unfold_abbrev_sides
  after_reads_simp
  pointwise

/-- The down-projection. -/
theorem WD_eq (c : Dev nD) : WD m c = m ((c : Thread nD τ).loc main_arg5) := by
  unfold_abbrev_sides
  after_reads_simp
  rfl

/-- The gain of the norm. -/
theorem G_apply (c : Dev nD) (d : Fin 1024) : G m c (ix2 0 d) = m ((c : Thread nD τ).loc main_arg6) (ix2 1 d) := by
  unfold_abbrev_sides
  after_reads_simp
  pointwise

end Cert.FfnSampleIdeal.Host

end
-- ==== Proof.FfnSample.Reference.lean ====
/-
  What the feed-forward reference computes, element by element: the up-projection, the convolution over three tokens of a sequence,
  the gated columns, the down-projection and the norm.
-/
module

public import proofs.«01_k».proof.Proof.Gen.FfnSampleReferenceIdeal.Run
public import proofs.«01_k».proof.Proof.Gen.FfnSampleReferenceIdeal.Read
public import proofs.«01_k».proof.Proof.Ffn.Plain
public import Idealize.ShloMosaic.Lib.Pointwise

@[expose] public section

noncomputable section

namespace Cert.FfnSampleReferenceIdeal.FeedForward

open Cert.FfnSampleReferenceIdeal Cert.FfnSampleReferenceIdeal.Gen Cert.FfnSampleReferenceIdeal.Read Idealize.ShloMosaic Idealize.ShloMosaic.TcCoe Idealize.SL.Sem
open Cert.FeedForward.Plain (up mixed gated down)
open Cert.FfnIdeal.Block (normed)

variable (x0 : Vec Ideal S4x4096x1024 .bf16) (x1 : Vec Ideal S4x4096x1024 .f32) (x2 : Vec Ideal S2x1024x8192 .f32)
  (x3 : Vec Ideal S2x3x8192 .f32) (x4 : Vec Ideal S2x8192 .f32) (x5 : Vec Ideal S2x4096x1024 .f32) (x6 : Vec Ideal S2x1024 .f32)

/-- The normalised tokens by sequence and place. -/
abbrev toks (b : Fin 4) (s : Fin 4096) (d : Fin 1024) : EReal := x0 (ix3 b s d)

/-- The up-projection. -/
theorem projection (b : Fin 4) (s : Fin 4096) (n : Fin 8192) : val_main_v7 x0 x2 (ix3 b s n) = up 1 (toks x0) x2 b s n := by
  pointwise [val_main_v7, val_main_v6, val_main_v5, val_main_v4, up]

/-- The padding is zero. -/
theorem padding (i : S_.Idx) : val_main_call0_v0 (F := Ideal) i = 0 := by
  rw [val_main_call0_v0_apply]
  show (((0 : ℤ) : ℝ) : EReal) = 0
  simp

/-- The up-projection with a row of zeros at either end of a sequence. -/
theorem padded (b : Fin 4) (s : Fin 4098) (n : Fin 8192) :
    val_main_v8 x0 x2 (ix3 b s n) = if h : 1 ≤ s.val ∧ s.val - 1 < 4096 then up 1 (toks x0) x2 b ⟨s.val - 1, h.2⟩ n else 0 := by
  pointwise [val_main_v8]
  simp only [projection, padding]

/-- The convolution. -/
theorem convolution (b : Fin 4) (s : Fin 4096) (n : Fin 8192) :
    val_main_v31 x0 x2 x3 x4 (ix3 b s n) = mixed 1 (toks x0) x2 x3 x4 b s n := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_v3, val_main_v2, val_main_v1, val_main_v0]
  rw [padded, padded, padded]
  unfold mixed
  have hs := s.isLt
  refine congrArg (· + _) (congrArg₂ (· + ·) (congrArg₂ (· + ·) (congrArg (_ * ·) ?_) (congrArg (_ * ·) ?_)) (congrArg (_ * ·) ?_))
  · by_cases h : s.val = 0
    · rw [if_pos h, dif_neg (by simp only []; omega)]
    · rw [if_neg h, dif_pos ⟨by simp only []; omega, by simp only []; omega⟩]
  · rw [dif_pos ⟨by simp only []; omega, by simp only []; omega⟩]
    exact congrArg (up 1 (toks x0) x2 b · n) (Fin.ext (by show 1 + s.val - 1 = s.val; omega))
  · by_cases h : s.val + 1 = 4096
    · rw [dif_pos h, dif_neg (by simp only []; omega)]
    · rw [dif_neg h, dif_pos ⟨by simp only []; omega, by simp only []; omega⟩]
      exact congrArg (up 1 (toks x0) x2 b · n) (Fin.ext (by show 2 + s.val - 1 = s.val + 1; omega))

/-- The gated columns. -/
theorem gates (b : Fin 4) (s : Fin 4096) (n : Fin 4096) : val_main_v47 x0 x2 x3 x4 (ix3 b s n) = gated 1 (toks x0) x2 x3 x4 b s n := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_cst, val_main_cst_0,
    val_main_cst_1, val_main_cst_2]
  rw [convolution, convolution]
  rfl

/-- The down-projection. -/
theorem downs (b : Fin 4) (s : Fin 4096) (d : Fin 1024) : val_main_v50 x0 x2 x3 x4 x5 (ix3 b s d) = down 1 (toks x0) x2 x3 x4 x5 b s d := by
  pointwise [val_main_v50, val_main_v49, val_main_v48]
  simp only [gates]
  rfl

/-- The reference's result at token `T` of the batch. -/
theorem result_apply (T : Fin 16384) (d : Fin 1024) :
    val_main_v67 x0 x1 x2 x3 x4 x5 x6 (ix2 T d)
      = x1 (ix3 ⟨T.val / 4096, by omega⟩ ⟨T.val % 4096, by omega⟩ d)
        + normed (down 1 (toks x0) x2 x3 x4 x5 ⟨T.val / 4096, by omega⟩ ⟨T.val % 4096, by omega⟩) (fun k => x6 (ix2 1 k)) d := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_cst_3,
    val_main_cst_4, val_main_cst_5]
  simp only [downs]
  rfl

end Cert.FfnSampleReferenceIdeal.FeedForward

end
-- ==== Proof.FfnSample.Equation.lean ====
/-
  The array of the feed-forward call for the sampled sequences is the reference's, token by token.
-/
module

public import proofs.«01_k».proof.Proof.Ffn.Equation
public import proofs.«01_k».proof.Proof.FfnSample.Host
public import proofs.«01_k».proof.Proof.FfnSample.Reference

@[expose] public section

noncomputable section

namespace Cert.FeedForwardSample

open Cert.FeedForward Cert.FfnSampleIdeal Cert.FfnIdeal.Block Idealize.ShloMosaic Idealize.ShloMosaic.TcCoe Idealize.SL.Sem

variable (x0 : Vec Ideal S4x4096x1024 .bf16) (x1 : Vec Ideal S4x4096x1024 .f32) (x2 : Vec Ideal S2x1024x8192 .f32)
  (x3 : Vec Ideal S2x3x8192 .f32) (x4 : Vec Ideal S2x8192 .f32) (x5 : Vec Ideal S2x4096x1024 .f32) (x6 : Vec Ideal S2x1024 .f32)
  {h : Vec Ideal S16384x1024 .bf16} {x : Vec Ideal S16384x1024 .f32} {cb : Vec Ideal S1x8192 .f32} {g : Vec Ideal S1x1024 .f32}

/-- Four sequences of 4096 tokens. -/
theorem samples : (4 = 8 ∧ 4096 = 2048) ∨ (4 = 4 ∧ 4096 = 4096) := Or.inr ⟨rfl, rfl⟩

/-- The kernel's array, from the arguments, is the reference's result. -/
theorem equation (hh : ∀ (T : Fin 16384) (d : Fin 1024), h (ix2 T d) = x0 (ix3 (seq samples T) (pos samples T) d))
    (hx : ∀ (T : Fin 16384) (d : Fin 1024), x (ix2 T d) = x1 (ix3 (seq samples T) (pos samples T) d))
    (hcb : ∀ n : Fin 8192, cb (ix2 0 n) = x4 (ix2 1 n)) (hg : ∀ d : Fin 1024, g (ix2 0 d) = x6 (ix2 1 d)) :
    FfnSampleIdeal.Array.whole h x x2 x3 cb x5 g = FfnSampleReferenceIdeal.Read.val_main_v67 x0 x1 x2 x3 x4 x5 x6 := by
  funext i
  obtain ⟨T, d, rfl⟩ : ∃ (T : Fin 16384) (d : Fin 1024), i = ix2 T d := ⟨i 0, i 1, eq_ix2 i⟩
  rw [FfnSampleReferenceIdeal.FeedForward.result_apply]
  refine congrArg₂ (· + ·) (hx T d) ?_
  exact congrArg₂ (normed · · d) (funext fun k => part_eq samples 1 (FfnSampleReferenceIdeal.FeedForward.toks x0) x2 x3 x4 x5 hh hcb T k) (funext hg)

end Cert.FeedForwardSample

end
-- ==== Proof.FfnSample.Claim.lean ====
/-
  The feed-forward call for the sampled sequences and its reference are equal over the reals.
-/
module

public import proofs.«01_k».proof.Defs
public import proofs.«01_k».proof.Proof.FfnSample.Equation
public import Idealize.ShloMosaic.Adequacy
public import Idealize.ShloMosaic.Init

@[expose] public section

noncomputable section

namespace Cert.FeedForwardSample

open Idealize.ShloMosaic Idealize.ShloMosaic.TcCoe Idealize.SL.Sem

/-- From the same arguments, whatever they are, the kernel and the reference end with the same array. -/
theorem algebraic : Cert.algebraic_FfnSampleIdeal_FfnSampleReferenceIdeal := by
  intro m ρ m' ρ' _ heq
  refine ⟨fun c => (Cert.FfnSampleIdeal.Gen.dats m 0 c).arrAt 12 Cert.FfnSampleIdeal.cfg0.N, Cert.FfnSampleIdeal.Array.run_array m ρ, ?_⟩
  refine (θ_run Cert.FfnSampleReferenceIdeal.defs _ _).mono (fun r h c => ⟨?_, (h c).2⟩)
    (Cert.FfnSampleReferenceIdeal.Value.run (F := Ideal) m' ρ')
  obtain ⟨a0, a1, a2, a3, a4, a5, a6⟩ := heq c
  refine (h c).1.trans ?_
  refine (Cert.FfnSampleReferenceIdeal.Read.val_main_v67_eq _ _).trans ?_
  rw [a0, a1, a2, a3, a4, a5, a6]
  show _ = (Cert.FfnSampleIdeal.Gen.dats m 0 c).arrAt 12 Cert.FfnSampleIdeal.cfg0.N
  rw [Cert.FfnSampleIdeal.Array.final, Cert.FfnSampleIdeal.Host.WU_eq, Cert.FfnSampleIdeal.Host.CW_eq, Cert.FfnSampleIdeal.Host.WD_eq]
  exact (equation _ _ _ _ _ _ _ (Cert.FfnSampleIdeal.Host.H_apply m c) (Cert.FfnSampleIdeal.Host.X_apply m c) (Cert.FfnSampleIdeal.Host.CB_apply m c)
    (Cert.FfnSampleIdeal.Host.G_apply m c)).symm

end Cert.FeedForwardSample

end
-- ==== Proof.lean ====
/-
  The proof of `Cert.Claim`: the claims about the attention (Proof/Mla) and those about the feed-forward parts of
  layer 1 (Proof/Ffn) and layer 0 (Proof/Ffn0), and about the attention's output projection (Proof/Out)
  and input projection (Proof/In), and about layer 1's feed-forward part of the sampled sequences
  (Proof/FfnSample), put together.
  The side conditions the programs and the precondition state come first.
-/
module

public import proofs.«01_k».proof.Defs
public import proofs.«01_k».proof.Proof.Mla.Claim
public import proofs.«01_k».proof.Proof.Ffn.Frames
public import proofs.«01_k».proof.Proof.Ffn.Claim
public import proofs.«01_k».proof.Proof.Ffn0.Frames
public import proofs.«01_k».proof.Proof.Ffn0.Claim
public import proofs.«01_k».proof.Proof.Out.Frames
public import proofs.«01_k».proof.Proof.Out.Claim
public import proofs.«01_k».proof.Proof.In.Frames
public import proofs.«01_k».proof.Proof.In.Claim
public import proofs.«01_k».proof.Proof.FfnSample.Frames
public import proofs.«01_k».proof.Proof.FfnSample.Claim

@[expose] public section

noncomputable section

namespace Cert.Proof

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Ffn0.Gen.facts, Cert.Ffn0Ideal.Gen.facts, Cert.Ffn0ReferenceIdeal.Gen.facts,
    Cert.Out.Gen.facts, Cert.OutIdeal.Gen.facts, Cert.OutReferenceIdeal.Gen.facts,
    Cert.AttnIn.Gen.facts, Cert.AttnInIdeal.Gen.facts, Cert.AttnInReferenceIdeal.Gen.facts,
    Cert.FfnSample.Gen.facts, Cert.FfnSampleIdeal.Gen.facts, Cert.FfnSampleReferenceIdeal.Gen.facts,
    Cert.Pre_finite_queries_and_keys.facts,
    Cert.Attention.frame_kernel, Cert.Attention.frame_ideal,
    haveI := Cert.Pre_finite_queries_and_keys.facts; Cert.Attention.frame_ideal_pre,
    Cert.Attention.frame_reference,
    haveI := Cert.Pre_finite_queries_and_keys.facts; Cert.Attention.frame_reference_pre,
    Cert.FeedForward.frame_kernel, Cert.FeedForward.frame_ideal, Cert.FeedForward.frame_reference,
    Cert.FeedForward0.frame_kernel, Cert.FeedForward0.frame_ideal, Cert.FeedForward0.frame_reference,
    Cert.Output.frame_kernel, Cert.Output.frame_ideal, Cert.Output.frame_reference,
    Cert.Input.frame_kernel, Cert.Input.frame_ideal, Cert.Input.frame_reference,
    Cert.FeedForwardSample.frame_kernel, Cert.FeedForwardSample.frame_ideal, Cert.FeedForwardSample.frame_reference,
    trivial,
    haveI := Cert.Pre_finite_queries_and_keys.facts; Cert.Attention.algebraic,
    Cert.FeedForward.preserves, Cert.FeedForward.algebraic,
    Cert.FeedForward0.preserves, Cert.FeedForward0.algebraic,
    trivial, Cert.Output.algebraic,
    Cert.Input.preserves, Cert.Input.algebraic,
    Cert.FeedForwardSample.preserves, Cert.FeedForwardSample.algebraic⟩

end Cert.Proof

end
